-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pool [hPre_finite_pool : Cert.Pre_finite_pool.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pool [hPre_finite_pool : Cert.Pre_finite_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelGw2 (m : (ℓ : Loc Cert.KernelGw2.nD Cert.KernelGw2.τ Cert.KernelGw2.sig) → Buf (Elt Bits) ℓ) : Prop :=
  True

def Pre_KernelGw2Ideal (m : (ℓ : Loc Cert.KernelGw2Ideal.nD Cert.KernelGw2Ideal.τ Cert.KernelGw2Ideal.sig) → Buf (Elt Ideal) ℓ) : Prop :=
  True

def Pre_ReferenceGw2Ideal (m : (ℓ : Loc Cert.ReferenceGw2Ideal.nD Cert.ReferenceGw2Ideal.τ Cert.ReferenceGw2Ideal.sig) → Buf (Elt Ideal) ℓ) : Prop :=
  True

def Pre_KernelGw1 (m : (ℓ : Loc Cert.KernelGw1.nD Cert.KernelGw1.τ Cert.KernelGw1.sig) → Buf (Elt Bits) ℓ) : Prop :=
  True

def Pre_KernelGw1Ideal (m : (ℓ : Loc Cert.KernelGw1Ideal.nD Cert.KernelGw1Ideal.τ Cert.KernelGw1Ideal.sig) → Buf (Elt Ideal) ℓ) : Prop :=
  True

def Pre_ReferenceGw1Ideal (m : (ℓ : Loc Cert.ReferenceGw1Ideal.nD Cert.ReferenceGw1Ideal.τ Cert.ReferenceGw1Ideal.sig) → Buf (Elt Ideal) ℓ) : Prop :=
  True

def Pre_KernelGwIn (m : (ℓ : Loc Cert.KernelGwIn.nD Cert.KernelGwIn.τ Cert.KernelGwIn.sig) → Buf (Elt Bits) ℓ) : Prop :=
  True

def Pre_KernelGwInIdeal (m : (ℓ : Loc Cert.KernelGwInIdeal.nD Cert.KernelGwInIdeal.τ Cert.KernelGwInIdeal.sig) → Buf (Elt Ideal) ℓ) : Prop :=
  True

def Pre_ReferenceGwInIdeal (m : (ℓ : Loc Cert.ReferenceGwInIdeal.nD Cert.ReferenceGwInIdeal.τ Cert.ReferenceGwInIdeal.sig) → Buf (Elt Ideal) ℓ) : Prop :=
  True

def Pre_KernelGwOut (m : (ℓ : Loc Cert.KernelGwOut.nD Cert.KernelGwOut.τ Cert.KernelGwOut.sig) → Buf (Elt Bits) ℓ) : Prop :=
  True

def Pre_KernelGwOutIdeal (m : (ℓ : Loc Cert.KernelGwOutIdeal.nD Cert.KernelGwOutIdeal.τ Cert.KernelGwOutIdeal.sig) → Buf (Elt Ideal) ℓ) : Prop :=
  True

def Pre_ReferenceGwOutIdeal (m : (ℓ : Loc Cert.ReferenceGwOutIdeal.nD Cert.ReferenceGwOutIdeal.τ Cert.ReferenceGwOutIdeal.sig) → Buf (Elt Ideal) ℓ) : Prop :=
  True

def Pre_KernelMlpIn (m : (ℓ : Loc Cert.KernelMlpIn.nD Cert.KernelMlpIn.τ Cert.KernelMlpIn.sig) → Buf (Elt Bits) ℓ) : Prop :=
  True

def Pre_KernelMlpInIdeal (m : (ℓ : Loc Cert.KernelMlpInIdeal.nD Cert.KernelMlpInIdeal.τ Cert.KernelMlpInIdeal.sig) → Buf (Elt Ideal) ℓ) : Prop :=
  True

def Pre_KernelMlpInIdeal_finite_mlpin [hPre_finite_mlpin : Cert.Pre_finite_mlpin.Facts] (m : (ℓ : Loc Cert.KernelMlpInIdeal.nD Cert.KernelMlpInIdeal.τ Cert.KernelMlpInIdeal.sig) → Buf (Elt Ideal) ℓ) : Prop :=
  ∀ c : Dev Cert.KernelMlpInIdeal.nD,
    (Cert.Pre_finite_mlpin.fn (F := Ideal) (m ((c.tc : Thread Cert.KernelMlpInIdeal.nD Cert.KernelMlpInIdeal.τ).loc Cert.KernelMlpInIdeal.main_arg0)) (m ((c.tc : Thread Cert.KernelMlpInIdeal.nD Cert.KernelMlpInIdeal.τ).loc Cert.KernelMlpInIdeal.main_arg1)) (m ((c.tc : Thread Cert.KernelMlpInIdeal.nD Cert.KernelMlpInIdeal.τ).loc Cert.KernelMlpInIdeal.main_arg2)) (m ((c.tc : Thread Cert.KernelMlpInIdeal.nD Cert.KernelMlpInIdeal.τ).loc Cert.KernelMlpInIdeal.main_arg3)) (m ((c.tc : Thread Cert.KernelMlpInIdeal.nD Cert.KernelMlpInIdeal.τ).loc Cert.KernelMlpInIdeal.main_arg4)) (m ((c.tc : Thread Cert.KernelMlpInIdeal.nD Cert.KernelMlpInIdeal.τ).loc Cert.KernelMlpInIdeal.main_arg5)) (m ((c.tc : Thread Cert.KernelMlpInIdeal.nD Cert.KernelMlpInIdeal.τ).loc Cert.KernelMlpInIdeal.main_arg6))) = (fun _ => 1#1)

def Pre_ReferenceMlpInIdeal (m : (ℓ : Loc Cert.ReferenceMlpInIdeal.nD Cert.ReferenceMlpInIdeal.τ Cert.ReferenceMlpInIdeal.sig) → Buf (Elt Ideal) ℓ) : Prop :=
  True

def Pre_ReferenceMlpInIdeal_finite_mlpin [hPre_finite_mlpin : Cert.Pre_finite_mlpin.Facts] (m : (ℓ : Loc Cert.ReferenceMlpInIdeal.nD Cert.ReferenceMlpInIdeal.τ Cert.ReferenceMlpInIdeal.sig) → Buf (Elt Ideal) ℓ) : Prop :=
  ∀ c : Dev Cert.ReferenceMlpInIdeal.nD,
    (Cert.Pre_finite_mlpin.fn (F := Ideal) (m ((c.tc : Thread Cert.ReferenceMlpInIdeal.nD Cert.ReferenceMlpInIdeal.τ).loc Cert.ReferenceMlpInIdeal.main_arg0)) (m ((c.tc : Thread Cert.ReferenceMlpInIdeal.nD Cert.ReferenceMlpInIdeal.τ).loc Cert.ReferenceMlpInIdeal.main_arg1)) (m ((c.tc : Thread Cert.ReferenceMlpInIdeal.nD Cert.ReferenceMlpInIdeal.τ).loc Cert.ReferenceMlpInIdeal.main_arg2)) (m ((c.tc : Thread Cert.ReferenceMlpInIdeal.nD Cert.ReferenceMlpInIdeal.τ).loc Cert.ReferenceMlpInIdeal.main_arg3)) (m ((c.tc : Thread Cert.ReferenceMlpInIdeal.nD Cert.ReferenceMlpInIdeal.τ).loc Cert.ReferenceMlpInIdeal.main_arg4)) (m ((c.tc : Thread Cert.ReferenceMlpInIdeal.nD Cert.ReferenceMlpInIdeal.τ).loc Cert.ReferenceMlpInIdeal.main_arg5)) (m ((c.tc : Thread Cert.ReferenceMlpInIdeal.nD Cert.ReferenceMlpInIdeal.τ).loc Cert.ReferenceMlpInIdeal.main_arg6))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelConvOut (m : (ℓ : Loc Cert.KernelConvOut.nD Cert.KernelConvOut.τ Cert.KernelConvOut.sig) → Buf (Elt Bits) ℓ) : Prop :=
  True

def Pre_KernelConvOutIdeal (m : (ℓ : Loc Cert.KernelConvOutIdeal.nD Cert.KernelConvOutIdeal.τ Cert.KernelConvOutIdeal.sig) → Buf (Elt Ideal) ℓ) : Prop :=
  True

def Pre_ReferenceConvOutIdeal (m : (ℓ : Loc Cert.ReferenceConvOutIdeal.nD Cert.ReferenceConvOutIdeal.τ Cert.ReferenceConvOutIdeal.sig) → Buf (Elt Ideal) ℓ) : Prop :=
  True

def Pre_KernelConvIn (m : (ℓ : Loc Cert.KernelConvIn.nD Cert.KernelConvIn.τ Cert.KernelConvIn.sig) → Buf (Elt Bits) ℓ) : Prop :=
  True

def Pre_KernelConvInIdeal (m : (ℓ : Loc Cert.KernelConvInIdeal.nD Cert.KernelConvInIdeal.τ Cert.KernelConvInIdeal.sig) → Buf (Elt Ideal) ℓ) : Prop :=
  True

def Pre_ReferenceConvInIdeal (m : (ℓ : Loc Cert.ReferenceConvInIdeal.nD Cert.ReferenceConvInIdeal.τ Cert.ReferenceConvInIdeal.sig) → Buf (Elt Ideal) ℓ) : Prop :=
  True

def Pre_KernelConvInBwd (m : (ℓ : Loc Cert.KernelConvInBwd.nD Cert.KernelConvInBwd.τ Cert.KernelConvInBwd.sig) → Buf (Elt Bits) ℓ) : Prop :=
  True

def Pre_KernelConvInBwdIdeal (m : (ℓ : Loc Cert.KernelConvInBwdIdeal.nD Cert.KernelConvInBwdIdeal.τ Cert.KernelConvInBwdIdeal.sig) → Buf (Elt Ideal) ℓ) : Prop :=
  True

def Pre_KernelConvInBwdIdeal_finite_convinbwd [hPre_finite_convinbwd : Cert.Pre_finite_convinbwd.Facts] (m : (ℓ : Loc Cert.KernelConvInBwdIdeal.nD Cert.KernelConvInBwdIdeal.τ Cert.KernelConvInBwdIdeal.sig) → Buf (Elt Ideal) ℓ) : Prop :=
  ∀ c : Dev Cert.KernelConvInBwdIdeal.nD,
    (Cert.Pre_finite_convinbwd.fn (F := Ideal) (m ((c.tc : Thread Cert.KernelConvInBwdIdeal.nD Cert.KernelConvInBwdIdeal.τ).loc Cert.KernelConvInBwdIdeal.main_arg0)) (m ((c.tc : Thread Cert.KernelConvInBwdIdeal.nD Cert.KernelConvInBwdIdeal.τ).loc Cert.KernelConvInBwdIdeal.main_arg1)) (m ((c.tc : Thread Cert.KernelConvInBwdIdeal.nD Cert.KernelConvInBwdIdeal.τ).loc Cert.KernelConvInBwdIdeal.main_arg2)) (m ((c.tc : Thread Cert.KernelConvInBwdIdeal.nD Cert.KernelConvInBwdIdeal.τ).loc Cert.KernelConvInBwdIdeal.main_arg3)) (m ((c.tc : Thread Cert.KernelConvInBwdIdeal.nD Cert.KernelConvInBwdIdeal.τ).loc Cert.KernelConvInBwdIdeal.main_arg4)) (m ((c.tc : Thread Cert.KernelConvInBwdIdeal.nD Cert.KernelConvInBwdIdeal.τ).loc Cert.KernelConvInBwdIdeal.main_arg5)) (m ((c.tc : Thread Cert.KernelConvInBwdIdeal.nD Cert.KernelConvInBwdIdeal.τ).loc Cert.KernelConvInBwdIdeal.main_arg6))) = (fun _ => 1#1)

def Pre_ReferenceConvInBwdIdeal (m : (ℓ : Loc Cert.ReferenceConvInBwdIdeal.nD Cert.ReferenceConvInBwdIdeal.τ Cert.ReferenceConvInBwdIdeal.sig) → Buf (Elt Ideal) ℓ) : Prop :=
  True

def Pre_ReferenceConvInBwdIdeal_finite_convinbwd [hPre_finite_convinbwd : Cert.Pre_finite_convinbwd.Facts] (m : (ℓ : Loc Cert.ReferenceConvInBwdIdeal.nD Cert.ReferenceConvInBwdIdeal.τ Cert.ReferenceConvInBwdIdeal.sig) → Buf (Elt Ideal) ℓ) : Prop :=
  ∀ c : Dev Cert.ReferenceConvInBwdIdeal.nD,
    (Cert.Pre_finite_convinbwd.fn (F := Ideal) (m ((c.tc : Thread Cert.ReferenceConvInBwdIdeal.nD Cert.ReferenceConvInBwdIdeal.τ).loc Cert.ReferenceConvInBwdIdeal.main_arg0)) (m ((c.tc : Thread Cert.ReferenceConvInBwdIdeal.nD Cert.ReferenceConvInBwdIdeal.τ).loc Cert.ReferenceConvInBwdIdeal.main_arg1)) (m ((c.tc : Thread Cert.ReferenceConvInBwdIdeal.nD Cert.ReferenceConvInBwdIdeal.τ).loc Cert.ReferenceConvInBwdIdeal.main_arg2)) (m ((c.tc : Thread Cert.ReferenceConvInBwdIdeal.nD Cert.ReferenceConvInBwdIdeal.τ).loc Cert.ReferenceConvInBwdIdeal.main_arg3)) (m ((c.tc : Thread Cert.ReferenceConvInBwdIdeal.nD Cert.ReferenceConvInBwdIdeal.τ).loc Cert.ReferenceConvInBwdIdeal.main_arg4)) (m ((c.tc : Thread Cert.ReferenceConvInBwdIdeal.nD Cert.ReferenceConvInBwdIdeal.τ).loc Cert.ReferenceConvInBwdIdeal.main_arg5)) (m ((c.tc : Thread Cert.ReferenceConvInBwdIdeal.nD Cert.ReferenceConvInBwdIdeal.τ).loc Cert.ReferenceConvInBwdIdeal.main_arg6))) = (fun _ => 1#1)

def Pre_KernelPoolFwd (m : (ℓ : Loc Cert.KernelPoolFwd.nD Cert.KernelPoolFwd.τ Cert.KernelPoolFwd.sig) → Buf (Elt Bits) ℓ) : Prop :=
  True

def Pre_KernelPoolFwdIdeal (m : (ℓ : Loc Cert.KernelPoolFwdIdeal.nD Cert.KernelPoolFwdIdeal.τ Cert.KernelPoolFwdIdeal.sig) → Buf (Elt Ideal) ℓ) : Prop :=
  True

def Pre_KernelPoolFwdIdeal_finite_poolfwd [hPre_finite_poolfwd : Cert.Pre_finite_poolfwd.Facts] (m : (ℓ : Loc Cert.KernelPoolFwdIdeal.nD Cert.KernelPoolFwdIdeal.τ Cert.KernelPoolFwdIdeal.sig) → Buf (Elt Ideal) ℓ) : Prop :=
  ∀ c : Dev Cert.KernelPoolFwdIdeal.nD,
    (Cert.Pre_finite_poolfwd.fn (F := Ideal) (m ((c.tc : Thread Cert.KernelPoolFwdIdeal.nD Cert.KernelPoolFwdIdeal.τ).loc Cert.KernelPoolFwdIdeal.main_arg0)) (m ((c.tc : Thread Cert.KernelPoolFwdIdeal.nD Cert.KernelPoolFwdIdeal.τ).loc Cert.KernelPoolFwdIdeal.main_arg1)) (m ((c.tc : Thread Cert.KernelPoolFwdIdeal.nD Cert.KernelPoolFwdIdeal.τ).loc Cert.KernelPoolFwdIdeal.main_arg2)) (m ((c.tc : Thread Cert.KernelPoolFwdIdeal.nD Cert.KernelPoolFwdIdeal.τ).loc Cert.KernelPoolFwdIdeal.main_arg3)) (m ((c.tc : Thread Cert.KernelPoolFwdIdeal.nD Cert.KernelPoolFwdIdeal.τ).loc Cert.KernelPoolFwdIdeal.main_arg4))) = (fun _ => 1#1)

def Pre_ReferencePoolFwdIdeal (m : (ℓ : Loc Cert.ReferencePoolFwdIdeal.nD Cert.ReferencePoolFwdIdeal.τ Cert.ReferencePoolFwdIdeal.sig) → Buf (Elt Ideal) ℓ) : Prop :=
  True

def Pre_ReferencePoolFwdIdeal_finite_poolfwd [hPre_finite_poolfwd : Cert.Pre_finite_poolfwd.Facts] (m : (ℓ : Loc Cert.ReferencePoolFwdIdeal.nD Cert.ReferencePoolFwdIdeal.τ Cert.ReferencePoolFwdIdeal.sig) → Buf (Elt Ideal) ℓ) : Prop :=
  ∀ c : Dev Cert.ReferencePoolFwdIdeal.nD,
    (Cert.Pre_finite_poolfwd.fn (F := Ideal) (m ((c.tc : Thread Cert.ReferencePoolFwdIdeal.nD Cert.ReferencePoolFwdIdeal.τ).loc Cert.ReferencePoolFwdIdeal.main_arg0)) (m ((c.tc : Thread Cert.ReferencePoolFwdIdeal.nD Cert.ReferencePoolFwdIdeal.τ).loc Cert.ReferencePoolFwdIdeal.main_arg1)) (m ((c.tc : Thread Cert.ReferencePoolFwdIdeal.nD Cert.ReferencePoolFwdIdeal.τ).loc Cert.ReferencePoolFwdIdeal.main_arg2)) (m ((c.tc : Thread Cert.ReferencePoolFwdIdeal.nD Cert.ReferencePoolFwdIdeal.τ).loc Cert.ReferencePoolFwdIdeal.main_arg3)) (m ((c.tc : Thread Cert.ReferencePoolFwdIdeal.nD Cert.ReferencePoolFwdIdeal.τ).loc Cert.ReferencePoolFwdIdeal.main_arg4))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6))) = (fun _ => 1#1)

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamPool (m : (ℓ : Loc Cert.KernelAdamPool.nD Cert.KernelAdamPool.τ Cert.KernelAdamPool.sig) → Buf (Elt Bits) ℓ) : Prop :=
  True

def Pre_KernelAdamPoolIdeal (m : (ℓ : Loc Cert.KernelAdamPoolIdeal.nD Cert.KernelAdamPoolIdeal.τ Cert.KernelAdamPoolIdeal.sig) → Buf (Elt Ideal) ℓ) : Prop :=
  True

def Pre_ReferenceAdamPoolIdeal (m : (ℓ : Loc Cert.ReferenceAdamPoolIdeal.nD Cert.ReferenceAdamPoolIdeal.τ Cert.ReferenceAdamPoolIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_pool [hKernelIdeal : Cert.KernelIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pool m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_pool [hReferenceIdeal : Cert.ReferenceIdeal.Facts] [hPre_finite_pool : Cert.Pre_finite_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelGw2 [hKernelGw2 : Cert.KernelGw2.Facts] : Prop :=
  ∀ (m : (ℓ : Loc Cert.KernelGw2.nD Cert.KernelGw2.τ Cert.KernelGw2.sig) → Buf (Elt Bits) ℓ) (g : Dev Cert.KernelGw2.nD → PrngReg), Pre_KernelGw2 m →
    θ_run (Cert.KernelGw2.defs (F := Bits)) (onTc (τ := Cert.KernelGw2.τ) (Cert.KernelGw2.main (F := Bits))) ⟨m, fun _ => 0, g⟩ (fun r => (∀ c : Dev Cert.KernelGw2.nD,
      r.2.mem ((c.tc : Thread Cert.KernelGw2.nD Cert.KernelGw2.τ).loc Cert.KernelGw2.main_arg0) = m ((c.tc : Thread Cert.KernelGw2.nD Cert.KernelGw2.τ).loc Cert.KernelGw2.main_arg0)
      ∧ r.2.mem ((c.tc : Thread Cert.KernelGw2.nD Cert.KernelGw2.τ).loc Cert.KernelGw2.main_arg1) = m ((c.tc : Thread Cert.KernelGw2.nD Cert.KernelGw2.τ).loc Cert.KernelGw2.main_arg1))
      ∧ r.2.sem = fun _ => 0)

def quiescent_KernelGw2Ideal [hKernelGw2Ideal : Cert.KernelGw2Ideal.Facts] : Prop :=
  ∀ (m : (ℓ : Loc Cert.KernelGw2Ideal.nD Cert.KernelGw2Ideal.τ Cert.KernelGw2Ideal.sig) → Buf (Elt Ideal) ℓ) (g : Dev Cert.KernelGw2Ideal.nD → PrngReg), Pre_KernelGw2Ideal m →
    θ_run (Cert.KernelGw2Ideal.defs (F := Ideal)) (onTc (τ := Cert.KernelGw2Ideal.τ) (Cert.KernelGw2Ideal.main (F := Ideal))) ⟨m, fun _ => 0, g⟩ (fun r => (∀ c : Dev Cert.KernelGw2Ideal.nD,
      r.2.mem ((c.tc : Thread Cert.KernelGw2Ideal.nD Cert.KernelGw2Ideal.τ).loc Cert.KernelGw2Ideal.main_arg0) = m ((c.tc : Thread Cert.KernelGw2Ideal.nD Cert.KernelGw2Ideal.τ).loc Cert.KernelGw2Ideal.main_arg0)
      ∧ r.2.mem ((c.tc : Thread Cert.KernelGw2Ideal.nD Cert.KernelGw2Ideal.τ).loc Cert.KernelGw2Ideal.main_arg1) = m ((c.tc : Thread Cert.KernelGw2Ideal.nD Cert.KernelGw2Ideal.τ).loc Cert.KernelGw2Ideal.main_arg1))
      ∧ r.2.sem = fun _ => 0)

def quiescent_ReferenceGw2Ideal [hReferenceGw2Ideal : Cert.ReferenceGw2Ideal.Facts] : Prop :=
  ∀ (m : (ℓ : Loc Cert.ReferenceGw2Ideal.nD Cert.ReferenceGw2Ideal.τ Cert.ReferenceGw2Ideal.sig) → Buf (Elt Ideal) ℓ) (g : Dev Cert.ReferenceGw2Ideal.nD → PrngReg), Pre_ReferenceGw2Ideal m →
    θ_run (Cert.ReferenceGw2Ideal.defs (F := Ideal)) (onTc (τ := Cert.ReferenceGw2Ideal.τ) (Cert.ReferenceGw2Ideal.main (F := Ideal))) ⟨m, fun _ => 0, g⟩ (fun r => (∀ c : Dev Cert.ReferenceGw2Ideal.nD,
      r.2.mem ((c.tc : Thread Cert.ReferenceGw2Ideal.nD Cert.ReferenceGw2Ideal.τ).loc Cert.ReferenceGw2Ideal.main_arg0) = m ((c.tc : Thread Cert.ReferenceGw2Ideal.nD Cert.ReferenceGw2Ideal.τ).loc Cert.ReferenceGw2Ideal.main_arg0)
      ∧ r.2.mem ((c.tc : Thread Cert.ReferenceGw2Ideal.nD Cert.ReferenceGw2Ideal.τ).loc Cert.ReferenceGw2Ideal.main_arg1) = m ((c.tc : Thread Cert.ReferenceGw2Ideal.nD Cert.ReferenceGw2Ideal.τ).loc Cert.ReferenceGw2Ideal.main_arg1))
      ∧ r.2.sem = fun _ => 0)

def quiescent_KernelGw1 [hKernelGw1 : Cert.KernelGw1.Facts] : Prop :=
  ∀ (m : (ℓ : Loc Cert.KernelGw1.nD Cert.KernelGw1.τ Cert.KernelGw1.sig) → Buf (Elt Bits) ℓ) (g : Dev Cert.KernelGw1.nD → PrngReg), Pre_KernelGw1 m →
    θ_run (Cert.KernelGw1.defs (F := Bits)) (onTc (τ := Cert.KernelGw1.τ) (Cert.KernelGw1.main (F := Bits))) ⟨m, fun _ => 0, g⟩ (fun r => (∀ c : Dev Cert.KernelGw1.nD,
      r.2.mem ((c.tc : Thread Cert.KernelGw1.nD Cert.KernelGw1.τ).loc Cert.KernelGw1.main_arg0) = m ((c.tc : Thread Cert.KernelGw1.nD Cert.KernelGw1.τ).loc Cert.KernelGw1.main_arg0)
      ∧ r.2.mem ((c.tc : Thread Cert.KernelGw1.nD Cert.KernelGw1.τ).loc Cert.KernelGw1.main_arg1) = m ((c.tc : Thread Cert.KernelGw1.nD Cert.KernelGw1.τ).loc Cert.KernelGw1.main_arg1))
      ∧ r.2.sem = fun _ => 0)

def quiescent_KernelGw1Ideal [hKernelGw1Ideal : Cert.KernelGw1Ideal.Facts] : Prop :=
  ∀ (m : (ℓ : Loc Cert.KernelGw1Ideal.nD Cert.KernelGw1Ideal.τ Cert.KernelGw1Ideal.sig) → Buf (Elt Ideal) ℓ) (g : Dev Cert.KernelGw1Ideal.nD → PrngReg), Pre_KernelGw1Ideal m →
    θ_run (Cert.KernelGw1Ideal.defs (F := Ideal)) (onTc (τ := Cert.KernelGw1Ideal.τ) (Cert.KernelGw1Ideal.main (F := Ideal))) ⟨m, fun _ => 0, g⟩ (fun r => (∀ c : Dev Cert.KernelGw1Ideal.nD,
      r.2.mem ((c.tc : Thread Cert.KernelGw1Ideal.nD Cert.KernelGw1Ideal.τ).loc Cert.KernelGw1Ideal.main_arg0) = m ((c.tc : Thread Cert.KernelGw1Ideal.nD Cert.KernelGw1Ideal.τ).loc Cert.KernelGw1Ideal.main_arg0)
      ∧ r.2.mem ((c.tc : Thread Cert.KernelGw1Ideal.nD Cert.KernelGw1Ideal.τ).loc Cert.KernelGw1Ideal.main_arg1) = m ((c.tc : Thread Cert.KernelGw1Ideal.nD Cert.KernelGw1Ideal.τ).loc Cert.KernelGw1Ideal.main_arg1))
      ∧ r.2.sem = fun _ => 0)

def quiescent_ReferenceGw1Ideal [hReferenceGw1Ideal : Cert.ReferenceGw1Ideal.Facts] : Prop :=
  ∀ (m : (ℓ : Loc Cert.ReferenceGw1Ideal.nD Cert.ReferenceGw1Ideal.τ Cert.ReferenceGw1Ideal.sig) → Buf (Elt Ideal) ℓ) (g : Dev Cert.ReferenceGw1Ideal.nD → PrngReg), Pre_ReferenceGw1Ideal m →
    θ_run (Cert.ReferenceGw1Ideal.defs (F := Ideal)) (onTc (τ := Cert.ReferenceGw1Ideal.τ) (Cert.ReferenceGw1Ideal.main (F := Ideal))) ⟨m, fun _ => 0, g⟩ (fun r => (∀ c : Dev Cert.ReferenceGw1Ideal.nD,
      r.2.mem ((c.tc : Thread Cert.ReferenceGw1Ideal.nD Cert.ReferenceGw1Ideal.τ).loc Cert.ReferenceGw1Ideal.main_arg0) = m ((c.tc : Thread Cert.ReferenceGw1Ideal.nD Cert.ReferenceGw1Ideal.τ).loc Cert.ReferenceGw1Ideal.main_arg0)
      ∧ r.2.mem ((c.tc : Thread Cert.ReferenceGw1Ideal.nD Cert.ReferenceGw1Ideal.τ).loc Cert.ReferenceGw1Ideal.main_arg1) = m ((c.tc : Thread Cert.ReferenceGw1Ideal.nD Cert.ReferenceGw1Ideal.τ).loc Cert.ReferenceGw1Ideal.main_arg1))
      ∧ r.2.sem = fun _ => 0)

def quiescent_KernelGwIn [hKernelGwIn : Cert.KernelGwIn.Facts] : Prop :=
  ∀ (m : (ℓ : Loc Cert.KernelGwIn.nD Cert.KernelGwIn.τ Cert.KernelGwIn.sig) → Buf (Elt Bits) ℓ) (g : Dev Cert.KernelGwIn.nD → PrngReg), Pre_KernelGwIn m →
    θ_run (Cert.KernelGwIn.defs (F := Bits)) (onTc (τ := Cert.KernelGwIn.τ) (Cert.KernelGwIn.main (F := Bits))) ⟨m, fun _ => 0, g⟩ (fun r => (∀ c : Dev Cert.KernelGwIn.nD,
      r.2.mem ((c.tc : Thread Cert.KernelGwIn.nD Cert.KernelGwIn.τ).loc Cert.KernelGwIn.main_arg0) = m ((c.tc : Thread Cert.KernelGwIn.nD Cert.KernelGwIn.τ).loc Cert.KernelGwIn.main_arg0)
      ∧ r.2.mem ((c.tc : Thread Cert.KernelGwIn.nD Cert.KernelGwIn.τ).loc Cert.KernelGwIn.main_arg1) = m ((c.tc : Thread Cert.KernelGwIn.nD Cert.KernelGwIn.τ).loc Cert.KernelGwIn.main_arg1))
      ∧ r.2.sem = fun _ => 0)

def quiescent_KernelGwInIdeal [hKernelGwInIdeal : Cert.KernelGwInIdeal.Facts] : Prop :=
  ∀ (m : (ℓ : Loc Cert.KernelGwInIdeal.nD Cert.KernelGwInIdeal.τ Cert.KernelGwInIdeal.sig) → Buf (Elt Ideal) ℓ) (g : Dev Cert.KernelGwInIdeal.nD → PrngReg), Pre_KernelGwInIdeal m →
    θ_run (Cert.KernelGwInIdeal.defs (F := Ideal)) (onTc (τ := Cert.KernelGwInIdeal.τ) (Cert.KernelGwInIdeal.main (F := Ideal))) ⟨m, fun _ => 0, g⟩ (fun r => (∀ c : Dev Cert.KernelGwInIdeal.nD,
      r.2.mem ((c.tc : Thread Cert.KernelGwInIdeal.nD Cert.KernelGwInIdeal.τ).loc Cert.KernelGwInIdeal.main_arg0) = m ((c.tc : Thread Cert.KernelGwInIdeal.nD Cert.KernelGwInIdeal.τ).loc Cert.KernelGwInIdeal.main_arg0)
      ∧ r.2.mem ((c.tc : Thread Cert.KernelGwInIdeal.nD Cert.KernelGwInIdeal.τ).loc Cert.KernelGwInIdeal.main_arg1) = m ((c.tc : Thread Cert.KernelGwInIdeal.nD Cert.KernelGwInIdeal.τ).loc Cert.KernelGwInIdeal.main_arg1))
      ∧ r.2.sem = fun _ => 0)

def quiescent_ReferenceGwInIdeal [hReferenceGwInIdeal : Cert.ReferenceGwInIdeal.Facts] : Prop :=
  ∀ (m : (ℓ : Loc Cert.ReferenceGwInIdeal.nD Cert.ReferenceGwInIdeal.τ Cert.ReferenceGwInIdeal.sig) → Buf (Elt Ideal) ℓ) (g : Dev Cert.ReferenceGwInIdeal.nD → PrngReg), Pre_ReferenceGwInIdeal m →
    θ_run (Cert.ReferenceGwInIdeal.defs (F := Ideal)) (onTc (τ := Cert.ReferenceGwInIdeal.τ) (Cert.ReferenceGwInIdeal.main (F := Ideal))) ⟨m, fun _ => 0, g⟩ (fun r => (∀ c : Dev Cert.ReferenceGwInIdeal.nD,
      r.2.mem ((c.tc : Thread Cert.ReferenceGwInIdeal.nD Cert.ReferenceGwInIdeal.τ).loc Cert.ReferenceGwInIdeal.main_arg0) = m ((c.tc : Thread Cert.ReferenceGwInIdeal.nD Cert.ReferenceGwInIdeal.τ).loc Cert.ReferenceGwInIdeal.main_arg0)
      ∧ r.2.mem ((c.tc : Thread Cert.ReferenceGwInIdeal.nD Cert.ReferenceGwInIdeal.τ).loc Cert.ReferenceGwInIdeal.main_arg1) = m ((c.tc : Thread Cert.ReferenceGwInIdeal.nD Cert.ReferenceGwInIdeal.τ).loc Cert.ReferenceGwInIdeal.main_arg1))
      ∧ r.2.sem = fun _ => 0)

def quiescent_KernelGwOut [hKernelGwOut : Cert.KernelGwOut.Facts] : Prop :=
  ∀ (m : (ℓ : Loc Cert.KernelGwOut.nD Cert.KernelGwOut.τ Cert.KernelGwOut.sig) → Buf (Elt Bits) ℓ) (g : Dev Cert.KernelGwOut.nD → PrngReg), Pre_KernelGwOut m →
    θ_run (Cert.KernelGwOut.defs (F := Bits)) (onTc (τ := Cert.KernelGwOut.τ) (Cert.KernelGwOut.main (F := Bits))) ⟨m, fun _ => 0, g⟩ (fun r => (∀ c : Dev Cert.KernelGwOut.nD,
      r.2.mem ((c.tc : Thread Cert.KernelGwOut.nD Cert.KernelGwOut.τ).loc Cert.KernelGwOut.main_arg0) = m ((c.tc : Thread Cert.KernelGwOut.nD Cert.KernelGwOut.τ).loc Cert.KernelGwOut.main_arg0)
      ∧ r.2.mem ((c.tc : Thread Cert.KernelGwOut.nD Cert.KernelGwOut.τ).loc Cert.KernelGwOut.main_arg1) = m ((c.tc : Thread Cert.KernelGwOut.nD Cert.KernelGwOut.τ).loc Cert.KernelGwOut.main_arg1))
      ∧ r.2.sem = fun _ => 0)

def quiescent_KernelGwOutIdeal [hKernelGwOutIdeal : Cert.KernelGwOutIdeal.Facts] : Prop :=
  ∀ (m : (ℓ : Loc Cert.KernelGwOutIdeal.nD Cert.KernelGwOutIdeal.τ Cert.KernelGwOutIdeal.sig) → Buf (Elt Ideal) ℓ) (g : Dev Cert.KernelGwOutIdeal.nD → PrngReg), Pre_KernelGwOutIdeal m →
    θ_run (Cert.KernelGwOutIdeal.defs (F := Ideal)) (onTc (τ := Cert.KernelGwOutIdeal.τ) (Cert.KernelGwOutIdeal.main (F := Ideal))) ⟨m, fun _ => 0, g⟩ (fun r => (∀ c : Dev Cert.KernelGwOutIdeal.nD,
      r.2.mem ((c.tc : Thread Cert.KernelGwOutIdeal.nD Cert.KernelGwOutIdeal.τ).loc Cert.KernelGwOutIdeal.main_arg0) = m ((c.tc : Thread Cert.KernelGwOutIdeal.nD Cert.KernelGwOutIdeal.τ).loc Cert.KernelGwOutIdeal.main_arg0)
      ∧ r.2.mem ((c.tc : Thread Cert.KernelGwOutIdeal.nD Cert.KernelGwOutIdeal.τ).loc Cert.KernelGwOutIdeal.main_arg1) = m ((c.tc : Thread Cert.KernelGwOutIdeal.nD Cert.KernelGwOutIdeal.τ).loc Cert.KernelGwOutIdeal.main_arg1))
      ∧ r.2.sem = fun _ => 0)

def quiescent_ReferenceGwOutIdeal [hReferenceGwOutIdeal : Cert.ReferenceGwOutIdeal.Facts] : Prop :=
  ∀ (m : (ℓ : Loc Cert.ReferenceGwOutIdeal.nD Cert.ReferenceGwOutIdeal.τ Cert.ReferenceGwOutIdeal.sig) → Buf (Elt Ideal) ℓ) (g : Dev Cert.ReferenceGwOutIdeal.nD → PrngReg), Pre_ReferenceGwOutIdeal m →
    θ_run (Cert.ReferenceGwOutIdeal.defs (F := Ideal)) (onTc (τ := Cert.ReferenceGwOutIdeal.τ) (Cert.ReferenceGwOutIdeal.main (F := Ideal))) ⟨m, fun _ => 0, g⟩ (fun r => (∀ c : Dev Cert.ReferenceGwOutIdeal.nD,
      r.2.mem ((c.tc : Thread Cert.ReferenceGwOutIdeal.nD Cert.ReferenceGwOutIdeal.τ).loc Cert.ReferenceGwOutIdeal.main_arg0) = m ((c.tc : Thread Cert.ReferenceGwOutIdeal.nD Cert.ReferenceGwOutIdeal.τ).loc Cert.ReferenceGwOutIdeal.main_arg0)
      ∧ r.2.mem ((c.tc : Thread Cert.ReferenceGwOutIdeal.nD Cert.ReferenceGwOutIdeal.τ).loc Cert.ReferenceGwOutIdeal.main_arg1) = m ((c.tc : Thread Cert.ReferenceGwOutIdeal.nD Cert.ReferenceGwOutIdeal.τ).loc Cert.ReferenceGwOutIdeal.main_arg1))
      ∧ r.2.sem = fun _ => 0)

def quiescent_KernelMlpIn [hKernelMlpIn : Cert.KernelMlpIn.Facts] : Prop :=
  ∀ (m : (ℓ : Loc Cert.KernelMlpIn.nD Cert.KernelMlpIn.τ Cert.KernelMlpIn.sig) → Buf (Elt Bits) ℓ) (g : Dev Cert.KernelMlpIn.nD → PrngReg), Pre_KernelMlpIn m →
    θ_run (Cert.KernelMlpIn.defs (F := Bits)) (onTc (τ := Cert.KernelMlpIn.τ) (Cert.KernelMlpIn.main (F := Bits))) ⟨m, fun _ => 0, g⟩ (fun r => (∀ c : Dev Cert.KernelMlpIn.nD,
      r.2.mem ((c.tc : Thread Cert.KernelMlpIn.nD Cert.KernelMlpIn.τ).loc Cert.KernelMlpIn.main_arg0) = m ((c.tc : Thread Cert.KernelMlpIn.nD Cert.KernelMlpIn.τ).loc Cert.KernelMlpIn.main_arg0)
      ∧ r.2.mem ((c.tc : Thread Cert.KernelMlpIn.nD Cert.KernelMlpIn.τ).loc Cert.KernelMlpIn.main_arg1) = m ((c.tc : Thread Cert.KernelMlpIn.nD Cert.KernelMlpIn.τ).loc Cert.KernelMlpIn.main_arg1)
      ∧ r.2.mem ((c.tc : Thread Cert.KernelMlpIn.nD Cert.KernelMlpIn.τ).loc Cert.KernelMlpIn.main_arg2) = m ((c.tc : Thread Cert.KernelMlpIn.nD Cert.KernelMlpIn.τ).loc Cert.KernelMlpIn.main_arg2)
      ∧ r.2.mem ((c.tc : Thread Cert.KernelMlpIn.nD Cert.KernelMlpIn.τ).loc Cert.KernelMlpIn.main_arg3) = m ((c.tc : Thread Cert.KernelMlpIn.nD Cert.KernelMlpIn.τ).loc Cert.KernelMlpIn.main_arg3)
      ∧ r.2.mem ((c.tc : Thread Cert.KernelMlpIn.nD Cert.KernelMlpIn.τ).loc Cert.KernelMlpIn.main_arg4) = m ((c.tc : Thread Cert.KernelMlpIn.nD Cert.KernelMlpIn.τ).loc Cert.KernelMlpIn.main_arg4)
      ∧ r.2.mem ((c.tc : Thread Cert.KernelMlpIn.nD Cert.KernelMlpIn.τ).loc Cert.KernelMlpIn.main_arg5) = m ((c.tc : Thread Cert.KernelMlpIn.nD Cert.KernelMlpIn.τ).loc Cert.KernelMlpIn.main_arg5)
      ∧ r.2.mem ((c.tc : Thread Cert.KernelMlpIn.nD Cert.KernelMlpIn.τ).loc Cert.KernelMlpIn.main_arg6) = m ((c.tc : Thread Cert.KernelMlpIn.nD Cert.KernelMlpIn.τ).loc Cert.KernelMlpIn.main_arg6))
      ∧ r.2.sem = fun _ => 0)

def quiescent_KernelMlpInIdeal [hKernelMlpInIdeal : Cert.KernelMlpInIdeal.Facts] : Prop :=
  ∀ (m : (ℓ : Loc Cert.KernelMlpInIdeal.nD Cert.KernelMlpInIdeal.τ Cert.KernelMlpInIdeal.sig) → Buf (Elt Ideal) ℓ) (g : Dev Cert.KernelMlpInIdeal.nD → PrngReg), Pre_KernelMlpInIdeal m →
    θ_run (Cert.KernelMlpInIdeal.defs (F := Ideal)) (onTc (τ := Cert.KernelMlpInIdeal.τ) (Cert.KernelMlpInIdeal.main (F := Ideal))) ⟨m, fun _ => 0, g⟩ (fun r => (∀ c : Dev Cert.KernelMlpInIdeal.nD,
      r.2.mem ((c.tc : Thread Cert.KernelMlpInIdeal.nD Cert.KernelMlpInIdeal.τ).loc Cert.KernelMlpInIdeal.main_arg0) = m ((c.tc : Thread Cert.KernelMlpInIdeal.nD Cert.KernelMlpInIdeal.τ).loc Cert.KernelMlpInIdeal.main_arg0)
      ∧ r.2.mem ((c.tc : Thread Cert.KernelMlpInIdeal.nD Cert.KernelMlpInIdeal.τ).loc Cert.KernelMlpInIdeal.main_arg1) = m ((c.tc : Thread Cert.KernelMlpInIdeal.nD Cert.KernelMlpInIdeal.τ).loc Cert.KernelMlpInIdeal.main_arg1)
      ∧ r.2.mem ((c.tc : Thread Cert.KernelMlpInIdeal.nD Cert.KernelMlpInIdeal.τ).loc Cert.KernelMlpInIdeal.main_arg2) = m ((c.tc : Thread Cert.KernelMlpInIdeal.nD Cert.KernelMlpInIdeal.τ).loc Cert.KernelMlpInIdeal.main_arg2)
      ∧ r.2.mem ((c.tc : Thread Cert.KernelMlpInIdeal.nD Cert.KernelMlpInIdeal.τ).loc Cert.KernelMlpInIdeal.main_arg3) = m ((c.tc : Thread Cert.KernelMlpInIdeal.nD Cert.KernelMlpInIdeal.τ).loc Cert.KernelMlpInIdeal.main_arg3)
      ∧ r.2.mem ((c.tc : Thread Cert.KernelMlpInIdeal.nD Cert.KernelMlpInIdeal.τ).loc Cert.KernelMlpInIdeal.main_arg4) = m ((c.tc : Thread Cert.KernelMlpInIdeal.nD Cert.KernelMlpInIdeal.τ).loc Cert.KernelMlpInIdeal.main_arg4)
      ∧ r.2.mem ((c.tc : Thread Cert.KernelMlpInIdeal.nD Cert.KernelMlpInIdeal.τ).loc Cert.KernelMlpInIdeal.main_arg5) = m ((c.tc : Thread Cert.KernelMlpInIdeal.nD Cert.KernelMlpInIdeal.τ).loc Cert.KernelMlpInIdeal.main_arg5)
      ∧ r.2.mem ((c.tc : Thread Cert.KernelMlpInIdeal.nD Cert.KernelMlpInIdeal.τ).loc Cert.KernelMlpInIdeal.main_arg6) = m ((c.tc : Thread Cert.KernelMlpInIdeal.nD Cert.KernelMlpInIdeal.τ).loc Cert.KernelMlpInIdeal.main_arg6))
      ∧ r.2.sem = fun _ => 0)

def quiescent_KernelMlpInIdeal_pre_finite_mlpin [hKernelMlpInIdeal : Cert.KernelMlpInIdeal.Facts] [hPre_finite_mlpin : Cert.Pre_finite_mlpin.Facts] : Prop :=
  ∀ (m : (ℓ : Loc Cert.KernelMlpInIdeal.nD Cert.KernelMlpInIdeal.τ Cert.KernelMlpInIdeal.sig) → Buf (Elt Ideal) ℓ) (g : Dev Cert.KernelMlpInIdeal.nD → PrngReg), Pre_KernelMlpInIdeal_finite_mlpin m →
    θ_run (Cert.KernelMlpInIdeal.defs (F := Ideal)) (onTc (τ := Cert.KernelMlpInIdeal.τ) (Cert.KernelMlpInIdeal.main (F := Ideal))) ⟨m, fun _ => 0, g⟩ (fun r => (∀ c : Dev Cert.KernelMlpInIdeal.nD,
      r.2.mem ((c.tc : Thread Cert.KernelMlpInIdeal.nD Cert.KernelMlpInIdeal.τ).loc Cert.KernelMlpInIdeal.main_arg0) = m ((c.tc : Thread Cert.KernelMlpInIdeal.nD Cert.KernelMlpInIdeal.τ).loc Cert.KernelMlpInIdeal.main_arg0)
      ∧ r.2.mem ((c.tc : Thread Cert.KernelMlpInIdeal.nD Cert.KernelMlpInIdeal.τ).loc Cert.KernelMlpInIdeal.main_arg1) = m ((c.tc : Thread Cert.KernelMlpInIdeal.nD Cert.KernelMlpInIdeal.τ).loc Cert.KernelMlpInIdeal.main_arg1)
      ∧ r.2.mem ((c.tc : Thread Cert.KernelMlpInIdeal.nD Cert.KernelMlpInIdeal.τ).loc Cert.KernelMlpInIdeal.main_arg2) = m ((c.tc : Thread Cert.KernelMlpInIdeal.nD Cert.KernelMlpInIdeal.τ).loc Cert.KernelMlpInIdeal.main_arg2)
      ∧ r.2.mem ((c.tc : Thread Cert.KernelMlpInIdeal.nD Cert.KernelMlpInIdeal.τ).loc Cert.KernelMlpInIdeal.main_arg3) = m ((c.tc : Thread Cert.KernelMlpInIdeal.nD Cert.KernelMlpInIdeal.τ).loc Cert.KernelMlpInIdeal.main_arg3)
      ∧ r.2.mem ((c.tc : Thread Cert.KernelMlpInIdeal.nD Cert.KernelMlpInIdeal.τ).loc Cert.KernelMlpInIdeal.main_arg4) = m ((c.tc : Thread Cert.KernelMlpInIdeal.nD Cert.KernelMlpInIdeal.τ).loc Cert.KernelMlpInIdeal.main_arg4)
      ∧ r.2.mem ((c.tc : Thread Cert.KernelMlpInIdeal.nD Cert.KernelMlpInIdeal.τ).loc Cert.KernelMlpInIdeal.main_arg5) = m ((c.tc : Thread Cert.KernelMlpInIdeal.nD Cert.KernelMlpInIdeal.τ).loc Cert.KernelMlpInIdeal.main_arg5)
      ∧ r.2.mem ((c.tc : Thread Cert.KernelMlpInIdeal.nD Cert.KernelMlpInIdeal.τ).loc Cert.KernelMlpInIdeal.main_arg6) = m ((c.tc : Thread Cert.KernelMlpInIdeal.nD Cert.KernelMlpInIdeal.τ).loc Cert.KernelMlpInIdeal.main_arg6))
      ∧ r.2.sem = fun _ => 0)

def quiescent_ReferenceMlpInIdeal [hReferenceMlpInIdeal : Cert.ReferenceMlpInIdeal.Facts] : Prop :=
  ∀ (m : (ℓ : Loc Cert.ReferenceMlpInIdeal.nD Cert.ReferenceMlpInIdeal.τ Cert.ReferenceMlpInIdeal.sig) → Buf (Elt Ideal) ℓ) (g : Dev Cert.ReferenceMlpInIdeal.nD → PrngReg), Pre_ReferenceMlpInIdeal m →
    θ_run (Cert.ReferenceMlpInIdeal.defs (F := Ideal)) (onTc (τ := Cert.ReferenceMlpInIdeal.τ) (Cert.ReferenceMlpInIdeal.main (F := Ideal))) ⟨m, fun _ => 0, g⟩ (fun r => (∀ c : Dev Cert.ReferenceMlpInIdeal.nD,
      r.2.mem ((c.tc : Thread Cert.ReferenceMlpInIdeal.nD Cert.ReferenceMlpInIdeal.τ).loc Cert.ReferenceMlpInIdeal.main_arg0) = m ((c.tc : Thread Cert.ReferenceMlpInIdeal.nD Cert.ReferenceMlpInIdeal.τ).loc Cert.ReferenceMlpInIdeal.main_arg0)
      ∧ r.2.mem ((c.tc : Thread Cert.ReferenceMlpInIdeal.nD Cert.ReferenceMlpInIdeal.τ).loc Cert.ReferenceMlpInIdeal.main_arg1) = m ((c.tc : Thread Cert.ReferenceMlpInIdeal.nD Cert.ReferenceMlpInIdeal.τ).loc Cert.ReferenceMlpInIdeal.main_arg1)
      ∧ r.2.mem ((c.tc : Thread Cert.ReferenceMlpInIdeal.nD Cert.ReferenceMlpInIdeal.τ).loc Cert.ReferenceMlpInIdeal.main_arg2) = m ((c.tc : Thread Cert.ReferenceMlpInIdeal.nD Cert.ReferenceMlpInIdeal.τ).loc Cert.ReferenceMlpInIdeal.main_arg2)
      ∧ r.2.mem ((c.tc : Thread Cert.ReferenceMlpInIdeal.nD Cert.ReferenceMlpInIdeal.τ).loc Cert.ReferenceMlpInIdeal.main_arg3) = m ((c.tc : Thread Cert.ReferenceMlpInIdeal.nD Cert.ReferenceMlpInIdeal.τ).loc Cert.ReferenceMlpInIdeal.main_arg3)
      ∧ r.2.mem ((c.tc : Thread Cert.ReferenceMlpInIdeal.nD Cert.ReferenceMlpInIdeal.τ).loc Cert.ReferenceMlpInIdeal.main_arg4) = m ((c.tc : Thread Cert.ReferenceMlpInIdeal.nD Cert.ReferenceMlpInIdeal.τ).loc Cert.ReferenceMlpInIdeal.main_arg4)
      ∧ r.2.mem ((c.tc : Thread Cert.ReferenceMlpInIdeal.nD Cert.ReferenceMlpInIdeal.τ).loc Cert.ReferenceMlpInIdeal.main_arg5) = m ((c.tc : Thread Cert.ReferenceMlpInIdeal.nD Cert.ReferenceMlpInIdeal.τ).loc Cert.ReferenceMlpInIdeal.main_arg5)
      ∧ r.2.mem ((c.tc : Thread Cert.ReferenceMlpInIdeal.nD Cert.ReferenceMlpInIdeal.τ).loc Cert.ReferenceMlpInIdeal.main_arg6) = m ((c.tc : Thread Cert.ReferenceMlpInIdeal.nD Cert.ReferenceMlpInIdeal.τ).loc Cert.ReferenceMlpInIdeal.main_arg6))
      ∧ r.2.sem = fun _ => 0)

def quiescent_ReferenceMlpInIdeal_pre_finite_mlpin [hReferenceMlpInIdeal : Cert.ReferenceMlpInIdeal.Facts] [hPre_finite_mlpin : Cert.Pre_finite_mlpin.Facts] : Prop :=
  ∀ (m : (ℓ : Loc Cert.ReferenceMlpInIdeal.nD Cert.ReferenceMlpInIdeal.τ Cert.ReferenceMlpInIdeal.sig) → Buf (Elt Ideal) ℓ) (g : Dev Cert.ReferenceMlpInIdeal.nD → PrngReg), Pre_ReferenceMlpInIdeal_finite_mlpin m →
    θ_run (Cert.ReferenceMlpInIdeal.defs (F := Ideal)) (onTc (τ := Cert.ReferenceMlpInIdeal.τ) (Cert.ReferenceMlpInIdeal.main (F := Ideal))) ⟨m, fun _ => 0, g⟩ (fun r => (∀ c : Dev Cert.ReferenceMlpInIdeal.nD,
      r.2.mem ((c.tc : Thread Cert.ReferenceMlpInIdeal.nD Cert.ReferenceMlpInIdeal.τ).loc Cert.ReferenceMlpInIdeal.main_arg0) = m ((c.tc : Thread Cert.ReferenceMlpInIdeal.nD Cert.ReferenceMlpInIdeal.τ).loc Cert.ReferenceMlpInIdeal.main_arg0)
      ∧ r.2.mem ((c.tc : Thread Cert.ReferenceMlpInIdeal.nD Cert.ReferenceMlpInIdeal.τ).loc Cert.ReferenceMlpInIdeal.main_arg1) = m ((c.tc : Thread Cert.ReferenceMlpInIdeal.nD Cert.ReferenceMlpInIdeal.τ).loc Cert.ReferenceMlpInIdeal.main_arg1)
      ∧ r.2.mem ((c.tc : Thread Cert.ReferenceMlpInIdeal.nD Cert.ReferenceMlpInIdeal.τ).loc Cert.ReferenceMlpInIdeal.main_arg2) = m ((c.tc : Thread Cert.ReferenceMlpInIdeal.nD Cert.ReferenceMlpInIdeal.τ).loc Cert.ReferenceMlpInIdeal.main_arg2)
      ∧ r.2.mem ((c.tc : Thread Cert.ReferenceMlpInIdeal.nD Cert.ReferenceMlpInIdeal.τ).loc Cert.ReferenceMlpInIdeal.main_arg3) = m ((c.tc : Thread Cert.ReferenceMlpInIdeal.nD Cert.ReferenceMlpInIdeal.τ).loc Cert.ReferenceMlpInIdeal.main_arg3)
      ∧ r.2.mem ((c.tc : Thread Cert.ReferenceMlpInIdeal.nD Cert.ReferenceMlpInIdeal.τ).loc Cert.ReferenceMlpInIdeal.main_arg4) = m ((c.tc : Thread Cert.ReferenceMlpInIdeal.nD Cert.ReferenceMlpInIdeal.τ).loc Cert.ReferenceMlpInIdeal.main_arg4)
      ∧ r.2.mem ((c.tc : Thread Cert.ReferenceMlpInIdeal.nD Cert.ReferenceMlpInIdeal.τ).loc Cert.ReferenceMlpInIdeal.main_arg5) = m ((c.tc : Thread Cert.ReferenceMlpInIdeal.nD Cert.ReferenceMlpInIdeal.τ).loc Cert.ReferenceMlpInIdeal.main_arg5)
      ∧ r.2.mem ((c.tc : Thread Cert.ReferenceMlpInIdeal.nD Cert.ReferenceMlpInIdeal.τ).loc Cert.ReferenceMlpInIdeal.main_arg6) = m ((c.tc : Thread Cert.ReferenceMlpInIdeal.nD Cert.ReferenceMlpInIdeal.τ).loc Cert.ReferenceMlpInIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5))
      ∧ r.2.sem = fun _ => 0)

def quiescent_KernelConvOut [hKernelConvOut : Cert.KernelConvOut.Facts] : Prop :=
  ∀ (m : (ℓ : Loc Cert.KernelConvOut.nD Cert.KernelConvOut.τ Cert.KernelConvOut.sig) → Buf (Elt Bits) ℓ) (g : Dev Cert.KernelConvOut.nD → PrngReg), Pre_KernelConvOut m →
    θ_run (Cert.KernelConvOut.defs (F := Bits)) (onTc (τ := Cert.KernelConvOut.τ) (Cert.KernelConvOut.main (F := Bits))) ⟨m, fun _ => 0, g⟩ (fun r => (∀ c : Dev Cert.KernelConvOut.nD,
      r.2.mem ((c.tc : Thread Cert.KernelConvOut.nD Cert.KernelConvOut.τ).loc Cert.KernelConvOut.main_arg0) = m ((c.tc : Thread Cert.KernelConvOut.nD Cert.KernelConvOut.τ).loc Cert.KernelConvOut.main_arg0)
      ∧ r.2.mem ((c.tc : Thread Cert.KernelConvOut.nD Cert.KernelConvOut.τ).loc Cert.KernelConvOut.main_arg1) = m ((c.tc : Thread Cert.KernelConvOut.nD Cert.KernelConvOut.τ).loc Cert.KernelConvOut.main_arg1)
      ∧ r.2.mem ((c.tc : Thread Cert.KernelConvOut.nD Cert.KernelConvOut.τ).loc Cert.KernelConvOut.main_arg2) = m ((c.tc : Thread Cert.KernelConvOut.nD Cert.KernelConvOut.τ).loc Cert.KernelConvOut.main_arg2)
      ∧ r.2.mem ((c.tc : Thread Cert.KernelConvOut.nD Cert.KernelConvOut.τ).loc Cert.KernelConvOut.main_arg3) = m ((c.tc : Thread Cert.KernelConvOut.nD Cert.KernelConvOut.τ).loc Cert.KernelConvOut.main_arg3)
      ∧ r.2.mem ((c.tc : Thread Cert.KernelConvOut.nD Cert.KernelConvOut.τ).loc Cert.KernelConvOut.main_arg4) = m ((c.tc : Thread Cert.KernelConvOut.nD Cert.KernelConvOut.τ).loc Cert.KernelConvOut.main_arg4)
      ∧ r.2.mem ((c.tc : Thread Cert.KernelConvOut.nD Cert.KernelConvOut.τ).loc Cert.KernelConvOut.main_arg5) = m ((c.tc : Thread Cert.KernelConvOut.nD Cert.KernelConvOut.τ).loc Cert.KernelConvOut.main_arg5))
      ∧ r.2.sem = fun _ => 0)

def quiescent_KernelConvOutIdeal [hKernelConvOutIdeal : Cert.KernelConvOutIdeal.Facts] : Prop :=
  ∀ (m : (ℓ : Loc Cert.KernelConvOutIdeal.nD Cert.KernelConvOutIdeal.τ Cert.KernelConvOutIdeal.sig) → Buf (Elt Ideal) ℓ) (g : Dev Cert.KernelConvOutIdeal.nD → PrngReg), Pre_KernelConvOutIdeal m →
    θ_run (Cert.KernelConvOutIdeal.defs (F := Ideal)) (onTc (τ := Cert.KernelConvOutIdeal.τ) (Cert.KernelConvOutIdeal.main (F := Ideal))) ⟨m, fun _ => 0, g⟩ (fun r => (∀ c : Dev Cert.KernelConvOutIdeal.nD,
      r.2.mem ((c.tc : Thread Cert.KernelConvOutIdeal.nD Cert.KernelConvOutIdeal.τ).loc Cert.KernelConvOutIdeal.main_arg0) = m ((c.tc : Thread Cert.KernelConvOutIdeal.nD Cert.KernelConvOutIdeal.τ).loc Cert.KernelConvOutIdeal.main_arg0)
      ∧ r.2.mem ((c.tc : Thread Cert.KernelConvOutIdeal.nD Cert.KernelConvOutIdeal.τ).loc Cert.KernelConvOutIdeal.main_arg1) = m ((c.tc : Thread Cert.KernelConvOutIdeal.nD Cert.KernelConvOutIdeal.τ).loc Cert.KernelConvOutIdeal.main_arg1)
      ∧ r.2.mem ((c.tc : Thread Cert.KernelConvOutIdeal.nD Cert.KernelConvOutIdeal.τ).loc Cert.KernelConvOutIdeal.main_arg2) = m ((c.tc : Thread Cert.KernelConvOutIdeal.nD Cert.KernelConvOutIdeal.τ).loc Cert.KernelConvOutIdeal.main_arg2)
      ∧ r.2.mem ((c.tc : Thread Cert.KernelConvOutIdeal.nD Cert.KernelConvOutIdeal.τ).loc Cert.KernelConvOutIdeal.main_arg3) = m ((c.tc : Thread Cert.KernelConvOutIdeal.nD Cert.KernelConvOutIdeal.τ).loc Cert.KernelConvOutIdeal.main_arg3)
      ∧ r.2.mem ((c.tc : Thread Cert.KernelConvOutIdeal.nD Cert.KernelConvOutIdeal.τ).loc Cert.KernelConvOutIdeal.main_arg4) = m ((c.tc : Thread Cert.KernelConvOutIdeal.nD Cert.KernelConvOutIdeal.τ).loc Cert.KernelConvOutIdeal.main_arg4)
      ∧ r.2.mem ((c.tc : Thread Cert.KernelConvOutIdeal.nD Cert.KernelConvOutIdeal.τ).loc Cert.KernelConvOutIdeal.main_arg5) = m ((c.tc : Thread Cert.KernelConvOutIdeal.nD Cert.KernelConvOutIdeal.τ).loc Cert.KernelConvOutIdeal.main_arg5))
      ∧ r.2.sem = fun _ => 0)

def quiescent_ReferenceConvOutIdeal [hReferenceConvOutIdeal : Cert.ReferenceConvOutIdeal.Facts] : Prop :=
  ∀ (m : (ℓ : Loc Cert.ReferenceConvOutIdeal.nD Cert.ReferenceConvOutIdeal.τ Cert.ReferenceConvOutIdeal.sig) → Buf (Elt Ideal) ℓ) (g : Dev Cert.ReferenceConvOutIdeal.nD → PrngReg), Pre_ReferenceConvOutIdeal m →
    θ_run (Cert.ReferenceConvOutIdeal.defs (F := Ideal)) (onTc (τ := Cert.ReferenceConvOutIdeal.τ) (Cert.ReferenceConvOutIdeal.main (F := Ideal))) ⟨m, fun _ => 0, g⟩ (fun r => (∀ c : Dev Cert.ReferenceConvOutIdeal.nD,
      r.2.mem ((c.tc : Thread Cert.ReferenceConvOutIdeal.nD Cert.ReferenceConvOutIdeal.τ).loc Cert.ReferenceConvOutIdeal.main_arg0) = m ((c.tc : Thread Cert.ReferenceConvOutIdeal.nD Cert.ReferenceConvOutIdeal.τ).loc Cert.ReferenceConvOutIdeal.main_arg0)
      ∧ r.2.mem ((c.tc : Thread Cert.ReferenceConvOutIdeal.nD Cert.ReferenceConvOutIdeal.τ).loc Cert.ReferenceConvOutIdeal.main_arg1) = m ((c.tc : Thread Cert.ReferenceConvOutIdeal.nD Cert.ReferenceConvOutIdeal.τ).loc Cert.ReferenceConvOutIdeal.main_arg1)
      ∧ r.2.mem ((c.tc : Thread Cert.ReferenceConvOutIdeal.nD Cert.ReferenceConvOutIdeal.τ).loc Cert.ReferenceConvOutIdeal.main_arg2) = m ((c.tc : Thread Cert.ReferenceConvOutIdeal.nD Cert.ReferenceConvOutIdeal.τ).loc Cert.ReferenceConvOutIdeal.main_arg2)
      ∧ r.2.mem ((c.tc : Thread Cert.ReferenceConvOutIdeal.nD Cert.ReferenceConvOutIdeal.τ).loc Cert.ReferenceConvOutIdeal.main_arg3) = m ((c.tc : Thread Cert.ReferenceConvOutIdeal.nD Cert.ReferenceConvOutIdeal.τ).loc Cert.ReferenceConvOutIdeal.main_arg3)
      ∧ r.2.mem ((c.tc : Thread Cert.ReferenceConvOutIdeal.nD Cert.ReferenceConvOutIdeal.τ).loc Cert.ReferenceConvOutIdeal.main_arg4) = m ((c.tc : Thread Cert.ReferenceConvOutIdeal.nD Cert.ReferenceConvOutIdeal.τ).loc Cert.ReferenceConvOutIdeal.main_arg4)
      ∧ r.2.mem ((c.tc : Thread Cert.ReferenceConvOutIdeal.nD Cert.ReferenceConvOutIdeal.τ).loc Cert.ReferenceConvOutIdeal.main_arg5) = m ((c.tc : Thread Cert.ReferenceConvOutIdeal.nD Cert.ReferenceConvOutIdeal.τ).loc Cert.ReferenceConvOutIdeal.main_arg5))
      ∧ r.2.sem = fun _ => 0)

def quiescent_KernelConvIn [hKernelConvIn : Cert.KernelConvIn.Facts] : Prop :=
  ∀ (m : (ℓ : Loc Cert.KernelConvIn.nD Cert.KernelConvIn.τ Cert.KernelConvIn.sig) → Buf (Elt Bits) ℓ) (g : Dev Cert.KernelConvIn.nD → PrngReg), Pre_KernelConvIn m →
    θ_run (Cert.KernelConvIn.defs (F := Bits)) (onTc (τ := Cert.KernelConvIn.τ) (Cert.KernelConvIn.main (F := Bits))) ⟨m, fun _ => 0, g⟩ (fun r => (∀ c : Dev Cert.KernelConvIn.nD,
      r.2.mem ((c.tc : Thread Cert.KernelConvIn.nD Cert.KernelConvIn.τ).loc Cert.KernelConvIn.main_arg0) = m ((c.tc : Thread Cert.KernelConvIn.nD Cert.KernelConvIn.τ).loc Cert.KernelConvIn.main_arg0)
      ∧ r.2.mem ((c.tc : Thread Cert.KernelConvIn.nD Cert.KernelConvIn.τ).loc Cert.KernelConvIn.main_arg1) = m ((c.tc : Thread Cert.KernelConvIn.nD Cert.KernelConvIn.τ).loc Cert.KernelConvIn.main_arg1)
      ∧ r.2.mem ((c.tc : Thread Cert.KernelConvIn.nD Cert.KernelConvIn.τ).loc Cert.KernelConvIn.main_arg2) = m ((c.tc : Thread Cert.KernelConvIn.nD Cert.KernelConvIn.τ).loc Cert.KernelConvIn.main_arg2))
      ∧ r.2.sem = fun _ => 0)

def quiescent_KernelConvInIdeal [hKernelConvInIdeal : Cert.KernelConvInIdeal.Facts] : Prop :=
  ∀ (m : (ℓ : Loc Cert.KernelConvInIdeal.nD Cert.KernelConvInIdeal.τ Cert.KernelConvInIdeal.sig) → Buf (Elt Ideal) ℓ) (g : Dev Cert.KernelConvInIdeal.nD → PrngReg), Pre_KernelConvInIdeal m →
    θ_run (Cert.KernelConvInIdeal.defs (F := Ideal)) (onTc (τ := Cert.KernelConvInIdeal.τ) (Cert.KernelConvInIdeal.main (F := Ideal))) ⟨m, fun _ => 0, g⟩ (fun r => (∀ c : Dev Cert.KernelConvInIdeal.nD,
      r.2.mem ((c.tc : Thread Cert.KernelConvInIdeal.nD Cert.KernelConvInIdeal.τ).loc Cert.KernelConvInIdeal.main_arg0) = m ((c.tc : Thread Cert.KernelConvInIdeal.nD Cert.KernelConvInIdeal.τ).loc Cert.KernelConvInIdeal.main_arg0)
      ∧ r.2.mem ((c.tc : Thread Cert.KernelConvInIdeal.nD Cert.KernelConvInIdeal.τ).loc Cert.KernelConvInIdeal.main_arg1) = m ((c.tc : Thread Cert.KernelConvInIdeal.nD Cert.KernelConvInIdeal.τ).loc Cert.KernelConvInIdeal.main_arg1)
      ∧ r.2.mem ((c.tc : Thread Cert.KernelConvInIdeal.nD Cert.KernelConvInIdeal.τ).loc Cert.KernelConvInIdeal.main_arg2) = m ((c.tc : Thread Cert.KernelConvInIdeal.nD Cert.KernelConvInIdeal.τ).loc Cert.KernelConvInIdeal.main_arg2))
      ∧ r.2.sem = fun _ => 0)

def quiescent_ReferenceConvInIdeal [hReferenceConvInIdeal : Cert.ReferenceConvInIdeal.Facts] : Prop :=
  ∀ (m : (ℓ : Loc Cert.ReferenceConvInIdeal.nD Cert.ReferenceConvInIdeal.τ Cert.ReferenceConvInIdeal.sig) → Buf (Elt Ideal) ℓ) (g : Dev Cert.ReferenceConvInIdeal.nD → PrngReg), Pre_ReferenceConvInIdeal m →
    θ_run (Cert.ReferenceConvInIdeal.defs (F := Ideal)) (onTc (τ := Cert.ReferenceConvInIdeal.τ) (Cert.ReferenceConvInIdeal.main (F := Ideal))) ⟨m, fun _ => 0, g⟩ (fun r => (∀ c : Dev Cert.ReferenceConvInIdeal.nD,
      r.2.mem ((c.tc : Thread Cert.ReferenceConvInIdeal.nD Cert.ReferenceConvInIdeal.τ).loc Cert.ReferenceConvInIdeal.main_arg0) = m ((c.tc : Thread Cert.ReferenceConvInIdeal.nD Cert.ReferenceConvInIdeal.τ).loc Cert.ReferenceConvInIdeal.main_arg0)
      ∧ r.2.mem ((c.tc : Thread Cert.ReferenceConvInIdeal.nD Cert.ReferenceConvInIdeal.τ).loc Cert.ReferenceConvInIdeal.main_arg1) = m ((c.tc : Thread Cert.ReferenceConvInIdeal.nD Cert.ReferenceConvInIdeal.τ).loc Cert.ReferenceConvInIdeal.main_arg1)
      ∧ r.2.mem ((c.tc : Thread Cert.ReferenceConvInIdeal.nD Cert.ReferenceConvInIdeal.τ).loc Cert.ReferenceConvInIdeal.main_arg2) = m ((c.tc : Thread Cert.ReferenceConvInIdeal.nD Cert.ReferenceConvInIdeal.τ).loc Cert.ReferenceConvInIdeal.main_arg2))
      ∧ r.2.sem = fun _ => 0)

def quiescent_KernelConvInBwd [hKernelConvInBwd : Cert.KernelConvInBwd.Facts] : Prop :=
  ∀ (m : (ℓ : Loc Cert.KernelConvInBwd.nD Cert.KernelConvInBwd.τ Cert.KernelConvInBwd.sig) → Buf (Elt Bits) ℓ) (g : Dev Cert.KernelConvInBwd.nD → PrngReg), Pre_KernelConvInBwd m →
    θ_run (Cert.KernelConvInBwd.defs (F := Bits)) (onTc (τ := Cert.KernelConvInBwd.τ) (Cert.KernelConvInBwd.main (F := Bits))) ⟨m, fun _ => 0, g⟩ (fun r => (∀ c : Dev Cert.KernelConvInBwd.nD,
      r.2.mem ((c.tc : Thread Cert.KernelConvInBwd.nD Cert.KernelConvInBwd.τ).loc Cert.KernelConvInBwd.main_arg0) = m ((c.tc : Thread Cert.KernelConvInBwd.nD Cert.KernelConvInBwd.τ).loc Cert.KernelConvInBwd.main_arg0)
      ∧ r.2.mem ((c.tc : Thread Cert.KernelConvInBwd.nD Cert.KernelConvInBwd.τ).loc Cert.KernelConvInBwd.main_arg1) = m ((c.tc : Thread Cert.KernelConvInBwd.nD Cert.KernelConvInBwd.τ).loc Cert.KernelConvInBwd.main_arg1)
      ∧ r.2.mem ((c.tc : Thread Cert.KernelConvInBwd.nD Cert.KernelConvInBwd.τ).loc Cert.KernelConvInBwd.main_arg2) = m ((c.tc : Thread Cert.KernelConvInBwd.nD Cert.KernelConvInBwd.τ).loc Cert.KernelConvInBwd.main_arg2)
      ∧ r.2.mem ((c.tc : Thread Cert.KernelConvInBwd.nD Cert.KernelConvInBwd.τ).loc Cert.KernelConvInBwd.main_arg3) = m ((c.tc : Thread Cert.KernelConvInBwd.nD Cert.KernelConvInBwd.τ).loc Cert.KernelConvInBwd.main_arg3)
      ∧ r.2.mem ((c.tc : Thread Cert.KernelConvInBwd.nD Cert.KernelConvInBwd.τ).loc Cert.KernelConvInBwd.main_arg4) = m ((c.tc : Thread Cert.KernelConvInBwd.nD Cert.KernelConvInBwd.τ).loc Cert.KernelConvInBwd.main_arg4)
      ∧ r.2.mem ((c.tc : Thread Cert.KernelConvInBwd.nD Cert.KernelConvInBwd.τ).loc Cert.KernelConvInBwd.main_arg5) = m ((c.tc : Thread Cert.KernelConvInBwd.nD Cert.KernelConvInBwd.τ).loc Cert.KernelConvInBwd.main_arg5)
      ∧ r.2.mem ((c.tc : Thread Cert.KernelConvInBwd.nD Cert.KernelConvInBwd.τ).loc Cert.KernelConvInBwd.main_arg6) = m ((c.tc : Thread Cert.KernelConvInBwd.nD Cert.KernelConvInBwd.τ).loc Cert.KernelConvInBwd.main_arg6))
      ∧ r.2.sem = fun _ => 0)

def quiescent_KernelConvInBwdIdeal [hKernelConvInBwdIdeal : Cert.KernelConvInBwdIdeal.Facts] : Prop :=
  ∀ (m : (ℓ : Loc Cert.KernelConvInBwdIdeal.nD Cert.KernelConvInBwdIdeal.τ Cert.KernelConvInBwdIdeal.sig) → Buf (Elt Ideal) ℓ) (g : Dev Cert.KernelConvInBwdIdeal.nD → PrngReg), Pre_KernelConvInBwdIdeal m →
    θ_run (Cert.KernelConvInBwdIdeal.defs (F := Ideal)) (onTc (τ := Cert.KernelConvInBwdIdeal.τ) (Cert.KernelConvInBwdIdeal.main (F := Ideal))) ⟨m, fun _ => 0, g⟩ (fun r => (∀ c : Dev Cert.KernelConvInBwdIdeal.nD,
      r.2.mem ((c.tc : Thread Cert.KernelConvInBwdIdeal.nD Cert.KernelConvInBwdIdeal.τ).loc Cert.KernelConvInBwdIdeal.main_arg0) = m ((c.tc : Thread Cert.KernelConvInBwdIdeal.nD Cert.KernelConvInBwdIdeal.τ).loc Cert.KernelConvInBwdIdeal.main_arg0)
      ∧ r.2.mem ((c.tc : Thread Cert.KernelConvInBwdIdeal.nD Cert.KernelConvInBwdIdeal.τ).loc Cert.KernelConvInBwdIdeal.main_arg1) = m ((c.tc : Thread Cert.KernelConvInBwdIdeal.nD Cert.KernelConvInBwdIdeal.τ).loc Cert.KernelConvInBwdIdeal.main_arg1)
      ∧ r.2.mem ((c.tc : Thread Cert.KernelConvInBwdIdeal.nD Cert.KernelConvInBwdIdeal.τ).loc Cert.KernelConvInBwdIdeal.main_arg2) = m ((c.tc : Thread Cert.KernelConvInBwdIdeal.nD Cert.KernelConvInBwdIdeal.τ).loc Cert.KernelConvInBwdIdeal.main_arg2)
      ∧ r.2.mem ((c.tc : Thread Cert.KernelConvInBwdIdeal.nD Cert.KernelConvInBwdIdeal.τ).loc Cert.KernelConvInBwdIdeal.main_arg3) = m ((c.tc : Thread Cert.KernelConvInBwdIdeal.nD Cert.KernelConvInBwdIdeal.τ).loc Cert.KernelConvInBwdIdeal.main_arg3)
      ∧ r.2.mem ((c.tc : Thread Cert.KernelConvInBwdIdeal.nD Cert.KernelConvInBwdIdeal.τ).loc Cert.KernelConvInBwdIdeal.main_arg4) = m ((c.tc : Thread Cert.KernelConvInBwdIdeal.nD Cert.KernelConvInBwdIdeal.τ).loc Cert.KernelConvInBwdIdeal.main_arg4)
      ∧ r.2.mem ((c.tc : Thread Cert.KernelConvInBwdIdeal.nD Cert.KernelConvInBwdIdeal.τ).loc Cert.KernelConvInBwdIdeal.main_arg5) = m ((c.tc : Thread Cert.KernelConvInBwdIdeal.nD Cert.KernelConvInBwdIdeal.τ).loc Cert.KernelConvInBwdIdeal.main_arg5)
      ∧ r.2.mem ((c.tc : Thread Cert.KernelConvInBwdIdeal.nD Cert.KernelConvInBwdIdeal.τ).loc Cert.KernelConvInBwdIdeal.main_arg6) = m ((c.tc : Thread Cert.KernelConvInBwdIdeal.nD Cert.KernelConvInBwdIdeal.τ).loc Cert.KernelConvInBwdIdeal.main_arg6))
      ∧ r.2.sem = fun _ => 0)

def quiescent_KernelConvInBwdIdeal_pre_finite_convinbwd [hKernelConvInBwdIdeal : Cert.KernelConvInBwdIdeal.Facts] [hPre_finite_convinbwd : Cert.Pre_finite_convinbwd.Facts] : Prop :=
  ∀ (m : (ℓ : Loc Cert.KernelConvInBwdIdeal.nD Cert.KernelConvInBwdIdeal.τ Cert.KernelConvInBwdIdeal.sig) → Buf (Elt Ideal) ℓ) (g : Dev Cert.KernelConvInBwdIdeal.nD → PrngReg), Pre_KernelConvInBwdIdeal_finite_convinbwd m →
    θ_run (Cert.KernelConvInBwdIdeal.defs (F := Ideal)) (onTc (τ := Cert.KernelConvInBwdIdeal.τ) (Cert.KernelConvInBwdIdeal.main (F := Ideal))) ⟨m, fun _ => 0, g⟩ (fun r => (∀ c : Dev Cert.KernelConvInBwdIdeal.nD,
      r.2.mem ((c.tc : Thread Cert.KernelConvInBwdIdeal.nD Cert.KernelConvInBwdIdeal.τ).loc Cert.KernelConvInBwdIdeal.main_arg0) = m ((c.tc : Thread Cert.KernelConvInBwdIdeal.nD Cert.KernelConvInBwdIdeal.τ).loc Cert.KernelConvInBwdIdeal.main_arg0)
      ∧ r.2.mem ((c.tc : Thread Cert.KernelConvInBwdIdeal.nD Cert.KernelConvInBwdIdeal.τ).loc Cert.KernelConvInBwdIdeal.main_arg1) = m ((c.tc : Thread Cert.KernelConvInBwdIdeal.nD Cert.KernelConvInBwdIdeal.τ).loc Cert.KernelConvInBwdIdeal.main_arg1)
      ∧ r.2.mem ((c.tc : Thread Cert.KernelConvInBwdIdeal.nD Cert.KernelConvInBwdIdeal.τ).loc Cert.KernelConvInBwdIdeal.main_arg2) = m ((c.tc : Thread Cert.KernelConvInBwdIdeal.nD Cert.KernelConvInBwdIdeal.τ).loc Cert.KernelConvInBwdIdeal.main_arg2)
      ∧ r.2.mem ((c.tc : Thread Cert.KernelConvInBwdIdeal.nD Cert.KernelConvInBwdIdeal.τ).loc Cert.KernelConvInBwdIdeal.main_arg3) = m ((c.tc : Thread Cert.KernelConvInBwdIdeal.nD Cert.KernelConvInBwdIdeal.τ).loc Cert.KernelConvInBwdIdeal.main_arg3)
      ∧ r.2.mem ((c.tc : Thread Cert.KernelConvInBwdIdeal.nD Cert.KernelConvInBwdIdeal.τ).loc Cert.KernelConvInBwdIdeal.main_arg4) = m ((c.tc : Thread Cert.KernelConvInBwdIdeal.nD Cert.KernelConvInBwdIdeal.τ).loc Cert.KernelConvInBwdIdeal.main_arg4)
      ∧ r.2.mem ((c.tc : Thread Cert.KernelConvInBwdIdeal.nD Cert.KernelConvInBwdIdeal.τ).loc Cert.KernelConvInBwdIdeal.main_arg5) = m ((c.tc : Thread Cert.KernelConvInBwdIdeal.nD Cert.KernelConvInBwdIdeal.τ).loc Cert.KernelConvInBwdIdeal.main_arg5)
      ∧ r.2.mem ((c.tc : Thread Cert.KernelConvInBwdIdeal.nD Cert.KernelConvInBwdIdeal.τ).loc Cert.KernelConvInBwdIdeal.main_arg6) = m ((c.tc : Thread Cert.KernelConvInBwdIdeal.nD Cert.KernelConvInBwdIdeal.τ).loc Cert.KernelConvInBwdIdeal.main_arg6))
      ∧ r.2.sem = fun _ => 0)

def quiescent_ReferenceConvInBwdIdeal [hReferenceConvInBwdIdeal : Cert.ReferenceConvInBwdIdeal.Facts] : Prop :=
  ∀ (m : (ℓ : Loc Cert.ReferenceConvInBwdIdeal.nD Cert.ReferenceConvInBwdIdeal.τ Cert.ReferenceConvInBwdIdeal.sig) → Buf (Elt Ideal) ℓ) (g : Dev Cert.ReferenceConvInBwdIdeal.nD → PrngReg), Pre_ReferenceConvInBwdIdeal m →
    θ_run (Cert.ReferenceConvInBwdIdeal.defs (F := Ideal)) (onTc (τ := Cert.ReferenceConvInBwdIdeal.τ) (Cert.ReferenceConvInBwdIdeal.main (F := Ideal))) ⟨m, fun _ => 0, g⟩ (fun r => (∀ c : Dev Cert.ReferenceConvInBwdIdeal.nD,
      r.2.mem ((c.tc : Thread Cert.ReferenceConvInBwdIdeal.nD Cert.ReferenceConvInBwdIdeal.τ).loc Cert.ReferenceConvInBwdIdeal.main_arg0) = m ((c.tc : Thread Cert.ReferenceConvInBwdIdeal.nD Cert.ReferenceConvInBwdIdeal.τ).loc Cert.ReferenceConvInBwdIdeal.main_arg0)
      ∧ r.2.mem ((c.tc : Thread Cert.ReferenceConvInBwdIdeal.nD Cert.ReferenceConvInBwdIdeal.τ).loc Cert.ReferenceConvInBwdIdeal.main_arg1) = m ((c.tc : Thread Cert.ReferenceConvInBwdIdeal.nD Cert.ReferenceConvInBwdIdeal.τ).loc Cert.ReferenceConvInBwdIdeal.main_arg1)
      ∧ r.2.mem ((c.tc : Thread Cert.ReferenceConvInBwdIdeal.nD Cert.ReferenceConvInBwdIdeal.τ).loc Cert.ReferenceConvInBwdIdeal.main_arg2) = m ((c.tc : Thread Cert.ReferenceConvInBwdIdeal.nD Cert.ReferenceConvInBwdIdeal.τ).loc Cert.ReferenceConvInBwdIdeal.main_arg2)
      ∧ r.2.mem ((c.tc : Thread Cert.ReferenceConvInBwdIdeal.nD Cert.ReferenceConvInBwdIdeal.τ).loc Cert.ReferenceConvInBwdIdeal.main_arg3) = m ((c.tc : Thread Cert.ReferenceConvInBwdIdeal.nD Cert.ReferenceConvInBwdIdeal.τ).loc Cert.ReferenceConvInBwdIdeal.main_arg3)
      ∧ r.2.mem ((c.tc : Thread Cert.ReferenceConvInBwdIdeal.nD Cert.ReferenceConvInBwdIdeal.τ).loc Cert.ReferenceConvInBwdIdeal.main_arg4) = m ((c.tc : Thread Cert.ReferenceConvInBwdIdeal.nD Cert.ReferenceConvInBwdIdeal.τ).loc Cert.ReferenceConvInBwdIdeal.main_arg4)
      ∧ r.2.mem ((c.tc : Thread Cert.ReferenceConvInBwdIdeal.nD Cert.ReferenceConvInBwdIdeal.τ).loc Cert.ReferenceConvInBwdIdeal.main_arg5) = m ((c.tc : Thread Cert.ReferenceConvInBwdIdeal.nD Cert.ReferenceConvInBwdIdeal.τ).loc Cert.ReferenceConvInBwdIdeal.main_arg5)
      ∧ r.2.mem ((c.tc : Thread Cert.ReferenceConvInBwdIdeal.nD Cert.ReferenceConvInBwdIdeal.τ).loc Cert.ReferenceConvInBwdIdeal.main_arg6) = m ((c.tc : Thread Cert.ReferenceConvInBwdIdeal.nD Cert.ReferenceConvInBwdIdeal.τ).loc Cert.ReferenceConvInBwdIdeal.main_arg6))
      ∧ r.2.sem = fun _ => 0)

def quiescent_ReferenceConvInBwdIdeal_pre_finite_convinbwd [hReferenceConvInBwdIdeal : Cert.ReferenceConvInBwdIdeal.Facts] [hPre_finite_convinbwd : Cert.Pre_finite_convinbwd.Facts] : Prop :=
  ∀ (m : (ℓ : Loc Cert.ReferenceConvInBwdIdeal.nD Cert.ReferenceConvInBwdIdeal.τ Cert.ReferenceConvInBwdIdeal.sig) → Buf (Elt Ideal) ℓ) (g : Dev Cert.ReferenceConvInBwdIdeal.nD → PrngReg), Pre_ReferenceConvInBwdIdeal_finite_convinbwd m →
    θ_run (Cert.ReferenceConvInBwdIdeal.defs (F := Ideal)) (onTc (τ := Cert.ReferenceConvInBwdIdeal.τ) (Cert.ReferenceConvInBwdIdeal.main (F := Ideal))) ⟨m, fun _ => 0, g⟩ (fun r => (∀ c : Dev Cert.ReferenceConvInBwdIdeal.nD,
      r.2.mem ((c.tc : Thread Cert.ReferenceConvInBwdIdeal.nD Cert.ReferenceConvInBwdIdeal.τ).loc Cert.ReferenceConvInBwdIdeal.main_arg0) = m ((c.tc : Thread Cert.ReferenceConvInBwdIdeal.nD Cert.ReferenceConvInBwdIdeal.τ).loc Cert.ReferenceConvInBwdIdeal.main_arg0)
      ∧ r.2.mem ((c.tc : Thread Cert.ReferenceConvInBwdIdeal.nD Cert.ReferenceConvInBwdIdeal.τ).loc Cert.ReferenceConvInBwdIdeal.main_arg1) = m ((c.tc : Thread Cert.ReferenceConvInBwdIdeal.nD Cert.ReferenceConvInBwdIdeal.τ).loc Cert.ReferenceConvInBwdIdeal.main_arg1)
      ∧ r.2.mem ((c.tc : Thread Cert.ReferenceConvInBwdIdeal.nD Cert.ReferenceConvInBwdIdeal.τ).loc Cert.ReferenceConvInBwdIdeal.main_arg2) = m ((c.tc : Thread Cert.ReferenceConvInBwdIdeal.nD Cert.ReferenceConvInBwdIdeal.τ).loc Cert.ReferenceConvInBwdIdeal.main_arg2)
      ∧ r.2.mem ((c.tc : Thread Cert.ReferenceConvInBwdIdeal.nD Cert.ReferenceConvInBwdIdeal.τ).loc Cert.ReferenceConvInBwdIdeal.main_arg3) = m ((c.tc : Thread Cert.ReferenceConvInBwdIdeal.nD Cert.ReferenceConvInBwdIdeal.τ).loc Cert.ReferenceConvInBwdIdeal.main_arg3)
      ∧ r.2.mem ((c.tc : Thread Cert.ReferenceConvInBwdIdeal.nD Cert.ReferenceConvInBwdIdeal.τ).loc Cert.ReferenceConvInBwdIdeal.main_arg4) = m ((c.tc : Thread Cert.ReferenceConvInBwdIdeal.nD Cert.ReferenceConvInBwdIdeal.τ).loc Cert.ReferenceConvInBwdIdeal.main_arg4)
      ∧ r.2.mem ((c.tc : Thread Cert.ReferenceConvInBwdIdeal.nD Cert.ReferenceConvInBwdIdeal.τ).loc Cert.ReferenceConvInBwdIdeal.main_arg5) = m ((c.tc : Thread Cert.ReferenceConvInBwdIdeal.nD Cert.ReferenceConvInBwdIdeal.τ).loc Cert.ReferenceConvInBwdIdeal.main_arg5)
      ∧ r.2.mem ((c.tc : Thread Cert.ReferenceConvInBwdIdeal.nD Cert.ReferenceConvInBwdIdeal.τ).loc Cert.ReferenceConvInBwdIdeal.main_arg6) = m ((c.tc : Thread Cert.ReferenceConvInBwdIdeal.nD Cert.ReferenceConvInBwdIdeal.τ).loc Cert.ReferenceConvInBwdIdeal.main_arg6))
      ∧ r.2.sem = fun _ => 0)

def quiescent_KernelPoolFwd [hKernelPoolFwd : Cert.KernelPoolFwd.Facts] : Prop :=
  ∀ (m : (ℓ : Loc Cert.KernelPoolFwd.nD Cert.KernelPoolFwd.τ Cert.KernelPoolFwd.sig) → Buf (Elt Bits) ℓ) (g : Dev Cert.KernelPoolFwd.nD → PrngReg), Pre_KernelPoolFwd m →
    θ_run (Cert.KernelPoolFwd.defs (F := Bits)) (onTc (τ := Cert.KernelPoolFwd.τ) (Cert.KernelPoolFwd.main (F := Bits))) ⟨m, fun _ => 0, g⟩ (fun r => (∀ c : Dev Cert.KernelPoolFwd.nD,
      r.2.mem ((c.tc : Thread Cert.KernelPoolFwd.nD Cert.KernelPoolFwd.τ).loc Cert.KernelPoolFwd.main_arg0) = m ((c.tc : Thread Cert.KernelPoolFwd.nD Cert.KernelPoolFwd.τ).loc Cert.KernelPoolFwd.main_arg0)
      ∧ r.2.mem ((c.tc : Thread Cert.KernelPoolFwd.nD Cert.KernelPoolFwd.τ).loc Cert.KernelPoolFwd.main_arg1) = m ((c.tc : Thread Cert.KernelPoolFwd.nD Cert.KernelPoolFwd.τ).loc Cert.KernelPoolFwd.main_arg1)
      ∧ r.2.mem ((c.tc : Thread Cert.KernelPoolFwd.nD Cert.KernelPoolFwd.τ).loc Cert.KernelPoolFwd.main_arg2) = m ((c.tc : Thread Cert.KernelPoolFwd.nD Cert.KernelPoolFwd.τ).loc Cert.KernelPoolFwd.main_arg2)
      ∧ r.2.mem ((c.tc : Thread Cert.KernelPoolFwd.nD Cert.KernelPoolFwd.τ).loc Cert.KernelPoolFwd.main_arg3) = m ((c.tc : Thread Cert.KernelPoolFwd.nD Cert.KernelPoolFwd.τ).loc Cert.KernelPoolFwd.main_arg3)
      ∧ r.2.mem ((c.tc : Thread Cert.KernelPoolFwd.nD Cert.KernelPoolFwd.τ).loc Cert.KernelPoolFwd.main_arg4) = m ((c.tc : Thread Cert.KernelPoolFwd.nD Cert.KernelPoolFwd.τ).loc Cert.KernelPoolFwd.main_arg4))
      ∧ r.2.sem = fun _ => 0)

def quiescent_KernelPoolFwdIdeal [hKernelPoolFwdIdeal : Cert.KernelPoolFwdIdeal.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2)
      ∧ r.2.mem ((c.tc : Thread Cert.KernelPoolFwdIdeal.nD Cert.KernelPoolFwdIdeal.τ).loc Cert.KernelPoolFwdIdeal.main_arg3) = m ((c.tc : Thread Cert.KernelPoolFwdIdeal.nD Cert.KernelPoolFwdIdeal.τ).loc Cert.KernelPoolFwdIdeal.main_arg3)
      ∧ r.2.mem ((c.tc : Thread Cert.KernelPoolFwdIdeal.nD Cert.KernelPoolFwdIdeal.τ).loc Cert.KernelPoolFwdIdeal.main_arg4) = m ((c.tc : Thread Cert.KernelPoolFwdIdeal.nD Cert.KernelPoolFwdIdeal.τ).loc Cert.KernelPoolFwdIdeal.main_arg4))
      ∧ r.2.sem = fun _ => 0)

def quiescent_KernelPoolFwdIdeal_pre_finite_poolfwd [hKernelPoolFwdIdeal : Cert.KernelPoolFwdIdeal.Facts] [hPre_finite_poolfwd : Cert.Pre_finite_poolfwd.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal_finite_poolfwd m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2)
      ∧ r.2.mem ((c.tc : Thread Cert.KernelPoolFwdIdeal.nD Cert.KernelPoolFwdIdeal.τ).loc Cert.KernelPoolFwdIdeal.main_arg3) = m ((c.tc : Thread Cert.KernelPoolFwdIdeal.nD Cert.KernelPoolFwdIdeal.τ).loc Cert.KernelPoolFwdIdeal.main_arg3)
      ∧ r.2.mem ((c.tc : Thread Cert.KernelPoolFwdIdeal.nD Cert.KernelPoolFwdIdeal.τ).loc Cert.KernelPoolFwdIdeal.main_arg4) = m ((c.tc : Thread Cert.KernelPoolFwdIdeal.nD Cert.KernelPoolFwdIdeal.τ).loc Cert.KernelPoolFwdIdeal.main_arg4))
      ∧ r.2.sem = fun _ => 0)

def quiescent_ReferencePoolFwdIdeal [hReferencePoolFwdIdeal : Cert.ReferencePoolFwdIdeal.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2)
      ∧ r.2.mem ((c.tc : Thread Cert.ReferencePoolFwdIdeal.nD Cert.ReferencePoolFwdIdeal.τ).loc Cert.ReferencePoolFwdIdeal.main_arg3) = m ((c.tc : Thread Cert.ReferencePoolFwdIdeal.nD Cert.ReferencePoolFwdIdeal.τ).loc Cert.ReferencePoolFwdIdeal.main_arg3)
      ∧ r.2.mem ((c.tc : Thread Cert.ReferencePoolFwdIdeal.nD Cert.ReferencePoolFwdIdeal.τ).loc Cert.ReferencePoolFwdIdeal.main_arg4) = m ((c.tc : Thread Cert.ReferencePoolFwdIdeal.nD Cert.ReferencePoolFwdIdeal.τ).loc Cert.ReferencePoolFwdIdeal.main_arg4))
      ∧ r.2.sem = fun _ => 0)

def quiescent_ReferencePoolFwdIdeal_pre_finite_poolfwd [hReferencePoolFwdIdeal : Cert.ReferencePoolFwdIdeal.Facts] [hPre_finite_poolfwd : Cert.Pre_finite_poolfwd.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal_finite_poolfwd m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2)
      ∧ r.2.mem ((c.tc : Thread Cert.ReferencePoolFwdIdeal.nD Cert.ReferencePoolFwdIdeal.τ).loc Cert.ReferencePoolFwdIdeal.main_arg3) = m ((c.tc : Thread Cert.ReferencePoolFwdIdeal.nD Cert.ReferencePoolFwdIdeal.τ).loc Cert.ReferencePoolFwdIdeal.main_arg3)
      ∧ r.2.mem ((c.tc : Thread Cert.ReferencePoolFwdIdeal.nD Cert.ReferencePoolFwdIdeal.τ).loc Cert.ReferencePoolFwdIdeal.main_arg4) = m ((c.tc : Thread Cert.ReferencePoolFwdIdeal.nD Cert.ReferencePoolFwdIdeal.τ).loc Cert.ReferencePoolFwdIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5)
      ∧ r.2.mem ((c.tc : Thread Cert.KernelLoss.nD Cert.KernelLoss.τ).loc Cert.KernelLoss.main_arg6) = m ((c.tc : Thread Cert.KernelLoss.nD Cert.KernelLoss.τ).loc Cert.KernelLoss.main_arg6))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamPool [hKernelAdamPool : Cert.KernelAdamPool.Facts] : Prop :=
  ∀ (m : (ℓ : Loc Cert.KernelAdamPool.nD Cert.KernelAdamPool.τ Cert.KernelAdamPool.sig) → Buf (Elt Bits) ℓ) (g : Dev Cert.KernelAdamPool.nD → PrngReg), Pre_KernelAdamPool m →
    θ_run (Cert.KernelAdamPool.defs (F := Bits)) (onTc (τ := Cert.KernelAdamPool.τ) (Cert.KernelAdamPool.main (F := Bits))) ⟨m, fun _ => 0, g⟩ (fun r => (∀ c : Dev Cert.KernelAdamPool.nD,
      r.2.mem ((c.tc : Thread Cert.KernelAdamPool.nD Cert.KernelAdamPool.τ).loc Cert.KernelAdamPool.main_arg0) = m ((c.tc : Thread Cert.KernelAdamPool.nD Cert.KernelAdamPool.τ).loc Cert.KernelAdamPool.main_arg0)
      ∧ r.2.mem ((c.tc : Thread Cert.KernelAdamPool.nD Cert.KernelAdamPool.τ).loc Cert.KernelAdamPool.main_arg1) = m ((c.tc : Thread Cert.KernelAdamPool.nD Cert.KernelAdamPool.τ).loc Cert.KernelAdamPool.main_arg1)
      ∧ r.2.mem ((c.tc : Thread Cert.KernelAdamPool.nD Cert.KernelAdamPool.τ).loc Cert.KernelAdamPool.main_arg2) = m ((c.tc : Thread Cert.KernelAdamPool.nD Cert.KernelAdamPool.τ).loc Cert.KernelAdamPool.main_arg2)
      ∧ r.2.mem ((c.tc : Thread Cert.KernelAdamPool.nD Cert.KernelAdamPool.τ).loc Cert.KernelAdamPool.main_arg3) = m ((c.tc : Thread Cert.KernelAdamPool.nD Cert.KernelAdamPool.τ).loc Cert.KernelAdamPool.main_arg3))
      ∧ r.2.sem = fun _ => 0)

def quiescent_KernelAdamPoolIdeal [hKernelAdamPoolIdeal : Cert.KernelAdamPoolIdeal.Facts] : Prop :=
  ∀ (m : (ℓ : Loc Cert.KernelAdamPoolIdeal.nD Cert.KernelAdamPoolIdeal.τ Cert.KernelAdamPoolIdeal.sig) → Buf (Elt Ideal) ℓ) (g : Dev Cert.KernelAdamPoolIdeal.nD → PrngReg), Pre_KernelAdamPoolIdeal m →
    θ_run (Cert.KernelAdamPoolIdeal.defs (F := Ideal)) (onTc (τ := Cert.KernelAdamPoolIdeal.τ) (Cert.KernelAdamPoolIdeal.main (F := Ideal))) ⟨m, fun _ => 0, g⟩ (fun r => (∀ c : Dev Cert.KernelAdamPoolIdeal.nD,
      r.2.mem ((c.tc : Thread Cert.KernelAdamPoolIdeal.nD Cert.KernelAdamPoolIdeal.τ).loc Cert.KernelAdamPoolIdeal.main_arg0) = m ((c.tc : Thread Cert.KernelAdamPoolIdeal.nD Cert.KernelAdamPoolIdeal.τ).loc Cert.KernelAdamPoolIdeal.main_arg0)
      ∧ r.2.mem ((c.tc : Thread Cert.KernelAdamPoolIdeal.nD Cert.KernelAdamPoolIdeal.τ).loc Cert.KernelAdamPoolIdeal.main_arg1) = m ((c.tc : Thread Cert.KernelAdamPoolIdeal.nD Cert.KernelAdamPoolIdeal.τ).loc Cert.KernelAdamPoolIdeal.main_arg1)
      ∧ r.2.mem ((c.tc : Thread Cert.KernelAdamPoolIdeal.nD Cert.KernelAdamPoolIdeal.τ).loc Cert.KernelAdamPoolIdeal.main_arg2) = m ((c.tc : Thread Cert.KernelAdamPoolIdeal.nD Cert.KernelAdamPoolIdeal.τ).loc Cert.KernelAdamPoolIdeal.main_arg2)
      ∧ r.2.mem ((c.tc : Thread Cert.KernelAdamPoolIdeal.nD Cert.KernelAdamPoolIdeal.τ).loc Cert.KernelAdamPoolIdeal.main_arg3) = m ((c.tc : Thread Cert.KernelAdamPoolIdeal.nD Cert.KernelAdamPoolIdeal.τ).loc Cert.KernelAdamPoolIdeal.main_arg3))
      ∧ r.2.sem = fun _ => 0)

def quiescent_ReferenceAdamPoolIdeal [hReferenceAdamPoolIdeal : Cert.ReferenceAdamPoolIdeal.Facts] : Prop :=
  ∀ (m : (ℓ : Loc Cert.ReferenceAdamPoolIdeal.nD Cert.ReferenceAdamPoolIdeal.τ Cert.ReferenceAdamPoolIdeal.sig) → Buf (Elt Ideal) ℓ) (g : Dev Cert.ReferenceAdamPoolIdeal.nD → PrngReg), Pre_ReferenceAdamPoolIdeal m →
    θ_run (Cert.ReferenceAdamPoolIdeal.defs (F := Ideal)) (onTc (τ := Cert.ReferenceAdamPoolIdeal.τ) (Cert.ReferenceAdamPoolIdeal.main (F := Ideal))) ⟨m, fun _ => 0, g⟩ (fun r => (∀ c : Dev Cert.ReferenceAdamPoolIdeal.nD,
      r.2.mem ((c.tc : Thread Cert.ReferenceAdamPoolIdeal.nD Cert.ReferenceAdamPoolIdeal.τ).loc Cert.ReferenceAdamPoolIdeal.main_arg0) = m ((c.tc : Thread Cert.ReferenceAdamPoolIdeal.nD Cert.ReferenceAdamPoolIdeal.τ).loc Cert.ReferenceAdamPoolIdeal.main_arg0)
      ∧ r.2.mem ((c.tc : Thread Cert.ReferenceAdamPoolIdeal.nD Cert.ReferenceAdamPoolIdeal.τ).loc Cert.ReferenceAdamPoolIdeal.main_arg1) = m ((c.tc : Thread Cert.ReferenceAdamPoolIdeal.nD Cert.ReferenceAdamPoolIdeal.τ).loc Cert.ReferenceAdamPoolIdeal.main_arg1)
      ∧ r.2.mem ((c.tc : Thread Cert.ReferenceAdamPoolIdeal.nD Cert.ReferenceAdamPoolIdeal.τ).loc Cert.ReferenceAdamPoolIdeal.main_arg2) = m ((c.tc : Thread Cert.ReferenceAdamPoolIdeal.nD Cert.ReferenceAdamPoolIdeal.τ).loc Cert.ReferenceAdamPoolIdeal.main_arg2)
      ∧ r.2.mem ((c.tc : Thread Cert.ReferenceAdamPoolIdeal.nD Cert.ReferenceAdamPoolIdeal.τ).loc Cert.ReferenceAdamPoolIdeal.main_arg3) = m ((c.tc : Thread Cert.ReferenceAdamPoolIdeal.nD Cert.ReferenceAdamPoolIdeal.τ).loc Cert.ReferenceAdamPoolIdeal.main_arg3))
      ∧ r.2.sem = fun _ => 0)

def preserves_Kernel_KernelIdeal : Prop :=
  True

def algebraic_KernelIdeal_ReferenceIdeal_pre_finite_pool [hKernelIdeal : Cert.KernelIdeal.Facts] [hReferenceIdeal : Cert.ReferenceIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pool m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v5_0)) (v1 : (c : Dev Cert.KernelActIdeal.nD) → Buf (Elt Ideal) ((c.tc : Thread Cert.KernelActIdeal.nD Cert.KernelActIdeal.τ).loc Cert.KernelActIdeal.main_v5_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v5_0) = v0 c
          ∧ r.2.mem ((c.tc : Thread Cert.KernelActIdeal.nD Cert.KernelActIdeal.τ).loc Cert.KernelActIdeal.main_v5_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v17) = v0 c
          ∧ r.2.mem ((c.tc : Thread Cert.ReferenceActIdeal.nD Cert.ReferenceActIdeal.τ).loc Cert.ReferenceActIdeal.main_v16) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelGw2_KernelGw2Ideal : Prop :=
  True

def algebraic_KernelGw2Ideal_ReferenceGw2Ideal [hKernelGw2Ideal : Cert.KernelGw2Ideal.Facts] [hReferenceGw2Ideal : Cert.ReferenceGw2Ideal.Facts] : Prop :=
  ∀ (m : (ℓ : Loc Cert.KernelGw2Ideal.nD Cert.KernelGw2Ideal.τ Cert.KernelGw2Ideal.sig) → Buf (Elt Ideal) ℓ) (g : Dev Cert.KernelGw2Ideal.nD → PrngReg)
    (m' : (ℓ : Loc Cert.ReferenceGw2Ideal.nD Cert.ReferenceGw2Ideal.τ Cert.ReferenceGw2Ideal.sig) → Buf (Elt Ideal) ℓ) (g' : Dev Cert.ReferenceGw2Ideal.nD → PrngReg), Pre_KernelGw2Ideal m →
    (∀ c : Dev Cert.KernelGw2Ideal.nD,
      m' ((c.tc : Thread Cert.ReferenceGw2Ideal.nD Cert.ReferenceGw2Ideal.τ).loc Cert.ReferenceGw2Ideal.main_arg0) = m ((c.tc : Thread Cert.KernelGw2Ideal.nD Cert.KernelGw2Ideal.τ).loc Cert.KernelGw2Ideal.main_arg0)
      ∧ m' ((c.tc : Thread Cert.ReferenceGw2Ideal.nD Cert.ReferenceGw2Ideal.τ).loc Cert.ReferenceGw2Ideal.main_arg1) = m ((c.tc : Thread Cert.KernelGw2Ideal.nD Cert.KernelGw2Ideal.τ).loc Cert.KernelGw2Ideal.main_arg1)) →
    ∃ (v0 : (c : Dev Cert.KernelGw2Ideal.nD) → Buf (Elt Ideal) ((c.tc : Thread Cert.KernelGw2Ideal.nD Cert.KernelGw2Ideal.τ).loc Cert.KernelGw2Ideal.main_v0)),
      θ_run (Cert.KernelGw2Ideal.defs (F := Ideal)) (onTc (τ := Cert.KernelGw2Ideal.τ) (Cert.KernelGw2Ideal.main (F := Ideal))) ⟨m, fun _ => 0, g⟩ (fun r => ∀ c : Dev Cert.KernelGw2Ideal.nD,
          r.2.mem ((c.tc : Thread Cert.KernelGw2Ideal.nD Cert.KernelGw2Ideal.τ).loc Cert.KernelGw2Ideal.main_v0) = v0 c
          ∧ r.2.mem ((c.tc : Thread Cert.KernelGw2Ideal.nD Cert.KernelGw2Ideal.τ).loc Cert.KernelGw2Ideal.main_arg0) = m ((c.tc : Thread Cert.KernelGw2Ideal.nD Cert.KernelGw2Ideal.τ).loc Cert.KernelGw2Ideal.main_arg0)
          ∧ r.2.mem ((c.tc : Thread Cert.KernelGw2Ideal.nD Cert.KernelGw2Ideal.τ).loc Cert.KernelGw2Ideal.main_arg1) = m ((c.tc : Thread Cert.KernelGw2Ideal.nD Cert.KernelGw2Ideal.τ).loc Cert.KernelGw2Ideal.main_arg1))
      ∧ θ_run (Cert.ReferenceGw2Ideal.defs (F := Ideal)) (onTc (τ := Cert.ReferenceGw2Ideal.τ) (Cert.ReferenceGw2Ideal.main (F := Ideal))) ⟨m', fun _ => 0, g'⟩ (fun r => ∀ c : Dev Cert.ReferenceGw2Ideal.nD,
          r.2.mem ((c.tc : Thread Cert.ReferenceGw2Ideal.nD Cert.ReferenceGw2Ideal.τ).loc Cert.ReferenceGw2Ideal.main_v9) = v0 c
          ∧ r.2.mem ((c.tc : Thread Cert.ReferenceGw2Ideal.nD Cert.ReferenceGw2Ideal.τ).loc Cert.ReferenceGw2Ideal.main_arg0) = m' ((c.tc : Thread Cert.ReferenceGw2Ideal.nD Cert.ReferenceGw2Ideal.τ).loc Cert.ReferenceGw2Ideal.main_arg0)
          ∧ r.2.mem ((c.tc : Thread Cert.ReferenceGw2Ideal.nD Cert.ReferenceGw2Ideal.τ).loc Cert.ReferenceGw2Ideal.main_arg1) = m' ((c.tc : Thread Cert.ReferenceGw2Ideal.nD Cert.ReferenceGw2Ideal.τ).loc Cert.ReferenceGw2Ideal.main_arg1))

def preserves_KernelGw1_KernelGw1Ideal : Prop :=
  True

def algebraic_KernelGw1Ideal_ReferenceGw1Ideal [hKernelGw1Ideal : Cert.KernelGw1Ideal.Facts] [hReferenceGw1Ideal : Cert.ReferenceGw1Ideal.Facts] : Prop :=
  ∀ (m : (ℓ : Loc Cert.KernelGw1Ideal.nD Cert.KernelGw1Ideal.τ Cert.KernelGw1Ideal.sig) → Buf (Elt Ideal) ℓ) (g : Dev Cert.KernelGw1Ideal.nD → PrngReg)
    (m' : (ℓ : Loc Cert.ReferenceGw1Ideal.nD Cert.ReferenceGw1Ideal.τ Cert.ReferenceGw1Ideal.sig) → Buf (Elt Ideal) ℓ) (g' : Dev Cert.ReferenceGw1Ideal.nD → PrngReg), Pre_KernelGw1Ideal m →
    (∀ c : Dev Cert.KernelGw1Ideal.nD,
      m' ((c.tc : Thread Cert.ReferenceGw1Ideal.nD Cert.ReferenceGw1Ideal.τ).loc Cert.ReferenceGw1Ideal.main_arg0) = m ((c.tc : Thread Cert.KernelGw1Ideal.nD Cert.KernelGw1Ideal.τ).loc Cert.KernelGw1Ideal.main_arg0)
      ∧ m' ((c.tc : Thread Cert.ReferenceGw1Ideal.nD Cert.ReferenceGw1Ideal.τ).loc Cert.ReferenceGw1Ideal.main_arg1) = m ((c.tc : Thread Cert.KernelGw1Ideal.nD Cert.KernelGw1Ideal.τ).loc Cert.KernelGw1Ideal.main_arg1)) →
    ∃ (v0 : (c : Dev Cert.KernelGw1Ideal.nD) → Buf (Elt Ideal) ((c.tc : Thread Cert.KernelGw1Ideal.nD Cert.KernelGw1Ideal.τ).loc Cert.KernelGw1Ideal.main_v0)),
      θ_run (Cert.KernelGw1Ideal.defs (F := Ideal)) (onTc (τ := Cert.KernelGw1Ideal.τ) (Cert.KernelGw1Ideal.main (F := Ideal))) ⟨m, fun _ => 0, g⟩ (fun r => ∀ c : Dev Cert.KernelGw1Ideal.nD,
          r.2.mem ((c.tc : Thread Cert.KernelGw1Ideal.nD Cert.KernelGw1Ideal.τ).loc Cert.KernelGw1Ideal.main_v0) = v0 c
          ∧ r.2.mem ((c.tc : Thread Cert.KernelGw1Ideal.nD Cert.KernelGw1Ideal.τ).loc Cert.KernelGw1Ideal.main_arg0) = m ((c.tc : Thread Cert.KernelGw1Ideal.nD Cert.KernelGw1Ideal.τ).loc Cert.KernelGw1Ideal.main_arg0)
          ∧ r.2.mem ((c.tc : Thread Cert.KernelGw1Ideal.nD Cert.KernelGw1Ideal.τ).loc Cert.KernelGw1Ideal.main_arg1) = m ((c.tc : Thread Cert.KernelGw1Ideal.nD Cert.KernelGw1Ideal.τ).loc Cert.KernelGw1Ideal.main_arg1))
      ∧ θ_run (Cert.ReferenceGw1Ideal.defs (F := Ideal)) (onTc (τ := Cert.ReferenceGw1Ideal.τ) (Cert.ReferenceGw1Ideal.main (F := Ideal))) ⟨m', fun _ => 0, g'⟩ (fun r => ∀ c : Dev Cert.ReferenceGw1Ideal.nD,
          r.2.mem ((c.tc : Thread Cert.ReferenceGw1Ideal.nD Cert.ReferenceGw1Ideal.τ).loc Cert.ReferenceGw1Ideal.main_v8) = v0 c
          ∧ r.2.mem ((c.tc : Thread Cert.ReferenceGw1Ideal.nD Cert.ReferenceGw1Ideal.τ).loc Cert.ReferenceGw1Ideal.main_arg0) = m' ((c.tc : Thread Cert.ReferenceGw1Ideal.nD Cert.ReferenceGw1Ideal.τ).loc Cert.ReferenceGw1Ideal.main_arg0)
          ∧ r.2.mem ((c.tc : Thread Cert.ReferenceGw1Ideal.nD Cert.ReferenceGw1Ideal.τ).loc Cert.ReferenceGw1Ideal.main_arg1) = m' ((c.tc : Thread Cert.ReferenceGw1Ideal.nD Cert.ReferenceGw1Ideal.τ).loc Cert.ReferenceGw1Ideal.main_arg1))

def preserves_KernelGwIn_KernelGwInIdeal : Prop :=
  True

def algebraic_KernelGwInIdeal_ReferenceGwInIdeal [hKernelGwInIdeal : Cert.KernelGwInIdeal.Facts] [hReferenceGwInIdeal : Cert.ReferenceGwInIdeal.Facts] : Prop :=
  ∀ (m : (ℓ : Loc Cert.KernelGwInIdeal.nD Cert.KernelGwInIdeal.τ Cert.KernelGwInIdeal.sig) → Buf (Elt Ideal) ℓ) (g : Dev Cert.KernelGwInIdeal.nD → PrngReg)
    (m' : (ℓ : Loc Cert.ReferenceGwInIdeal.nD Cert.ReferenceGwInIdeal.τ Cert.ReferenceGwInIdeal.sig) → Buf (Elt Ideal) ℓ) (g' : Dev Cert.ReferenceGwInIdeal.nD → PrngReg), Pre_KernelGwInIdeal m →
    (∀ c : Dev Cert.KernelGwInIdeal.nD,
      m' ((c.tc : Thread Cert.ReferenceGwInIdeal.nD Cert.ReferenceGwInIdeal.τ).loc Cert.ReferenceGwInIdeal.main_arg0) = m ((c.tc : Thread Cert.KernelGwInIdeal.nD Cert.KernelGwInIdeal.τ).loc Cert.KernelGwInIdeal.main_arg0)
      ∧ m' ((c.tc : Thread Cert.ReferenceGwInIdeal.nD Cert.ReferenceGwInIdeal.τ).loc Cert.ReferenceGwInIdeal.main_arg1) = m ((c.tc : Thread Cert.KernelGwInIdeal.nD Cert.KernelGwInIdeal.τ).loc Cert.KernelGwInIdeal.main_arg1)) →
    ∃ (v0 : (c : Dev Cert.KernelGwInIdeal.nD) → Buf (Elt Ideal) ((c.tc : Thread Cert.KernelGwInIdeal.nD Cert.KernelGwInIdeal.τ).loc Cert.KernelGwInIdeal.main_v0)),
      θ_run (Cert.KernelGwInIdeal.defs (F := Ideal)) (onTc (τ := Cert.KernelGwInIdeal.τ) (Cert.KernelGwInIdeal.main (F := Ideal))) ⟨m, fun _ => 0, g⟩ (fun r => ∀ c : Dev Cert.KernelGwInIdeal.nD,
          r.2.mem ((c.tc : Thread Cert.KernelGwInIdeal.nD Cert.KernelGwInIdeal.τ).loc Cert.KernelGwInIdeal.main_v0) = v0 c
          ∧ r.2.mem ((c.tc : Thread Cert.KernelGwInIdeal.nD Cert.KernelGwInIdeal.τ).loc Cert.KernelGwInIdeal.main_arg0) = m ((c.tc : Thread Cert.KernelGwInIdeal.nD Cert.KernelGwInIdeal.τ).loc Cert.KernelGwInIdeal.main_arg0)
          ∧ r.2.mem ((c.tc : Thread Cert.KernelGwInIdeal.nD Cert.KernelGwInIdeal.τ).loc Cert.KernelGwInIdeal.main_arg1) = m ((c.tc : Thread Cert.KernelGwInIdeal.nD Cert.KernelGwInIdeal.τ).loc Cert.KernelGwInIdeal.main_arg1))
      ∧ θ_run (Cert.ReferenceGwInIdeal.defs (F := Ideal)) (onTc (τ := Cert.ReferenceGwInIdeal.τ) (Cert.ReferenceGwInIdeal.main (F := Ideal))) ⟨m', fun _ => 0, g'⟩ (fun r => ∀ c : Dev Cert.ReferenceGwInIdeal.nD,
          r.2.mem ((c.tc : Thread Cert.ReferenceGwInIdeal.nD Cert.ReferenceGwInIdeal.τ).loc Cert.ReferenceGwInIdeal.main_v8) = v0 c
          ∧ r.2.mem ((c.tc : Thread Cert.ReferenceGwInIdeal.nD Cert.ReferenceGwInIdeal.τ).loc Cert.ReferenceGwInIdeal.main_arg0) = m' ((c.tc : Thread Cert.ReferenceGwInIdeal.nD Cert.ReferenceGwInIdeal.τ).loc Cert.ReferenceGwInIdeal.main_arg0)
          ∧ r.2.mem ((c.tc : Thread Cert.ReferenceGwInIdeal.nD Cert.ReferenceGwInIdeal.τ).loc Cert.ReferenceGwInIdeal.main_arg1) = m' ((c.tc : Thread Cert.ReferenceGwInIdeal.nD Cert.ReferenceGwInIdeal.τ).loc Cert.ReferenceGwInIdeal.main_arg1))

def preserves_KernelGwOut_KernelGwOutIdeal : Prop :=
  True

def algebraic_KernelGwOutIdeal_ReferenceGwOutIdeal [hKernelGwOutIdeal : Cert.KernelGwOutIdeal.Facts] [hReferenceGwOutIdeal : Cert.ReferenceGwOutIdeal.Facts] : Prop :=
  ∀ (m : (ℓ : Loc Cert.KernelGwOutIdeal.nD Cert.KernelGwOutIdeal.τ Cert.KernelGwOutIdeal.sig) → Buf (Elt Ideal) ℓ) (g : Dev Cert.KernelGwOutIdeal.nD → PrngReg)
    (m' : (ℓ : Loc Cert.ReferenceGwOutIdeal.nD Cert.ReferenceGwOutIdeal.τ Cert.ReferenceGwOutIdeal.sig) → Buf (Elt Ideal) ℓ) (g' : Dev Cert.ReferenceGwOutIdeal.nD → PrngReg), Pre_KernelGwOutIdeal m →
    (∀ c : Dev Cert.KernelGwOutIdeal.nD,
      m' ((c.tc : Thread Cert.ReferenceGwOutIdeal.nD Cert.ReferenceGwOutIdeal.τ).loc Cert.ReferenceGwOutIdeal.main_arg0) = m ((c.tc : Thread Cert.KernelGwOutIdeal.nD Cert.KernelGwOutIdeal.τ).loc Cert.KernelGwOutIdeal.main_arg0)
      ∧ m' ((c.tc : Thread Cert.ReferenceGwOutIdeal.nD Cert.ReferenceGwOutIdeal.τ).loc Cert.ReferenceGwOutIdeal.main_arg1) = m ((c.tc : Thread Cert.KernelGwOutIdeal.nD Cert.KernelGwOutIdeal.τ).loc Cert.KernelGwOutIdeal.main_arg1)) →
    ∃ (v0 : (c : Dev Cert.KernelGwOutIdeal.nD) → Buf (Elt Ideal) ((c.tc : Thread Cert.KernelGwOutIdeal.nD Cert.KernelGwOutIdeal.τ).loc Cert.KernelGwOutIdeal.main_v0)),
      θ_run (Cert.KernelGwOutIdeal.defs (F := Ideal)) (onTc (τ := Cert.KernelGwOutIdeal.τ) (Cert.KernelGwOutIdeal.main (F := Ideal))) ⟨m, fun _ => 0, g⟩ (fun r => ∀ c : Dev Cert.KernelGwOutIdeal.nD,
          r.2.mem ((c.tc : Thread Cert.KernelGwOutIdeal.nD Cert.KernelGwOutIdeal.τ).loc Cert.KernelGwOutIdeal.main_v0) = v0 c
          ∧ r.2.mem ((c.tc : Thread Cert.KernelGwOutIdeal.nD Cert.KernelGwOutIdeal.τ).loc Cert.KernelGwOutIdeal.main_arg0) = m ((c.tc : Thread Cert.KernelGwOutIdeal.nD Cert.KernelGwOutIdeal.τ).loc Cert.KernelGwOutIdeal.main_arg0)
          ∧ r.2.mem ((c.tc : Thread Cert.KernelGwOutIdeal.nD Cert.KernelGwOutIdeal.τ).loc Cert.KernelGwOutIdeal.main_arg1) = m ((c.tc : Thread Cert.KernelGwOutIdeal.nD Cert.KernelGwOutIdeal.τ).loc Cert.KernelGwOutIdeal.main_arg1))
      ∧ θ_run (Cert.ReferenceGwOutIdeal.defs (F := Ideal)) (onTc (τ := Cert.ReferenceGwOutIdeal.τ) (Cert.ReferenceGwOutIdeal.main (F := Ideal))) ⟨m', fun _ => 0, g'⟩ (fun r => ∀ c : Dev Cert.ReferenceGwOutIdeal.nD,
          r.2.mem ((c.tc : Thread Cert.ReferenceGwOutIdeal.nD Cert.ReferenceGwOutIdeal.τ).loc Cert.ReferenceGwOutIdeal.main_v7) = v0 c
          ∧ r.2.mem ((c.tc : Thread Cert.ReferenceGwOutIdeal.nD Cert.ReferenceGwOutIdeal.τ).loc Cert.ReferenceGwOutIdeal.main_arg0) = m' ((c.tc : Thread Cert.ReferenceGwOutIdeal.nD Cert.ReferenceGwOutIdeal.τ).loc Cert.ReferenceGwOutIdeal.main_arg0)
          ∧ r.2.mem ((c.tc : Thread Cert.ReferenceGwOutIdeal.nD Cert.ReferenceGwOutIdeal.τ).loc Cert.ReferenceGwOutIdeal.main_arg1) = m' ((c.tc : Thread Cert.ReferenceGwOutIdeal.nD Cert.ReferenceGwOutIdeal.τ).loc Cert.ReferenceGwOutIdeal.main_arg1))

def preserves_KernelMlpIn_KernelMlpInIdeal : Prop :=
  True

def algebraic_KernelMlpInIdeal_ReferenceMlpInIdeal_pre_finite_mlpin [hKernelMlpInIdeal : Cert.KernelMlpInIdeal.Facts] [hReferenceMlpInIdeal : Cert.ReferenceMlpInIdeal.Facts] [hPre_finite_mlpin : Cert.Pre_finite_mlpin.Facts] : Prop :=
  ∀ (m : (ℓ : Loc Cert.KernelMlpInIdeal.nD Cert.KernelMlpInIdeal.τ Cert.KernelMlpInIdeal.sig) → Buf (Elt Ideal) ℓ) (g : Dev Cert.KernelMlpInIdeal.nD → PrngReg)
    (m' : (ℓ : Loc Cert.ReferenceMlpInIdeal.nD Cert.ReferenceMlpInIdeal.τ Cert.ReferenceMlpInIdeal.sig) → Buf (Elt Ideal) ℓ) (g' : Dev Cert.ReferenceMlpInIdeal.nD → PrngReg), Pre_KernelMlpInIdeal_finite_mlpin m →
    (∀ c : Dev Cert.KernelMlpInIdeal.nD,
      m' ((c.tc : Thread Cert.ReferenceMlpInIdeal.nD Cert.ReferenceMlpInIdeal.τ).loc Cert.ReferenceMlpInIdeal.main_arg0) = m ((c.tc : Thread Cert.KernelMlpInIdeal.nD Cert.KernelMlpInIdeal.τ).loc Cert.KernelMlpInIdeal.main_arg0)
      ∧ m' ((c.tc : Thread Cert.ReferenceMlpInIdeal.nD Cert.ReferenceMlpInIdeal.τ).loc Cert.ReferenceMlpInIdeal.main_arg1) = m ((c.tc : Thread Cert.KernelMlpInIdeal.nD Cert.KernelMlpInIdeal.τ).loc Cert.KernelMlpInIdeal.main_arg1)
      ∧ m' ((c.tc : Thread Cert.ReferenceMlpInIdeal.nD Cert.ReferenceMlpInIdeal.τ).loc Cert.ReferenceMlpInIdeal.main_arg2) = m ((c.tc : Thread Cert.KernelMlpInIdeal.nD Cert.KernelMlpInIdeal.τ).loc Cert.KernelMlpInIdeal.main_arg2)
      ∧ m' ((c.tc : Thread Cert.ReferenceMlpInIdeal.nD Cert.ReferenceMlpInIdeal.τ).loc Cert.ReferenceMlpInIdeal.main_arg3) = m ((c.tc : Thread Cert.KernelMlpInIdeal.nD Cert.KernelMlpInIdeal.τ).loc Cert.KernelMlpInIdeal.main_arg3)
      ∧ m' ((c.tc : Thread Cert.ReferenceMlpInIdeal.nD Cert.ReferenceMlpInIdeal.τ).loc Cert.ReferenceMlpInIdeal.main_arg4) = m ((c.tc : Thread Cert.KernelMlpInIdeal.nD Cert.KernelMlpInIdeal.τ).loc Cert.KernelMlpInIdeal.main_arg4)
      ∧ m' ((c.tc : Thread Cert.ReferenceMlpInIdeal.nD Cert.ReferenceMlpInIdeal.τ).loc Cert.ReferenceMlpInIdeal.main_arg5) = m ((c.tc : Thread Cert.KernelMlpInIdeal.nD Cert.KernelMlpInIdeal.τ).loc Cert.KernelMlpInIdeal.main_arg5)
      ∧ m' ((c.tc : Thread Cert.ReferenceMlpInIdeal.nD Cert.ReferenceMlpInIdeal.τ).loc Cert.ReferenceMlpInIdeal.main_arg6) = m ((c.tc : Thread Cert.KernelMlpInIdeal.nD Cert.KernelMlpInIdeal.τ).loc Cert.KernelMlpInIdeal.main_arg6)) →
    ∃ (v0 : (c : Dev Cert.KernelMlpInIdeal.nD) → Buf (Elt Ideal) ((c.tc : Thread Cert.KernelMlpInIdeal.nD Cert.KernelMlpInIdeal.τ).loc Cert.KernelMlpInIdeal.main_v5_0)) (v1 : (c : Dev Cert.KernelMlpInIdeal.nD) → Buf (Elt Ideal) ((c.tc : Thread Cert.KernelMlpInIdeal.nD Cert.KernelMlpInIdeal.τ).loc Cert.KernelMlpInIdeal.main_v5_1)) (v2 : (c : Dev Cert.KernelMlpInIdeal.nD) → Buf (Elt Ideal) ((c.tc : Thread Cert.KernelMlpInIdeal.nD Cert.KernelMlpInIdeal.τ).loc Cert.KernelMlpInIdeal.main_v5_2)) (v3 : (c : Dev Cert.KernelMlpInIdeal.nD) → Buf (Elt Ideal) ((c.tc : Thread Cert.KernelMlpInIdeal.nD Cert.KernelMlpInIdeal.τ).loc Cert.KernelMlpInIdeal.main_v5_3)) (v4 : (c : Dev Cert.KernelMlpInIdeal.nD) → Buf (Elt Ideal) ((c.tc : Thread Cert.KernelMlpInIdeal.nD Cert.KernelMlpInIdeal.τ).loc Cert.KernelMlpInIdeal.main_v5_4)),
      θ_run (Cert.KernelMlpInIdeal.defs (F := Ideal)) (onTc (τ := Cert.KernelMlpInIdeal.τ) (Cert.KernelMlpInIdeal.main (F := Ideal))) ⟨m, fun _ => 0, g⟩ (fun r => ∀ c : Dev Cert.KernelMlpInIdeal.nD,
          r.2.mem ((c.tc : Thread Cert.KernelMlpInIdeal.nD Cert.KernelMlpInIdeal.τ).loc Cert.KernelMlpInIdeal.main_v5_0) = v0 c
          ∧ r.2.mem ((c.tc : Thread Cert.KernelMlpInIdeal.nD Cert.KernelMlpInIdeal.τ).loc Cert.KernelMlpInIdeal.main_v5_1) = v1 c
          ∧ r.2.mem ((c.tc : Thread Cert.KernelMlpInIdeal.nD Cert.KernelMlpInIdeal.τ).loc Cert.KernelMlpInIdeal.main_v5_2) = v2 c
          ∧ r.2.mem ((c.tc : Thread Cert.KernelMlpInIdeal.nD Cert.KernelMlpInIdeal.τ).loc Cert.KernelMlpInIdeal.main_v5_3) = v3 c
          ∧ r.2.mem ((c.tc : Thread Cert.KernelMlpInIdeal.nD Cert.KernelMlpInIdeal.τ).loc Cert.KernelMlpInIdeal.main_v5_4) = v4 c
          ∧ r.2.mem ((c.tc : Thread Cert.KernelMlpInIdeal.nD Cert.KernelMlpInIdeal.τ).loc Cert.KernelMlpInIdeal.main_arg0) = m ((c.tc : Thread Cert.KernelMlpInIdeal.nD Cert.KernelMlpInIdeal.τ).loc Cert.KernelMlpInIdeal.main_arg0)
          ∧ r.2.mem ((c.tc : Thread Cert.KernelMlpInIdeal.nD Cert.KernelMlpInIdeal.τ).loc Cert.KernelMlpInIdeal.main_arg1) = m ((c.tc : Thread Cert.KernelMlpInIdeal.nD Cert.KernelMlpInIdeal.τ).loc Cert.KernelMlpInIdeal.main_arg1)
          ∧ r.2.mem ((c.tc : Thread Cert.KernelMlpInIdeal.nD Cert.KernelMlpInIdeal.τ).loc Cert.KernelMlpInIdeal.main_arg2) = m ((c.tc : Thread Cert.KernelMlpInIdeal.nD Cert.KernelMlpInIdeal.τ).loc Cert.KernelMlpInIdeal.main_arg2)
          ∧ r.2.mem ((c.tc : Thread Cert.KernelMlpInIdeal.nD Cert.KernelMlpInIdeal.τ).loc Cert.KernelMlpInIdeal.main_arg3) = m ((c.tc : Thread Cert.KernelMlpInIdeal.nD Cert.KernelMlpInIdeal.τ).loc Cert.KernelMlpInIdeal.main_arg3)
          ∧ r.2.mem ((c.tc : Thread Cert.KernelMlpInIdeal.nD Cert.KernelMlpInIdeal.τ).loc Cert.KernelMlpInIdeal.main_arg4) = m ((c.tc : Thread Cert.KernelMlpInIdeal.nD Cert.KernelMlpInIdeal.τ).loc Cert.KernelMlpInIdeal.main_arg4)
          ∧ r.2.mem ((c.tc : Thread Cert.KernelMlpInIdeal.nD Cert.KernelMlpInIdeal.τ).loc Cert.KernelMlpInIdeal.main_arg5) = m ((c.tc : Thread Cert.KernelMlpInIdeal.nD Cert.KernelMlpInIdeal.τ).loc Cert.KernelMlpInIdeal.main_arg5)
          ∧ r.2.mem ((c.tc : Thread Cert.KernelMlpInIdeal.nD Cert.KernelMlpInIdeal.τ).loc Cert.KernelMlpInIdeal.main_arg6) = m ((c.tc : Thread Cert.KernelMlpInIdeal.nD Cert.KernelMlpInIdeal.τ).loc Cert.KernelMlpInIdeal.main_arg6))
      ∧ θ_run (Cert.ReferenceMlpInIdeal.defs (F := Ideal)) (onTc (τ := Cert.ReferenceMlpInIdeal.τ) (Cert.ReferenceMlpInIdeal.main (F := Ideal))) ⟨m', fun _ => 0, g'⟩ (fun r => ∀ c : Dev Cert.ReferenceMlpInIdeal.nD,
          r.2.mem ((c.tc : Thread Cert.ReferenceMlpInIdeal.nD Cert.ReferenceMlpInIdeal.τ).loc Cert.ReferenceMlpInIdeal.main_v67) = v0 c
          ∧ r.2.mem ((c.tc : Thread Cert.ReferenceMlpInIdeal.nD Cert.ReferenceMlpInIdeal.τ).loc Cert.ReferenceMlpInIdeal.main_v70) = v1 c
          ∧ r.2.mem ((c.tc : Thread Cert.ReferenceMlpInIdeal.nD Cert.ReferenceMlpInIdeal.τ).loc Cert.ReferenceMlpInIdeal.main_v41) = v2 c
          ∧ r.2.mem ((c.tc : Thread Cert.ReferenceMlpInIdeal.nD Cert.ReferenceMlpInIdeal.τ).loc Cert.ReferenceMlpInIdeal.main_v38) = v3 c
          ∧ r.2.mem ((c.tc : Thread Cert.ReferenceMlpInIdeal.nD Cert.ReferenceMlpInIdeal.τ).loc Cert.ReferenceMlpInIdeal.main_v69) = v4 c
          ∧ r.2.mem ((c.tc : Thread Cert.ReferenceMlpInIdeal.nD Cert.ReferenceMlpInIdeal.τ).loc Cert.ReferenceMlpInIdeal.main_arg0) = m' ((c.tc : Thread Cert.ReferenceMlpInIdeal.nD Cert.ReferenceMlpInIdeal.τ).loc Cert.ReferenceMlpInIdeal.main_arg0)
          ∧ r.2.mem ((c.tc : Thread Cert.ReferenceMlpInIdeal.nD Cert.ReferenceMlpInIdeal.τ).loc Cert.ReferenceMlpInIdeal.main_arg1) = m' ((c.tc : Thread Cert.ReferenceMlpInIdeal.nD Cert.ReferenceMlpInIdeal.τ).loc Cert.ReferenceMlpInIdeal.main_arg1)
          ∧ r.2.mem ((c.tc : Thread Cert.ReferenceMlpInIdeal.nD Cert.ReferenceMlpInIdeal.τ).loc Cert.ReferenceMlpInIdeal.main_arg2) = m' ((c.tc : Thread Cert.ReferenceMlpInIdeal.nD Cert.ReferenceMlpInIdeal.τ).loc Cert.ReferenceMlpInIdeal.main_arg2)
          ∧ r.2.mem ((c.tc : Thread Cert.ReferenceMlpInIdeal.nD Cert.ReferenceMlpInIdeal.τ).loc Cert.ReferenceMlpInIdeal.main_arg3) = m' ((c.tc : Thread Cert.ReferenceMlpInIdeal.nD Cert.ReferenceMlpInIdeal.τ).loc Cert.ReferenceMlpInIdeal.main_arg3)
          ∧ r.2.mem ((c.tc : Thread Cert.ReferenceMlpInIdeal.nD Cert.ReferenceMlpInIdeal.τ).loc Cert.ReferenceMlpInIdeal.main_arg4) = m' ((c.tc : Thread Cert.ReferenceMlpInIdeal.nD Cert.ReferenceMlpInIdeal.τ).loc Cert.ReferenceMlpInIdeal.main_arg4)
          ∧ r.2.mem ((c.tc : Thread Cert.ReferenceMlpInIdeal.nD Cert.ReferenceMlpInIdeal.τ).loc Cert.ReferenceMlpInIdeal.main_arg5) = m' ((c.tc : Thread Cert.ReferenceMlpInIdeal.nD Cert.ReferenceMlpInIdeal.τ).loc Cert.ReferenceMlpInIdeal.main_arg5)
          ∧ r.2.mem ((c.tc : Thread Cert.ReferenceMlpInIdeal.nD Cert.ReferenceMlpInIdeal.τ).loc Cert.ReferenceMlpInIdeal.main_arg6) = m' ((c.tc : Thread Cert.ReferenceMlpInIdeal.nD Cert.ReferenceMlpInIdeal.τ).loc Cert.ReferenceMlpInIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)) →
    ∃ (v0 : (c : Dev Cert.KernelDownIdeal.nD) → Buf (Elt Ideal) ((c.tc : Thread Cert.KernelDownIdeal.nD Cert.KernelDownIdeal.τ).loc Cert.KernelDownIdeal.main_v1_0)) (v1 : (c : Dev Cert.KernelDownIdeal.nD) → Buf (Elt Ideal) ((c.tc : Thread Cert.KernelDownIdeal.nD Cert.KernelDownIdeal.τ).loc Cert.KernelDownIdeal.main_v1_1)) (v2 : (c : Dev Cert.KernelDownIdeal.nD) → Buf (Elt Ideal) ((c.tc : Thread Cert.KernelDownIdeal.nD Cert.KernelDownIdeal.τ).loc Cert.KernelDownIdeal.main_v1_2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1_0) = v0 c
          ∧ r.2.mem ((c.tc : Thread Cert.KernelDownIdeal.nD Cert.KernelDownIdeal.τ).loc Cert.KernelDownIdeal.main_v1_1) = v1 c
          ∧ r.2.mem ((c.tc : Thread Cert.KernelDownIdeal.nD Cert.KernelDownIdeal.τ).loc Cert.KernelDownIdeal.main_v1_2) = v2 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v30) = v0 c
          ∧ r.2.mem ((c.tc : Thread Cert.ReferenceDownIdeal.nD Cert.ReferenceDownIdeal.τ).loc Cert.ReferenceDownIdeal.main_v8) = v1 c
          ∧ r.2.mem ((c.tc : Thread Cert.ReferenceDownIdeal.nD Cert.ReferenceDownIdeal.τ).loc Cert.ReferenceDownIdeal.main_v31) = v2 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5))

def preserves_KernelConvOut_KernelConvOutIdeal : Prop :=
  True

def algebraic_KernelConvOutIdeal_ReferenceConvOutIdeal [hKernelConvOutIdeal : Cert.KernelConvOutIdeal.Facts] [hReferenceConvOutIdeal : Cert.ReferenceConvOutIdeal.Facts] : Prop :=
  ∀ (m : (ℓ : Loc Cert.KernelConvOutIdeal.nD Cert.KernelConvOutIdeal.τ Cert.KernelConvOutIdeal.sig) → Buf (Elt Ideal) ℓ) (g : Dev Cert.KernelConvOutIdeal.nD → PrngReg)
    (m' : (ℓ : Loc Cert.ReferenceConvOutIdeal.nD Cert.ReferenceConvOutIdeal.τ Cert.ReferenceConvOutIdeal.sig) → Buf (Elt Ideal) ℓ) (g' : Dev Cert.ReferenceConvOutIdeal.nD → PrngReg), Pre_KernelConvOutIdeal m →
    (∀ c : Dev Cert.KernelConvOutIdeal.nD,
      m' ((c.tc : Thread Cert.ReferenceConvOutIdeal.nD Cert.ReferenceConvOutIdeal.τ).loc Cert.ReferenceConvOutIdeal.main_arg0) = m ((c.tc : Thread Cert.KernelConvOutIdeal.nD Cert.KernelConvOutIdeal.τ).loc Cert.KernelConvOutIdeal.main_arg0)
      ∧ m' ((c.tc : Thread Cert.ReferenceConvOutIdeal.nD Cert.ReferenceConvOutIdeal.τ).loc Cert.ReferenceConvOutIdeal.main_arg1) = m ((c.tc : Thread Cert.KernelConvOutIdeal.nD Cert.KernelConvOutIdeal.τ).loc Cert.KernelConvOutIdeal.main_arg1)
      ∧ m' ((c.tc : Thread Cert.ReferenceConvOutIdeal.nD Cert.ReferenceConvOutIdeal.τ).loc Cert.ReferenceConvOutIdeal.main_arg2) = m ((c.tc : Thread Cert.KernelConvOutIdeal.nD Cert.KernelConvOutIdeal.τ).loc Cert.KernelConvOutIdeal.main_arg2)
      ∧ m' ((c.tc : Thread Cert.ReferenceConvOutIdeal.nD Cert.ReferenceConvOutIdeal.τ).loc Cert.ReferenceConvOutIdeal.main_arg3) = m ((c.tc : Thread Cert.KernelConvOutIdeal.nD Cert.KernelConvOutIdeal.τ).loc Cert.KernelConvOutIdeal.main_arg3)
      ∧ m' ((c.tc : Thread Cert.ReferenceConvOutIdeal.nD Cert.ReferenceConvOutIdeal.τ).loc Cert.ReferenceConvOutIdeal.main_arg4) = m ((c.tc : Thread Cert.KernelConvOutIdeal.nD Cert.KernelConvOutIdeal.τ).loc Cert.KernelConvOutIdeal.main_arg4)
      ∧ m' ((c.tc : Thread Cert.ReferenceConvOutIdeal.nD Cert.ReferenceConvOutIdeal.τ).loc Cert.ReferenceConvOutIdeal.main_arg5) = m ((c.tc : Thread Cert.KernelConvOutIdeal.nD Cert.KernelConvOutIdeal.τ).loc Cert.KernelConvOutIdeal.main_arg5)) →
    ∃ (v0 : (c : Dev Cert.KernelConvOutIdeal.nD) → Buf (Elt Ideal) ((c.tc : Thread Cert.KernelConvOutIdeal.nD Cert.KernelConvOutIdeal.τ).loc Cert.KernelConvOutIdeal.main_v1_0)) (v1 : (c : Dev Cert.KernelConvOutIdeal.nD) → Buf (Elt Ideal) ((c.tc : Thread Cert.KernelConvOutIdeal.nD Cert.KernelConvOutIdeal.τ).loc Cert.KernelConvOutIdeal.main_v1_1)) (v2 : (c : Dev Cert.KernelConvOutIdeal.nD) → Buf (Elt Ideal) ((c.tc : Thread Cert.KernelConvOutIdeal.nD Cert.KernelConvOutIdeal.τ).loc Cert.KernelConvOutIdeal.main_v1_2)),
      θ_run (Cert.KernelConvOutIdeal.defs (F := Ideal)) (onTc (τ := Cert.KernelConvOutIdeal.τ) (Cert.KernelConvOutIdeal.main (F := Ideal))) ⟨m, fun _ => 0, g⟩ (fun r => ∀ c : Dev Cert.KernelConvOutIdeal.nD,
          r.2.mem ((c.tc : Thread Cert.KernelConvOutIdeal.nD Cert.KernelConvOutIdeal.τ).loc Cert.KernelConvOutIdeal.main_v1_0) = v0 c
          ∧ r.2.mem ((c.tc : Thread Cert.KernelConvOutIdeal.nD Cert.KernelConvOutIdeal.τ).loc Cert.KernelConvOutIdeal.main_v1_1) = v1 c
          ∧ r.2.mem ((c.tc : Thread Cert.KernelConvOutIdeal.nD Cert.KernelConvOutIdeal.τ).loc Cert.KernelConvOutIdeal.main_v1_2) = v2 c
          ∧ r.2.mem ((c.tc : Thread Cert.KernelConvOutIdeal.nD Cert.KernelConvOutIdeal.τ).loc Cert.KernelConvOutIdeal.main_arg0) = m ((c.tc : Thread Cert.KernelConvOutIdeal.nD Cert.KernelConvOutIdeal.τ).loc Cert.KernelConvOutIdeal.main_arg0)
          ∧ r.2.mem ((c.tc : Thread Cert.KernelConvOutIdeal.nD Cert.KernelConvOutIdeal.τ).loc Cert.KernelConvOutIdeal.main_arg1) = m ((c.tc : Thread Cert.KernelConvOutIdeal.nD Cert.KernelConvOutIdeal.τ).loc Cert.KernelConvOutIdeal.main_arg1)
          ∧ r.2.mem ((c.tc : Thread Cert.KernelConvOutIdeal.nD Cert.KernelConvOutIdeal.τ).loc Cert.KernelConvOutIdeal.main_arg2) = m ((c.tc : Thread Cert.KernelConvOutIdeal.nD Cert.KernelConvOutIdeal.τ).loc Cert.KernelConvOutIdeal.main_arg2)
          ∧ r.2.mem ((c.tc : Thread Cert.KernelConvOutIdeal.nD Cert.KernelConvOutIdeal.τ).loc Cert.KernelConvOutIdeal.main_arg3) = m ((c.tc : Thread Cert.KernelConvOutIdeal.nD Cert.KernelConvOutIdeal.τ).loc Cert.KernelConvOutIdeal.main_arg3)
          ∧ r.2.mem ((c.tc : Thread Cert.KernelConvOutIdeal.nD Cert.KernelConvOutIdeal.τ).loc Cert.KernelConvOutIdeal.main_arg4) = m ((c.tc : Thread Cert.KernelConvOutIdeal.nD Cert.KernelConvOutIdeal.τ).loc Cert.KernelConvOutIdeal.main_arg4)
          ∧ r.2.mem ((c.tc : Thread Cert.KernelConvOutIdeal.nD Cert.KernelConvOutIdeal.τ).loc Cert.KernelConvOutIdeal.main_arg5) = m ((c.tc : Thread Cert.KernelConvOutIdeal.nD Cert.KernelConvOutIdeal.τ).loc Cert.KernelConvOutIdeal.main_arg5))
      ∧ θ_run (Cert.ReferenceConvOutIdeal.defs (F := Ideal)) (onTc (τ := Cert.ReferenceConvOutIdeal.τ) (Cert.ReferenceConvOutIdeal.main (F := Ideal))) ⟨m', fun _ => 0, g'⟩ (fun r => ∀ c : Dev Cert.ReferenceConvOutIdeal.nD,
          r.2.mem ((c.tc : Thread Cert.ReferenceConvOutIdeal.nD Cert.ReferenceConvOutIdeal.τ).loc Cert.ReferenceConvOutIdeal.main_v28) = v0 c
          ∧ r.2.mem ((c.tc : Thread Cert.ReferenceConvOutIdeal.nD Cert.ReferenceConvOutIdeal.τ).loc Cert.ReferenceConvOutIdeal.main_v6) = v1 c
          ∧ r.2.mem ((c.tc : Thread Cert.ReferenceConvOutIdeal.nD Cert.ReferenceConvOutIdeal.τ).loc Cert.ReferenceConvOutIdeal.main_v29) = v2 c
          ∧ r.2.mem ((c.tc : Thread Cert.ReferenceConvOutIdeal.nD Cert.ReferenceConvOutIdeal.τ).loc Cert.ReferenceConvOutIdeal.main_arg0) = m' ((c.tc : Thread Cert.ReferenceConvOutIdeal.nD Cert.ReferenceConvOutIdeal.τ).loc Cert.ReferenceConvOutIdeal.main_arg0)
          ∧ r.2.mem ((c.tc : Thread Cert.ReferenceConvOutIdeal.nD Cert.ReferenceConvOutIdeal.τ).loc Cert.ReferenceConvOutIdeal.main_arg1) = m' ((c.tc : Thread Cert.ReferenceConvOutIdeal.nD Cert.ReferenceConvOutIdeal.τ).loc Cert.ReferenceConvOutIdeal.main_arg1)
          ∧ r.2.mem ((c.tc : Thread Cert.ReferenceConvOutIdeal.nD Cert.ReferenceConvOutIdeal.τ).loc Cert.ReferenceConvOutIdeal.main_arg2) = m' ((c.tc : Thread Cert.ReferenceConvOutIdeal.nD Cert.ReferenceConvOutIdeal.τ).loc Cert.ReferenceConvOutIdeal.main_arg2)
          ∧ r.2.mem ((c.tc : Thread Cert.ReferenceConvOutIdeal.nD Cert.ReferenceConvOutIdeal.τ).loc Cert.ReferenceConvOutIdeal.main_arg3) = m' ((c.tc : Thread Cert.ReferenceConvOutIdeal.nD Cert.ReferenceConvOutIdeal.τ).loc Cert.ReferenceConvOutIdeal.main_arg3)
          ∧ r.2.mem ((c.tc : Thread Cert.ReferenceConvOutIdeal.nD Cert.ReferenceConvOutIdeal.τ).loc Cert.ReferenceConvOutIdeal.main_arg4) = m' ((c.tc : Thread Cert.ReferenceConvOutIdeal.nD Cert.ReferenceConvOutIdeal.τ).loc Cert.ReferenceConvOutIdeal.main_arg4)
          ∧ r.2.mem ((c.tc : Thread Cert.ReferenceConvOutIdeal.nD Cert.ReferenceConvOutIdeal.τ).loc Cert.ReferenceConvOutIdeal.main_arg5) = m' ((c.tc : Thread Cert.ReferenceConvOutIdeal.nD Cert.ReferenceConvOutIdeal.τ).loc Cert.ReferenceConvOutIdeal.main_arg5))

def preserves_KernelConvIn_KernelConvInIdeal : Prop :=
  True

def algebraic_KernelConvInIdeal_ReferenceConvInIdeal [hKernelConvInIdeal : Cert.KernelConvInIdeal.Facts] [hReferenceConvInIdeal : Cert.ReferenceConvInIdeal.Facts] : Prop :=
  ∀ (m : (ℓ : Loc Cert.KernelConvInIdeal.nD Cert.KernelConvInIdeal.τ Cert.KernelConvInIdeal.sig) → Buf (Elt Ideal) ℓ) (g : Dev Cert.KernelConvInIdeal.nD → PrngReg)
    (m' : (ℓ : Loc Cert.ReferenceConvInIdeal.nD Cert.ReferenceConvInIdeal.τ Cert.ReferenceConvInIdeal.sig) → Buf (Elt Ideal) ℓ) (g' : Dev Cert.ReferenceConvInIdeal.nD → PrngReg), Pre_KernelConvInIdeal m →
    (∀ c : Dev Cert.KernelConvInIdeal.nD,
      m' ((c.tc : Thread Cert.ReferenceConvInIdeal.nD Cert.ReferenceConvInIdeal.τ).loc Cert.ReferenceConvInIdeal.main_arg0) = m ((c.tc : Thread Cert.KernelConvInIdeal.nD Cert.KernelConvInIdeal.τ).loc Cert.KernelConvInIdeal.main_arg0)
      ∧ m' ((c.tc : Thread Cert.ReferenceConvInIdeal.nD Cert.ReferenceConvInIdeal.τ).loc Cert.ReferenceConvInIdeal.main_arg1) = m ((c.tc : Thread Cert.KernelConvInIdeal.nD Cert.KernelConvInIdeal.τ).loc Cert.KernelConvInIdeal.main_arg1)
      ∧ m' ((c.tc : Thread Cert.ReferenceConvInIdeal.nD Cert.ReferenceConvInIdeal.τ).loc Cert.ReferenceConvInIdeal.main_arg2) = m ((c.tc : Thread Cert.KernelConvInIdeal.nD Cert.KernelConvInIdeal.τ).loc Cert.KernelConvInIdeal.main_arg2)) →
    ∃ (v0 : (c : Dev Cert.KernelConvInIdeal.nD) → Buf (Elt Ideal) ((c.tc : Thread Cert.KernelConvInIdeal.nD Cert.KernelConvInIdeal.τ).loc Cert.KernelConvInIdeal.main_v3_0)) (v1 : (c : Dev Cert.KernelConvInIdeal.nD) → Buf (Elt Ideal) ((c.tc : Thread Cert.KernelConvInIdeal.nD Cert.KernelConvInIdeal.τ).loc Cert.KernelConvInIdeal.main_v3_1)),
      θ_run (Cert.KernelConvInIdeal.defs (F := Ideal)) (onTc (τ := Cert.KernelConvInIdeal.τ) (Cert.KernelConvInIdeal.main (F := Ideal))) ⟨m, fun _ => 0, g⟩ (fun r => ∀ c : Dev Cert.KernelConvInIdeal.nD,
          r.2.mem ((c.tc : Thread Cert.KernelConvInIdeal.nD Cert.KernelConvInIdeal.τ).loc Cert.KernelConvInIdeal.main_v3_0) = v0 c
          ∧ r.2.mem ((c.tc : Thread Cert.KernelConvInIdeal.nD Cert.KernelConvInIdeal.τ).loc Cert.KernelConvInIdeal.main_v3_1) = v1 c
          ∧ r.2.mem ((c.tc : Thread Cert.KernelConvInIdeal.nD Cert.KernelConvInIdeal.τ).loc Cert.KernelConvInIdeal.main_arg0) = m ((c.tc : Thread Cert.KernelConvInIdeal.nD Cert.KernelConvInIdeal.τ).loc Cert.KernelConvInIdeal.main_arg0)
          ∧ r.2.mem ((c.tc : Thread Cert.KernelConvInIdeal.nD Cert.KernelConvInIdeal.τ).loc Cert.KernelConvInIdeal.main_arg1) = m ((c.tc : Thread Cert.KernelConvInIdeal.nD Cert.KernelConvInIdeal.τ).loc Cert.KernelConvInIdeal.main_arg1)
          ∧ r.2.mem ((c.tc : Thread Cert.KernelConvInIdeal.nD Cert.KernelConvInIdeal.τ).loc Cert.KernelConvInIdeal.main_arg2) = m ((c.tc : Thread Cert.KernelConvInIdeal.nD Cert.KernelConvInIdeal.τ).loc Cert.KernelConvInIdeal.main_arg2))
      ∧ θ_run (Cert.ReferenceConvInIdeal.defs (F := Ideal)) (onTc (τ := Cert.ReferenceConvInIdeal.τ) (Cert.ReferenceConvInIdeal.main (F := Ideal))) ⟨m', fun _ => 0, g'⟩ (fun r => ∀ c : Dev Cert.ReferenceConvInIdeal.nD,
          r.2.mem ((c.tc : Thread Cert.ReferenceConvInIdeal.nD Cert.ReferenceConvInIdeal.τ).loc Cert.ReferenceConvInIdeal.main_v6) = v0 c
          ∧ r.2.mem ((c.tc : Thread Cert.ReferenceConvInIdeal.nD Cert.ReferenceConvInIdeal.τ).loc Cert.ReferenceConvInIdeal.main_v13) = v1 c
          ∧ r.2.mem ((c.tc : Thread Cert.ReferenceConvInIdeal.nD Cert.ReferenceConvInIdeal.τ).loc Cert.ReferenceConvInIdeal.main_arg0) = m' ((c.tc : Thread Cert.ReferenceConvInIdeal.nD Cert.ReferenceConvInIdeal.τ).loc Cert.ReferenceConvInIdeal.main_arg0)
          ∧ r.2.mem ((c.tc : Thread Cert.ReferenceConvInIdeal.nD Cert.ReferenceConvInIdeal.τ).loc Cert.ReferenceConvInIdeal.main_arg1) = m' ((c.tc : Thread Cert.ReferenceConvInIdeal.nD Cert.ReferenceConvInIdeal.τ).loc Cert.ReferenceConvInIdeal.main_arg1)
          ∧ r.2.mem ((c.tc : Thread Cert.ReferenceConvInIdeal.nD Cert.ReferenceConvInIdeal.τ).loc Cert.ReferenceConvInIdeal.main_arg2) = m' ((c.tc : Thread Cert.ReferenceConvInIdeal.nD Cert.ReferenceConvInIdeal.τ).loc Cert.ReferenceConvInIdeal.main_arg2))

def preserves_KernelConvInBwd_KernelConvInBwdIdeal : Prop :=
  True

def algebraic_KernelConvInBwdIdeal_ReferenceConvInBwdIdeal_pre_finite_convinbwd [hKernelConvInBwdIdeal : Cert.KernelConvInBwdIdeal.Facts] [hReferenceConvInBwdIdeal : Cert.ReferenceConvInBwdIdeal.Facts] [hPre_finite_convinbwd : Cert.Pre_finite_convinbwd.Facts] : Prop :=
  ∀ (m : (ℓ : Loc Cert.KernelConvInBwdIdeal.nD Cert.KernelConvInBwdIdeal.τ Cert.KernelConvInBwdIdeal.sig) → Buf (Elt Ideal) ℓ) (g : Dev Cert.KernelConvInBwdIdeal.nD → PrngReg)
    (m' : (ℓ : Loc Cert.ReferenceConvInBwdIdeal.nD Cert.ReferenceConvInBwdIdeal.τ Cert.ReferenceConvInBwdIdeal.sig) → Buf (Elt Ideal) ℓ) (g' : Dev Cert.ReferenceConvInBwdIdeal.nD → PrngReg), Pre_KernelConvInBwdIdeal_finite_convinbwd m →
    (∀ c : Dev Cert.KernelConvInBwdIdeal.nD,
      m' ((c.tc : Thread Cert.ReferenceConvInBwdIdeal.nD Cert.ReferenceConvInBwdIdeal.τ).loc Cert.ReferenceConvInBwdIdeal.main_arg0) = m ((c.tc : Thread Cert.KernelConvInBwdIdeal.nD Cert.KernelConvInBwdIdeal.τ).loc Cert.KernelConvInBwdIdeal.main_arg0)
      ∧ m' ((c.tc : Thread Cert.ReferenceConvInBwdIdeal.nD Cert.ReferenceConvInBwdIdeal.τ).loc Cert.ReferenceConvInBwdIdeal.main_arg1) = m ((c.tc : Thread Cert.KernelConvInBwdIdeal.nD Cert.KernelConvInBwdIdeal.τ).loc Cert.KernelConvInBwdIdeal.main_arg1)
      ∧ m' ((c.tc : Thread Cert.ReferenceConvInBwdIdeal.nD Cert.ReferenceConvInBwdIdeal.τ).loc Cert.ReferenceConvInBwdIdeal.main_arg2) = m ((c.tc : Thread Cert.KernelConvInBwdIdeal.nD Cert.KernelConvInBwdIdeal.τ).loc Cert.KernelConvInBwdIdeal.main_arg2)
      ∧ m' ((c.tc : Thread Cert.ReferenceConvInBwdIdeal.nD Cert.ReferenceConvInBwdIdeal.τ).loc Cert.ReferenceConvInBwdIdeal.main_arg3) = m ((c.tc : Thread Cert.KernelConvInBwdIdeal.nD Cert.KernelConvInBwdIdeal.τ).loc Cert.KernelConvInBwdIdeal.main_arg3)
      ∧ m' ((c.tc : Thread Cert.ReferenceConvInBwdIdeal.nD Cert.ReferenceConvInBwdIdeal.τ).loc Cert.ReferenceConvInBwdIdeal.main_arg4) = m ((c.tc : Thread Cert.KernelConvInBwdIdeal.nD Cert.KernelConvInBwdIdeal.τ).loc Cert.KernelConvInBwdIdeal.main_arg4)
      ∧ m' ((c.tc : Thread Cert.ReferenceConvInBwdIdeal.nD Cert.ReferenceConvInBwdIdeal.τ).loc Cert.ReferenceConvInBwdIdeal.main_arg5) = m ((c.tc : Thread Cert.KernelConvInBwdIdeal.nD Cert.KernelConvInBwdIdeal.τ).loc Cert.KernelConvInBwdIdeal.main_arg5)
      ∧ m' ((c.tc : Thread Cert.ReferenceConvInBwdIdeal.nD Cert.ReferenceConvInBwdIdeal.τ).loc Cert.ReferenceConvInBwdIdeal.main_arg6) = m ((c.tc : Thread Cert.KernelConvInBwdIdeal.nD Cert.KernelConvInBwdIdeal.τ).loc Cert.KernelConvInBwdIdeal.main_arg6)) →
    ∃ (v0 : (c : Dev Cert.KernelConvInBwdIdeal.nD) → Buf (Elt Ideal) ((c.tc : Thread Cert.KernelConvInBwdIdeal.nD Cert.KernelConvInBwdIdeal.τ).loc Cert.KernelConvInBwdIdeal.main_v5_0)) (v1 : (c : Dev Cert.KernelConvInBwdIdeal.nD) → Buf (Elt Ideal) ((c.tc : Thread Cert.KernelConvInBwdIdeal.nD Cert.KernelConvInBwdIdeal.τ).loc Cert.KernelConvInBwdIdeal.main_v5_1)) (v2 : (c : Dev Cert.KernelConvInBwdIdeal.nD) → Buf (Elt Ideal) ((c.tc : Thread Cert.KernelConvInBwdIdeal.nD Cert.KernelConvInBwdIdeal.τ).loc Cert.KernelConvInBwdIdeal.main_v5_2)) (v3 : (c : Dev Cert.KernelConvInBwdIdeal.nD) → Buf (Elt Ideal) ((c.tc : Thread Cert.KernelConvInBwdIdeal.nD Cert.KernelConvInBwdIdeal.τ).loc Cert.KernelConvInBwdIdeal.main_v5_3)) (v4 : (c : Dev Cert.KernelConvInBwdIdeal.nD) → Buf (Elt Ideal) ((c.tc : Thread Cert.KernelConvInBwdIdeal.nD Cert.KernelConvInBwdIdeal.τ).loc Cert.KernelConvInBwdIdeal.main_v5_4)),
      θ_run (Cert.KernelConvInBwdIdeal.defs (F := Ideal)) (onTc (τ := Cert.KernelConvInBwdIdeal.τ) (Cert.KernelConvInBwdIdeal.main (F := Ideal))) ⟨m, fun _ => 0, g⟩ (fun r => ∀ c : Dev Cert.KernelConvInBwdIdeal.nD,
          r.2.mem ((c.tc : Thread Cert.KernelConvInBwdIdeal.nD Cert.KernelConvInBwdIdeal.τ).loc Cert.KernelConvInBwdIdeal.main_v5_0) = v0 c
          ∧ r.2.mem ((c.tc : Thread Cert.KernelConvInBwdIdeal.nD Cert.KernelConvInBwdIdeal.τ).loc Cert.KernelConvInBwdIdeal.main_v5_1) = v1 c
          ∧ r.2.mem ((c.tc : Thread Cert.KernelConvInBwdIdeal.nD Cert.KernelConvInBwdIdeal.τ).loc Cert.KernelConvInBwdIdeal.main_v5_2) = v2 c
          ∧ r.2.mem ((c.tc : Thread Cert.KernelConvInBwdIdeal.nD Cert.KernelConvInBwdIdeal.τ).loc Cert.KernelConvInBwdIdeal.main_v5_3) = v3 c
          ∧ r.2.mem ((c.tc : Thread Cert.KernelConvInBwdIdeal.nD Cert.KernelConvInBwdIdeal.τ).loc Cert.KernelConvInBwdIdeal.main_v5_4) = v4 c
          ∧ r.2.mem ((c.tc : Thread Cert.KernelConvInBwdIdeal.nD Cert.KernelConvInBwdIdeal.τ).loc Cert.KernelConvInBwdIdeal.main_arg0) = m ((c.tc : Thread Cert.KernelConvInBwdIdeal.nD Cert.KernelConvInBwdIdeal.τ).loc Cert.KernelConvInBwdIdeal.main_arg0)
          ∧ r.2.mem ((c.tc : Thread Cert.KernelConvInBwdIdeal.nD Cert.KernelConvInBwdIdeal.τ).loc Cert.KernelConvInBwdIdeal.main_arg1) = m ((c.tc : Thread Cert.KernelConvInBwdIdeal.nD Cert.KernelConvInBwdIdeal.τ).loc Cert.KernelConvInBwdIdeal.main_arg1)
          ∧ r.2.mem ((c.tc : Thread Cert.KernelConvInBwdIdeal.nD Cert.KernelConvInBwdIdeal.τ).loc Cert.KernelConvInBwdIdeal.main_arg2) = m ((c.tc : Thread Cert.KernelConvInBwdIdeal.nD Cert.KernelConvInBwdIdeal.τ).loc Cert.KernelConvInBwdIdeal.main_arg2)
          ∧ r.2.mem ((c.tc : Thread Cert.KernelConvInBwdIdeal.nD Cert.KernelConvInBwdIdeal.τ).loc Cert.KernelConvInBwdIdeal.main_arg3) = m ((c.tc : Thread Cert.KernelConvInBwdIdeal.nD Cert.KernelConvInBwdIdeal.τ).loc Cert.KernelConvInBwdIdeal.main_arg3)
          ∧ r.2.mem ((c.tc : Thread Cert.KernelConvInBwdIdeal.nD Cert.KernelConvInBwdIdeal.τ).loc Cert.KernelConvInBwdIdeal.main_arg4) = m ((c.tc : Thread Cert.KernelConvInBwdIdeal.nD Cert.KernelConvInBwdIdeal.τ).loc Cert.KernelConvInBwdIdeal.main_arg4)
          ∧ r.2.mem ((c.tc : Thread Cert.KernelConvInBwdIdeal.nD Cert.KernelConvInBwdIdeal.τ).loc Cert.KernelConvInBwdIdeal.main_arg5) = m ((c.tc : Thread Cert.KernelConvInBwdIdeal.nD Cert.KernelConvInBwdIdeal.τ).loc Cert.KernelConvInBwdIdeal.main_arg5)
          ∧ r.2.mem ((c.tc : Thread Cert.KernelConvInBwdIdeal.nD Cert.KernelConvInBwdIdeal.τ).loc Cert.KernelConvInBwdIdeal.main_arg6) = m ((c.tc : Thread Cert.KernelConvInBwdIdeal.nD Cert.KernelConvInBwdIdeal.τ).loc Cert.KernelConvInBwdIdeal.main_arg6))
      ∧ θ_run (Cert.ReferenceConvInBwdIdeal.defs (F := Ideal)) (onTc (τ := Cert.ReferenceConvInBwdIdeal.τ) (Cert.ReferenceConvInBwdIdeal.main (F := Ideal))) ⟨m', fun _ => 0, g'⟩ (fun r => ∀ c : Dev Cert.ReferenceConvInBwdIdeal.nD,
          r.2.mem ((c.tc : Thread Cert.ReferenceConvInBwdIdeal.nD Cert.ReferenceConvInBwdIdeal.τ).loc Cert.ReferenceConvInBwdIdeal.main_v67) = v0 c
          ∧ r.2.mem ((c.tc : Thread Cert.ReferenceConvInBwdIdeal.nD Cert.ReferenceConvInBwdIdeal.τ).loc Cert.ReferenceConvInBwdIdeal.main_v70) = v1 c
          ∧ r.2.mem ((c.tc : Thread Cert.ReferenceConvInBwdIdeal.nD Cert.ReferenceConvInBwdIdeal.τ).loc Cert.ReferenceConvInBwdIdeal.main_v41) = v2 c
          ∧ r.2.mem ((c.tc : Thread Cert.ReferenceConvInBwdIdeal.nD Cert.ReferenceConvInBwdIdeal.τ).loc Cert.ReferenceConvInBwdIdeal.main_v38) = v3 c
          ∧ r.2.mem ((c.tc : Thread Cert.ReferenceConvInBwdIdeal.nD Cert.ReferenceConvInBwdIdeal.τ).loc Cert.ReferenceConvInBwdIdeal.main_v69) = v4 c
          ∧ r.2.mem ((c.tc : Thread Cert.ReferenceConvInBwdIdeal.nD Cert.ReferenceConvInBwdIdeal.τ).loc Cert.ReferenceConvInBwdIdeal.main_arg0) = m' ((c.tc : Thread Cert.ReferenceConvInBwdIdeal.nD Cert.ReferenceConvInBwdIdeal.τ).loc Cert.ReferenceConvInBwdIdeal.main_arg0)
          ∧ r.2.mem ((c.tc : Thread Cert.ReferenceConvInBwdIdeal.nD Cert.ReferenceConvInBwdIdeal.τ).loc Cert.ReferenceConvInBwdIdeal.main_arg1) = m' ((c.tc : Thread Cert.ReferenceConvInBwdIdeal.nD Cert.ReferenceConvInBwdIdeal.τ).loc Cert.ReferenceConvInBwdIdeal.main_arg1)
          ∧ r.2.mem ((c.tc : Thread Cert.ReferenceConvInBwdIdeal.nD Cert.ReferenceConvInBwdIdeal.τ).loc Cert.ReferenceConvInBwdIdeal.main_arg2) = m' ((c.tc : Thread Cert.ReferenceConvInBwdIdeal.nD Cert.ReferenceConvInBwdIdeal.τ).loc Cert.ReferenceConvInBwdIdeal.main_arg2)
          ∧ r.2.mem ((c.tc : Thread Cert.ReferenceConvInBwdIdeal.nD Cert.ReferenceConvInBwdIdeal.τ).loc Cert.ReferenceConvInBwdIdeal.main_arg3) = m' ((c.tc : Thread Cert.ReferenceConvInBwdIdeal.nD Cert.ReferenceConvInBwdIdeal.τ).loc Cert.ReferenceConvInBwdIdeal.main_arg3)
          ∧ r.2.mem ((c.tc : Thread Cert.ReferenceConvInBwdIdeal.nD Cert.ReferenceConvInBwdIdeal.τ).loc Cert.ReferenceConvInBwdIdeal.main_arg4) = m' ((c.tc : Thread Cert.ReferenceConvInBwdIdeal.nD Cert.ReferenceConvInBwdIdeal.τ).loc Cert.ReferenceConvInBwdIdeal.main_arg4)
          ∧ r.2.mem ((c.tc : Thread Cert.ReferenceConvInBwdIdeal.nD Cert.ReferenceConvInBwdIdeal.τ).loc Cert.ReferenceConvInBwdIdeal.main_arg5) = m' ((c.tc : Thread Cert.ReferenceConvInBwdIdeal.nD Cert.ReferenceConvInBwdIdeal.τ).loc Cert.ReferenceConvInBwdIdeal.main_arg5)
          ∧ r.2.mem ((c.tc : Thread Cert.ReferenceConvInBwdIdeal.nD Cert.ReferenceConvInBwdIdeal.τ).loc Cert.ReferenceConvInBwdIdeal.main_arg6) = m' ((c.tc : Thread Cert.ReferenceConvInBwdIdeal.nD Cert.ReferenceConvInBwdIdeal.τ).loc Cert.ReferenceConvInBwdIdeal.main_arg6))

def preserves_KernelPoolFwd_KernelPoolFwdIdeal : Prop :=
  True

def algebraic_KernelPoolFwdIdeal_ReferencePoolFwdIdeal_pre_finite_poolfwd [hKernelPoolFwdIdeal : Cert.KernelPoolFwdIdeal.Facts] [hReferencePoolFwdIdeal : Cert.ReferencePoolFwdIdeal.Facts] [hPre_finite_poolfwd : Cert.Pre_finite_poolfwd.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg)
    (m' : (ℓ : Loc Cert.ReferencePoolFwdIdeal.nD Cert.ReferencePoolFwdIdeal.τ Cert.ReferencePoolFwdIdeal.sig) → Buf (Elt Ideal) ℓ) (g' : Dev Cert.ReferencePoolFwdIdeal.nD → PrngReg), Pre_KernelPoolFwdIdeal_finite_poolfwd m →
    (∀ c : Dev Cert.KernelPoolFwdIdeal.nD,
      m' ((c.tc : Thread Cert.ReferencePoolFwdIdeal.nD Cert.ReferencePoolFwdIdeal.τ).loc Cert.ReferencePoolFwdIdeal.main_arg0) = m ((c.tc : Thread Cert.KernelPoolFwdIdeal.nD Cert.KernelPoolFwdIdeal.τ).loc Cert.KernelPoolFwdIdeal.main_arg0)
      ∧ m' ((c.tc : Thread Cert.ReferencePoolFwdIdeal.nD Cert.ReferencePoolFwdIdeal.τ).loc Cert.ReferencePoolFwdIdeal.main_arg1) = m ((c.tc : Thread Cert.KernelPoolFwdIdeal.nD Cert.KernelPoolFwdIdeal.τ).loc Cert.KernelPoolFwdIdeal.main_arg1)
      ∧ m' ((c.tc : Thread Cert.ReferencePoolFwdIdeal.nD Cert.ReferencePoolFwdIdeal.τ).loc Cert.ReferencePoolFwdIdeal.main_arg2) = m ((c.tc : Thread Cert.KernelPoolFwdIdeal.nD Cert.KernelPoolFwdIdeal.τ).loc Cert.KernelPoolFwdIdeal.main_arg2)
      ∧ m' ((c.tc : Thread Cert.ReferencePoolFwdIdeal.nD Cert.ReferencePoolFwdIdeal.τ).loc Cert.ReferencePoolFwdIdeal.main_arg3) = m ((c.tc : Thread Cert.KernelPoolFwdIdeal.nD Cert.KernelPoolFwdIdeal.τ).loc Cert.KernelPoolFwdIdeal.main_arg3)
      ∧ m' ((c.tc : Thread Cert.ReferencePoolFwdIdeal.nD Cert.ReferencePoolFwdIdeal.τ).loc Cert.ReferencePoolFwdIdeal.main_arg4) = m ((c.tc : Thread Cert.KernelPoolFwdIdeal.nD Cert.KernelPoolFwdIdeal.τ).loc Cert.KernelPoolFwdIdeal.main_arg4)) →
    ∃ (v0 : (c : Dev Cert.KernelPoolFwdIdeal.nD) → Buf (Elt Ideal) ((c.tc : Thread Cert.KernelPoolFwdIdeal.nD Cert.KernelPoolFwdIdeal.τ).loc Cert.KernelPoolFwdIdeal.main_v1_0)) (v1 : (c : Dev Cert.KernelPoolFwdIdeal.nD) → Buf (Elt Ideal) ((c.tc : Thread Cert.KernelPoolFwdIdeal.nD Cert.KernelPoolFwdIdeal.τ).loc Cert.KernelPoolFwdIdeal.main_v1_1)) (v2 : (c : Dev Cert.KernelPoolFwdIdeal.nD) → Buf (Elt Ideal) ((c.tc : Thread Cert.KernelPoolFwdIdeal.nD Cert.KernelPoolFwdIdeal.τ).loc Cert.KernelPoolFwdIdeal.main_v1_2)),
      θ_run (Cert.KernelPoolFwdIdeal.defs (F := Ideal)) (onTc (τ := Cert.KernelPoolFwdIdeal.τ) (Cert.KernelPoolFwdIdeal.main (F := Ideal))) ⟨m, fun _ => 0, g⟩ (fun r => ∀ c : Dev Cert.KernelPoolFwdIdeal.nD,
          r.2.mem ((c.tc : Thread Cert.KernelPoolFwdIdeal.nD Cert.KernelPoolFwdIdeal.τ).loc Cert.KernelPoolFwdIdeal.main_v1_0) = v0 c
          ∧ r.2.mem ((c.tc : Thread Cert.KernelPoolFwdIdeal.nD Cert.KernelPoolFwdIdeal.τ).loc Cert.KernelPoolFwdIdeal.main_v1_1) = v1 c
          ∧ r.2.mem ((c.tc : Thread Cert.KernelPoolFwdIdeal.nD Cert.KernelPoolFwdIdeal.τ).loc Cert.KernelPoolFwdIdeal.main_v1_2) = v2 c
          ∧ r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
          ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
          ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2)
          ∧ r.2.mem ((c.tc : Thread Cert.KernelPoolFwdIdeal.nD Cert.KernelPoolFwdIdeal.τ).loc Cert.KernelPoolFwdIdeal.main_arg3) = m ((c.tc : Thread Cert.KernelPoolFwdIdeal.nD Cert.KernelPoolFwdIdeal.τ).loc Cert.KernelPoolFwdIdeal.main_arg3)
          ∧ r.2.mem ((c.tc : Thread Cert.KernelPoolFwdIdeal.nD Cert.KernelPoolFwdIdeal.τ).loc Cert.KernelPoolFwdIdeal.main_arg4) = m ((c.tc : Thread Cert.KernelPoolFwdIdeal.nD Cert.KernelPoolFwdIdeal.τ).loc Cert.KernelPoolFwdIdeal.main_arg4))
      ∧ θ_run (Cert.ReferencePoolFwdIdeal.defs (F := Ideal)) (onTc (τ := Cert.ReferencePoolFwdIdeal.τ) (Cert.ReferencePoolFwdIdeal.main (F := Ideal))) ⟨m', fun _ => 0, g'⟩ (fun r => ∀ c : Dev Cert.ReferencePoolFwdIdeal.nD,
          r.2.mem ((c.tc : Thread Cert.ReferencePoolFwdIdeal.nD Cert.ReferencePoolFwdIdeal.τ).loc Cert.ReferencePoolFwdIdeal.main_v110) = v0 c
          ∧ r.2.mem ((c.tc : Thread Cert.ReferencePoolFwdIdeal.nD Cert.ReferencePoolFwdIdeal.τ).loc Cert.ReferencePoolFwdIdeal.main_v88) = v1 c
          ∧ r.2.mem ((c.tc : Thread Cert.ReferencePoolFwdIdeal.nD Cert.ReferencePoolFwdIdeal.τ).loc Cert.ReferencePoolFwdIdeal.main_v111) = v2 c
          ∧ r.2.mem ((c.tc : Thread Cert.ReferencePoolFwdIdeal.nD Cert.ReferencePoolFwdIdeal.τ).loc Cert.ReferencePoolFwdIdeal.main_arg0) = m' ((c.tc : Thread Cert.ReferencePoolFwdIdeal.nD Cert.ReferencePoolFwdIdeal.τ).loc Cert.ReferencePoolFwdIdeal.main_arg0)
          ∧ r.2.mem ((c.tc : Thread Cert.ReferencePoolFwdIdeal.nD Cert.ReferencePoolFwdIdeal.τ).loc Cert.ReferencePoolFwdIdeal.main_arg1) = m' ((c.tc : Thread Cert.ReferencePoolFwdIdeal.nD Cert.ReferencePoolFwdIdeal.τ).loc Cert.ReferencePoolFwdIdeal.main_arg1)
          ∧ r.2.mem ((c.tc : Thread Cert.ReferencePoolFwdIdeal.nD Cert.ReferencePoolFwdIdeal.τ).loc Cert.ReferencePoolFwdIdeal.main_arg2) = m' ((c.tc : Thread Cert.ReferencePoolFwdIdeal.nD Cert.ReferencePoolFwdIdeal.τ).loc Cert.ReferencePoolFwdIdeal.main_arg2)
          ∧ r.2.mem ((c.tc : Thread Cert.ReferencePoolFwdIdeal.nD Cert.ReferencePoolFwdIdeal.τ).loc Cert.ReferencePoolFwdIdeal.main_arg3) = m' ((c.tc : Thread Cert.ReferencePoolFwdIdeal.nD Cert.ReferencePoolFwdIdeal.τ).loc Cert.ReferencePoolFwdIdeal.main_arg3)
          ∧ r.2.mem ((c.tc : Thread Cert.ReferencePoolFwdIdeal.nD Cert.ReferencePoolFwdIdeal.τ).loc Cert.ReferencePoolFwdIdeal.main_arg4) = m' ((c.tc : Thread Cert.ReferencePoolFwdIdeal.nD Cert.ReferencePoolFwdIdeal.τ).loc Cert.ReferencePoolFwdIdeal.main_arg4))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)
      ∧ m' ((c.tc : Thread Cert.ReferenceLossIdeal.nD Cert.ReferenceLossIdeal.τ).loc Cert.ReferenceLossIdeal.main_arg6) = m ((c.tc : Thread Cert.KernelLossIdeal.nD Cert.KernelLossIdeal.τ).loc Cert.KernelLossIdeal.main_arg6)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)) (v3 : (c : Dev Cert.KernelLossIdeal.nD) → Buf (Elt Ideal) ((c.tc : Thread Cert.KernelLossIdeal.nD Cert.KernelLossIdeal.τ).loc Cert.KernelLossIdeal.main_v1_3)) (v4 : (c : Dev Cert.KernelLossIdeal.nD) → Buf (Elt Ideal) ((c.tc : Thread Cert.KernelLossIdeal.nD Cert.KernelLossIdeal.τ).loc Cert.KernelLossIdeal.main_v1_4)) (v5 : (c : Dev Cert.KernelLossIdeal.nD) → Buf (Elt Ideal) ((c.tc : Thread Cert.KernelLossIdeal.nD Cert.KernelLossIdeal.τ).loc Cert.KernelLossIdeal.main_v1_5)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_v1_3) = v3 c
          ∧ r.2.mem ((c.tc : Thread Cert.KernelLossIdeal.nD Cert.KernelLossIdeal.τ).loc Cert.KernelLossIdeal.main_v1_4) = v4 c
          ∧ r.2.mem ((c.tc : Thread Cert.KernelLossIdeal.nD Cert.KernelLossIdeal.τ).loc Cert.KernelLossIdeal.main_v1_5) = v5 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
          ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v81) = v0 c
          ∧ r.2.mem ((c.tc : Thread Cert.ReferenceLossIdeal.nD Cert.ReferenceLossIdeal.τ).loc Cert.ReferenceLossIdeal.main_v84) = v1 c
          ∧ r.2.mem ((c.tc : Thread Cert.ReferenceLossIdeal.nD Cert.ReferenceLossIdeal.τ).loc Cert.ReferenceLossIdeal.main_v55) = v2 c
          ∧ r.2.mem ((c.tc : Thread Cert.ReferenceLossIdeal.nD Cert.ReferenceLossIdeal.τ).loc Cert.ReferenceLossIdeal.main_v52) = v3 c
          ∧ r.2.mem ((c.tc : Thread Cert.ReferenceLossIdeal.nD Cert.ReferenceLossIdeal.τ).loc Cert.ReferenceLossIdeal.main_v83) = v4 c
          ∧ r.2.mem ((c.tc : Thread Cert.ReferenceLossIdeal.nD Cert.ReferenceLossIdeal.τ).loc Cert.ReferenceLossIdeal.main_v86) = v5 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5)
          ∧ r.2.mem ((c.tc : Thread Cert.ReferenceLossIdeal.nD Cert.ReferenceLossIdeal.τ).loc Cert.ReferenceLossIdeal.main_arg6) = m' ((c.tc : Thread Cert.ReferenceLossIdeal.nD Cert.ReferenceLossIdeal.τ).loc Cert.ReferenceLossIdeal.main_arg6))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v3_0)) (v1 : (c : Dev Cert.KernelAdamInIdeal.nD) → Buf (Elt Ideal) ((c.tc : Thread Cert.KernelAdamInIdeal.nD Cert.KernelAdamInIdeal.τ).loc Cert.KernelAdamInIdeal.main_v3_1)) (v2 : (c : Dev Cert.KernelAdamInIdeal.nD) → Buf (Elt Ideal) ((c.tc : Thread Cert.KernelAdamInIdeal.nD Cert.KernelAdamInIdeal.τ).loc Cert.KernelAdamInIdeal.main_v3_2)) (v3 : (c : Dev Cert.KernelAdamInIdeal.nD) → Buf (Elt Ideal) ((c.tc : Thread Cert.KernelAdamInIdeal.nD Cert.KernelAdamInIdeal.τ).loc Cert.KernelAdamInIdeal.main_v3_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v3_0) = v0 c
          ∧ r.2.mem ((c.tc : Thread Cert.KernelAdamInIdeal.nD Cert.KernelAdamInIdeal.τ).loc Cert.KernelAdamInIdeal.main_v3_1) = v1 c
          ∧ r.2.mem ((c.tc : Thread Cert.KernelAdamInIdeal.nD Cert.KernelAdamInIdeal.τ).loc Cert.KernelAdamInIdeal.main_v3_2) = v2 c
          ∧ r.2.mem ((c.tc : Thread Cert.KernelAdamInIdeal.nD Cert.KernelAdamInIdeal.τ).loc Cert.KernelAdamInIdeal.main_v3_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v1) = v0 c
          ∧ r.2.mem ((c.tc : Thread Cert.ReferenceAdamInIdeal.nD Cert.ReferenceAdamInIdeal.τ).loc Cert.ReferenceAdamInIdeal.main_v28) = v1 c
          ∧ r.2.mem ((c.tc : Thread Cert.ReferenceAdamInIdeal.nD Cert.ReferenceAdamInIdeal.τ).loc Cert.ReferenceAdamInIdeal.main_v9) = v2 c
          ∧ r.2.mem ((c.tc : Thread Cert.ReferenceAdamInIdeal.nD Cert.ReferenceAdamInIdeal.τ).loc Cert.ReferenceAdamInIdeal.main_v15) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v3_0)) (v1 : (c : Dev Cert.KernelAdamOutIdeal.nD) → Buf (Elt Ideal) ((c.tc : Thread Cert.KernelAdamOutIdeal.nD Cert.KernelAdamOutIdeal.τ).loc Cert.KernelAdamOutIdeal.main_v3_1)) (v2 : (c : Dev Cert.KernelAdamOutIdeal.nD) → Buf (Elt Ideal) ((c.tc : Thread Cert.KernelAdamOutIdeal.nD Cert.KernelAdamOutIdeal.τ).loc Cert.KernelAdamOutIdeal.main_v3_2)) (v3 : (c : Dev Cert.KernelAdamOutIdeal.nD) → Buf (Elt Ideal) ((c.tc : Thread Cert.KernelAdamOutIdeal.nD Cert.KernelAdamOutIdeal.τ).loc Cert.KernelAdamOutIdeal.main_v3_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v3_0) = v0 c
          ∧ r.2.mem ((c.tc : Thread Cert.KernelAdamOutIdeal.nD Cert.KernelAdamOutIdeal.τ).loc Cert.KernelAdamOutIdeal.main_v3_1) = v1 c
          ∧ r.2.mem ((c.tc : Thread Cert.KernelAdamOutIdeal.nD Cert.KernelAdamOutIdeal.τ).loc Cert.KernelAdamOutIdeal.main_v3_2) = v2 c
          ∧ r.2.mem ((c.tc : Thread Cert.KernelAdamOutIdeal.nD Cert.KernelAdamOutIdeal.τ).loc Cert.KernelAdamOutIdeal.main_v3_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v1) = v0 c
          ∧ r.2.mem ((c.tc : Thread Cert.ReferenceAdamOutIdeal.nD Cert.ReferenceAdamOutIdeal.τ).loc Cert.ReferenceAdamOutIdeal.main_v28) = v1 c
          ∧ r.2.mem ((c.tc : Thread Cert.ReferenceAdamOutIdeal.nD Cert.ReferenceAdamOutIdeal.τ).loc Cert.ReferenceAdamOutIdeal.main_v9) = v2 c
          ∧ r.2.mem ((c.tc : Thread Cert.ReferenceAdamOutIdeal.nD Cert.ReferenceAdamOutIdeal.τ).loc Cert.ReferenceAdamOutIdeal.main_v15) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamPool_KernelAdamPoolIdeal : Prop :=
  True

def algebraic_KernelAdamPoolIdeal_ReferenceAdamPoolIdeal [hKernelAdamPoolIdeal : Cert.KernelAdamPoolIdeal.Facts] [hReferenceAdamPoolIdeal : Cert.ReferenceAdamPoolIdeal.Facts] : Prop :=
  ∀ (m : (ℓ : Loc Cert.KernelAdamPoolIdeal.nD Cert.KernelAdamPoolIdeal.τ Cert.KernelAdamPoolIdeal.sig) → Buf (Elt Ideal) ℓ) (g : Dev Cert.KernelAdamPoolIdeal.nD → PrngReg)
    (m' : (ℓ : Loc Cert.ReferenceAdamPoolIdeal.nD Cert.ReferenceAdamPoolIdeal.τ Cert.ReferenceAdamPoolIdeal.sig) → Buf (Elt Ideal) ℓ) (g' : Dev Cert.ReferenceAdamPoolIdeal.nD → PrngReg), Pre_KernelAdamPoolIdeal m →
    (∀ c : Dev Cert.KernelAdamPoolIdeal.nD,
      m' ((c.tc : Thread Cert.ReferenceAdamPoolIdeal.nD Cert.ReferenceAdamPoolIdeal.τ).loc Cert.ReferenceAdamPoolIdeal.main_arg0) = m ((c.tc : Thread Cert.KernelAdamPoolIdeal.nD Cert.KernelAdamPoolIdeal.τ).loc Cert.KernelAdamPoolIdeal.main_arg0)
      ∧ m' ((c.tc : Thread Cert.ReferenceAdamPoolIdeal.nD Cert.ReferenceAdamPoolIdeal.τ).loc Cert.ReferenceAdamPoolIdeal.main_arg1) = m ((c.tc : Thread Cert.KernelAdamPoolIdeal.nD Cert.KernelAdamPoolIdeal.τ).loc Cert.KernelAdamPoolIdeal.main_arg1)
      ∧ m' ((c.tc : Thread Cert.ReferenceAdamPoolIdeal.nD Cert.ReferenceAdamPoolIdeal.τ).loc Cert.ReferenceAdamPoolIdeal.main_arg2) = m ((c.tc : Thread Cert.KernelAdamPoolIdeal.nD Cert.KernelAdamPoolIdeal.τ).loc Cert.KernelAdamPoolIdeal.main_arg2)
      ∧ m' ((c.tc : Thread Cert.ReferenceAdamPoolIdeal.nD Cert.ReferenceAdamPoolIdeal.τ).loc Cert.ReferenceAdamPoolIdeal.main_arg3) = m ((c.tc : Thread Cert.KernelAdamPoolIdeal.nD Cert.KernelAdamPoolIdeal.τ).loc Cert.KernelAdamPoolIdeal.main_arg3)) →
    ∃ (v0 : (c : Dev Cert.KernelAdamPoolIdeal.nD) → Buf (Elt Ideal) ((c.tc : Thread Cert.KernelAdamPoolIdeal.nD Cert.KernelAdamPoolIdeal.τ).loc Cert.KernelAdamPoolIdeal.main_v4_0)) (v1 : (c : Dev Cert.KernelAdamPoolIdeal.nD) → Buf (Elt Ideal) ((c.tc : Thread Cert.KernelAdamPoolIdeal.nD Cert.KernelAdamPoolIdeal.τ).loc Cert.KernelAdamPoolIdeal.main_v4_1)) (v2 : (c : Dev Cert.KernelAdamPoolIdeal.nD) → Buf (Elt Ideal) ((c.tc : Thread Cert.KernelAdamPoolIdeal.nD Cert.KernelAdamPoolIdeal.τ).loc Cert.KernelAdamPoolIdeal.main_v4_2)) (v3 : (c : Dev Cert.KernelAdamPoolIdeal.nD) → Buf (Elt Ideal) ((c.tc : Thread Cert.KernelAdamPoolIdeal.nD Cert.KernelAdamPoolIdeal.τ).loc Cert.KernelAdamPoolIdeal.main_v4_3)),
      θ_run (Cert.KernelAdamPoolIdeal.defs (F := Ideal)) (onTc (τ := Cert.KernelAdamPoolIdeal.τ) (Cert.KernelAdamPoolIdeal.main (F := Ideal))) ⟨m, fun _ => 0, g⟩ (fun r => ∀ c : Dev Cert.KernelAdamPoolIdeal.nD,
          r.2.mem ((c.tc : Thread Cert.KernelAdamPoolIdeal.nD Cert.KernelAdamPoolIdeal.τ).loc Cert.KernelAdamPoolIdeal.main_v4_0) = v0 c
          ∧ r.2.mem ((c.tc : Thread Cert.KernelAdamPoolIdeal.nD Cert.KernelAdamPoolIdeal.τ).loc Cert.KernelAdamPoolIdeal.main_v4_1) = v1 c
          ∧ r.2.mem ((c.tc : Thread Cert.KernelAdamPoolIdeal.nD Cert.KernelAdamPoolIdeal.τ).loc Cert.KernelAdamPoolIdeal.main_v4_2) = v2 c
          ∧ r.2.mem ((c.tc : Thread Cert.KernelAdamPoolIdeal.nD Cert.KernelAdamPoolIdeal.τ).loc Cert.KernelAdamPoolIdeal.main_v4_3) = v3 c
          ∧ r.2.mem ((c.tc : Thread Cert.KernelAdamPoolIdeal.nD Cert.KernelAdamPoolIdeal.τ).loc Cert.KernelAdamPoolIdeal.main_arg0) = m ((c.tc : Thread Cert.KernelAdamPoolIdeal.nD Cert.KernelAdamPoolIdeal.τ).loc Cert.KernelAdamPoolIdeal.main_arg0)
          ∧ r.2.mem ((c.tc : Thread Cert.KernelAdamPoolIdeal.nD Cert.KernelAdamPoolIdeal.τ).loc Cert.KernelAdamPoolIdeal.main_arg1) = m ((c.tc : Thread Cert.KernelAdamPoolIdeal.nD Cert.KernelAdamPoolIdeal.τ).loc Cert.KernelAdamPoolIdeal.main_arg1)
          ∧ r.2.mem ((c.tc : Thread Cert.KernelAdamPoolIdeal.nD Cert.KernelAdamPoolIdeal.τ).loc Cert.KernelAdamPoolIdeal.main_arg2) = m ((c.tc : Thread Cert.KernelAdamPoolIdeal.nD Cert.KernelAdamPoolIdeal.τ).loc Cert.KernelAdamPoolIdeal.main_arg2)
          ∧ r.2.mem ((c.tc : Thread Cert.KernelAdamPoolIdeal.nD Cert.KernelAdamPoolIdeal.τ).loc Cert.KernelAdamPoolIdeal.main_arg3) = m ((c.tc : Thread Cert.KernelAdamPoolIdeal.nD Cert.KernelAdamPoolIdeal.τ).loc Cert.KernelAdamPoolIdeal.main_arg3))
      ∧ θ_run (Cert.ReferenceAdamPoolIdeal.defs (F := Ideal)) (onTc (τ := Cert.ReferenceAdamPoolIdeal.τ) (Cert.ReferenceAdamPoolIdeal.main (F := Ideal))) ⟨m', fun _ => 0, g'⟩ (fun r => ∀ c : Dev Cert.ReferenceAdamPoolIdeal.nD,
          r.2.mem ((c.tc : Thread Cert.ReferenceAdamPoolIdeal.nD Cert.ReferenceAdamPoolIdeal.τ).loc Cert.ReferenceAdamPoolIdeal.main_v2) = v0 c
          ∧ r.2.mem ((c.tc : Thread Cert.ReferenceAdamPoolIdeal.nD Cert.ReferenceAdamPoolIdeal.τ).loc Cert.ReferenceAdamPoolIdeal.main_v29) = v1 c
          ∧ r.2.mem ((c.tc : Thread Cert.ReferenceAdamPoolIdeal.nD Cert.ReferenceAdamPoolIdeal.τ).loc Cert.ReferenceAdamPoolIdeal.main_v10) = v2 c
          ∧ r.2.mem ((c.tc : Thread Cert.ReferenceAdamPoolIdeal.nD Cert.ReferenceAdamPoolIdeal.τ).loc Cert.ReferenceAdamPoolIdeal.main_v16) = v3 c
          ∧ r.2.mem ((c.tc : Thread Cert.ReferenceAdamPoolIdeal.nD Cert.ReferenceAdamPoolIdeal.τ).loc Cert.ReferenceAdamPoolIdeal.main_arg0) = m' ((c.tc : Thread Cert.ReferenceAdamPoolIdeal.nD Cert.ReferenceAdamPoolIdeal.τ).loc Cert.ReferenceAdamPoolIdeal.main_arg0)
          ∧ r.2.mem ((c.tc : Thread Cert.ReferenceAdamPoolIdeal.nD Cert.ReferenceAdamPoolIdeal.τ).loc Cert.ReferenceAdamPoolIdeal.main_arg1) = m' ((c.tc : Thread Cert.ReferenceAdamPoolIdeal.nD Cert.ReferenceAdamPoolIdeal.τ).loc Cert.ReferenceAdamPoolIdeal.main_arg1)
          ∧ r.2.mem ((c.tc : Thread Cert.ReferenceAdamPoolIdeal.nD Cert.ReferenceAdamPoolIdeal.τ).loc Cert.ReferenceAdamPoolIdeal.main_arg2) = m' ((c.tc : Thread Cert.ReferenceAdamPoolIdeal.nD Cert.ReferenceAdamPoolIdeal.τ).loc Cert.ReferenceAdamPoolIdeal.main_arg2)
          ∧ r.2.mem ((c.tc : Thread Cert.ReferenceAdamPoolIdeal.nD Cert.ReferenceAdamPoolIdeal.τ).loc Cert.ReferenceAdamPoolIdeal.main_arg3) = m' ((c.tc : Thread Cert.ReferenceAdamPoolIdeal.nD Cert.ReferenceAdamPoolIdeal.τ).loc Cert.ReferenceAdamPoolIdeal.main_arg3))

def Claim : Prop :=
  ∃ (hKernel : Cert.Kernel.Facts) (hKernelIdeal : Cert.KernelIdeal.Facts) (hReferenceIdeal : Cert.ReferenceIdeal.Facts) (hKernelAct : Cert.KernelAct.Facts) (hKernelActIdeal : Cert.KernelActIdeal.Facts) (hReferenceActIdeal : Cert.ReferenceActIdeal.Facts) (hKernelGw2 : Cert.KernelGw2.Facts) (hKernelGw2Ideal : Cert.KernelGw2Ideal.Facts) (hReferenceGw2Ideal : Cert.ReferenceGw2Ideal.Facts) (hKernelGw1 : Cert.KernelGw1.Facts) (hKernelGw1Ideal : Cert.KernelGw1Ideal.Facts) (hReferenceGw1Ideal : Cert.ReferenceGw1Ideal.Facts) (hKernelGwIn : Cert.KernelGwIn.Facts) (hKernelGwInIdeal : Cert.KernelGwInIdeal.Facts) (hReferenceGwInIdeal : Cert.ReferenceGwInIdeal.Facts) (hKernelGwOut : Cert.KernelGwOut.Facts) (hKernelGwOutIdeal : Cert.KernelGwOutIdeal.Facts) (hReferenceGwOutIdeal : Cert.ReferenceGwOutIdeal.Facts) (hKernelMlpIn : Cert.KernelMlpIn.Facts) (hKernelMlpInIdeal : Cert.KernelMlpInIdeal.Facts) (hReferenceMlpInIdeal : Cert.ReferenceMlpInIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelConvOut : Cert.KernelConvOut.Facts) (hKernelConvOutIdeal : Cert.KernelConvOutIdeal.Facts) (hReferenceConvOutIdeal : Cert.ReferenceConvOutIdeal.Facts) (hKernelConvIn : Cert.KernelConvIn.Facts) (hKernelConvInIdeal : Cert.KernelConvInIdeal.Facts) (hReferenceConvInIdeal : Cert.ReferenceConvInIdeal.Facts) (hKernelConvInBwd : Cert.KernelConvInBwd.Facts) (hKernelConvInBwdIdeal : Cert.KernelConvInBwdIdeal.Facts) (hReferenceConvInBwdIdeal : Cert.ReferenceConvInBwdIdeal.Facts) (hKernelPoolFwd : Cert.KernelPoolFwd.Facts) (hKernelPoolFwdIdeal : Cert.KernelPoolFwdIdeal.Facts) (hReferencePoolFwdIdeal : Cert.ReferencePoolFwdIdeal.Facts) (hKernelLoss : Cert.KernelLoss.Facts) (hKernelLossIdeal : Cert.KernelLossIdeal.Facts) (hReferenceLossIdeal : Cert.ReferenceLossIdeal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamPool : Cert.KernelAdamPool.Facts) (hKernelAdamPoolIdeal : Cert.KernelAdamPoolIdeal.Facts) (hReferenceAdamPoolIdeal : Cert.ReferenceAdamPoolIdeal.Facts) (hPre_finite_pool : Cert.Pre_finite_pool.Facts) (hPre_finite_mlpin : Cert.Pre_finite_mlpin.Facts) (hPre_finite_convinbwd : Cert.Pre_finite_convinbwd.Facts) (hPre_finite_poolfwd : Cert.Pre_finite_poolfwd.Facts) (hPre_finite_loss : Cert.Pre_finite_loss.Facts),
    quiescent_Kernel (hKernel := hKernel)
    ∧ quiescent_KernelIdeal (hKernelIdeal := hKernelIdeal)
    ∧ quiescent_KernelIdeal_pre_finite_pool (hKernelIdeal := hKernelIdeal) (hPre_finite_pool := hPre_finite_pool)
    ∧ quiescent_ReferenceIdeal (hReferenceIdeal := hReferenceIdeal)
    ∧ quiescent_ReferenceIdeal_pre_finite_pool (hReferenceIdeal := hReferenceIdeal) (hPre_finite_pool := hPre_finite_pool)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelGw2 (hKernelGw2 := hKernelGw2)
    ∧ quiescent_KernelGw2Ideal (hKernelGw2Ideal := hKernelGw2Ideal)
    ∧ quiescent_ReferenceGw2Ideal (hReferenceGw2Ideal := hReferenceGw2Ideal)
    ∧ quiescent_KernelGw1 (hKernelGw1 := hKernelGw1)
    ∧ quiescent_KernelGw1Ideal (hKernelGw1Ideal := hKernelGw1Ideal)
    ∧ quiescent_ReferenceGw1Ideal (hReferenceGw1Ideal := hReferenceGw1Ideal)
    ∧ quiescent_KernelGwIn (hKernelGwIn := hKernelGwIn)
    ∧ quiescent_KernelGwInIdeal (hKernelGwInIdeal := hKernelGwInIdeal)
    ∧ quiescent_ReferenceGwInIdeal (hReferenceGwInIdeal := hReferenceGwInIdeal)
    ∧ quiescent_KernelGwOut (hKernelGwOut := hKernelGwOut)
    ∧ quiescent_KernelGwOutIdeal (hKernelGwOutIdeal := hKernelGwOutIdeal)
    ∧ quiescent_ReferenceGwOutIdeal (hReferenceGwOutIdeal := hReferenceGwOutIdeal)
    ∧ quiescent_KernelMlpIn (hKernelMlpIn := hKernelMlpIn)
    ∧ quiescent_KernelMlpInIdeal (hKernelMlpInIdeal := hKernelMlpInIdeal)
    ∧ quiescent_KernelMlpInIdeal_pre_finite_mlpin (hKernelMlpInIdeal := hKernelMlpInIdeal) (hPre_finite_mlpin := hPre_finite_mlpin)
    ∧ quiescent_ReferenceMlpInIdeal (hReferenceMlpInIdeal := hReferenceMlpInIdeal)
    ∧ quiescent_ReferenceMlpInIdeal_pre_finite_mlpin (hReferenceMlpInIdeal := hReferenceMlpInIdeal) (hPre_finite_mlpin := hPre_finite_mlpin)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelConvOut (hKernelConvOut := hKernelConvOut)
    ∧ quiescent_KernelConvOutIdeal (hKernelConvOutIdeal := hKernelConvOutIdeal)
    ∧ quiescent_ReferenceConvOutIdeal (hReferenceConvOutIdeal := hReferenceConvOutIdeal)
    ∧ quiescent_KernelConvIn (hKernelConvIn := hKernelConvIn)
    ∧ quiescent_KernelConvInIdeal (hKernelConvInIdeal := hKernelConvInIdeal)
    ∧ quiescent_ReferenceConvInIdeal (hReferenceConvInIdeal := hReferenceConvInIdeal)
    ∧ quiescent_KernelConvInBwd (hKernelConvInBwd := hKernelConvInBwd)
    ∧ quiescent_KernelConvInBwdIdeal (hKernelConvInBwdIdeal := hKernelConvInBwdIdeal)
    ∧ quiescent_KernelConvInBwdIdeal_pre_finite_convinbwd (hKernelConvInBwdIdeal := hKernelConvInBwdIdeal) (hPre_finite_convinbwd := hPre_finite_convinbwd)
    ∧ quiescent_ReferenceConvInBwdIdeal (hReferenceConvInBwdIdeal := hReferenceConvInBwdIdeal)
    ∧ quiescent_ReferenceConvInBwdIdeal_pre_finite_convinbwd (hReferenceConvInBwdIdeal := hReferenceConvInBwdIdeal) (hPre_finite_convinbwd := hPre_finite_convinbwd)
    ∧ quiescent_KernelPoolFwd (hKernelPoolFwd := hKernelPoolFwd)
    ∧ quiescent_KernelPoolFwdIdeal (hKernelPoolFwdIdeal := hKernelPoolFwdIdeal)
    ∧ quiescent_KernelPoolFwdIdeal_pre_finite_poolfwd (hKernelPoolFwdIdeal := hKernelPoolFwdIdeal) (hPre_finite_poolfwd := hPre_finite_poolfwd)
    ∧ quiescent_ReferencePoolFwdIdeal (hReferencePoolFwdIdeal := hReferencePoolFwdIdeal)
    ∧ quiescent_ReferencePoolFwdIdeal_pre_finite_poolfwd (hReferencePoolFwdIdeal := hReferencePoolFwdIdeal) (hPre_finite_poolfwd := hPre_finite_poolfwd)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamPool (hKernelAdamPool := hKernelAdamPool)
    ∧ quiescent_KernelAdamPoolIdeal (hKernelAdamPoolIdeal := hKernelAdamPoolIdeal)
    ∧ quiescent_ReferenceAdamPoolIdeal (hReferenceAdamPoolIdeal := hReferenceAdamPoolIdeal)
    ∧ preserves_Kernel_KernelIdeal
    ∧ algebraic_KernelIdeal_ReferenceIdeal_pre_finite_pool (hKernelIdeal := hKernelIdeal) (hReferenceIdeal := hReferenceIdeal) (hPre_finite_pool := hPre_finite_pool)
    ∧ preserves_KernelAct_KernelActIdeal
    ∧ algebraic_KernelActIdeal_ReferenceActIdeal (hKernelActIdeal := hKernelActIdeal) (hReferenceActIdeal := hReferenceActIdeal)
    ∧ preserves_KernelGw2_KernelGw2Ideal
    ∧ algebraic_KernelGw2Ideal_ReferenceGw2Ideal (hKernelGw2Ideal := hKernelGw2Ideal) (hReferenceGw2Ideal := hReferenceGw2Ideal)
    ∧ preserves_KernelGw1_KernelGw1Ideal
    ∧ algebraic_KernelGw1Ideal_ReferenceGw1Ideal (hKernelGw1Ideal := hKernelGw1Ideal) (hReferenceGw1Ideal := hReferenceGw1Ideal)
    ∧ preserves_KernelGwIn_KernelGwInIdeal
    ∧ algebraic_KernelGwInIdeal_ReferenceGwInIdeal (hKernelGwInIdeal := hKernelGwInIdeal) (hReferenceGwInIdeal := hReferenceGwInIdeal)
    ∧ preserves_KernelGwOut_KernelGwOutIdeal
    ∧ algebraic_KernelGwOutIdeal_ReferenceGwOutIdeal (hKernelGwOutIdeal := hKernelGwOutIdeal) (hReferenceGwOutIdeal := hReferenceGwOutIdeal)
    ∧ preserves_KernelMlpIn_KernelMlpInIdeal
    ∧ algebraic_KernelMlpInIdeal_ReferenceMlpInIdeal_pre_finite_mlpin (hKernelMlpInIdeal := hKernelMlpInIdeal) (hReferenceMlpInIdeal := hReferenceMlpInIdeal) (hPre_finite_mlpin := hPre_finite_mlpin)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelConvOut_KernelConvOutIdeal
    ∧ algebraic_KernelConvOutIdeal_ReferenceConvOutIdeal (hKernelConvOutIdeal := hKernelConvOutIdeal) (hReferenceConvOutIdeal := hReferenceConvOutIdeal)
    ∧ preserves_KernelConvIn_KernelConvInIdeal
    ∧ algebraic_KernelConvInIdeal_ReferenceConvInIdeal (hKernelConvInIdeal := hKernelConvInIdeal) (hReferenceConvInIdeal := hReferenceConvInIdeal)
    ∧ preserves_KernelConvInBwd_KernelConvInBwdIdeal
    ∧ algebraic_KernelConvInBwdIdeal_ReferenceConvInBwdIdeal_pre_finite_convinbwd (hKernelConvInBwdIdeal := hKernelConvInBwdIdeal) (hReferenceConvInBwdIdeal := hReferenceConvInBwdIdeal) (hPre_finite_convinbwd := hPre_finite_convinbwd)
    ∧ preserves_KernelPoolFwd_KernelPoolFwdIdeal
    ∧ algebraic_KernelPoolFwdIdeal_ReferencePoolFwdIdeal_pre_finite_poolfwd (hKernelPoolFwdIdeal := hKernelPoolFwdIdeal) (hReferencePoolFwdIdeal := hReferencePoolFwdIdeal) (hPre_finite_poolfwd := hPre_finite_poolfwd)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamPool_KernelAdamPoolIdeal
    ∧ algebraic_KernelAdamPoolIdeal_ReferenceAdamPoolIdeal (hKernelAdamPoolIdeal := hKernelAdamPoolIdeal) (hReferenceAdamPoolIdeal := hReferenceAdamPoolIdeal)
-- ==== Pre_finite_convinbwd.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg5 : FVec F S8192x1024 .f32) (main_arg6 : FVec F S8192x2048 .bf16) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x2048 .f32 := (extf .f32 · bitsLt_bf16_f32) main_arg6
  let main_v25 : FVec F S8192x2048 .f32 := Host.absf main_v24
  let main_cst_8 : FVec F S_ .f32 := constant S_ .f32 0x7F800000#32
  let main_v26 : FVec F S8192x2048 .f32 := broadcastInDim S8192x2048 ![] bcast_S_S8192x2048 main_cst_8
  let main_v27 : IVec S8192x2048 1 := cmpf .olt main_v25 main_v26
  let main_c_9 : IVec S_ 1 := constantI S_ 1 1#1
  let main_v28 : IVec S_ 1 := (fun x v => Host.reduce IntOp.andi x v reducesTo_S8192x2048_S_d0_1 h_S_) main_v27 main_c_9
  let main_v29 : IVec S_ 1 := andi main_v23 main_v28
  main_v29

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x2048 .f32) (main_arg5 : FVec F S8192x1024 .f32) (main_arg6 : FVec F S8192x2048 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg5 main_arg6 main_v13 main_v16
-- ==== Pre_finite_loss.lean ====
abbrev S8192x4096 : Shape := ⟨2, ![8192, 4096]⟩
abbrev S4096x1024 : Shape := ⟨2, ![4096, 1024]⟩
abbrev S1x1024 : Shape := ⟨2, ![1, 1024]⟩
abbrev S8192x1024 : Shape := ⟨2, ![8192, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S1x1024 .f32) (main_arg5 : FVec F S1x1024 .f32) (main_arg6 : FVec F S8192x1024 .f32) (main_v14 : IVec S_ 1) (main_v15 : FVec F S8192x1024 .f32) (main_v16 : FVec F S8192x1024 .f32) : IVec S_ 1 :=
  let main_v17 : IVec S8192x1024 1 := cmpf .olt main_v15 main_v16
  let main_c_5 : IVec S_ 1 := constantI S_ 1 1#1
  let main_v18 : IVec S_ 1 := (fun x v => Host.reduce IntOp.andi x v reducesTo_S8192x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S8192x1024 .f32 := Host.absf main_arg6
  let main_cst_10 : FVec F S_ .f32 := constant S_ .f32 0x7F800000#32
  let main_v31 : FVec F S8192x1024 .f32 := broadcastInDim S8192x1024 ![] bcast_S_S8192x1024 main_cst_10
  let main_v32 : IVec S8192x1024 1 := cmpf .olt main_v30 main_v31
  let main_c_11 : IVec S_ 1 := constantI S_ 1 1#1
  let main_v33 : IVec S_ 1 := (fun x v => Host.reduce IntOp.andi x v reducesTo_S8192x1024_S_d0_1 h_S_) main_v32 main_c_11
  fn_part2 (F := F) main_v29 main_v33

def fn {F : FTy → Type} [FloatOps F] (main_arg0 : FVec F S8192x4096 .bf16) (main_arg1 : FVec F S4096x1024 .f32) (main_arg2 : FVec F S1x1024 .f32) (main_arg3 : FVec F S8192x1024 .f32) (main_arg4 : FVec F S1x1024 .f32) (main_arg5 : FVec F S1x1024 .f32) (main_arg6 : FVec F S8192x1024 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S8192x1024 .f32 := Host.absf main_arg3
  let main_cst_4 : FVec F S_ .f32 := constant S_ .f32 0x7F800000#32
  let main_v16 : FVec F S8192x1024 .f32 := broadcastInDim S8192x1024 ![] bcast_S_S8192x1024 main_cst_4
  fn_part1 (F := F) main_arg4 main_arg5 main_arg6 main_v14 main_v15 main_v16
-- ==== Pre_finite_mlpin.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_arg5 : FVec F S8192x1024 .f32) (main_arg6 : FVec F S8192x4096 .bf16) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x4096 .f32 := (extf .f32 · bitsLt_bf16_f32) main_arg6
  let main_v25 : FVec F S8192x4096 .f32 := Host.absf main_v24
  let main_cst_8 : FVec F S_ .f32 := constant S_ .f32 0x7F800000#32
  let main_v26 : FVec F S8192x4096 .f32 := broadcastInDim S8192x4096 ![] bcast_S_S8192x4096 main_cst_8
  let main_v27 : IVec S8192x4096 1 := cmpf .olt main_v25 main_v26
  let main_c_9 : IVec S_ 1 := constantI S_ 1 1#1
  let main_v28 : IVec S_ 1 := (fun x v => Host.reduce IntOp.andi x v reducesTo_S8192x4096_S_d0_1 h_S_) main_v27 main_c_9
  let main_v29 : IVec S_ 1 := andi main_v23 main_v28
  main_v29

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x4096 .f32) (main_arg5 : FVec F S8192x1024 .f32) (main_arg6 : FVec F S8192x4096 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_arg6 main_v13 main_v16
-- ==== Pre_finite_pool.lean ====
abbrev S8192x1024 : Shape := ⟨2, ![8192, 1024]⟩
abbrev S4x256x256 : Shape := ⟨3, ![4, 256, 256]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v8 : IVec S_ 1) (main_v12 : IVec S_ 1) (main_v15 : IVec S8192x1024 1) (main_c_5 : IVec S_ 1) : IVec S_ 1 :=
  let main_v16 : IVec S_ 1 := (fun x v => Host.reduce IntOp.andi x v reducesTo_S8192x1024_S_d0_1 h_S_) main_v15 main_c_5
  let main_v17 : IVec S_ 1 := andi main_v12 main_v16
  let main_v18 : IVec S_ 1 := andi main_v8 main_v17
  main_v18

def fn {F : FTy → Type} [FloatOps F] (main_arg0 : FVec F S8192x1024 .f32) (main_arg1 : FVec F S4x256x256 .f32) (main_arg2 : FVec F S1x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : FVec F S8192x1024 .f32 := Host.absf main_arg3
  let main_cst_4 : FVec F S_ .f32 := constant S_ .f32 0x7F800000#32
  let main_v14 : FVec F S8192x1024 .f32 := broadcastInDim S8192x1024 ![] bcast_S_S8192x1024 main_cst_4
  let main_v15 : IVec S8192x1024 1 := cmpf .olt main_v13 main_v14
  let main_c_5 : IVec S_ 1 := constantI S_ 1 1#1
  fn_part1 (F := F) main_v8 main_v12 main_v15 main_c_5
-- ==== Pre_finite_poolfwd.lean ====
abbrev S8192x1024 : Shape := ⟨2, ![8192, 1024]⟩
abbrev S4x256x256 : Shape := ⟨3, ![4, 256, 256]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S4x256x256 .f32) (main_arg2 : FVec F S1x1024 .f32) (main_arg3 : FVec F S1x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S4x256x256 : Shape := ⟨3, ![4, 256, 256]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S528x1 : Shape := ⟨2, ![528, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1x1024, .f32⟩
  | .hbm, ⟨3, _⟩ => ⟨S8192x1024, .f32⟩
  | .hbm, ⟨4, _⟩ => ⟨S4x256x256, .bf16⟩
  | .hbm, ⟨5, _⟩ => ⟨S8192x1024, .f32⟩
  | .hbm, ⟨6, _⟩ => ⟨S4x256x256, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S4x256x256, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S4x256x256, .f32⟩
  | .local _ .vmem, ⟨13, _⟩ => ⟨S1x1024, .f32⟩
  | .local _ .vmem, ⟨14, _⟩ => ⟨S528x1024, .f32⟩
  | .local _ .vmem, ⟨15, _⟩ => ⟨S528x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v239 : BitVec 32 := Scalar.extui v0
  let c0_i32_123 : BitVec 32 := 0#32
  let v240 : BitVec 1 := Scalar.cmpi .ne v239 c0_i32_123
  v240

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_124 : BitVec 1 := 1#1
  let v241 : BitVec 1 := Scalar.xori v0 true_124
  let v242 : BitVec 32 := Scalar.extui v241
  let c0_i32_125 : BitVec 32 := 0#32
  let v243 : BitVec 1 := Scalar.cmpi .ne v242 c0_i32_125
  v243

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v234 : BitVec 32 := Scalar.extui v0
  let c0_i32_121 : BitVec 32 := 0#32
  let v235 : BitVec 1 := Scalar.cmpi .ne v234 c0_i32_121
  v235

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v236 : BitVec 1 := Scalar.xori v0 v_true
  let v237 : BitVec 32 := Scalar.extui v236
  let c0_i32_122 : BitVec 32 := 0#32
  let v238 : BitVec 1 := Scalar.cmpi .ne v237 c0_i32_122
  v238

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S4x256x256 : Shape := ⟨3, ![4, 256, 256]⟩
abbrev S1x1024 : Shape := ⟨2, ![1, 1024]⟩
abbrev S1x8192x1024 : Shape := ⟨3, ![1, 8192, 1024]⟩
abbrev S_ : Shape := ⟨0, ![]⟩
abbrev S1024 : Shape := ⟨1, ![1024]⟩
abbrev S8192 : Shape := ⟨1, ![8192]⟩
abbrev S1x8192x1 : Shape := ⟨3, ![1, 8192, 1]⟩
abbrev S1x8192x256 : Shape := ⟨3, ![1, 8192, 256]⟩
abbrev S1x1x256 : Shape := ⟨3, ![1, 1, 256]⟩
abbrev S1x8193x256 : Shape := ⟨3, ![1, 8193, 256]⟩
abbrev S1x8191x256 : Shape := ⟨3, ![1, 8191, 256]⟩
abbrev S1x256x256 : Shape := ⟨3, ![1, 256, 256]⟩
abbrev S256x256 : Shape := ⟨2, ![256, 256]⟩
abbrev S1x3x256 : Shape := ⟨3, ![1, 3, 256]⟩
abbrev S1x8189x256 : Shape := ⟨3, ![1, 8189, 256]⟩
abbrev S1x7x256 : Shape := ⟨3, ![1, 7, 256]⟩
abbrev S1x8185x256 : Shape := ⟨3, ![1, 8185, 256]⟩
abbrev S1x15x256 : Shape := ⟨3, ![1, 15, 256]⟩
abbrev S1x8177x256 : Shape := ⟨3, ![1, 8177, 256]⟩
abbrev S1x1x1024 : Shape := ⟨3, ![1, 1, 1024]⟩

abbrev nBuf : Space → Nat
  | .hbm => 262
  | .vmem => 0
  | .smem => 0
  | _ => 0

abbrev hbmTy0_0 (i : Nat) : BufTy := match i % 128 with
  | 0 => ⟨S8192x1024, .f32⟩
  | 1 => ⟨S4x256x256, .f32⟩
  | 2 => ⟨S1x1024, .f32⟩
  | 3 => ⟨S8192x1024, .f32⟩
  | 4 => ⟨S1x8192x1024, .f32⟩
  | 5 => ⟨S_, .f32⟩
  | 6 => ⟨S1x8192x1024, .f32⟩
  | 7 => ⟨S1x8192x1024, .f32⟩
  | 8 => ⟨S1x8192x1024, .f32⟩
  | 9 => ⟨S1024, .f32⟩
  | 10 => ⟨S8192, .f32⟩
  | 11 => ⟨S1x8192x1, .f32⟩
  | 12 => ⟨S1x8192x256, .f32⟩
  | 13 => ⟨S_, .f32⟩
  | 14 => ⟨S_, .f32⟩
  | 15 => ⟨S1x8192x256, .f32⟩
  | 16 => ⟨S_, .f32⟩
  | 17 => ⟨S1x1x256, .f32⟩
  | 18 => ⟨S1x8193x256, .f32⟩
  | 19 => ⟨S_, .f32⟩
  | 20 => ⟨S1x1x256, .f32⟩
  | 21 => ⟨S1x8192x256, .f32⟩
  | 22 => ⟨S_, .f32⟩
  | 23 => ⟨S1x1x256, .f32⟩
  | 24 => ⟨S1x8191x256, .f32⟩
  | 25 => ⟨S1x8192x256, .f32⟩
  | 26 => ⟨S_, .f32⟩
  | 27 => ⟨S1x1x256, .f32⟩
  | 28 => ⟨S_, .f32⟩
  | 29 => ⟨S1x8192x1, .f32⟩
  | 30 => ⟨S1x8192x1, .f32⟩
  | 31 => ⟨S_, .f32⟩
  | 32 => ⟨S1x8192x1, .f32⟩
  | 33 => ⟨S1x8192x1, .f32⟩
  | 34 => ⟨S1x8192x256, .f32⟩
  | 35 => ⟨S1x8192x256, .f32⟩
  | 36 => ⟨S1x8192x256, .f32⟩
  | 37 => ⟨S1x8192x256, .f32⟩
  | 38 => ⟨S1x256x256, .f32⟩
  | 39 => ⟨S256x256, .f32⟩
  | 40 => ⟨S1x8192x256, .f32⟩
  | 41 => ⟨S1x8192x256, .f32⟩
  | 42 => ⟨S_, .f32⟩
  | 43 => ⟨S_, .f32⟩
  | 44 => ⟨S1x8192x256, .f32⟩
  | 45 => ⟨S_, .f32⟩
  | 46 => ⟨S1x1x256, .f32⟩
  | 47 => ⟨S1x8193x256, .f32⟩
  | 48 => ⟨S_, .f32⟩
  | 49 => ⟨S1x1x256, .f32⟩
  | 50 => ⟨S1x8192x256, .f32⟩
  | 51 => ⟨S_, .f32⟩
  | 52 => ⟨S1x3x256, .f32⟩
  | 53 => ⟨S1x8189x256, .f32⟩
  | 54 => ⟨S1x8192x256, .f32⟩
  | 55 => ⟨S_, .f32⟩
  | 56 => ⟨S1x3x256, .f32⟩
  | 57 => ⟨S_, .f32⟩
  | 58 => ⟨S1x8192x1, .f32⟩
  | 59 => ⟨S1x8192x1, .f32⟩
  | 60 => ⟨S_, .f32⟩
  | 61 => ⟨S1x8192x1, .f32⟩
  | 62 => ⟨S1x8192x1, .f32⟩
  | 63 => ⟨S1x8192x256, .f32⟩
  | 64 => ⟨S1x8192x256, .f32⟩
  | 65 => ⟨S1x8192x256, .f32⟩
  | 66 => ⟨S1x8192x256, .f32⟩
  | 67 => ⟨S1x256x256, .f32⟩
  | 68 => ⟨S256x256, .f32⟩
  | 69 => ⟨S1x8192x256, .f32⟩
  | 70 => ⟨S1x8192x256, .f32⟩
  | 71 => ⟨S_, .f32⟩
  | 72 => ⟨S_, .f32⟩
  | 73 => ⟨S1x8192x256, .f32⟩
  | 74 => ⟨S_, .f32⟩
  | 75 => ⟨S1x1x256, .f32⟩
  | 76 => ⟨S1x8193x256, .f32⟩
  | 77 => ⟨S_, .f32⟩
  | 78 => ⟨S1x1x256, .f32⟩
  | 79 => ⟨S1x8192x256, .f32⟩
  | 80 => ⟨S_, .f32⟩
  | 81 => ⟨S1x7x256, .f32⟩
  | 82 => ⟨S1x8185x256, .f32⟩
  | 83 => ⟨S1x8192x256, .f32⟩
  | 84 => ⟨S_, .f32⟩
  | 85 => ⟨S1x7x256, .f32⟩
  | 86 => ⟨S_, .f32⟩
  | 87 => ⟨S1x8192x1, .f32⟩
  | 88 => ⟨S1x8192x1, .f32⟩
  | 89 => ⟨S_, .f32⟩
  | 90 => ⟨S1x8192x1, .f32⟩
  | 91 => ⟨S1x8192x1, .f32⟩
  | 92 => ⟨S1x8192x256, .f32⟩
  | 93 => ⟨S1x8192x256, .f32⟩
  | 94 => ⟨S1x8192x256, .f32⟩
  | 95 => ⟨S1x8192x256, .f32⟩
  | 96 => ⟨S1x256x256, .f32⟩
  | 97 => ⟨S256x256, .f32⟩
  | 98 => ⟨S1x8192x256, .f32⟩
  | 99 => ⟨S1x8192x256, .f32⟩
  | 100 => ⟨S_, .f32⟩
  | 101 => ⟨S_, .f32⟩
  | 102 => ⟨S1x8192x256, .f32⟩
  | 103 => ⟨S_, .f32⟩
  | 104 => ⟨S1x1x256, .f32⟩
  | 105 => ⟨S1x8193x256, .f32⟩
  | 106 => ⟨S_, .f32⟩
  | 107 => ⟨S1x1x256, .f32⟩
  | 108 => ⟨S1x8192x256, .f32⟩
  | 109 => ⟨S_, .f32⟩
  | 110 => ⟨S1x15x256, .f32⟩
  | 111 => ⟨S1x8177x256, .f32⟩
  | 112 => ⟨S1x8192x256, .f32⟩
  | 113 => ⟨S_, .f32⟩
  | 114 => ⟨S1x15x256, .f32⟩
  | 115 => ⟨S_, .f32⟩
  | 116 => ⟨S1x8192x1, .f32⟩
  | 117 => ⟨S1x8192x1, .f32⟩
  | 118 => ⟨S_, .f32⟩
  | 119 => ⟨S1x8192x1, .f32⟩
  | 120 => ⟨S1x8192x1, .f32⟩
  | 121 => ⟨S1x8192x256, .f32⟩
  | 122 => ⟨S1x8192x256, .f32⟩
  | 123 => ⟨S1x8192x256, .f32⟩
  | 124 => ⟨S1x8192x256, .f32⟩
  | 125 => ⟨S1x256x256, .f32⟩
  | 126 => ⟨S256x256, .f32⟩
  | 127 => ⟨S1x8192x256, .f32⟩
  | _ => ⟨S8192x1024, .f32⟩

abbrev hbmTy0_1 (i : Nat) : BufTy := match i % 128 with
  | 0 => ⟨S1x8192x1024, .f32⟩
  | 1 => ⟨S1x1x1024, .f32⟩
  | 2 => ⟨S1x8192x1024, .f32⟩
  | 3 => ⟨S1x8192x1024, .f32⟩
  | 4 => ⟨S1x8192x1024, .f32⟩
  | 5 => ⟨S8192x1024, .f32⟩
  | 6 => ⟨S1x8192x1024, .f32⟩
  | 7 => ⟨S1x8192x1024, .f32⟩
  | 8 => ⟨S_, .f32⟩
  | 9 => ⟨S1x1024, .f32⟩
  | 10 => ⟨S1x1x1024, .f32⟩
  | 11 => ⟨S1x8192x1024, .f32⟩
  | 12 => ⟨S1x8192x1024, .f32⟩
  | 13 => ⟨S_, .f32⟩
  | 14 => ⟨S1024, .f32⟩
  | 15 => ⟨S1x8192x256, .f32⟩
  | 16 => ⟨S1x8192x256, .f32⟩
  | 17 => ⟨S1x8192x256, .f32⟩
  | 18 => ⟨S1x8192x256, .f32⟩
  | 19 => ⟨S256x256, .f32⟩
  | 20 => ⟨S256x256, .f32⟩
  | 21 => ⟨S1x8192x256, .f32⟩
  | 22 => ⟨S1x256x256, .f32⟩
  | 23 => ⟨S_, .f32⟩
  | 24 => ⟨S4x256x256, .f32⟩
  | 25 => ⟨S1x8192x256, .f32⟩
  | 26 => ⟨S1x8192x256, .f32⟩
  | 27 => ⟨S1x8192x256, .f32⟩
  | 28 => ⟨S1x8192x256, .f32⟩
  | 29 => ⟨S1x15x256, .f32⟩
  | 30 => ⟨S1x8177x256, .f32⟩
  | 31 => ⟨S_, .f32⟩
  | 32 => ⟨S1x8193x256, .f32⟩
  | 33 => ⟨S_, .f32⟩
  | 34 => ⟨S1x8193x256, .f32⟩
  | 35 => ⟨S1x8193x256, .f32⟩
  | 36 => ⟨S1x1x256, .f32⟩
  | 37 => ⟨S1x8192x256, .f32⟩
  | 38 => ⟨S_, .f32⟩
  | 39 => ⟨S_, .f32⟩
  | 40 => ⟨S1x8192x256, .f32⟩
  | 41 => ⟨S1x8192x256, .f32⟩
  | 42 => ⟨S_, .f32⟩
  | 43 => ⟨S1x8192x1024, .f32⟩
  | 44 => ⟨S256x256, .f32⟩
  | 45 => ⟨S256x256, .f32⟩
  | 46 => ⟨S1x8192x256, .f32⟩
  | 47 => ⟨S1x256x256, .f32⟩
  | 48 => ⟨S_, .f32⟩
  | 49 => ⟨S4x256x256, .f32⟩
  | 50 => ⟨S4x256x256, .f32⟩
  | 51 => ⟨S1x8192x256, .f32⟩
  | 52 => ⟨S1x8192x256, .f32⟩
  | 53 => ⟨S1x8192x256, .f32⟩
  | 54 => ⟨S1x8192x256, .f32⟩
  | 55 => ⟨S1x7x256, .f32⟩
  | 56 => ⟨S1x8185x256, .f32⟩
  | 57 => ⟨S_, .f32⟩
  | 58 => ⟨S1x8193x256, .f32⟩
  | 59 => ⟨S_, .f32⟩
  | 60 => ⟨S1x8193x256, .f32⟩
  | 61 => ⟨S1x8193x256, .f32⟩
  | 62 => ⟨S1x1x256, .f32⟩
  | 63 => ⟨S1x8192x256, .f32⟩
  | 64 => ⟨S_, .f32⟩
  | 65 => ⟨S_, .f32⟩
  | 66 => ⟨S1x8192x256, .f32⟩
  | 67 => ⟨S1x8192x256, .f32⟩
  | 68 => ⟨S_, .f32⟩
  | 69 => ⟨S1x8192x1024, .f32⟩
  | 70 => ⟨S1x8192x1024, .f32⟩
  | 71 => ⟨S256x256, .f32⟩
  | 72 => ⟨S256x256, .f32⟩
  | 73 => ⟨S1x8192x256, .f32⟩
  | 74 => ⟨S1x256x256, .f32⟩
  | 75 => ⟨S_, .f32⟩
  | 76 => ⟨S4x256x256, .f32⟩
  | 77 => ⟨S4x256x256, .f32⟩
  | 78 => ⟨S1x8192x256, .f32⟩
  | 79 => ⟨S1x8192x256, .f32⟩
  | 80 => ⟨S1x8192x256, .f32⟩
  | 81 => ⟨S1x8192x256, .f32⟩
  | 82 => ⟨S1x3x256, .f32⟩
  | 83 => ⟨S1x8189x256, .f32⟩
  | 84 => ⟨S_, .f32⟩
  | 85 => ⟨S1x8193x256, .f32⟩
  | 86 => ⟨S_, .f32⟩
  | 87 => ⟨S1x8193x256, .f32⟩
  | 88 => ⟨S1x8193x256, .f32⟩
  | 89 => ⟨S1x1x256, .f32⟩
  | 90 => ⟨S1x8192x256, .f32⟩
  | 91 => ⟨S_, .f32⟩
  | 92 => ⟨S_, .f32⟩
  | 93 => ⟨S1x8192x256, .f32⟩
  | 94 => ⟨S1x8192x256, .f32⟩
  | 95 => ⟨S_, .f32⟩
  | 96 => ⟨S1x8192x1024, .f32⟩
  | 97 => ⟨S1x8192x1024, .f32⟩
  | 98 => ⟨S256x256, .f32⟩
  | 99 => ⟨S256x256, .f32⟩
  | 100 => ⟨S1x8192x256, .f32⟩
  | 101 => ⟨S1x256x256, .f32⟩
  | 102 => ⟨S_, .f32⟩
  | 103 => ⟨S4x256x256, .f32⟩
  | 104 => ⟨S4x256x256, .f32⟩
  | 105 => ⟨S1x8192x256, .f32⟩
  | 106 => ⟨S1x8192x256, .f32⟩
  | 107 => ⟨S1x8192x256, .f32⟩
  | 108 => ⟨S1x8192x256, .f32⟩
  | 109 => ⟨S1x1x256, .f32⟩
  | 110 => ⟨S1x8191x256, .f32⟩
  | 111 => ⟨S_, .f32⟩
  | 112 => ⟨S1x8193x256, .f32⟩
  | 113 => ⟨S_, .f32⟩
  | 114 => ⟨S1x8193x256, .f32⟩
  | 115 => ⟨S1x8193x256, .f32⟩
  | 116 => ⟨S1x1x256, .f32⟩
  | 117 => ⟨S1x8192x256, .f32⟩
  | 118 => ⟨S_, .f32⟩
  | 119 => ⟨S_, .f32⟩
  | 120 => ⟨S1x8192x256, .f32⟩
  | 121 => ⟨S1x8192x256, .f32⟩
  | 122 => ⟨S_, .f32⟩
  | 123 => ⟨S1x8192x1024, .f32⟩
  | 124 => ⟨S1x8192x1024, .f32⟩
  | 125 => ⟨S1x1024, .f32⟩
  | 126 => ⟨S_, .f32⟩
  | 127 => ⟨S8192x1024, .f32⟩
  | _ => ⟨S8192x1024, .f32⟩

abbrev hbmTy0_2 (i : Nat) : BufTy := match i % 128 with
  | 0 => ⟨S_, .f32⟩
  | 1 => ⟨S1x8192x1024, .f32⟩
  | 2 => ⟨S1x8192x1024, .f32⟩
  | 3 => ⟨S_, .f32⟩
  | 4 => ⟨S8192x1024, .f32⟩
  | 5 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_cst : Ref sig .tc := ⟨.hbm, 13, rfl⟩
abbrev main_call0_call0_v0 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_call0_cst : Ref sig .tc := ⟨.hbm, 42, rfl⟩
abbrev main_call1_call0_v0 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call2_call0_cst : Ref sig .tc := ⟨.hbm, 71, rfl⟩
abbrev main_call2_call0_v0 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_v60 : Ref sig .tc := ⟨.hbm, 88, rfl⟩
abbrev main_cst_17 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call3_call0_cst : Ref sig .tc := ⟨.hbm, 100, rfl⟩
abbrev main_call3_call0_v0 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_cst_20 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_21 : Ref sig .tc := ⟨.hbm, 113, rfl⟩
abbrev main_v79 : Ref sig .tc := ⟨.hbm, 114, rfl⟩
abbrev main_cst_22 : Ref sig .tc := ⟨.hbm, 115, rfl⟩
abbrev main_v80 : Ref sig .tc := ⟨.hbm, 116, rfl⟩
abbrev main_v81 : Ref sig .tc := ⟨.hbm, 117, rfl⟩
abbrev main_cst_23 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_24 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_25 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_26 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_27 : Ref sig .tc := ⟨.hbm, 159, rfl⟩
abbrev main_v119 : Ref sig .tc := ⟨.hbm, 160, rfl⟩
abbrev main_cst_28 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_call4_call0_cst : Ref sig .tc := ⟨.hbm, 166, rfl⟩
abbrev main_call4_call0_v0 : Ref sig .tc := ⟨.hbm, 167, rfl⟩
abbrev main_v124 : Ref sig .tc := ⟨.hbm, 168, rfl⟩
abbrev main_v125 : Ref sig .tc := ⟨.hbm, 169, rfl⟩
abbrev main_cst_29 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_30 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_31 : Ref sig .tc := ⟨.hbm, 185, rfl⟩
abbrev main_v139 : Ref sig .tc := ⟨.hbm, 186, rfl⟩
abbrev main_cst_32 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_call5_call0_cst : Ref sig .tc := ⟨.hbm, 192, rfl⟩
abbrev main_call5_call0_v0 : Ref sig .tc := ⟨.hbm, 193, rfl⟩
abbrev main_v144 : Ref sig .tc := ⟨.hbm, 194, rfl⟩
abbrev main_v145 : Ref sig .tc := ⟨.hbm, 195, rfl⟩
abbrev main_cst_33 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_34 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_35 : Ref sig .tc := ⟨.hbm, 212, rfl⟩
abbrev main_v160 : Ref sig .tc := ⟨.hbm, 213, rfl⟩
abbrev main_cst_36 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_call6_call0_cst : Ref sig .tc := ⟨.hbm, 219, rfl⟩
abbrev main_call6_call0_v0 : Ref sig .tc := ⟨.hbm, 220, rfl⟩
abbrev main_v165 : Ref sig .tc := ⟨.hbm, 221, rfl⟩
abbrev main_v166 : Ref sig .tc := ⟨.hbm, 222, rfl⟩
abbrev main_cst_37 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_38 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_cst_39 : Ref sig .tc := ⟨.hbm, 239, rfl⟩
abbrev main_v181 : Ref sig .tc := ⟨.hbm, 240, rfl⟩
abbrev main_cst_40 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_call7_call0_cst : Ref sig .tc := ⟨.hbm, 246, rfl⟩
abbrev main_call7_call0_v0 : Ref sig .tc := ⟨.hbm, 247, rfl⟩
abbrev main_v186 : Ref sig .tc := ⟨.hbm, 248, rfl⟩
abbrev main_v187 : Ref sig .tc := ⟨.hbm, 249, rfl⟩
abbrev main_cst_41 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_cst_42 : Ref sig .tc := ⟨.hbm, 254, rfl⟩
abbrev main_v191 : Ref sig .tc := ⟨.hbm, 255, rfl⟩
abbrev main_cst_43 : Ref sig .tc := ⟨.hbm, 256, rfl⟩
abbrev main_v192 : Ref sig .tc := ⟨.hbm, 257, rfl⟩
abbrev main_v193 : Ref sig .tc := ⟨.hbm, 258, rfl⟩
abbrev main_cst_44 : Ref sig .tc := ⟨.hbm, 259, rfl⟩
abbrev main_v194 : Ref sig .tc := ⟨.hbm, 260, rfl⟩
abbrev main_v195 : Ref sig .tc := ⟨.hbm, 261, rfl⟩

abbrev nD : Nat := 1
abbrev τ : Topo := Topo.v7x

variable {F : FTy → Type} [FloatOps F]
-- ==== KernelAct.lean ====
abbrev S8192x4096 : Shape := ⟨2, ![8192, 4096]⟩
abbrev S1x4096 : Shape := ⟨2, ![1, 4096]⟩
abbrev S4096x1024 : Shape := ⟨2, ![4096, 1024]⟩
abbrev S8192x1024 : Shape := ⟨2, ![8192, 1024]⟩
abbrev S8x512x1024 : Shape := ⟨3, ![8, 512, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩
abbrev S512 : Shape := ⟨1, ![512]⟩
abbrev S1x512 : Shape := ⟨2, ![1, 512]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x1024, .f32⟩
  | .hbm, ⟨3, _⟩ => ⟨S8192x1024, .bf16⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .hbm, ⟨8, _⟩ => ⟨S8x512x1024, .bf16⟩
  | .hbm, ⟨9, _⟩ => ⟨S8192x4096, .bf16⟩
  | .hbm, ⟨10, _⟩ => ⟨S1x4096, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S8x512x1024, .bf16⟩
  | .local _ .vmem, ⟨5, _⟩ => ⟨S512x4096, .bf16⟩
  | .local _ .vmem, ⟨6, _⟩ => ⟨S512x4096, .bf16⟩
  | .local _ .vmem, ⟨7, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v121 : BitVec 1 := Scalar.cmpi .eq arg0 c0_i32
  let v123 : BitVec 32 := Scalar.extui v121
  let c0_i32_74 : BitVec 32 := 0#32
  let v124 : BitVec 1 := Scalar.cmpi .ne v123 c0_i32_74
  v124

def k0_cond2 (i : grid0.Coords) : BitVec 1 :=
  let arg0 : BitVec 32 := BitVec.ofNat 32 (i 0).val
  let c0_i32 : BitVec 32 := 0#32
  let v121 : BitVec 1 := Scalar.cmpi .eq arg0 c0_i32
  let v_true : BitVec 1 := 1#1
  let v125 : BitVec 1 := Scalar.xori v121 v_true
  let v126 : BitVec 32 := Scalar.extui v125
  let c0_i32_75 : BitVec 32 := 0#32
  let v127 : BitVec 1 := Scalar.cmpi .ne v126 c0_i32_75
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceActIdeal.lean ====
abbrev S8192x4096 : Shape := ⟨2, ![8192, 4096]⟩
abbrev S1x4096 : Shape := ⟨2, ![1, 4096]⟩
abbrev S4096x1024 : Shape := ⟨2, ![4096, 1024]⟩
abbrev S8192x1024 : Shape := ⟨2, ![8192, 1024]⟩
abbrev S_ : Shape := ⟨0, ![]⟩
abbrev S4096 : Shape := ⟨1, ![4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x1024, .f32⟩
  | .hbm, ⟨3, _⟩ => ⟨S8192x1024, .bf16⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== KernelGw2.lean ====
abbrev S8192x4096 : Shape := ⟨2, ![8192, 4096]⟩
abbrev S8192x1024 : Shape := ⟨2, ![8192, 1024]⟩
abbrev S8x512x1024 : Shape := ⟨3, ![8, 512, 1024]⟩
abbrev S2048x1024 : Shape := ⟨2, ![2048, 1024]⟩
abbrev S2x512x1024 : Shape := ⟨3, ![2, 512, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGw2Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S8x512x1024, .f32⟩
  | .hbm, ⟨14, _⟩ => ⟨S8x512x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelGw1.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2048x2048 : Shape := ⟨2, ![2048, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGw1Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelGwIn.lean ====
abbrev S8192x1024 : Shape := ⟨2, ![8192, 1024]⟩
abbrev S8192x2048 : Shape := ⟨2, ![8192, 2048]⟩
abbrev S8x1024x256 : Shape := ⟨3, ![8, 1024, 256]⟩
abbrev S2048x1024 : Shape := ⟨2, ![2048, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwInIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelGwOut.lean ====
abbrev S8192x1024 : Shape := ⟨2, ![8192, 1024]⟩
abbrev S8x128x1024 : Shape := ⟨3, ![8, 128, 1024]⟩
abbrev S2048x1024 : Shape := ⟨2, ![2048, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGwOutIdeal.lean ====
abbrev S8192x1024 : Shape := ⟨2, ![8192, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | .hbm, ⟨10, _⟩ => ⟨S8x128x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelMlpIn.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S512x1024 : Shape := ⟨2, ![512, 1024]⟩
abbrev S512x4096 : Shape := ⟨2, ![512, 4096]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S8192x1024, .f32⟩
  | .hbm, ⟨6, _⟩ => ⟨S8192x4096, .bf16⟩
  | .hbm, ⟨7, _⟩ => ⟨S8192x1024, .f32⟩
  | .hbm, ⟨8, _⟩ => ⟨S8192x1024, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | .hbm, ⟨12, _⟩ => ⟨S8192x1024, .f32⟩
  | .hbm, ⟨13, _⟩ => ⟨S8192x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S8x1024x512, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v87 : BitVec 32 := Scalar.extui v43
  let c0_i32_53 : BitVec 32 := 0#32
  let v88 : BitVec 1 := Scalar.cmpi .ne v87 c0_i32_53
  v88

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let v_true : BitVec 1 := 1#1
  let v89 : BitVec 1 := Scalar.xori v43 v_true
  let v90 : BitVec 32 := Scalar.extui v89
  let c0_i32_54 : BitVec 32 := 0#32
  let v91 : BitVec 1 := Scalar.cmpi .ne v90 c0_i32_54
  v91

def k0_cond3 (i : grid0.Coords) : BitVec 1 :=
  let arg0 : BitVec 32 := BitVec.ofNat 32 (i 0).val
  let c0_i32 : BitVec 32 := 0#32
  let v43 : BitVec 1 := Scalar.cmpi .eq arg0 c0_i32
  let v94 : BitVec 32 := Scalar.extui v43
  let c0_i32_56 : BitVec 32 := 0#32
  let v95 : BitVec 1 := Scalar.cmpi .ne v94 c0_i32_56
  v95

def k0_cond4 (i : grid0.Coords) : BitVec 1 :=
  let arg0 : BitVec 32 := BitVec.ofNat 32 (i 0).val
  let c0_i32 : BitVec 32 := 0#32
  let v43 : BitVec 1 := Scalar.cmpi .eq arg0 c0_i32
  let true_57 : BitVec 1 := 1#1
  let v96 : BitVec 1 := Scalar.xori v43 true_57
  let v97 : BitVec 32 := Scalar.extui v96
  let c0_i32_58 : BitVec 32 := 0#32
  let v98 : BitVec 1 := Scalar.cmpi .ne v97 c0_i32_58
  v98

def k0_cond5 (i : grid0.Coords) : BitVec 1 :=
  let arg0 : BitVec 32 := BitVec.ofNat 32 (i 0).val
  let c0_i32 : BitVec 32 := 0#32
  let v43 : BitVec 1 := Scalar.cmpi .eq arg0 c0_i32
  let v101 : BitVec 32 := Scalar.extui v43
  let c0_i32_60 : BitVec 32 := 0#32
  let v102 : BitVec 1 := Scalar.cmpi .ne v101 c0_i32_60
  v102

def k0_cond6 (i : grid0.Coords) : BitVec 1 :=
  let arg0 : BitVec 32 := BitVec.ofNat 32 (i 0).val
  let c0_i32 : BitVec 32 := 0#32
  let v43 : BitVec 1 := Scalar.cmpi .eq arg0 c0_i32
  let true_61 : BitVec 1 := 1#1
  let v103 : BitVec 1 := Scalar.xori v43 true_61
  let v104 : BitVec 32 := Scalar.extui v103
  let c0_i32_62 : BitVec 32 := 0#32
  let v105 : BitVec 1 := Scalar.cmpi .ne v104 c0_i32_62
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceMlpInIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S8192x1024, .f32⟩
  | .hbm, ⟨6, _⟩ => ⟨S8192x4096, .bf16⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x4096, .f32⟩
  | .hbm, ⟨47, _⟩ => ⟨S8192x4096, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== KernelUp.lean ====
abbrev S8192x1024 : Shape := ⟨2, ![8192, 1024]⟩
abbrev S1024x4096 : Shape := ⟨2, ![1024, 4096]⟩
abbrev S1x4096 : Shape := ⟨2, ![1, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1x4096, .f32⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceUpIdeal.lean ====
abbrev S8192x1024 : Shape := ⟨2, ![8192, 1024]⟩
abbrev S1024x4096 : Shape := ⟨2, ![1024, 4096]⟩
abbrev S1x4096 : Shape := ⟨2, ![1, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1x4096, .f32⟩
  | .hbm, ⟨3, _⟩ => ⟨S8192x1024, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDown.lean ====
abbrev S8192x4096 : Shape := ⟨2, ![8192, 4096]⟩
abbrev S4096x1024 : Shape := ⟨2, ![4096, 1024]⟩
abbrev S1x1024 : Shape := ⟨2, ![1, 1024]⟩
abbrev S8192x1024 : Shape := ⟨2, ![8192, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceDownIdeal.lean ====
abbrev S8192x4096 : Shape := ⟨2, ![8192, 4096]⟩
abbrev S4096x1024 : Shape := ⟨2, ![4096, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelConvOut.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceConvOutIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== KernelConvIn.lean ====
abbrev S8192x1024 : Shape := ⟨2, ![8192, 1024]⟩
abbrev S1024x2048 : Shape := ⟨2, ![1024, 2048]⟩
abbrev S1x2048 : Shape := ⟨2, ![1, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S512x1024 : Shape := ⟨2, ![512, 1024]⟩
abbrev S512x2048 : Shape := ⟨2, ![512, 2048]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S1x2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S8192x2048, .bf16⟩
  | .hbm, ⟨7, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024x256, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceConvInIdeal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S1x2048, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x2048, .bf16⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelConvInBwd.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S1024x8x256 : Shape := ⟨3, ![1024, 8, 256]⟩
abbrev S8x1024x256 : Shape := ⟨3, ![8, 1024, 256]⟩
abbrev S512x1024 : Shape := ⟨2, ![512, 1024]⟩
abbrev S512x2048 : Shape := ⟨2, ![512, 2048]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S8192x1024, .f32⟩
  | .hbm, ⟨6, _⟩ => ⟨S8192x2048, .bf16⟩
  | .hbm, ⟨7, _⟩ => ⟨S8192x1024, .f32⟩
  | .hbm, ⟨8, _⟩ => ⟨S8192x1024, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | .hbm, ⟨12, _⟩ => ⟨S8192x1024, .f32⟩
  | .hbm, ⟨13, _⟩ => ⟨S8192x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S8x1024x256, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v87 : BitVec 32 := Scalar.extui v43
  let c0_i32_53 : BitVec 32 := 0#32
  let v88 : BitVec 1 := Scalar.cmpi .ne v87 c0_i32_53
  v88

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let v_true : BitVec 1 := 1#1
  let v89 : BitVec 1 := Scalar.xori v43 v_true
  let v90 : BitVec 32 := Scalar.extui v89
  let c0_i32_54 : BitVec 32 := 0#32
  let v91 : BitVec 1 := Scalar.cmpi .ne v90 c0_i32_54
  v91

def k0_cond3 (i : grid0.Coords) : BitVec 1 :=
  let arg0 : BitVec 32 := BitVec.ofNat 32 (i 0).val
  let c0_i32 : BitVec 32 := 0#32
  let v43 : BitVec 1 := Scalar.cmpi .eq arg0 c0_i32
  let v94 : BitVec 32 := Scalar.extui v43
  let c0_i32_56 : BitVec 32 := 0#32
  let v95 : BitVec 1 := Scalar.cmpi .ne v94 c0_i32_56
  v95

def k0_cond4 (i : grid0.Coords) : BitVec 1 :=
  let arg0 : BitVec 32 := BitVec.ofNat 32 (i 0).val
  let c0_i32 : BitVec 32 := 0#32
  let v43 : BitVec 1 := Scalar.cmpi .eq arg0 c0_i32
  let true_57 : BitVec 1 := 1#1
  let v96 : BitVec 1 := Scalar.xori v43 true_57
  let v97 : BitVec 32 := Scalar.extui v96
  let c0_i32_58 : BitVec 32 := 0#32
  let v98 : BitVec 1 := Scalar.cmpi .ne v97 c0_i32_58
  v98

def k0_cond5 (i : grid0.Coords) : BitVec 1 :=
  let arg0 : BitVec 32 := BitVec.ofNat 32 (i 0).val
  let c0_i32 : BitVec 32 := 0#32
  let v43 : BitVec 1 := Scalar.cmpi .eq arg0 c0_i32
  let v101 : BitVec 32 := Scalar.extui v43
  let c0_i32_60 : BitVec 32 := 0#32
  let v102 : BitVec 1 := Scalar.cmpi .ne v101 c0_i32_60
  v102

def k0_cond6 (i : grid0.Coords) : BitVec 1 :=
  let arg0 : BitVec 32 := BitVec.ofNat 32 (i 0).val
  let c0_i32 : BitVec 32 := 0#32
  let v43 : BitVec 1 := Scalar.cmpi .eq arg0 c0_i32
  let true_61 : BitVec 1 := 1#1
  let v103 : BitVec 1 := Scalar.xori v43 true_61
  let v104 : BitVec 32 := Scalar.extui v103
  let c0_i32_62 : BitVec 32 := 0#32
  let v105 : BitVec 1 := Scalar.cmpi .ne v104 c0_i32_62
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceConvInBwdIdeal.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S8192x1024, .f32⟩
  | .hbm, ⟨6, _⟩ => ⟨S8192x2048, .bf16⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x2048, .f32⟩
  | .hbm, ⟨47, _⟩ => ⟨S8192x2048, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== KernelPoolFwd.lean ====
abbrev S8192x1024 : Shape := ⟨2, ![8192, 1024]⟩
abbrev S4x256x256 : Shape := ⟨3, ![4, 256, 256]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x256x256, .bf16⟩
  | .hbm, ⟨6, _⟩ => ⟨S8192x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S528x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferencePoolFwdIdeal.lean ====
abbrev S8192x1024 : Shape := ⟨2, ![8192, 1024]⟩
abbrev S4x256x256 : Shape := ⟨3, ![4, 256, 256]⟩
abbrev S1x1024 : Shape := ⟨2, ![1, 1024]⟩
abbrev S1x8192x1024 : Shape := ⟨3, ![1, 8192, 1024]⟩
abbrev S_ : Shape := ⟨0, ![]⟩
abbrev S1024 : Shape := ⟨1, ![1024]⟩
abbrev S8192 : Shape := ⟨1, ![8192]⟩
abbrev S1x8192x1 : Shape := ⟨3, ![1, 8192, 1]⟩
abbrev S1x8192x256 : Shape := ⟨3, ![1, 8192, 256]⟩
abbrev S1x1x256 : Shape := ⟨3, ![1, 1, 256]⟩
abbrev S1x8193x256 : Shape := ⟨3, ![1, 8193, 256]⟩
abbrev S1x8191x256 : Shape := ⟨3, ![1, 8191, 256]⟩
abbrev S1x256x256 : Shape := ⟨3, ![1, 256, 256]⟩
abbrev S256x256 : Shape := ⟨2, ![256, 256]⟩
abbrev S1x3x256 : Shape := ⟨3, ![1, 3, 256]⟩
abbrev S1x8189x256 : Shape := ⟨3, ![1, 8189, 256]⟩
abbrev S1x7x256 : Shape := ⟨3, ![1, 7, 256]⟩
abbrev S1x8185x256 : Shape := ⟨3, ![1, 8185, 256]⟩
abbrev S1x15x256 : Shape := ⟨3, ![1, 15, 256]⟩
abbrev S1x8177x256 : Shape := ⟨3, ![1, 8177, 256]⟩
abbrev S1x1x1024 : Shape := ⟨3, ![1, 1, 1024]⟩
abbrev S8192x1 : Shape := ⟨2, ![8192, 1]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S4x256x256, .f32⟩
  | 2 => ⟨S1x1024, .f32⟩
  | 3 => ⟨S1x1024, .f32⟩
  | 4 => ⟨S1x1024, .f32⟩
  | 5 => ⟨S1x8192x1024, .f32⟩
  | 6 => ⟨S_, .f32⟩
  | 7 => ⟨S1x8192x1024, .f32⟩
  | 8 => ⟨S1x8192x1024, .f32⟩
  | 9 => ⟨S1x8192x1024, .f32⟩
  | 10 => ⟨S1024, .f32⟩
  | 11 => ⟨S8192, .f32⟩
  | 12 => ⟨S1x8192x1, .f32⟩
  | 13 => ⟨S1x8192x256, .f32⟩
  | 14 => ⟨S_, .f32⟩
  | 15 => ⟨S_, .f32⟩
  | 16 => ⟨S1x8192x256, .f32⟩
  | 17 => ⟨S_, .f32⟩
  | 18 => ⟨S1x1x256, .f32⟩
  | 19 => ⟨S1x8193x256, .f32⟩
  | 20 => ⟨S1x8192x256, .f32⟩
  | 21 => ⟨S_, .f32⟩
  | 22 => ⟨S1x1x256, .f32⟩
  | 23 => ⟨S1x8191x256, .f32⟩
  | 24 => ⟨S1x8192x256, .f32⟩
  | 25 => ⟨S_, .f32⟩
  | 26 => ⟨S1x8192x1, .f32⟩
  | 27 => ⟨S1x8192x1, .f32⟩
  | 28 => ⟨S_, .f32⟩
  | 29 => ⟨S1x8192x1, .f32⟩
  | 30 => ⟨S1x8192x1, .f32⟩
  | 31 => ⟨S1x8192x256, .f32⟩
  | 32 => ⟨S1x8192x256, .f32⟩
  | 33 => ⟨S1x8192x256, .f32⟩
  | 34 => ⟨S1x8192x256, .f32⟩
  | 35 => ⟨S1x256x256, .f32⟩
  | 36 => ⟨S256x256, .f32⟩
  | 37 => ⟨S1x8192x256, .f32⟩
  | 38 => ⟨S1x8192x256, .f32⟩
  | 39 => ⟨S_, .f32⟩
  | 40 => ⟨S_, .f32⟩
  | 41 => ⟨S1x8192x256, .f32⟩
  | 42 => ⟨S_, .f32⟩
  | 43 => ⟨S1x1x256, .f32⟩
  | 44 => ⟨S1x8193x256, .f32⟩
  | 45 => ⟨S1x8192x256, .f32⟩
  | 46 => ⟨S_, .f32⟩
  | 47 => ⟨S1x3x256, .f32⟩
  | 48 => ⟨S1x8189x256, .f32⟩
  | 49 => ⟨S1x8192x256, .f32⟩
  | 50 => ⟨S_, .f32⟩
  | 51 => ⟨S1x8192x1, .f32⟩
  | 52 => ⟨S1x8192x1, .f32⟩
  | 53 => ⟨S_, .f32⟩
  | 54 => ⟨S1x8192x1, .f32⟩
  | 55 => ⟨S1x8192x1, .f32⟩
  | 56 => ⟨S1x8192x256, .f32⟩
  | 57 => ⟨S1x8192x256, .f32⟩
  | 58 => ⟨S1x8192x256, .f32⟩
  | 59 => ⟨S1x8192x256, .f32⟩
  | 60 => ⟨S1x256x256, .f32⟩
  | 61 => ⟨S256x256, .f32⟩
  | 62 => ⟨S1x8192x256, .f32⟩
  | 63 => ⟨S1x8192x256, .f32⟩
  | 64 => ⟨S_, .f32⟩
  | 65 => ⟨S_, .f32⟩
  | 66 => ⟨S1x8192x256, .f32⟩
  | 67 => ⟨S_, .f32⟩
  | 68 => ⟨S1x1x256, .f32⟩
  | 69 => ⟨S1x8193x256, .f32⟩
  | 70 => ⟨S1x8192x256, .f32⟩
  | 71 => ⟨S_, .f32⟩
  | 72 => ⟨S1x7x256, .f32⟩
  | 73 => ⟨S1x8185x256, .f32⟩
  | 74 => ⟨S1x8192x256, .f32⟩
  | 75 => ⟨S_, .f32⟩
  | 76 => ⟨S1x8192x1, .f32⟩
  | 77 => ⟨S1x8192x1, .f32⟩
  | 78 => ⟨S_, .f32⟩
  | 79 => ⟨S1x8192x1, .f32⟩
  | 80 => ⟨S1x8192x1, .f32⟩
  | 81 => ⟨S1x8192x256, .f32⟩
  | 82 => ⟨S1x8192x256, .f32⟩
  | 83 => ⟨S1x8192x256, .f32⟩
  | 84 => ⟨S1x8192x256, .f32⟩
  | 85 => ⟨S1x256x256, .f32⟩
  | 86 => ⟨S256x256, .f32⟩
  | 87 => ⟨S1x8192x256, .f32⟩
  | 88 => ⟨S1x8192x256, .f32⟩
  | 89 => ⟨S_, .f32⟩
  | 90 => ⟨S_, .f32⟩
  | 91 => ⟨S1x8192x256, .f32⟩
  | 92 => ⟨S_, .f32⟩
  | 93 => ⟨S1x1x256, .f32⟩
  | 94 => ⟨S1x8193x256, .f32⟩
  | 95 => ⟨S1x8192x256, .f32⟩
  | 96 => ⟨S_, .f32⟩
  | 97 => ⟨S1x15x256, .f32⟩
  | 98 => ⟨S1x8177x256, .f32⟩
  | 99 => ⟨S1x8192x256, .f32⟩
  | 100 => ⟨S_, .f32⟩
  | 101 => ⟨S1x8192x1, .f32⟩
  | 102 => ⟨S1x8192x1, .f32⟩
  | 103 => ⟨S_, .f32⟩
  | 104 => ⟨S1x8192x1, .f32⟩
  | 105 => ⟨S1x8192x1, .f32⟩
  | 106 => ⟨S1x8192x256, .f32⟩
  | 107 => ⟨S1x8192x256, .f32⟩
  | 108 => ⟨S1x8192x256, .f32⟩
  | 109 => ⟨S1x8192x256, .f32⟩
  | 110 => ⟨S1x256x256, .f32⟩
  | 111 => ⟨S256x256, .f32⟩
  | 112 => ⟨S1x8192x256, .f32⟩
  | 113 => ⟨S1x8192x1024, .f32⟩
  | 114 => ⟨S1x1x1024, .f32⟩
  | 115 => ⟨S1x8192x1024, .f32⟩
  | 116 => ⟨S1x8192x1024, .f32⟩
  | 117 => ⟨S1x8192x1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S8192x1024, .f32⟩
  | 7 => ⟨S8192x1024, .f32⟩
  | 8 => ⟨S_, .f32⟩
  | 9 => ⟨S8192x1, .f32⟩
  | 10 => ⟨S8192x1, .f32⟩
  | 11 => ⟨S8192x1, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_cst : Ref sig .tc := ⟨.hbm, 14, rfl⟩
abbrev main_call0_call0_v0 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_call0_cst : Ref sig .tc := ⟨.hbm, 39, rfl⟩
abbrev main_call1_call0_v0 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_call0_cst : Ref sig .tc := ⟨.hbm, 64, rfl⟩
abbrev main_call2_call0_v0 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call3_call0_cst : Ref sig .tc := ⟨.hbm, 89, rfl⟩
abbrev main_call3_call0_v0 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_16 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]
-- ==== KernelLoss.lean ====
abbrev S8192x4096 : Shape := ⟨2, ![8192, 4096]⟩
abbrev S4096x1024 : Shape := ⟨2, ![4096, 1024]⟩
abbrev S1x1024 : Shape := ⟨2, ![1, 1024]⟩
abbrev S8192x1024 : Shape := ⟨2, ![8192, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S4096x1024, .bf16⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v81 : BitVec 32 := Scalar.extui v0
  let c0_i32_35 : BitVec 32 := 0#32
  let v82 : BitVec 1 := Scalar.cmpi .ne v81 c0_i32_35
  v82

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v83 : BitVec 1 := Scalar.xori v0 v_true
  let v84 : BitVec 32 := Scalar.extui v83
  let c0_i32_36 : BitVec 32 := 0#32
  let v85 : BitVec 1 := Scalar.cmpi .ne v84 c0_i32_36
  v85

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v88 : BitVec 32 := Scalar.extui v0
  let c0_i32_38 : BitVec 32 := 0#32
  let v89 : BitVec 1 := Scalar.cmpi .ne v88 c0_i32_38
  v89

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_39 : BitVec 1 := 1#1
  let v90 : BitVec 1 := Scalar.xori v0 true_39
  let v91 : BitVec 32 := Scalar.extui v90
  let c0_i32_40 : BitVec 32 := 0#32
  let v92 : BitVec 1 := Scalar.cmpi .ne v91 c0_i32_40
  v92

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v95 : BitVec 32 := Scalar.extui v0
  let c0_i32_42 : BitVec 32 := 0#32
  let v96 : BitVec 1 := Scalar.cmpi .ne v95 c0_i32_42
  v96

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_43 : BitVec 1 := 1#1
  let v97 : BitVec 1 := Scalar.xori v0 true_43
  let v98 : BitVec 32 := Scalar.extui v97
  let c0_i32_44 : BitVec 32 := 0#32
  let v99 : BitVec 1 := Scalar.cmpi .ne v98 c0_i32_44
  v99

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v103 : BitVec 32 := Scalar.extui v0
  let c0_i32_46 : BitVec 32 := 0#32
  let v104 : BitVec 1 := Scalar.cmpi .ne v103 c0_i32_46
  v104

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_47 : BitVec 1 := 1#1
  let v105 : BitVec 1 := Scalar.xori v0 true_47
  let v106 : BitVec 32 := Scalar.extui v105
  let c0_i32_48 : BitVec 32 := 0#32
  let v107 : BitVec 1 := Scalar.cmpi .ne v106 c0_i32_48
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceLossIdeal.lean ====
abbrev S8192x4096 : Shape := ⟨2, ![8192, 4096]⟩
abbrev S4096x1024 : Shape := ⟨2, ![4096, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | .hbm, ⟨116, _⟩ => ⟨S_, .f32⟩
  | .hbm, ⟨117, _⟩ => ⟨S1024, .f32⟩
  | .hbm, ⟨118, _⟩ => ⟨S1x1024, .f32⟩
  | .hbm, ⟨119, _⟩ => ⟨S8192x1024, .bf16⟩
  | .hbm, ⟨120, _⟩ => ⟨S_, .f32⟩
  | .hbm, ⟨121, _⟩ => ⟨S1024, .f32⟩
  | .hbm, ⟨122, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_cst_12 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_16 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_18 : Ref sig .tc := ⟨.hbm, 93, rfl⟩
abbrev main_v65 : Ref sig .tc := ⟨.hbm, 94, rfl⟩
abbrev main_v66 : Ref sig .tc := ⟨.hbm, 95, rfl⟩
abbrev main_cst_19 : Ref sig .tc := ⟨.hbm, 96, rfl⟩
abbrev main_v67 : Ref sig .tc := ⟨.hbm, 97, rfl⟩
abbrev main_v68 : Ref sig .tc := ⟨.hbm, 98, rfl⟩
abbrev main_cst_20 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_cst_23 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_24 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_25 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== KernelAdamIn.lean ====
abbrev S8x1024x256 : Shape := ⟨3, ![8, 1024, 256]⟩
abbrev S1x1024x256 : Shape := ⟨3, ![1, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInIdeal.lean ====
abbrev S8x1024x256 : Shape := ⟨3, ![8, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== KernelAdamOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamOutIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== KernelAdamPool.lean ====
abbrev S8x4x32x256 : Shape := ⟨4, ![8, 4, 32, 256]⟩
abbrev S1x4x32x256 : Shape := ⟨4, ![1, 4, 32, 256]⟩
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x4x32x256, .bf16⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S8x128x256, .bf16⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamPoolIdeal.lean ====
abbrev S8x4x32x256 : Shape := ⟨4, ![8, 4, 32, 256]⟩
abbrev S1x4x32x256 : Shape := ⟨4, ![1, 4, 32, 256]⟩
abbrev S8x128x256 : Shape := ⟨3, ![8, 128, 256]⟩
abbrev S_ : Shape := ⟨0, ![]⟩
abbrev S128x256 : Shape := ⟨2, ![128, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x4x32x256, .bf16⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S8x128x256, .bf16⟩
  | .hbm, ⟨5, _⟩ => ⟨S8x128x256, .f32⟩
  | .hbm, ⟨6, _⟩ => ⟨S_, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S128x256, .f32⟩
  | .hbm, ⟨41, _⟩ => ⟨S_, .f32⟩
  | .hbm, ⟨42, _⟩ => ⟨S128x256, .f32⟩
  | .hbm, ⟨43, _⟩ => ⟨S128x256, .f32⟩
  | _, _ => ⟨S8x4x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Norm.lean ====
/- The layer normalisation of one row, shared by the calls that end with it. -/
module

public import Idealize.ShloMosaic.Lib.Pipeline.ValueKit

@[expose] public section

noncomputable section

open Idealize.ShloMosaic
open scoped BigOperators

namespace Cert.Own

/-- The mean of a row of 1024 numbers. -/
def mean (f : Fin 1024 → EReal) : EReal := Ideal.div (∑ k, f k) (Ideal.ofBits .f32 0x44800000#32)

/-- One entry's distance from the mean, over the root of the variance plus the small constant. -/
def normed (f : Fin 1024 → EReal) (q : Fin 1024) : EReal :=
  (f q - mean f) * Ideal.rsqrt (mean (fun k => (f k - mean f) * (f k - mean f)) + Ideal.ofBits .f32 0x3727C5AC#32)

end Cert.Own

end
-- ==== Proof.LnBwd.lean ====
/- The gradient of a row's layer normalisation, in the kernel's form and in the form the chain rule gives, and that the
   two are equal when every entry is a number. -/
module

public import proofs.«01_k».proof.Proof.Norm

@[expose] public section

noncomputable section

open Idealize.ShloMosaic
open scoped BigOperators

namespace Cert.Own

/-- The extended real is a number: neither infinity. -/
def IsNum (x : EReal) : Prop := ∃ r : ℝ, x = (r : EReal)

theorem IsNum.coe (r : ℝ) : IsNum (r : EReal) := ⟨r, rfl⟩

theorem IsNum.add {x y : EReal} (hx : IsNum x) (hy : IsNum y) : IsNum (x + y) := by
  obtain ⟨a, rfl⟩ := hx; obtain ⟨b, rfl⟩ := hy; exact ⟨a + b, (EReal.coe_add a b).symm⟩

theorem IsNum.mul {x y : EReal} (hx : IsNum x) (hy : IsNum y) : IsNum (x * y) := by
  obtain ⟨a, rfl⟩ := hx; obtain ⟨b, rfl⟩ := hy; exact ⟨a * b, (EReal.coe_mul a b).symm⟩

theorem IsNum.sub {x y : EReal} (hx : IsNum x) (hy : IsNum y) : IsNum (x - y) := by
  obtain ⟨a, rfl⟩ := hx; obtain ⟨b, rfl⟩ := hy; exact ⟨a - b, (EReal.coe_sub a b).symm⟩

theorem IsNum.larger {x y : EReal} (hx : IsNum x) (hy : IsNum y) : IsNum (max x y) := by
  rcases max_choice x y with h | h <;> rw [h] <;> assumption

/-- A sum of numbers, taken among the extended reals, is the sum of the numbers. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsNum.sum {ι : Type*} (s : Finset ι) (f : ι → EReal) (h : ∀ k, IsNum (f k)) : IsNum (∑ k ∈ s, f k) := by
  choose g hg using h
  exact ⟨∑ k ∈ s, g k, by rw [coe_sum]; exact Finset.sum_congr rfl fun k _ => hg k⟩

/-- An extended real whose absolute value is below infinity is a number. -/
theorem IsNum.of_abs_lt {x : EReal} (h : max x (-x) < ⊤) : IsNum x := by
  induction x with
  | bot => simp at h
  | top => simp at h
  | coe r => exact ⟨r, rfl⟩

/-- Division of numbers by a number other than zero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The word for 1024. -/
theorem word_1024 : Ideal.ofBits .f32 0x44800000#32 = ((1024 : ℝ) : EReal) := by
  simp [Ideal.ofBits, Ideal.ieee, -EReal.coe_mul]; norm_num

/-- The word for 2. -/
theorem word_2 : Ideal.ofBits .f32 0x40000000#32 = ((2 : ℝ) : EReal) := by
  simp [Ideal.ofBits, Ideal.ieee, -EReal.coe_mul]; norm_num

/-- The word for minus one half. -/
theorem word_neg_half : Ideal.ofBits .f32 0xBF000000#32 = ((-(1 / 2) : ℝ) : EReal) := by
  simp [Ideal.ofBits, Ideal.ieee, -EReal.coe_mul, -EReal.coe_neg]; norm_num

/-- The residual's scale is a number. -/
theorem word_alpha : IsNum (Ideal.ofBits .f32 0x3FB504F3#32) := by
  simp [Ideal.ofBits, Ideal.ieee, -EReal.coe_mul]; exact ⟨_, rfl⟩

/-- The small constant under the root is a positive number. -/
theorem word_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- The mean of the squared distances from the mean, plus the small constant. -/
def spread (f : Fin 1024 → EReal) : EReal :=
  mean (fun k => (f k - mean f) * (f k - mean f)) + Ideal.ofBits .f32 0x3727C5AC#32

/-- The gradient of the normalised row as the kernel computes it: the reciprocal root, times what is left of `d · g` after
    taking away its mean and its part along the normalised row. -/
def lnKer (f d g : Fin 1024 → EReal) (q : Fin 1024) : EReal :=
  Ideal.rsqrt (spread f) * ((d q * g q - mean (fun k => d k * g k)) - normed f q * mean (fun k => d k * g k * normed f k))

/-- What reaches each squared distance in the chain rule. -/
def lnVar (f d g : Fin 1024 → EReal) : EReal :=
  Ideal.div ((∑ k, (f k - mean f) * (d k * g k)) * (Ideal.ofBits .f32 0xBF000000#32 * Ideal.div (Ideal.rsqrt (spread f)) (spread f)))
    (Ideal.ofBits .f32 0x44800000#32)

/-- The gradient of the normalised row as the chain rule gives it: through the difference from the mean, through the
    variance, and through the mean. -/
def lnRef (f d g : Fin 1024 → EReal) (q : Fin 1024) : EReal :=
  d q * g q * Ideal.rsqrt (spread f) + lnVar f d g * (Ideal.ofBits .f32 0x40000000#32 * (f q - mean f))
    + Ideal.div ((∑ k, -(d k * g k * Ideal.rsqrt (spread f))) + ∑ k, -(lnVar f d g * (Ideal.ofBits .f32 0x40000000#32 * (f k - mean f))))
        (Ideal.ofBits .f32 0x44800000#32)

/-- The mean of numbers. -/
theorem mean_coe (F : Fin 1024 → ℝ) : mean (fun k => (F k : EReal)) = ((∑ k, F k) / 1024 : ℝ) := by
  rw [mean, ← coe_sum, word_1024, div_coe _ _ (by norm_num)]

/-- The same two forms over the real numbers, once the root is known: `r` is the reciprocal of the root of `v`. -/
theorem real_eq (F D : Fin 1024 → ℝ) (r v : ℝ) (hv : v ≠ 0) (hr : r * r * v = 1) (q : Fin 1024) :
    r * ((D q - (∑ k, D k) / 1024) - (F q - (∑ k, F k) / 1024) * r * ((∑ k, D k * ((F k - (∑ k, F k) / 1024) * r)) / 1024))
      = D q * r + (∑ k, (F k - (∑ k, F k) / 1024) * D k) * (-(1 / 2) * (r / v)) / 1024 * (2 * (F q - (∑ k, F k) / 1024))
        + ((∑ k, -(D k * r)) + ∑ k, -((∑ k, (F k - (∑ k, F k) / 1024) * D k) * (-(1 / 2) * (r / v)) / 1024 * (2 * (F k - (∑ k, F k) / 1024)))) / 1024 := by
  have hz : ∑ k, (F k - (∑ k, F k) / 1024) = 0 := by
    rw [Finset.sum_sub_distrib, Finset.sum_const, Finset.card_univ, Fintype.card_fin]; simp; ring
  generalize hm : (∑ k, F k) / 1024 = μ at *
  have h1 : ∑ k, D k * ((F k - μ) * r) = (∑ k, (F k - μ) * D k) * r := by
    rw [Finset.sum_mul]; exact Finset.sum_congr rfl fun k _ => by ring
  have h2 : ∑ k, -(D k * r) = -((∑ k, D k) * r) := by rw [Finset.sum_neg_distrib, Finset.sum_mul]
  have hrv : r / v = r * (r * r) := by field_simp; linear_combination (-r) * hr
  rw [h1, h2, hrv]
  generalize (∑ k, (F k - μ) * D k) = S
  have h3 : ∑ k, -(S * (-(1 / 2) * (r * (r * r))) / 1024 * (2 * (F k - μ))) = 0 := by
    rw [Finset.sum_neg_distrib, ← Finset.mul_sum, ← Finset.mul_sum, hz]; ring
  rw [h3]
  ring

/-- The spread of a row of numbers is a positive number. -/
theorem spread_num (f : Fin 1024 → EReal) (hf : ∀ k, IsNum (f k)) : ∃ v : ℝ, 0 < v ∧ spread f = (v : EReal) := by
  choose F hF using hf
  obtain rfl : f = fun k => (F k : EReal) := funext hF
  obtain ⟨e, he, hw⟩ := word_eps
  refine ⟨(∑ k, (F k - (∑ k, F k) / 1024) * (F k - (∑ k, F k) / 1024)) / 1024 + e,
    add_pos_of_nonneg_of_pos (div_nonneg (Finset.sum_nonneg fun k _ => mul_self_nonneg _) (by norm_num)) he, ?_⟩
  rw [spread, hw, mean_coe]
  simp only [← EReal.coe_sub, ← EReal.coe_mul]
  rw [mean_coe, ← EReal.coe_add]

/-- The reciprocal root of a positive number. -/
theorem rsqrt_coe (v : ℝ) (hp : 0 < v) : Ideal.rsqrt (v : EReal) = ((Real.sqrt v)⁻¹ : ℝ) := by
  show (if v < 0 then ⊥ else if v = 0 then ⊤ else (((Real.sqrt v)⁻¹ : ℝ) : EReal)) = _
  rw [if_neg (not_lt.mpr hp.le), if_neg hp.ne']

/-- A row of numbers stays one when it is normalised. -/
theorem normed_num (f : Fin 1024 → EReal) (hf : ∀ k, IsNum (f k)) (q : Fin 1024) : IsNum (normed f q) := by
  obtain ⟨v, hp, hs⟩ := spread_num f hf
  choose F hF using hf
  obtain rfl : f = fun k => (F k : EReal) := funext hF
  have h : normed (fun k => (F k : EReal)) q = ((F q : EReal) - mean fun k => (F k : EReal)) * Ideal.rsqrt (spread fun k => (F k : EReal)) := rfl
  rw [h, hs, rsqrt_coe v hp, mean_coe, ← EReal.coe_sub, ← EReal.coe_mul]
  exact IsNum.coe _

/-- The two forms agree on rows of numbers. -/
theorem ln_eq (f d g : Fin 1024 → EReal) (hf : ∀ k, IsNum (f k)) (hd : ∀ k, IsNum (d k)) (hg : ∀ k, IsNum (g k))
    (q : Fin 1024) : lnKer f d g q = lnRef f d g q := by
  choose F hF using hf
  choose D hD using hd
  choose G hG using hg
  obtain rfl : f = fun k => (F k : EReal) := funext hF
  obtain rfl : d = fun k => (D k : EReal) := funext hD
  obtain rfl : g = fun k => (G k : EReal) := funext hG
  obtain ⟨v, hp, hs⟩ := spread_num (fun k => (F k : EReal)) fun k => IsNum.coe _
  have hr := rsqrt_coe v hp
  have hrr : (Real.sqrt v)⁻¹ * (Real.sqrt v)⁻¹ * v = 1 := by
    rw [← mul_inv, Real.mul_self_sqrt hp.le, inv_mul_cancel₀ hp.ne']
  have hn : ∀ k, normed (fun k => (F k : EReal)) k = (((F k - (∑ k, F k) / 1024) * (Real.sqrt v)⁻¹ : ℝ) : EReal) := fun k => by
    show ((F k : EReal) - mean fun k => (F k : EReal)) * Ideal.rsqrt (spread fun k => (F k : EReal)) = _
    rw [hs, hr, mean_coe, ← EReal.coe_sub, ← EReal.coe_mul]
  have hvar : lnVar (fun k => (F k : EReal)) (fun k => (D k : EReal)) (fun k => (G k : EReal))
      = (((∑ k, (F k - (∑ k, F k) / 1024) * (D k * G k)) * (-(1 / 2) * ((Real.sqrt v)⁻¹ / v)) / 1024 : ℝ) : EReal) := by
    unfold lnVar
    rw [hs, hr, mean_coe, word_1024, word_neg_half, div_coe _ _ hp.ne']
    simp only [← EReal.coe_sub, ← EReal.coe_mul, ← coe_sum]
    rw [div_coe _ _ (by norm_num)]
  unfold lnKer lnRef
  rw [hvar]
  simp only [hn, hs, hr, mean_coe, word_1024, word_2]
  simp only [← EReal.coe_sub, ← EReal.coe_mul, ← EReal.coe_neg, ← coe_sum, mean_coe, ← EReal.coe_add]
  rw [div_coe _ _ (by norm_num)]
  simp only [← EReal.coe_sub, ← EReal.coe_mul, ← EReal.coe_add]
  exact congrArg _ (real_eq F (fun k => D k * G k) _ v hp.ne' hrr q)

end Cert.Own

end
-- ==== Proof.PoolSum.lean ====
/- Sums over a window of rows, three ways: by running sums, by the difference of two running sums, and by doubling with
   rotations of the rows. -/
module

public import Idealize.ShloMosaic.Lib.Pipeline.ValueKit
public import proofs.«01_k».proof.Proof.LnBwd

@[expose] public section

noncomputable section

namespace Cert.Own

open Idealize.ShloMosaic Idealize.SL.Sem

/-- A family over the first `N` rows, zero after them. -/
def ext {N : ℕ} (f : Fin N → EReal) (n : ℕ) : EReal := if h : n < N then f ⟨n, h⟩ else 0

theorem ext_num {N : ℕ} {f : Fin N → EReal} (h : ∀ i, IsNum (f i)) (n : ℕ) : IsNum (ext f n) := by
  unfold ext; split
  · exact h _
  · exact ⟨0, rfl⟩

/-- The rows `t, t - 1, …` back over a window, those before the first left out. -/
def back (w : ℕ) (F : ℕ → EReal) (t : ℕ) : EReal := ∑ j ∈ Finset.range w, if j ≤ t then F (t - j) else 0

/-- The rows `t, t + 1, …` of a window. -/
def ahead (w : ℕ) (F : ℕ → EReal) (t : ℕ) : EReal := ∑ j ∈ Finset.range w, F (t + j)

/-- The difference of two running sums is the sum over the window between them. -/
theorem back_eq (w t : ℕ) (F : ℕ → EReal) (hF : ∀ n, IsNum (F n)) :
    (∑ s ∈ Finset.range (t + 1), F s) - (∑ s ∈ Finset.range (t + 1 - w), F s) = back w F t := by
  choose r hr using hF
  have hreal : ∀ w, (∑ s ∈ Finset.range (t + 1), r s) - (∑ s ∈ Finset.range (t + 1 - w), r s)
      = ∑ j ∈ Finset.range w, if j ≤ t then r (t - j) else 0 := by
    intro w
    induction w with
    | zero => simp
    | succ w ih =>
      rw [Finset.sum_range_succ (fun j => if j ≤ t then r (t - j) else 0) w, ← ih]
      by_cases h : w ≤ t
      · rw [if_pos h, show t + 1 - w = (t - w) + 1 by omega, show t + 1 - (w + 1) = t - w by omega, Finset.sum_range_succ r (t - w)]; ring
      · rw [if_neg h, show t + 1 - w = 0 by omega, show t + 1 - (w + 1) = 0 by omega]; simp
  unfold back
  simp only [hr]
  have e : ∀ j, (if j ≤ t then ((r (t - j) : ℝ) : EReal) else 0) = ((if j ≤ t then r (t - j) else 0 : ℝ) : EReal) := by
    intro j; split <;> rfl
  simp only [e, ← coe_sum, ← EReal.coe_sub, hreal]

/-- The running sum from the last row of a family less the same family a window ahead is the sum over the window. -/
theorem ahead_eq (N w t : ℕ) (E : ℕ → EReal) (hE : ∀ n, IsNum (E n)) (hz : ∀ n, N ≤ n → E n = 0) :
    ∑ k ∈ Finset.range N, (-E (t + k + w) + E (t + k)) = ahead w E t := by
  choose r hr using hE
  have hz' : ∀ n, N ≤ n → r n = 0 := fun n hn => by have := hz n hn; rw [hr] at this; exact_mod_cast this
  have hreal : ∀ w, ∑ k ∈ Finset.range N, (-r (t + k + w) + r (t + k)) = ∑ j ∈ Finset.range w, r (t + j) := by
    intro w
    induction w with
    | zero => simp
    | succ w ih =>
      rw [Finset.sum_range_succ, ← ih]
      have tel := Finset.sum_range_sub' (fun k => r (t + k + w)) N
      rw [hz' (t + N + w) (by omega), sub_zero, add_zero] at tel
      rw [← tel, ← Finset.sum_add_distrib]
      refine Finset.sum_congr rfl fun k _ => ?_
      rw [show t + (k + 1) + w = t + k + (w + 1) by omega]; ring
  unfold ahead
  simp only [hr, ← EReal.coe_neg, ← EReal.coe_add, ← coe_sum, hreal]

/-- Doubling: a window of `2k` rows back is a window of `k` and the window of `k` before it. -/
theorem back_double (k : ℕ) (F : ℕ → EReal) (n : ℕ) :
    (∑ j ∈ Finset.range k, F (n - j)) + (∑ j ∈ Finset.range k, F (n - k - j)) = ∑ j ∈ Finset.range (k + k), F (n - j) := by
  rw [Finset.sum_range_add]
  simp only [Nat.sub_sub]

/-- Doubling: likewise ahead. -/
theorem ahead_double (k : ℕ) (F : ℕ → EReal) (n : ℕ) : ahead k F n + ahead k F (n + k) = ahead (k + k) F n := by
  unfold ahead
  rw [Finset.sum_range_add]
  simp only [Nat.add_assoc]

/-- A left fold by addition is the sum. -/
theorem fold_sum {ι : Type*} (g : ι → EReal) : ∀ (l : List ι) (v : EReal), l.foldl (fun r n => r + g n) v = v + (l.map g).sum
  | [], v => by simp
  | a :: l, v => by rw [List.foldl_cons, fold_sum g l, List.map_cons, List.sum_cons, add_assoc]

/-- A host's window sum at an index: the sum over the window's positions, those of the padding giving the initial value. -/
theorem window_fold {s t : Shape} (window strides lo hi : Fin s.rank → ℕ) (x : s.Idx → EReal) (v : EReal)
    (h : s.ReduceWindows window strides lo hi t) (j : t.Idx) :
    Ideal.hostReduceWindowAdd window strides lo hi h x v j
      = v + ∑ i : (⟨s.rank, window⟩ : Shape).Idx,
          if hin : ∀ a, lo a ≤ (j (a.cast h.1.symm)).val * strides a + (i a).val
              ∧ (j (a.cast h.1.symm)).val * strides a + (i a).val - lo a < s.size a
          then x (fun a => ⟨(j (a.cast h.1.symm)).val * strides a + (i a).val - lo a, (hin a).2⟩) else v := by
  unfold Ideal.hostReduceWindowAdd Host.reduceWindow
  dsimp only
  rw [fold_sum, ← Fin.sum_univ_def]
  refine congrArg (v + ·) ?_
  refine (Finset.sum_congr rfl fun n _ => ?_).trans (Equiv.sum_comp (⟨s.rank, window⟩ : Shape).rowMajor.symm (fun i =>
    if hin : ∀ a, lo a ≤ (j (a.cast h.1.symm)).val * strides a + (i a).val
        ∧ (j (a.cast h.1.symm)).val * strides a + (i a).val - lo a < s.size a
    then x (fun a => ⟨(j (a.cast h.1.symm)).val * strides a + (i a).val - lo a, (hin a).2⟩) else v))
  split <;> rfl

/-- A host's window sum along the middle axis, as a sum over the window. -/
theorem window_sum {N C : ℕ} (lo hi : Fin 3 → ℕ) (x : FVec Ideal ⟨3, ![1, N, C]⟩ .f32) (v : FVec Ideal ⟨0, ![]⟩ .f32) (hv : ∀ i, v i = 0)
    (h : (⟨3, ![1, N, C]⟩ : Shape).ReduceWindows ![1, N, 1] ![1, 1, 1] lo hi ⟨3, ![1, N, C]⟩)
    (hu : 0 < (⟨0, ![]⟩ : Shape).numel) (t : Fin N) (q : Fin C) (h0 : lo 0 = 0) (h2 : lo 2 = 0) :
    Host.reduceWindowAdd ![1, N, 1] ![1, 1, 1] lo hi x v h hu (ix3 0 t q)
      = ∑ k : Fin N, if lo 1 ≤ t.val + k.val then ext (fun s : Fin N => x (ix3 0 s q)) (t.val + k.val - lo 1) else 0 := by
  refine (window_fold _ _ lo hi x (v (Shape.Idx.first hu)) h (ix3 0 t q)).trans ?_
  rw [hv, zero_add, sum_idx3 (n0 := 1) (n1 := N) (n2 := 1)]
  simp only [Finset.univ_unique, Finset.sum_singleton]
  refine Finset.sum_congr rfl fun k _ => ?_
  have p0 : ∀ b : Fin 1, b.val = 0 := fun b => by omega
  by_cases hk : lo 1 ≤ t.val + k.val ∧ t.val + k.val - lo 1 < N
  · rw [if_pos hk.1, ext, dif_pos hk.2, dif_pos]
    · refine congrArg x (funext fun a => Fin.ext ?_)
      fin_cases a
      · show (0 : ℕ) * 1 + 0 - lo 0 = 0; omega
      · show t.val * 1 + k.val - lo 1 = _; rw [Nat.mul_one]; rfl
      · show q.val * 1 + 0 - lo 2 = q.val; omega
    · intro a
      fin_cases a
      · show lo 0 ≤ (0 : ℕ) * 1 + 0 ∧ (0 : ℕ) * 1 + 0 - lo 0 < 1; omega
      · show lo 1 ≤ t.val * 1 + k.val ∧ t.val * 1 + k.val - lo 1 < N; rw [Nat.mul_one]; exact hk
      · show lo 2 ≤ q.val * 1 + 0 ∧ q.val * 1 + 0 - lo 2 < C; have := q.isLt; omega
  · rw [dif_neg]
    · by_cases h1 : lo 1 ≤ t.val + k.val
      · rw [if_pos h1, ext, dif_neg fun h2 => hk ⟨h1, h2⟩]
      · rw [if_neg h1]
    · intro hin
      have := hin 1
      refine hk ?_
      have e : lo 1 ≤ t.val * 1 + k.val ∧ t.val * 1 + k.val - lo 1 < N := this
      rwa [Nat.mul_one] at e

/-- A running sum over the rows, as a host's window sum padded before the first row. -/
theorem running {P N C : ℕ} (hP : P = N + 1) (x : FVec Ideal ⟨3, ![1, P, C]⟩ .f32) (v : FVec Ideal ⟨0, ![]⟩ .f32) (hv : ∀ i, v i = 0)
    (h : (⟨3, ![1, P, C]⟩ : Shape).ReduceWindows ![1, P, 1] ![1, 1, 1] ![0, N, 0] ![0, 0, 0] ⟨3, ![1, P, C]⟩)
    (hu : 0 < (⟨0, ![]⟩ : Shape).numel) (t : Fin P) (q : Fin C) :
    Host.reduceWindowAdd ![1, P, 1] ![1, 1, 1] ![0, N, 0] ![0, 0, 0] x v h hu (ix3 0 t q)
      = ∑ s ∈ Finset.range (t.val + 1), ext (fun s : Fin P => x (ix3 0 s q)) s := by
  subst hP
  refine (window_sum ![0, N, 0] ![0, 0, 0] x v hv h hu t q rfl rfl).trans ?_
  show (∑ k : Fin (N + 1), if N ≤ t.val + k.val then ext (fun s : Fin (N + 1) => x (ix3 0 s q)) (t.val + k.val - N) else 0) = _
  generalize ext (fun s : Fin (N + 1) => x (ix3 0 s q)) = G
  have ht := t.isLt
  rw [Fin.sum_univ_eq_sum_range (fun k => if N ≤ t.val + k then G (t.val + k - N) else 0) (N + 1)]
  generalize t.val = a at ht ⊢
  have e := Finset.sum_range_add (fun k => if N ≤ a + k then G (a + k - N) else 0) (N - a) (a + 1)
  rw [show N - a + (a + 1) = N + 1 by omega] at e
  rw [e, Finset.sum_eq_zero, zero_add]
  · refine Finset.sum_congr rfl fun k hk => ?_
    have := Finset.mem_range.1 hk
    rw [if_pos (by omega), show a + (N - a + k) - N = k by omega]
  · intro k hk
    have := Finset.mem_range.1 hk
    rw [if_neg (by omega)]

/-- The running sum from the last row, as a host's window sum padded after the last row. -/
theorem running_back {P N C : ℕ} (hP : P = N + 1) (x : FVec Ideal ⟨3, ![1, P, C]⟩ .f32) (v : FVec Ideal ⟨0, ![]⟩ .f32) (hv : ∀ i, v i = 0)
    (h : (⟨3, ![1, P, C]⟩ : Shape).ReduceWindows ![1, P, 1] ![1, 1, 1] ![0, 0, 0] ![0, N, 0] ⟨3, ![1, P, C]⟩)
    (hu : 0 < (⟨0, ![]⟩ : Shape).numel) (t : Fin P) (q : Fin C) :
    Host.reduceWindowAdd ![1, P, 1] ![1, 1, 1] ![0, 0, 0] ![0, N, 0] x v h hu (ix3 0 t q)
      = ∑ k ∈ Finset.range P, ext (fun s : Fin P => x (ix3 0 s q)) (t.val + k) := by
  subst hP
  refine (window_sum ![0, 0, 0] ![0, N, 0] x v hv h hu t q rfl rfl).trans ?_
  show (∑ k : Fin (N + 1), if 0 ≤ t.val + k.val then ext (fun s : Fin (N + 1) => x (ix3 0 s q)) (t.val + k.val - 0) else 0) = _
  rw [Fin.sum_univ_eq_sum_range (fun k => if 0 ≤ t.val + k then ext (fun s : Fin (N + 1) => x (ix3 0 s q)) (t.val + k - 0) else 0) (N + 1)]
  simp

/-- A rotation of the rows by `k` puts row `n - k` at row `n`. -/
theorem roll_row {R C : ℕ} (v : FVec Ideal ⟨2, ![R, C]⟩ .f32) (b : BitVec 32) (k : ℕ) (hb : b.toNat = k) (hk : k < R)
    (h : (⟨2, ![R, C]⟩ : Shape).Rotates 0 none) (n : Fin R) (q : Fin C) (hn : k ≤ n.val) :
    dynamicRotate 0 b none v h (ix2 n q) = v (ix2 ⟨n.val - k, by omega⟩ q) := by
  unfold dynamicRotate
  refine congrArg v ?_
  funext a
  fin_cases a
  · refine Fin.ext ?_
    show (n.val + R - (b.toNat + 0) % R) % R = n.val - k
    rw [hb, Nat.add_zero, Nat.mod_eq_of_lt hk, show n.val + R - k = (n.val - k) + R by omega, Nat.add_mod_right,
      Nat.mod_eq_of_lt (by omega)]
  · rfl

/-- A rotation by all rows but `k` puts row `n + k` at row `n`. -/
theorem roll_row_ahead {R C : ℕ} (v : FVec Ideal ⟨2, ![R, C]⟩ .f32) (b : BitVec 32) (k : ℕ) (hb : b.toNat + k = R) (hk : 0 < k)
    (h : (⟨2, ![R, C]⟩ : Shape).Rotates 0 none) (n : Fin R) (q : Fin C) (hn : n.val + k < R) :
    dynamicRotate 0 b none v h (ix2 n q) = v (ix2 ⟨n.val + k, hn⟩ q) := by
  unfold dynamicRotate
  refine congrArg v ?_
  funext a
  fin_cases a
  · refine Fin.ext ?_
    show (n.val + R - (b.toNat + 0) % R) % R = n.val + k
    rw [Nat.add_zero, Nat.mod_eq_of_lt (by omega : b.toNat < R), show n.val + R - b.toNat = n.val + k by omega, Nat.mod_eq_of_lt hn]
  · rfl

/-- `v` holds at each row the sum of `F` over the `k` rows back, where there are so many. -/
def IsBack {R C : ℕ} (k : ℕ) (v : FVec Ideal ⟨2, ![R, C]⟩ .f32) (q : Fin C) (F : ℕ → EReal) : Prop :=
  ∀ n : Fin R, k ≤ n.val + 1 → v (ix2 n q) = ∑ j ∈ Finset.range k, F (n.val - j)

/-- One step of the doubling. -/
theorem IsBack.step {R C k : ℕ} {v : FVec Ideal ⟨2, ![R, C]⟩ .f32} {q : Fin C} {F : ℕ → EReal} (hv : IsBack k v q F) (k2 : ℕ)
    (h2 : k2 = k + k) (b : BitVec 32) (hb : b.toNat = k) (hk : k < R) (h : (⟨2, ![R, C]⟩ : Shape).Rotates 0 none) :
    IsBack k2 (addf v (dynamicRotate 0 b none v h)) q F := by
  subst h2
  intro n hn
  have hkn : k ≤ n.val ∨ k = 0 := by omega
  have hle : k ≤ n.val := by omega
  show v (ix2 n q) + dynamicRotate 0 b none v h (ix2 n q) = _
  rw [roll_row v b k hb hk h n q hle, hv n (by omega), hv ⟨n.val - k, by omega⟩ (by show k ≤ n.val - k + 1; omega)]
  exact back_double k F n.val

/-- `v` holds at each row the sum of `F` over the `k` rows ahead, where there are so many. -/
def IsAhead {R C : ℕ} (k : ℕ) (v : FVec Ideal ⟨2, ![R, C]⟩ .f32) (q : Fin C) (F : ℕ → EReal) : Prop :=
  ∀ n : Fin R, n.val + k ≤ R → v (ix2 n q) = ahead k F n.val

/-- One step of the doubling ahead. -/
theorem IsAhead.step {R C k : ℕ} {v : FVec Ideal ⟨2, ![R, C]⟩ .f32} {q : Fin C} {F : ℕ → EReal} (hv : IsAhead k v q F) (k2 : ℕ)
    (h2 : k2 = k + k) (b : BitVec 32) (hb : b.toNat + k = R) (hk : 0 < k) (h : (⟨2, ![R, C]⟩ : Shape).Rotates 0 none) :
    IsAhead k2 (addf v (dynamicRotate 0 b none v h)) q F := by
  subst h2
  intro n hn
  show v (ix2 n q) + dynamicRotate 0 b none v h (ix2 n q) = _
  rw [roll_row_ahead v b k hb hk h n q (by omega), hv n (by omega), hv ⟨n.val + k, by omega⟩ (by show n.val + k + k ≤ R; omega)]
  exact ahead_double k F n.val

end Cert.Own

end
-- ==== Proof.PoolRef.lean ====
/- The window sums of the pooling mixer as the reference writes them: differences of running sums, shifted by slices,
   paddings and concatenations with zeros. -/
module

public import Idealize.ShloMosaic.Lib.Pipeline.ValueKit
public import Idealize.ShloMosaic.Lib.KernelVsHost
public import proofs.«01_k».proof.Proof.PoolSum

@[expose] public section

noncomputable section

namespace Cert.Own

open Idealize.ShloMosaic Idealize.SL.Sem

section Rows

variable {C : ℕ}

/-- The stack of `n` rows of `C` columns. -/
abbrev Stack (n C : ℕ) : Shape := ⟨3, ![1, n, C]⟩

/-- A slice of rows, read at a row. -/
theorem slice_row {n p k : ℕ} (x : FVec Ideal (Stack n C) .f32) (h : (Stack n C).Slices ![0, k, 0] (Stack p C)) (t : Fin p) (q : Fin C)
    (s : Fin n) (hs : s.val = k + t.val) : extractStridedSlice (Stack p C) ![0, k, 0] x h (ix3 0 t q) = x (ix3 0 s q) := by
  refine extractStridedSlice_apply _ x h _ _ fun a => ?_
  fin_cases a
  · rfl
  · exact hs
  · exact (Nat.zero_add _).symm

/-- Rows laid before others, read at one of them. -/
theorem cat_first {a b n : ℕ} (u : FVec Ideal (Stack a C) .f32) (v : FVec Ideal (Stack b C) .f32)
    (h : Shape.Concatenates [Stack a C, Stack b C] (Stack n C) 1) (t : Fin n) (q : Fin C) (s : Fin a) (hs : s.val = t.val) :
    concatenate (Stack n C) 1 [⟨Stack a C, u⟩, ⟨Stack b C, v⟩] h (ix3 0 t q) = u (ix3 0 s q) := by
  refine concatenate_pair_apply_left 1 u v h _ rfl _ fun c => ?_
  fin_cases c
  · rfl
  · exact hs
  · rfl

/-- Rows laid before others, read at one of the others. -/
theorem cat_second {a b n : ℕ} (u : FVec Ideal (Stack a C) .f32) (v : FVec Ideal (Stack b C) .f32)
    (h : Shape.Concatenates [Stack a C, Stack b C] (Stack n C) 1) (t : Fin n) (q : Fin C) (s : Fin b) (hs : s.val + a = t.val) :
    concatenate (Stack n C) 1 [⟨Stack a C, u⟩, ⟨Stack b C, v⟩] h (ix3 0 t q) = v (ix3 0 s q) := by
  refine concatenate_pair_apply_right 1 u v h _ rfl rfl _ (fun c hc => ?_) hs
  fin_cases c
  · rfl
  · exact absurd rfl hc
  · rfl

/-- Rows padded after the last, read at one of them. -/
theorem pad_first {a n k : ℕ} (u : FVec Ideal (Stack a C) .f32) (v : FVec Ideal ⟨0, ![]⟩ .f32)
    (h : (Stack a C).Pads ![0, 0, 0] ![0, k, 0] ![0, 0, 0] (Stack n C)) (hu) (t : Fin n) (q : Fin C) (s : Fin a) (hs : s.val = t.val) :
    pad (Stack n C) ![0, 0, 0] ![0, k, 0] ![0, 0, 0] u v h hu (ix3 0 t q) = u (ix3 0 s q) := by
  refine pad_apply_of_inside _ _ _ u v h hu _ _ fun c => ?_
  fin_cases c
  · rfl
  · show t.val = 0 + s.val * (0 + 1); omega
  · show q.val = 0 + q.val * (0 + 1); omega

/-- Rows padded after the last, read past them. -/
theorem pad_past {a n k : ℕ} (u : FVec Ideal (Stack a C) .f32) (v : FVec Ideal ⟨0, ![]⟩ .f32) (hv : ∀ i, v i = 0)
    (h : (Stack a C).Pads ![0, 0, 0] ![0, k, 0] ![0, 0, 0] (Stack n C)) (hu) (t : Fin n) (q : Fin C) (ht : a ≤ t.val) :
    pad (Stack n C) ![0, 0, 0] ![0, k, 0] ![0, 0, 0] u v h hu (ix3 0 t q) = 0 := by
  refine (pad_apply_of_not_inside _ _ _ u v h hu _ 1 fun hn => ?_).trans (hv _)
  have h2 : (t.val - 0) / (0 + 1) < a := hn.2.2
  rw [Nat.div_one] at h2; omega

/-- Rows padded before the first, read at one of them. -/
theorem pad_second {a n k : ℕ} (u : FVec Ideal (Stack a C) .f32) (v : FVec Ideal ⟨0, ![]⟩ .f32)
    (h : (Stack a C).Pads ![0, k, 0] ![0, 0, 0] ![0, 0, 0] (Stack n C)) (hu) (t : Fin n) (q : Fin C) (s : Fin a) (hs : k + s.val = t.val) :
    pad (Stack n C) ![0, k, 0] ![0, 0, 0] ![0, 0, 0] u v h hu (ix3 0 t q) = u (ix3 0 s q) := by
  refine pad_apply_of_inside _ _ _ u v h hu _ _ fun c => ?_
  fin_cases c
  · rfl
  · show t.val = k + s.val * (0 + 1); omega
  · show q.val = 0 + q.val * (0 + 1); omega

/-- A running sum with a zero row before it, read after its first row, less the same read `a + 1` rows earlier, with
    zeros where there is no such row: the sum over the window. -/
theorem window_ref {a b w : ℕ} (hab : a + b = 8192) (hw : w = a + 1) (hb : b ≤ 8192) (x cs : FVec Ideal (Stack 8192 C) .f32)
    (hx : ∀ i, IsNum (x i))
    (hcs : ∀ t q, cs (ix3 0 t q) = ∑ s ∈ Finset.range (t.val + 1), ext (fun s : Fin 8192 => x (ix3 0 s q)) s)
    (z : FVec Ideal (Stack 1 C) .f32) (hz : ∀ i, z i = 0) (z' : FVec Ideal (Stack a C) .f32) (hz' : ∀ i, z' i = 0)
    (h1 h2 h3 h4) (t : Fin 8192) (q : Fin C) :
    subf
      (extractStridedSlice (Stack 8192 C) ![0, 1, 0]
        (concatenate (Stack 8193 C) 1 [⟨Stack 1 C, z⟩, ⟨Stack 8192 C, cs⟩] h1) h2)
      (concatenate (Stack 8192 C) 1 [⟨Stack a C, z'⟩, ⟨Stack b C, extractStridedSlice (Stack b C) ![0, 0, 0]
        (concatenate (Stack 8193 C) 1 [⟨Stack 1 C, z⟩, ⟨Stack 8192 C, cs⟩] h1) h3⟩] h4) (ix3 0 t q)
      = back w (ext fun s : Fin 8192 => x (ix3 0 s q)) t := by
  subst hw
  have ht := t.isLt
  rw [← back_eq _ _ _ (ext_num fun s => hx _)]
  show extractStridedSlice (Stack 8192 C) ![0, 1, 0]
        (concatenate (Stack 8193 C) 1 [⟨Stack 1 C, z⟩, ⟨Stack 8192 C, cs⟩] h1) h2 (ix3 0 t q) - _ = _
  rw [slice_row _ h2 t q ⟨1 + t.val, by omega⟩ rfl, cat_second z cs h1 ⟨1 + t.val, by omega⟩ q t (Nat.add_comm _ _), hcs]
  refine congrArg _ ?_
  by_cases hl : t.val < a
  · rw [cat_first _ _ h4 t q ⟨t.val, hl⟩ rfl, hz', show t.val + 1 - (a + 1) = 0 by omega]; rfl
  · rw [cat_second _ _ h4 t q ⟨t.val - a, by omega⟩ (by show t.val - a + a = t.val; omega),
      slice_row _ h3 _ q ⟨t.val - a, by omega⟩ (by show t.val - a = 0 + (t.val - a); omega)]
    by_cases he : t.val = a
    · rw [cat_first z cs h1 _ q ⟨t.val - a, by omega⟩ rfl, hz, show t.val + 1 - (a + 1) = 0 by omega]; rfl
    · rw [cat_second z cs h1 _ q ⟨t.val - a - 1, by omega⟩ (by show t.val - a - 1 + 1 = t.val - a; omega), hcs,
        show t.val + 1 - (a + 1) = t.val - a - 1 + 1 by omega]

/-- The transpose of those shifts: a row less the row a window ahead, where there is one. -/
theorem shift_ref {a b w : ℕ} (hab : a + b = 8192) (hw : w = a + 1) (e : FVec Ideal (Stack 8192 C) .f32)
    (v v' : FVec Ideal ⟨0, ![]⟩ .f32) (hv : ∀ i, v i = 0) (h1 h2 h3 h4 u2 u3) (t : Fin 8192) (q : Fin C) :
    extractStridedSlice (Stack 8192 C) ![0, 1, 0] (addf
        (pad (Stack 8193 C) ![0, 0, 0] ![0, w, 0] ![0, 0, 0] (extractStridedSlice (Stack b C) ![0, a, 0] (Host.negf e) h1) v h2 u2)
        (pad (Stack 8193 C) ![0, 1, 0] ![0, 0, 0] ![0, 0, 0] e v' h3 u3)) h4 (ix3 0 t q)
      = -ext (fun r : Fin 8192 => e (ix3 0 r q)) (t.val + w) + e (ix3 0 t q) := by
  subst hw
  have ht := t.isLt
  rw [slice_row _ h4 _ q ⟨1 + t.val, by omega⟩ rfl]
  refine congr (congrArg HAdd.hAdd ?_) ?_
  · by_cases hl : 1 + t.val < b
    · rw [pad_first _ v h2 u2 _ q ⟨1 + t.val, hl⟩ rfl, slice_row _ h1 _ q ⟨a + (1 + t.val), by omega⟩ rfl, ext, dif_pos (by omega)]
      show -(e _) = -(e _)
      refine congrArg (fun r => -(e (ix3 0 r q))) (Fin.ext ?_)
      show a + (1 + t.val) = t.val + (a + 1); omega
    · rw [pad_past _ v hv h2 u2 _ q (by show b ≤ 1 + t.val; omega), ext, dif_neg (by omega), neg_zero]
  · exact pad_second _ v' h3 u3 _ q t rfl

/-- Those differences summed from the last row: the sum over the window ahead. -/
theorem ahead_ref (w : ℕ) (q : Fin C) (p : FVec Ideal (Stack 8192 C) .f32) (e : Fin 8192 → EReal) (he : ∀ r, IsNum (e r))
    (hp : ∀ r, p (ix3 0 r q) = -ext e (r.val + w) + e r) (t : Fin 8192) :
    ∑ k ∈ Finset.range 8192, ext (fun r : Fin 8192 => p (ix3 0 r q)) (t.val + k) = ahead w (ext e) t := by
  rw [← ahead_eq 8192 w t.val _ (ext_num he) fun n hn => by unfold ext; rw [dif_neg (by omega)]]
  refine Finset.sum_congr rfl fun k _ => ?_
  generalize t.val + k = r
  unfold ext
  by_cases hr : r < 8192
  · rw [dif_pos hr, dif_pos hr]; exact hp ⟨r, hr⟩
  · rw [dif_neg hr, dif_neg (by omega), dif_neg hr, neg_zero, zero_add]

end Rows

end Cert.Own

end
-- ==== Proof.PoolStages.lean ====
/- The gradient of the pooling mixer as the reference computes it, group of columns by group. -/
module

public import proofs.«01_k».proof.Proof.Gen.ReferenceIdeal.Read
public import Idealize.ShloMosaic.Lib.Pipeline.ValueKit
public import Idealize.ShloMosaic.Lib.Pipeline.ReadBack
public import proofs.«01_k».proof.Proof.PoolRef

@[expose] public section

set_option maxRecDepth 16384

noncomputable section

namespace Cert.ReferenceIdeal.Own

open Idealize.ShloMosaic Idealize.SL.Sem Cert.Own
open Cert.ReferenceIdeal Cert.ReferenceIdeal.Read
open scoped BigOperators

/-- Column `q` of group `g`. -/
def col (g : Fin 4) (q : Fin 256) : Fin 1024 := ⟨256 * g.val + q.val, by omega⟩

/-- The windows of the four groups. -/
def win : Fin 4 → ℕ := ![2, 4, 8, 16]

/-- The same as the kernel's constants. -/
def lit : Fin 4 → EReal :=
  ![Ideal.ofBits .f32 0x40000000#32, Ideal.ofBits .f32 0x40800000#32, Ideal.ofBits .f32 0x41000000#32, Ideal.ofBits .f32 0x41800000#32]

/-- How many rows a window has at row `t`. -/
def cnt (g : Fin 4) (t : ℕ) : EReal := min (((t + 1 : ℕ) : ℝ) : EReal) (lit g)

variable (x : FVec Ideal S8192x1024 .f32) (w : FVec Ideal S4x256x256 .f32) (s : FVec Ideal S1x1024 .f32) (z : FVec Ideal S8192x1024 .f32)

/-- The window's mean at a row less the row itself. -/
def diff (g : Fin 4) (t : Fin 8192) (q : Fin 256) : EReal :=
  Ideal.div (back (win g) (ext fun r : Fin 8192 => x (ix2 r (col g q))) t) (cnt g t) - x (ix2 t (col g q))

/-- The gradient before the gain. -/
def dpre (g : Fin 4) (t : Fin 8192) (q : Fin 256) : EReal := z (ix2 t (col g q)) * s (ix2 0 (col g q))

/-- The gradient at the difference. -/
def ddiff (g : Fin 4) (t : Fin 8192) (q : Fin 256) : EReal := ∑ k, dpre s z g t k * w (ix3 g q k)

/-- The gradient at the window's sum. -/
def dsum (g : Fin 4) (t : Fin 8192) (q : Fin 256) : EReal := Ideal.div (ddiff w s z g t q) (cnt g t)

/-- A row's number as a count of rows. -/
theorem row_num (k : ℕ) (hk : k < 16384) : (FloatOps.sitofp FTy.f32 (BitVec.ofNat 32 k) : Ideal .f32) = ((k : ℝ) : EReal) := by
  have h : (BitVec.ofNat 32 k).toInt = (k : ℤ) := by
    rw [BitVec.toInt_eq_toNat_of_lt] <;> rw [BitVec.toNat_ofNat, Nat.mod_eq_of_lt] <;> omega
  show (((BitVec.ofNat 32 k).toInt : ℝ) : EReal) = _
  rw [h, Int.cast_natCast]

/-- One more than the number of a row. -/
theorem succ_num (t : Fin 8192) : (FloatOps.sitofp FTy.f32 (BitVec.ofNat 32 t.val) : Ideal .f32) + 1 = (((t.val + 1 : ℕ) : ℝ) : EReal) := by
  rw [row_num _ (by omega), Nat.cast_add, Nat.cast_one, EReal.coe_add, EReal.coe_one]

/-- From a window's sum and its number of rows to the difference. -/
theorem diff_of (g : Fin 4) (m c y : FVec Ideal S1x8192x256 .f32) (t : Fin 8192) (q : Fin 256)
    (hy : ∀ r, y (ix3 0 r q) = x (ix2 r (col g q))) (hm : m (ix3 0 t q) = back (win g) (ext fun r : Fin 8192 => y (ix3 0 r q)) t)
    (hc : c (ix3 0 t q) = cnt g t) : subf (Host.divf m c) y (ix3 0 t q) = diff x g t q := by
  show Ideal.div (m (ix3 0 t q)) (c (ix3 0 t q)) - y (ix3 0 t q) = _
  rw [hm, hc, hy]
  simp only [hy]
  rfl

/-- The numbers of rows in a window of two. -/
theorem count0 (t : Fin 8192) : val_main_v20 (F := Ideal) (ix3 0 t 0) = cnt 0 t := by
  pointwise [val_main_v20, val_main_v18, val_main_v19, val_main_v17, val_main_v6, val_main_v5, val_main_cst_4, val_main_cst_5]
  rw [succ_num]; rfl

/-- The numbers of rows in a window of four. -/
theorem count1 (t : Fin 8192) : val_main_v41 (F := Ideal) (ix3 0 t 0) = cnt 1 t := by
  pointwise [val_main_v41, val_main_v39, val_main_v40, val_main_v38, val_main_v6, val_main_v5, val_main_cst_10, val_main_cst_11]
  rw [succ_num]; rfl

/-- The numbers of rows in a window of eight. -/
theorem count2 (t : Fin 8192) : val_main_v62 (F := Ideal) (ix3 0 t 0) = cnt 2 t := by
  pointwise [val_main_v62, val_main_v60, val_main_v61, val_main_v59, val_main_v6, val_main_v5, val_main_cst_16, val_main_cst_17]
  rw [succ_num]; rfl

/-- The numbers of rows in a window of sixteen. -/
theorem count3 (t : Fin 8192) : val_main_v83 (F := Ideal) (ix3 0 t 0) = cnt 3 t := by
  pointwise [val_main_v83, val_main_v81, val_main_v82, val_main_v80, val_main_v6, val_main_v5, val_main_cst_22, val_main_cst_23]
  rw [succ_num]; rfl

/-- The columns of the group whose window is two. -/
theorem cols0 (t : Fin 8192) (q : Fin 256) : val_main_v7 (F := Ideal) x (ix3 0 t q) = x (ix2 t (col 0 q)) := by
  pointwise [val_main_v7, val_main_v3, col]
  blk_ext

/-- The columns of the group whose window is four. -/
theorem cols1 (t : Fin 8192) (q : Fin 256) : val_main_v28 (F := Ideal) x (ix3 0 t q) = x (ix2 t (col 1 q)) := by
  pointwise [val_main_v28, val_main_v3, col]
  blk_ext

/-- The columns of the group whose window is eight. -/
theorem cols2 (t : Fin 8192) (q : Fin 256) : val_main_v49 (F := Ideal) x (ix3 0 t q) = x (ix2 t (col 2 q)) := by
  pointwise [val_main_v49, val_main_v3, col]
  blk_ext

/-- The columns of the group whose window is sixteen. -/
theorem cols3 (t : Fin 8192) (q : Fin 256) : val_main_v70 (F := Ideal) x (ix3 0 t q) = x (ix2 t (col 3 q)) := by
  pointwise [val_main_v70, val_main_v3, col]
  blk_ext

/-- The running sums of the group whose window is two. -/
theorem sums0 (t : Fin 8192) (q : Fin 256) : val_main_v8 (F := Ideal) x (ix3 0 t q)
    = ∑ r ∈ Finset.range (t.val + 1), ext (fun r : Fin 8192 => val_main_v7 (F := Ideal) x (ix3 0 r q)) r := by
  unfold val_main_v8
  exact running (P := 8192) (N := 8191) (C := 256) rfl (val_main_v7 (F := Ideal) x) (val_main_call0_call0_v0 (F := Ideal)) (fun i => Ideal.ofBits_zero_f32) _ _ t q

/-- The running sums of the group whose window is four. -/
theorem sums1 (t : Fin 8192) (q : Fin 256) : val_main_v29 (F := Ideal) x (ix3 0 t q)
    = ∑ r ∈ Finset.range (t.val + 1), ext (fun r : Fin 8192 => val_main_v28 (F := Ideal) x (ix3 0 r q)) r := by
  unfold val_main_v29
  exact running (P := 8192) (N := 8191) (C := 256) rfl (val_main_v28 (F := Ideal) x) (val_main_call1_call0_v0 (F := Ideal)) (fun i => Ideal.ofBits_zero_f32) _ _ t q

/-- The running sums of the group whose window is eight. -/
theorem sums2 (t : Fin 8192) (q : Fin 256) : val_main_v50 (F := Ideal) x (ix3 0 t q)
    = ∑ r ∈ Finset.range (t.val + 1), ext (fun r : Fin 8192 => val_main_v49 (F := Ideal) x (ix3 0 r q)) r := by
  unfold val_main_v50
  exact running (P := 8192) (N := 8191) (C := 256) rfl (val_main_v49 (F := Ideal) x) (val_main_call2_call0_v0 (F := Ideal)) (fun i => Ideal.ofBits_zero_f32) _ _ t q

/-- The running sums of the group whose window is sixteen. -/
theorem sums3 (t : Fin 8192) (q : Fin 256) : val_main_v71 (F := Ideal) x (ix3 0 t q)
    = ∑ r ∈ Finset.range (t.val + 1), ext (fun r : Fin 8192 => val_main_v70 (F := Ideal) x (ix3 0 r q)) r := by
  unfold val_main_v71
  exact running (P := 8192) (N := 8191) (C := 256) rfl (val_main_v70 (F := Ideal) x) (val_main_call3_call0_v0 (F := Ideal)) (fun i => Ideal.ofBits_zero_f32) _ _ t q

/-- The window of two: mean less row. -/
theorem diff0 (hx : ∀ i, IsNum (x i)) (t : Fin 8192) (q : Fin 256) : val_main_v24 (F := Ideal) x (ix3 0 t q) = diff x 0 t q :=
  diff_of x 0 _ _ _ t q (fun r => cols0 x r q) (window_ref (a := 1) (b := 8191) (w := 2) (C := 256)
    (by decide) (by decide) (by decide) (val_main_v7 (F := Ideal) x) (val_main_v8 (F := Ideal) x) (fun i => hx _) (sums0 x)
    (val_main_v9 (F := Ideal)) (fun i => Ideal.ofBits_zero_f32) (val_main_v13 (F := Ideal)) (fun i => Ideal.ofBits_zero_f32) _ _ _ _ t q) (count0 t)

/-- The window of four: mean less row. -/
theorem diff1 (hx : ∀ i, IsNum (x i)) (t : Fin 8192) (q : Fin 256) : val_main_v45 (F := Ideal) x (ix3 0 t q) = diff x 1 t q :=
  diff_of x 1 _ _ _ t q (fun r => cols1 x r q) (window_ref (a := 3) (b := 8189) (w := 4) (C := 256)
    (by decide) (by decide) (by decide) (val_main_v28 (F := Ideal) x) (val_main_v29 (F := Ideal) x) (fun i => hx _) (sums1 x)
    (val_main_v30 (F := Ideal)) (fun i => Ideal.ofBits_zero_f32) (val_main_v34 (F := Ideal)) (fun i => Ideal.ofBits_zero_f32) _ _ _ _ t q) (count1 t)

/-- The window of eight: mean less row. -/
theorem diff2 (hx : ∀ i, IsNum (x i)) (t : Fin 8192) (q : Fin 256) : val_main_v66 (F := Ideal) x (ix3 0 t q) = diff x 2 t q :=
  diff_of x 2 _ _ _ t q (fun r => cols2 x r q) (window_ref (a := 7) (b := 8185) (w := 8) (C := 256)
    (by decide) (by decide) (by decide) (val_main_v49 (F := Ideal) x) (val_main_v50 (F := Ideal) x) (fun i => hx _) (sums2 x)
    (val_main_v51 (F := Ideal)) (fun i => Ideal.ofBits_zero_f32) (val_main_v55 (F := Ideal)) (fun i => Ideal.ofBits_zero_f32) _ _ _ _ t q) (count2 t)

/-- The window of sixteen: mean less row. -/
theorem diff3 (hx : ∀ i, IsNum (x i)) (t : Fin 8192) (q : Fin 256) : val_main_v87 (F := Ideal) x (ix3 0 t q) = diff x 3 t q :=
  diff_of x 3 _ _ _ t q (fun r => cols3 x r q) (window_ref (a := 15) (b := 8177) (w := 16) (C := 256)
    (by decide) (by decide) (by decide) (val_main_v70 (F := Ideal) x) (val_main_v71 (F := Ideal) x) (fun i => hx _) (sums3 x)
    (val_main_v72 (F := Ideal)) (fun i => Ideal.ofBits_zero_f32) (val_main_v76 (F := Ideal)) (fun i => Ideal.ofBits_zero_f32) _ _ _ _ t q) (count3 t)

/-- The gradient before the gain, in the columns of a group. -/
theorem dpre_of (g : Fin 4) (y : FVec Ideal S1x8192x256 .f32) (t : Fin 8192) (q : Fin 256)
    (hy : y (ix3 0 t q) = val_main_v102 (F := Ideal) s z (ix3 0 t (col g q))) : y (ix3 0 t q) = dpre s z g t q := by
  rw [hy]
  pointwise [val_main_v102, val_main_v97, val_main_v101, val_main_v92, val_main_v4, dpre]

/-- The gradient before the gain: window of two. -/
theorem dpre0 (t : Fin 8192) (q : Fin 256) : val_main_v104 (F := Ideal) s z (ix3 0 t q) = dpre s z 0 t q :=
  dpre_of s z 0 _ t q (by unfold val_main_v104; pointwise [col]; blk_ext)

/-- The gradient before the gain: window of four. -/
theorem dpre1 (t : Fin 8192) (q : Fin 256) : val_main_v105 (F := Ideal) s z (ix3 0 t q) = dpre s z 1 t q :=
  dpre_of s z 1 _ t q (by unfold val_main_v105; pointwise [col]; blk_ext)

/-- The gradient before the gain: window of eight. -/
theorem dpre2 (t : Fin 8192) (q : Fin 256) : val_main_v106 (F := Ideal) s z (ix3 0 t q) = dpre s z 2 t q :=
  dpre_of s z 2 _ t q (by unfold val_main_v106; pointwise [col]; blk_ext)

/-- The gradient before the gain: window of sixteen. -/
theorem dpre3 (t : Fin 8192) (q : Fin 256) : val_main_v107 (F := Ideal) s z (ix3 0 t q) = dpre s z 3 t q :=
  dpre_of s z 3 _ t q (by unfold val_main_v107; pointwise [col]; blk_ext)

/-- The gradient at the difference: window of two. -/
theorem ddiff0 (t : Fin 8192) (q : Fin 256) : val_main_v171 (F := Ideal) w s z (ix3 0 t q) = ddiff w s z 0 t q := by
  unfold ddiff
  pointwise [val_main_v171, val_main_v26, val_main_v25, dpre0]

/-- The gradient at the difference: window of four. -/
theorem ddiff1 (t : Fin 8192) (q : Fin 256) : val_main_v150 (F := Ideal) w s z (ix3 0 t q) = ddiff w s z 1 t q := by
  unfold ddiff
  pointwise [val_main_v150, val_main_v47, val_main_v46, dpre1]

/-- The gradient at the difference: window of eight. -/
theorem ddiff2 (t : Fin 8192) (q : Fin 256) : val_main_v129 (F := Ideal) w s z (ix3 0 t q) = ddiff w s z 2 t q := by
  unfold ddiff
  pointwise [val_main_v129, val_main_v68, val_main_v67, dpre2]

/-- The gradient at the difference: window of sixteen. -/
theorem ddiff3 (t : Fin 8192) (q : Fin 256) : val_main_v110 (F := Ideal) w s z (ix3 0 t q) = ddiff w s z 3 t q := by
  unfold ddiff
  pointwise [val_main_v110, val_main_v89, val_main_v88, dpre3]

/-- The constants count rows. -/
theorem lit_num (g : Fin 4) : ∃ r : ℝ, 0 < r ∧ lit g = (r : EReal) := by
  fin_cases g
  · exact ⟨2, by norm_num, by simp [lit, Ideal.ofBits, Ideal.ieee, -EReal.coe_mul]; norm_num⟩
  · exact ⟨4, by norm_num, by simp [lit, Ideal.ofBits, Ideal.ieee, -EReal.coe_mul]; norm_num⟩
  · exact ⟨8, by norm_num, by simp [lit, Ideal.ofBits, Ideal.ieee, -EReal.coe_mul]; norm_num⟩
  · exact ⟨16, by norm_num, by simp [lit, Ideal.ofBits, Ideal.ieee, -EReal.coe_mul]; norm_num⟩

/-- The number of rows in a window is a positive number. -/
theorem cnt_num (g : Fin 4) (t : ℕ) : ∃ r : ℝ, 0 < r ∧ cnt g t = (r : EReal) := by
  obtain ⟨l, hl, e⟩ := lit_num g
  refine ⟨min ((t + 1 : ℕ) : ℝ) l, lt_min (by positivity) hl, ?_⟩
  rw [cnt, e]; exact (EReal.coe_strictMono.monotone.map_min).symm

/-- The gradient at the window's sum is a number where the arrays hold numbers. -/
theorem dsum_num (hw : ∀ i, IsNum (w i)) (hs : ∀ i, IsNum (s i)) (hz : ∀ i, IsNum (z i)) (g : Fin 4) (t : Fin 8192) (q : Fin 256) :
    IsNum (dsum w s z g t q) := by
  obtain ⟨r, hr, e⟩ := cnt_num g t
  obtain ⟨d, hd⟩ : IsNum (ddiff w s z g t q) := IsNum.sum _ _ fun k => ((hz _).mul (hs _)).mul (hw _)
  rw [dsum, e, hd, div_coe _ _ hr.ne']
  exact IsNum.coe _

/-- The gradient at the window's sum: window of two. -/
theorem dsum0 (t : Fin 8192) (q : Fin 256) : val_main_v177 (F := Ideal) w s z (ix3 0 t q) = dsum w s z 0 t q := by
  show Ideal.div (val_main_v171 (F := Ideal) w s z (ix3 0 t q)) (val_main_v176 (F := Ideal) (ix3 0 t q)) = _
  rw [ddiff0, show val_main_v176 (F := Ideal) (ix3 0 t q) = cnt 0 t from count0 t]; rfl

/-- The gradient at the window's sum: window of four. -/
theorem dsum1 (t : Fin 8192) (q : Fin 256) : val_main_v156 (F := Ideal) w s z (ix3 0 t q) = dsum w s z 1 t q := by
  show Ideal.div (val_main_v150 (F := Ideal) w s z (ix3 0 t q)) (val_main_v155 (F := Ideal) (ix3 0 t q)) = _
  rw [ddiff1, show val_main_v155 (F := Ideal) (ix3 0 t q) = cnt 1 t from count1 t]; rfl

/-- The gradient at the window's sum: window of eight. -/
theorem dsum2 (t : Fin 8192) (q : Fin 256) : val_main_v135 (F := Ideal) w s z (ix3 0 t q) = dsum w s z 2 t q := by
  show Ideal.div (val_main_v129 (F := Ideal) w s z (ix3 0 t q)) (val_main_v134 (F := Ideal) (ix3 0 t q)) = _
  rw [ddiff2, show val_main_v134 (F := Ideal) (ix3 0 t q) = cnt 2 t from count2 t]; rfl

/-- The gradient at the window's sum: window of sixteen. -/
theorem dsum3 (t : Fin 8192) (q : Fin 256) : val_main_v115 (F := Ideal) w s z (ix3 0 t q) = dsum w s z 3 t q := by
  show Ideal.div (val_main_v110 (F := Ideal) w s z (ix3 0 t q)) (val_main_v114 (F := Ideal) (ix3 0 t q)) = _
  rw [ddiff3, show val_main_v114 (F := Ideal) (ix3 0 t q) = cnt 3 t from count3 t]; rfl

/-- The running sums from the last row: window of two. -/
theorem backs0 (t : Fin 8192) (q : Fin 256) : val_main_v186 (F := Ideal) w s z (ix3 0 t q)
    = ∑ k ∈ Finset.range 8192, ext (fun r : Fin 8192 => val_main_v185 (F := Ideal) w s z (ix3 0 r q)) (t.val + k) := by
  unfold val_main_v186
  exact running_back (P := 8192) (N := 8191) (C := 256) rfl (val_main_v185 (F := Ideal) w s z) (val_main_call7_call0_v0 (F := Ideal)) (fun i => Ideal.ofBits_zero_f32) _ _ t q

/-- The running sums from the last row: window of four. -/
theorem backs1 (t : Fin 8192) (q : Fin 256) : val_main_v165 (F := Ideal) w s z (ix3 0 t q)
    = ∑ k ∈ Finset.range 8192, ext (fun r : Fin 8192 => val_main_v164 (F := Ideal) w s z (ix3 0 r q)) (t.val + k) := by
  unfold val_main_v165
  exact running_back (P := 8192) (N := 8191) (C := 256) rfl (val_main_v164 (F := Ideal) w s z) (val_main_call6_call0_v0 (F := Ideal)) (fun i => Ideal.ofBits_zero_f32) _ _ t q

/-- The running sums from the last row: window of eight. -/
theorem backs2 (t : Fin 8192) (q : Fin 256) : val_main_v144 (F := Ideal) w s z (ix3 0 t q)
    = ∑ k ∈ Finset.range 8192, ext (fun r : Fin 8192 => val_main_v143 (F := Ideal) w s z (ix3 0 r q)) (t.val + k) := by
  unfold val_main_v144
  exact running_back (P := 8192) (N := 8191) (C := 256) rfl (val_main_v143 (F := Ideal) w s z) (val_main_call5_call0_v0 (F := Ideal)) (fun i => Ideal.ofBits_zero_f32) _ _ t q

/-- The running sums from the last row: window of sixteen. -/
theorem backs3 (t : Fin 8192) (q : Fin 256) : val_main_v124 (F := Ideal) w s z (ix3 0 t q)
    = ∑ k ∈ Finset.range 8192, ext (fun r : Fin 8192 => val_main_v123 (F := Ideal) w s z (ix3 0 r q)) (t.val + k) := by
  unfold val_main_v124
  exact running_back (P := 8192) (N := 8191) (C := 256) rfl (val_main_v123 (F := Ideal) w s z) (val_main_call4_call0_v0 (F := Ideal)) (fun i => Ideal.ofBits_zero_f32) _ _ t q

/-- The gradient at the running sums: window of two. -/
theorem shift0 (t : Fin 8192) (q : Fin 256) : val_main_v185 (F := Ideal) w s z (ix3 0 t q)
    = -ext (fun r : Fin 8192 => val_main_v177 (F := Ideal) w s z (ix3 0 r q)) (t.val + 2) + val_main_v177 (F := Ideal) w s z (ix3 0 t q) := by
  unfold val_main_v185 val_main_v183 val_main_v181 val_main_v182 val_main_v180 val_main_v178
  exact shift_ref (a := 1) (b := 8191) (w := 2) (C := 256) (by decide) (by decide) (val_main_v177 (F := Ideal) w s z) _ _ (fun i => Ideal.ofBits_zero_f32) _ _ _ _ _ _ t q

/-- The gradient at the running sums: window of four. -/
theorem shift1 (t : Fin 8192) (q : Fin 256) : val_main_v164 (F := Ideal) w s z (ix3 0 t q)
    = -ext (fun r : Fin 8192 => val_main_v156 (F := Ideal) w s z (ix3 0 r q)) (t.val + 4) + val_main_v156 (F := Ideal) w s z (ix3 0 t q) := by
  unfold val_main_v164 val_main_v162 val_main_v160 val_main_v161 val_main_v159 val_main_v157
  exact shift_ref (a := 3) (b := 8189) (w := 4) (C := 256) (by decide) (by decide) (val_main_v156 (F := Ideal) w s z) _ _ (fun i => Ideal.ofBits_zero_f32) _ _ _ _ _ _ t q

/-- The gradient at the running sums: window of eight. -/
theorem shift2 (t : Fin 8192) (q : Fin 256) : val_main_v143 (F := Ideal) w s z (ix3 0 t q)
    = -ext (fun r : Fin 8192 => val_main_v135 (F := Ideal) w s z (ix3 0 r q)) (t.val + 8) + val_main_v135 (F := Ideal) w s z (ix3 0 t q) := by
  unfold val_main_v143 val_main_v141 val_main_v139 val_main_v140 val_main_v138 val_main_v136
  exact shift_ref (a := 7) (b := 8185) (w := 8) (C := 256) (by decide) (by decide) (val_main_v135 (F := Ideal) w s z) _ _ (fun i => Ideal.ofBits_zero_f32) _ _ _ _ _ _ t q

/-- The gradient at the running sums: window of sixteen. -/
theorem shift3 (t : Fin 8192) (q : Fin 256) : val_main_v123 (F := Ideal) w s z (ix3 0 t q)
    = -ext (fun r : Fin 8192 => val_main_v115 (F := Ideal) w s z (ix3 0 r q)) (t.val + 16) + val_main_v115 (F := Ideal) w s z (ix3 0 t q) := by
  unfold val_main_v123 val_main_v121 val_main_v119 val_main_v120 val_main_v118 val_main_v116
  exact shift_ref (a := 15) (b := 8177) (w := 16) (C := 256) (by decide) (by decide) (val_main_v115 (F := Ideal) w s z) _ _ (fun i => Ideal.ofBits_zero_f32) _ _ _ _ _ _ t q

/-- The gradient at the columns whose window is two, but for the residual's share. -/
theorem part0 (hw : ∀ i, IsNum (w i)) (hs : ∀ i, IsNum (s i)) (hz : ∀ i, IsNum (z i)) (t : Fin 8192) (q : Fin 256) :
    val_main_v187 (F := Ideal) w s z (ix3 0 t q)
      = -ddiff w s z 0 t q + ahead (win 0) (ext fun r : Fin 8192 => dsum w s z 0 r q) t := by
  unfold val_main_v187
  show -val_main_v171 (F := Ideal) w s z (ix3 0 t q) + val_main_v186 (F := Ideal) w s z (ix3 0 t q) = _
  rw [ddiff0, backs0]
  refine congrArg _ (ahead_ref 2 q _ _ (fun r => dsum_num w s z hw hs hz 0 r q) (fun r => ?_) t)
  simp only [shift0, dsum0]

/-- The gradient at the columns whose window is four, but for the residual's share. -/
theorem part1 (hw : ∀ i, IsNum (w i)) (hs : ∀ i, IsNum (s i)) (hz : ∀ i, IsNum (z i)) (t : Fin 8192) (q : Fin 256) :
    val_main_v166 (F := Ideal) w s z (ix3 0 t q)
      = -ddiff w s z 1 t q + ahead (win 1) (ext fun r : Fin 8192 => dsum w s z 1 r q) t := by
  unfold val_main_v166
  show -val_main_v150 (F := Ideal) w s z (ix3 0 t q) + val_main_v165 (F := Ideal) w s z (ix3 0 t q) = _
  rw [ddiff1, backs1]
  refine congrArg _ (ahead_ref 4 q _ _ (fun r => dsum_num w s z hw hs hz 1 r q) (fun r => ?_) t)
  simp only [shift1, dsum1]

/-- The gradient at the columns whose window is eight, but for the residual's share. -/
theorem part2 (hw : ∀ i, IsNum (w i)) (hs : ∀ i, IsNum (s i)) (hz : ∀ i, IsNum (z i)) (t : Fin 8192) (q : Fin 256) :
    val_main_v145 (F := Ideal) w s z (ix3 0 t q)
      = -ddiff w s z 2 t q + ahead (win 2) (ext fun r : Fin 8192 => dsum w s z 2 r q) t := by
  unfold val_main_v145
  show -val_main_v129 (F := Ideal) w s z (ix3 0 t q) + val_main_v144 (F := Ideal) w s z (ix3 0 t q) = _
  rw [ddiff2, backs2]
  refine congrArg _ (ahead_ref 8 q _ _ (fun r => dsum_num w s z hw hs hz 2 r q) (fun r => ?_) t)
  simp only [shift2, dsum2]

/-- The gradient at the columns whose window is sixteen, but for the residual's share. -/
theorem part3 (hw : ∀ i, IsNum (w i)) (hs : ∀ i, IsNum (s i)) (hz : ∀ i, IsNum (z i)) (t : Fin 8192) (q : Fin 256) :
    val_main_v125 (F := Ideal) w s z (ix3 0 t q)
      = -ddiff w s z 3 t q + ahead (win 3) (ext fun r : Fin 8192 => dsum w s z 3 r q) t := by
  unfold val_main_v125
  show -val_main_v110 (F := Ideal) w s z (ix3 0 t q) + val_main_v124 (F := Ideal) w s z (ix3 0 t q) = _
  rw [ddiff3, backs3]
  refine congrArg _ (ahead_ref 16 q _ _ (fun r => dsum_num w s z hw hs hz 3 r q) (fun r => ?_) t)
  simp only [shift3, dsum3]

end Cert.ReferenceIdeal.Own

end
-- ==== Proof.PoolOut.lean ====
/- The gradients of the pooling mixer: the reference's three results, entry by entry. -/
module

public import proofs.«01_k».proof.Proof.PoolStages

@[expose] public section

set_option maxRecDepth 16384

noncomputable section

namespace Cert.ReferenceIdeal.Own

open Idealize.ShloMosaic Idealize.SL.Sem Cert.Own
open Cert.ReferenceIdeal Cert.ReferenceIdeal.Read
open scoped BigOperators

variable (x : FVec Ideal S8192x1024 .f32) (w : FVec Ideal S4x256x256 .f32) (s : FVec Ideal S1x1024 .f32) (z : FVec Ideal S8192x1024 .f32)

/-- The columns of one group laid into all columns. -/
theorem pad_cols (a : Fin 4) (lo hi : ℕ) (hlo : lo = 256 * a.val) (u : FVec Ideal S1x8192x256 .f32) (v : FVec Ideal S_ .f32) (hv : ∀ i, v i = 0) (h hu)
    (g : Fin 4) (t : Fin 8192) (q : Fin 256) :
    pad S1x8192x1024 ![0, 0, lo] ![0, 0, hi] ![0, 0, 0] u v h hu (ix3 0 t (col g q)) = if g = a then u (ix3 0 t q) else 0 := by
  subst hlo
  split
  next e =>
    subst e
    refine pad_apply_of_inside _ _ _ u v h hu _ _ fun c => ?_
    fin_cases c
    · rfl
    · show t.val = 0 + t.val * (0 + 1); omega
    · show 256 * g.val + q.val = 256 * g.val + q.val * (0 + 1); omega
  next e =>
    refine (pad_apply_of_not_inside _ _ _ u v h hu _ 2 fun hn => ?_).trans (hv _)
    have h1 : 256 * a.val ≤ 256 * g.val + q.val := hn.1
    have h2 : (256 * g.val + q.val - 256 * a.val) / (0 + 1) < 256 := hn.2.2
    rw [Nat.div_one] at h2
    exact e (Fin.ext (by omega))

/-- The matrix of one group laid among all four. -/
theorem pad_mats (a : Fin 4) (lo hi : ℕ) (hlo : lo = a.val) (u : FVec Ideal S1x256x256 .f32) (v : FVec Ideal S_ .f32) (hv : ∀ i, v i = 0) (h hu)
    (g : Fin 4) (p q : Fin 256) :
    pad S4x256x256 ![lo, 0, 0] ![hi, 0, 0] ![0, 0, 0] u v h hu (ix3 g p q) = if g = a then u (ix3 0 p q) else 0 := by
  subst hlo
  split
  next e =>
    subst e
    refine pad_apply_of_inside _ _ _ u v h hu _ _ fun c => ?_
    fin_cases c
    · show g.val = g.val + 0 * (0 + 1); omega
    · show p.val = 0 + p.val * (0 + 1); omega
    · show q.val = 0 + q.val * (0 + 1); omega
  next e =>
    refine (pad_apply_of_not_inside _ _ _ u v h hu _ 0 fun hn => ?_).trans (hv _)
    have h1 : a.val ≤ g.val := hn.1
    have h2 : (g.val - a.val) / (0 + 1) < 1 := hn.2.2
    rw [Nat.div_one] at h2
    exact e (Fin.ext (by omega))

/-- The gradient at the rows. -/
theorem out_x (hw : ∀ i, IsNum (w i)) (hs : ∀ i, IsNum (s i)) (hz : ∀ i, IsNum (z i)) (g : Fin 4) (t : Fin 8192) (q : Fin 256) :
    val_main_v195 (F := Ideal) w s z (ix2 t (col g q))
      = -ddiff w s z g t q + ahead (win g) (ext fun r : Fin 8192 => dsum w s z g r q) t + Ideal.ofBits .f32 0x3FB504F3#32 * z (ix2 t (col g q)) := by
  have e : val_main_v189 (F := Ideal) w s z (ix3 0 t (col g q)) = -ddiff w s z g t q + ahead (win g) (ext fun r : Fin 8192 => dsum w s z g r q) t := by
    show val_main_v126 (F := Ideal) w s z (ix3 0 t (col g q)) + val_main_v146 (F := Ideal) w s z (ix3 0 t (col g q))
      + val_main_v167 (F := Ideal) w s z (ix3 0 t (col g q)) + val_main_v188 (F := Ideal) w s z (ix3 0 t (col g q)) = _
    rw [show val_main_v126 (F := Ideal) w s z (ix3 0 t (col g q)) = _ from pad_cols 3 768 0 (by decide) (val_main_v125 (F := Ideal) w s z) (val_main_cst_29 (F := Ideal)) (fun i => Ideal.ofBits_zero_f32) _ _ g t q,
      show val_main_v146 (F := Ideal) w s z (ix3 0 t (col g q)) = _ from pad_cols 2 512 256 (by decide) (val_main_v145 (F := Ideal) w s z) (val_main_cst_33 (F := Ideal)) (fun i => Ideal.ofBits_zero_f32) _ _ g t q,
      show val_main_v167 (F := Ideal) w s z (ix3 0 t (col g q)) = _ from pad_cols 1 256 512 (by decide) (val_main_v166 (F := Ideal) w s z) (val_main_cst_37 (F := Ideal)) (fun i => Ideal.ofBits_zero_f32) _ _ g t q,
      show val_main_v188 (F := Ideal) w s z (ix3 0 t (col g q)) = _ from pad_cols 0 0 768 (by decide) (val_main_v187 (F := Ideal) w s z) (val_main_cst_41 (F := Ideal)) (fun i => Ideal.ofBits_zero_f32) _ _ g t q,
      part0 w s z hw hs hz, part1 w s z hw hs hz, part2 w s z hw hs hz, part3 w s z hw hs hz]
    fin_cases g <;> simp
  pointwise [val_main_v195, val_main_v191, val_main_v194, val_main_v193, val_main_v192, val_main_v97, val_main_cst_42, val_main_cst_43, val_main_cst_44]
  rw [Fin.sum_univ_one, Fin.sum_univ_one, e]

/-- The gradient of a group's weight at an entry. -/
def dmat (g : Fin 4) (p q : Fin 256) : EReal := ∑ t : Fin 8192, diff x g t p * dpre s z g t q

/-- The gradient of a weight: window of two. -/
theorem dmat0 (hx : ∀ i, IsNum (x i)) (p q : Fin 256) : val_main_v170 (F := Ideal) x s z (ix2 p q) = dmat x s z 0 p q := by
  pointwise [val_main_v170, val_main_v169, dmat]
  rw [Fin.sum_univ_one]
  exact Finset.sum_congr rfl fun t _ => by rw [dpre0, diff0 x hx, mul_comm]

/-- The gradient of a weight: window of four. -/
theorem dmat1 (hx : ∀ i, IsNum (x i)) (p q : Fin 256) : val_main_v149 (F := Ideal) x s z (ix2 p q) = dmat x s z 1 p q := by
  pointwise [val_main_v149, val_main_v148, dmat]
  rw [Fin.sum_univ_one]
  exact Finset.sum_congr rfl fun t _ => by rw [dpre1, diff1 x hx, mul_comm]

/-- The gradient of a weight: window of eight. -/
theorem dmat2 (hx : ∀ i, IsNum (x i)) (p q : Fin 256) : val_main_v128 (F := Ideal) x s z (ix2 p q) = dmat x s z 2 p q := by
  pointwise [val_main_v128, val_main_v127, dmat]
  rw [Fin.sum_univ_one]
  exact Finset.sum_congr rfl fun t _ => by rw [dpre2, diff2 x hx, mul_comm]

/-- The gradient of a weight: window of sixteen. -/
theorem dmat3 (hx : ∀ i, IsNum (x i)) (p q : Fin 256) : val_main_v109 (F := Ideal) x s z (ix2 p q) = dmat x s z 3 p q := by
  pointwise [val_main_v109, val_main_v108, dmat]
  rw [Fin.sum_univ_one]
  exact Finset.sum_congr rfl fun t _ => by rw [dpre3, diff3 x hx, mul_comm]

/-- The gradient of the weights. -/
theorem out_w (hx : ∀ i, IsNum (x i)) (g : Fin 4) (p q : Fin 256) : val_main_v174 (F := Ideal) x s z (ix3 g p q) = dmat x s z g p q := by
  show val_main_v112 (F := Ideal) x s z (ix3 g p q) + val_main_v131 (F := Ideal) x s z (ix3 g p q)
    + val_main_v152 (F := Ideal) x s z (ix3 g p q) + val_main_v173 (F := Ideal) x s z (ix3 g p q) = _
  rw [show val_main_v112 (F := Ideal) x s z (ix3 g p q) = _ from pad_mats 3 3 0 (by decide) (val_main_v111 (F := Ideal) x s z) (val_main_cst_26 (F := Ideal)) (fun i => Ideal.ofBits_zero_f32) _ _ g p q,
    show val_main_v111 (F := Ideal) x s z (ix3 0 p q) = dmat x s z 3 p q by pointwise [val_main_v111, dmat3 x s z hx],
    show val_main_v131 (F := Ideal) x s z (ix3 g p q) = _ from pad_mats 2 2 1 (by decide) (val_main_v130 (F := Ideal) x s z) (val_main_cst_30 (F := Ideal)) (fun i => Ideal.ofBits_zero_f32) _ _ g p q,
    show val_main_v130 (F := Ideal) x s z (ix3 0 p q) = dmat x s z 2 p q by pointwise [val_main_v130, dmat2 x s z hx],
    show val_main_v152 (F := Ideal) x s z (ix3 g p q) = _ from pad_mats 1 1 2 (by decide) (val_main_v151 (F := Ideal) x s z) (val_main_cst_34 (F := Ideal)) (fun i => Ideal.ofBits_zero_f32) _ _ g p q,
    show val_main_v151 (F := Ideal) x s z (ix3 0 p q) = dmat x s z 1 p q by pointwise [val_main_v151, dmat1 x s z hx],
    show val_main_v173 (F := Ideal) x s z (ix3 g p q) = _ from pad_mats 0 0 3 (by decide) (val_main_v172 (F := Ideal) x s z) (val_main_cst_38 (F := Ideal)) (fun i => Ideal.ofBits_zero_f32) _ _ g p q,
    show val_main_v172 (F := Ideal) x s z (ix3 0 p q) = dmat x s z 0 p q by pointwise [val_main_v172, dmat0 x s z hx]]
  fin_cases g <;> simp

/-- A row of the mixed differences. -/
def mixed (g : Fin 4) (t : Fin 8192) (q : Fin 256) : EReal := ∑ k, diff x g t k * w (ix3 g k q)

/-- The mixed differences: window of two. -/
theorem mixed0 (hx : ∀ i, IsNum (x i)) (t : Fin 8192) (q : Fin 256) : val_main_v27 (F := Ideal) x w (ix3 0 t q) = mixed x w 0 t q := by
  pointwise [val_main_v27, val_main_v26, val_main_v25, mixed, diff0 x hx]

/-- The mixed differences: window of four. -/
theorem mixed1 (hx : ∀ i, IsNum (x i)) (t : Fin 8192) (q : Fin 256) : val_main_v48 (F := Ideal) x w (ix3 0 t q) = mixed x w 1 t q := by
  pointwise [val_main_v48, val_main_v47, val_main_v46, mixed, diff1 x hx]

/-- The mixed differences: window of eight. -/
theorem mixed2 (hx : ∀ i, IsNum (x i)) (t : Fin 8192) (q : Fin 256) : val_main_v69 (F := Ideal) x w (ix3 0 t q) = mixed x w 2 t q := by
  pointwise [val_main_v69, val_main_v68, val_main_v67, mixed, diff2 x hx]

/-- The mixed differences: window of sixteen. -/
theorem mixed3 (hx : ∀ i, IsNum (x i)) (t : Fin 8192) (q : Fin 256) : val_main_v90 (F := Ideal) x w (ix3 0 t q) = mixed x w 3 t q := by
  pointwise [val_main_v90, val_main_v89, val_main_v88, mixed, diff3 x hx]

/-- The four groups' columns laid side by side, read at a column. -/
theorem cat_cols (f : Fin 4 → FVec Ideal S1x8192x256 .f32) (h) (g : Fin 4) (t : Fin 8192) (q : Fin 256) :
    concatenate S1x8192x1024 2 [⟨S1x8192x256, f 0⟩, ⟨S1x8192x256, f 1⟩, ⟨S1x8192x256, f 2⟩, ⟨S1x8192x256, f 3⟩] h (ix3 0 t (col g q))
      = f g (ix3 0 t q) := by
  have hq := q.isLt
  pointwise [col]
  fin_cases g <;> simp only [] <;> split_ifs <;> first | omega | (refine congrArg _ ?_; blk_ext)

/-- The mixed differences of all groups. -/
theorem all_mixed (hx : ∀ i, IsNum (x i)) (g : Fin 4) (t : Fin 8192) (q : Fin 256) :
    val_main_v91 (F := Ideal) x w (ix3 0 t (col g q)) = mixed x w g t q := by
  refine (cat_cols ![val_main_v27 (F := Ideal) x w, val_main_v48 (F := Ideal) x w, val_main_v69 (F := Ideal) x w, val_main_v90 (F := Ideal) x w] _ g t q).trans ?_
  fin_cases g
  · exact mixed0 x w hx t q
  · exact mixed1 x w hx t q
  · exact mixed2 x w hx t q
  · exact mixed3 x w hx t q

/-- A sum along two axes of one entry each. -/
theorem sum_thin (y : FVec Ideal S1x1x1024 .f32) (v : EReal) (h : S1x1x1024.ReducesTo [0, 1] S1024) (q : Fin 1024) :
    Ideal.hostReduceAdd h y v (ix1 q) = v + y (ix3 0 0 q) := by
  unfold Ideal.hostReduceAdd
  refine congrArg _ ?_
  rw [Finset.sum_filter, sum_idx3, Fin.sum_univ_one, Fin.sum_univ_one]
  have e : ∀ k : Fin 1024, h.drop (ix3 0 0 k) = ix1 k := fun k => by
    funext a; fin_cases a; rfl
  simp only [e]
  rw [Finset.sum_eq_single q]
  · rw [if_pos rfl]
  · intro k _ hk
    exact if_neg fun hn => hk (Fin.ext (congrArg (fun i : S1024.Idx => (i 0 : ℕ)) hn))
  · intro hn; exact absurd (Finset.mem_univ _) hn

/-- The gradient of the gain. -/
theorem out_s (hx : ∀ i, IsNum (x i)) (g : Fin 4) (q : Fin 256) :
    val_main_v190 (F := Ideal) x w z (ix2 0 (col g q)) = ∑ t : Fin 8192, z (ix2 t (col g q)) * mixed x w g t q := by
  pointwise [val_main_v190, val_main_v103]
  rw [sum_thin]
  pointwise [val_main_v100, val_main_v99, val_main_v98, val_main_v97, val_main_cst_24, val_main_cst_25]
  exact Finset.sum_congr rfl fun t _ => by rw [all_mixed x w hx, mul_comm]

end Cert.ReferenceIdeal.Own

end
-- ==== Proof.PoolKer.lean ====
/- What one point of the pooling gradient computes from its blocks, for any of the four groups of columns. -/
module

public import proofs.«01_k».proof.Proof.Gen.KernelIdeal.Skeleton
public import proofs.«01_k».proof.Proof.PoolOut
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.KernelIdeal.Own

open Cert.KernelIdeal Cert.KernelIdeal.Gen Cert.Own
open Cert.ReferenceIdeal.Own (col win lit cnt diff dpre ddiff dsum dmat mixed cnt_num)

/-- A row of block `i`. -/
def row (i : ℕ) (hi : i < 16) (r : Fin 512) : Fin 8192 := ⟨512 * i + r.val, by omega⟩

/-- A column of `x` from sixteen rows before block `i` on. -/
def halo (x : FVec Ideal S8192x1024 .f32) (g : Fin 4) (q : Fin 256) (i n : ℕ) : EReal :=
  if 16 ≤ 512 * i + n then ext (fun r : Fin 8192 => x (ix2 r (col g q))) (512 * i + n - 16) else 0

/-- What the blocks of a point hold, for one group of columns. -/
structure Blk (x : FVec Ideal S8192x1024 .f32) (w : FVec Ideal S4x256x256 .f32) (s : FVec Ideal S1x1024 .f32) (z : FVec Ideal S8192x1024 .f32)
    (g : Fin 4) (i : ℕ) (hi : i < 16) (c : FVec Ideal S512x1 .f32) (d : FVec Ideal S528x1 .f32) (EX : FVec Ideal S528x256 .f32)
    (X : FVec Ideal S512x256 .f32) (W : FVec Ideal S1x256x256 .bf16) (Z : FVec Ideal S512x256 .f32) (EZ : FVec Ideal S528x256 .f32)
    (S : FVec Ideal S1x256 .f32) : Prop where
  c : ∀ r : Fin 512, c (ix2 r 0) = (((512 * i + r.val + 1 : ℕ) : ℝ) : EReal)
  d : ∀ n : Fin 528, d (ix2 n 0) = (((512 * i + n.val + 1 : ℕ) : ℝ) : EReal)
  EX : ∀ (n : Fin 528) (q : Fin 256), EX (ix2 n q) = halo x g q i n
  X : ∀ (r : Fin 512) (q : Fin 256), X (ix2 r q) = x (ix2 (row i hi r) (col g q))
  W : ∀ p q : Fin 256, W (ix3 0 p q) = w (ix3 g p q)
  Z : ∀ (r : Fin 512) (q : Fin 256), Z (ix2 r q) = z (ix2 (row i hi r) (col g q))
  EZ : ∀ (n : Fin 528) (q : Fin 256), EZ (ix2 n q) = ext (fun r : Fin 8192 => z (ix2 r (col g q))) (512 * i + n)
  S : ∀ q : Fin 256, S (ix2 0 q) = s (ix2 0 (col g q))

/-- A product with the inverse of a count is the quotient by the count. -/
theorem mul_inv_cnt (g : Fin 4) (t : ℕ) (a : EReal) : a * Ideal.div 1 (cnt g t) = Ideal.div a (cnt g t) := by
  obtain ⟨r, hr, e⟩ := cnt_num g t
  have h0 : (r : EReal) ≠ 0 := by exact_mod_cast hr.ne'
  rw [e, Ideal.div, Ideal.div, if_neg h0, if_neg h0, one_mul]

/-- The difference's form in the kernel, at an index. -/
theorem diff_form (c : FVec Ideal S512x1 .f32) (D : FVec Ideal S528x256 .f32) (X : FVec Ideal S512x256 .f32) (l : BitVec 32) (h hb) (ht)
    (r : Fin 512) (q : Fin 256) :
    (truncf .bf16 (subf (mulf (extractStridedSlice S512x256 ![16, 0] D h) (broadcastTo S512x256 (divf (broadcast S512x1 (Scalar.ofBits (F := Ideal) .f32 0x3F800000#32))
      (minimumf c (broadcast S512x1 (Scalar.ofBits (F := Ideal) .f32 l)))) hb)) X) ht : FVec Ideal S512x256 .bf16) (ix2 r q)
      = D (ix2 ⟨16 + r.val, by omega⟩ q) * Ideal.div 1 (min (c (ix2 r 0)) (Ideal.ofBits .f32 l)) - X (ix2 r q) := by
  pointwise

variable {x : FVec Ideal S8192x1024 .f32} {w : FVec Ideal S4x256x256 .f32} {s : FVec Ideal S1x1024 .f32} {z : FVec Ideal S8192x1024 .f32}
  {g : Fin 4} {i : ℕ} {hi : i < 16} {c : FVec Ideal S512x1 .f32} {d : FVec Ideal S528x1 .f32} {EX : FVec Ideal S528x256 .f32}
  {X : FVec Ideal S512x256 .f32} {W : FVec Ideal S1x256x256 .bf16} {Z : FVec Ideal S512x256 .f32} {EZ : FVec Ideal S528x256 .f32}
  {S : FVec Ideal S1x256 .f32}

/-- The rows held are the sums over one row. -/
theorem Blk.back1 (H : Blk x w s z g i hi c d EX X W Z EZ S) (q : Fin 256) : IsBack 1 EX q (halo x g q i) := by
  intro n _
  rw [Finset.sum_range_one, Nat.sub_zero, H.EX]

/-- The difference a point computes, from the sums over the window. -/
theorem Blk.diff (H : Blk x w s z g i hi c d EX X W Z EZ S) (l : BitVec 32) (hl : Ideal.ofBits .f32 l = lit g) (D : FVec Ideal S528x256 .f32)
    (q : Fin 256) (hD : IsBack (win g) D q (halo x g q i)) (hw : win g ≤ 16) (h hb) (ht) (r : Fin 512) :
    (truncf .bf16 (subf (mulf (extractStridedSlice S512x256 ![16, 0] D h) (broadcastTo S512x256 (divf (broadcast S512x1 (Scalar.ofBits (F := Ideal) .f32 0x3F800000#32))
      (minimumf c (broadcast S512x1 (Scalar.ofBits (F := Ideal) .f32 l)))) hb)) X) ht : FVec Ideal S512x256 .bf16) (ix2 r q) = diff x g (row i hi r) q := by
  rw [diff_form, H.c, hl, H.X, hD _ (by show win g ≤ 16 + r.val + 1; omega)]
  show _ * Ideal.div 1 (cnt g (512 * i + r.val)) - _ = _
  rw [mul_inv_cnt]
  show Ideal.div _ _ - _ = Ideal.div (back (win g) (ext fun r : Fin 8192 => x (ix2 r (col g q))) (512 * i + r.val)) (cnt g (512 * i + r.val)) - _
  refine congrArg (fun a => Ideal.div a _ - _) (Finset.sum_congr rfl fun j hj => ?_)
  have hj : j < 16 := lt_of_lt_of_le (Finset.mem_range.1 hj) hw
  unfold halo
  show (if 16 ≤ 512 * i + (16 + r.val - j) then _ else _) = _
  by_cases h : j ≤ 512 * i + r.val
  · rw [if_pos (by omega), if_pos h]; exact congrArg _ (by omega : 512 * i + (16 + r.val - j) - 16 = 512 * i + r.val - j)
  · rw [if_neg (by omega), if_neg h]

/-- The gradient before the gain, at an index, zero past the last row. -/
theorem Blk.dpre (H : Blk x w s z g i hi c d EX X W Z EZ S) (hb) (ht) (n : Fin 528) (q : Fin 256) :
    (truncf .bf16 (mulf EZ (broadcastTo S528x256 S hb)) ht : FVec Ideal S528x256 .bf16) (ix2 n q) = ext (fun r => dpre s z g r q) (512 * i + n.val) := by
  have e : (truncf .bf16 (mulf EZ (broadcastTo S528x256 S hb)) ht : FVec Ideal S528x256 .bf16) (ix2 n q) = EZ (ix2 n q) * S (ix2 0 q) := by pointwise
  rw [e, H.EZ, H.S]; unfold ext; split
  · rfl
  · exact zero_mul _

/-- The gradient at the difference. -/
theorem Blk.ddiff (H : Blk x w s z g i hi c d EX X W Z EZ S) (P : FVec Ideal S528x256 .bf16)
    (hP : ∀ n q, P (ix2 n q) = ext (fun r => Cert.ReferenceIdeal.Own.dpre s z g r q) (512 * i + n.val)) (hc) (n : Fin 528) (q : Fin 256) :
    (matmul dot_S528x256_S256x256_S528x256_1_1_0_0_n_n none P (shapeCast S256x256 W hc) (constant S528x256 .f32 0x00000000#32) : FVec Ideal S528x256 .f32) (ix2 n q)
      = ext (fun r => ddiff w s z g r q) (512 * i + n.val) := by
  have e : (matmul dot_S528x256_S256x256_S528x256_1_1_0_0_n_n none P (shapeCast S256x256 W hc) (constant S528x256 .f32 0x00000000#32) : FVec Ideal S528x256 .f32) (ix2 n q)
      = ∑ k : Fin 256, P (ix2 n k) * W (ix3 0 q k) := by pointwise
  rw [e]; simp only [hP, H.W]; unfold ext; split
  · rfl
  · simp only [zero_mul, Finset.sum_const_zero]

/-- The same over the count: the sums ahead over one row. -/
theorem Blk.ahead1 (H : Blk x w s z g i hi c d EX X W Z EZ S) (l : BitVec 32) (hl : Ideal.ofBits .f32 l = lit g) (Q : FVec Ideal S528x256 .f32)
    (hQ : ∀ n q, Q (ix2 n q) = ext (fun r => Cert.ReferenceIdeal.Own.ddiff w s z g r q) (512 * i + n.val)) (hb) (q : Fin 256) :
    IsAhead 1 (mulf Q (broadcastTo S528x256 (divf (broadcast S528x1 (Scalar.ofBits (F := Ideal) .f32 0x3F800000#32))
      (minimumf d (broadcast S528x1 (Scalar.ofBits (F := Ideal) .f32 l)))) hb)) q (fun n => ext (fun r => dsum w s z g r q) (512 * i + n)) := by
  intro n _
  have e : (mulf Q (broadcastTo S528x256 (divf (broadcast S528x1 (Scalar.ofBits (F := Ideal) .f32 0x3F800000#32))
      (minimumf d (broadcast S528x1 (Scalar.ofBits (F := Ideal) .f32 l)))) hb) : FVec Ideal S528x256 .f32) (ix2 n q)
      = Q (ix2 n q) * Ideal.div 1 (min (d (ix2 n 0)) (Ideal.ofBits .f32 l)) := by pointwise
  rw [e, H.d, hl, hQ]
  show _ * Ideal.div 1 (cnt g (512 * i + n.val)) = _
  rw [ahead, Finset.sum_range_one]; show _ = ext (fun r => dsum w s z g r q) (512 * i + n.val)
  unfold ext; split
  · exact mul_inv_cnt _ _ _
  · exact zero_mul _

/-- The first result: the gradient for the block's rows. -/
theorem Blk.out (H : Blk x w s z g i hi c d EX X W Z EZ S) (A Q : FVec Ideal S528x256 .f32)
    (hQ : ∀ n q, Q (ix2 n q) = ext (fun r => Cert.ReferenceIdeal.Own.ddiff w s z g r q) (512 * i + n.val)) (q : Fin 256)
    (hA : IsAhead (win g) A q (fun n => ext (fun r => dsum w s z g r q) (512 * i + n))) (hw : win g ≤ 16) (h) (r : Fin 512) :
    (subf (addf (mulf (broadcast S512x256 (Scalar.ofBits (F := Ideal) .f32 0x3FB504F3#32)) Z) (extractStridedSlice S512x256 ![0, 0] A h))
      (extractStridedSlice S512x256 ![0, 0] Q h) : FVec Ideal S512x256 .f32) (ix2 r q)
      = -Cert.ReferenceIdeal.Own.ddiff w s z g (row i hi r) q + ahead (win g) (ext fun r : Fin 8192 => dsum w s z g r q) (row i hi r)
        + Ideal.ofBits .f32 0x3FB504F3#32 * z (ix2 (row i hi r) (col g q)) := by
  have e : (subf (addf (mulf (broadcast S512x256 (Scalar.ofBits (F := Ideal) .f32 0x3FB504F3#32)) Z) (extractStridedSlice S512x256 ![0, 0] A h))
      (extractStridedSlice S512x256 ![0, 0] Q h) : FVec Ideal S512x256 .f32) (ix2 r q)
      = Ideal.ofBits .f32 0x3FB504F3#32 * Z (ix2 r q) + A (ix2 ⟨r.val, by omega⟩ q) - Q (ix2 ⟨r.val, by omega⟩ q) := by pointwise
  rw [e, H.Z, hA _ (by show r.val + win g ≤ 528; omega), hQ, sub_eq_add_neg, add_comm, add_comm (Ideal.ofBits .f32 0x3FB504F3#32 * _), ← add_assoc]
  have e1 : ext (fun r => Cert.ReferenceIdeal.Own.ddiff w s z g r q) (512 * i + r.val) = Cert.ReferenceIdeal.Own.ddiff w s z g (row i hi r) q :=
    dif_pos (row i hi r).isLt
  have e2 : ahead (win g) (fun n => ext (fun r => dsum w s z g r q) (512 * i + n)) r.val = ahead (win g) (ext fun r : Fin 8192 => dsum w s z g r q) (row i hi r) := by
    unfold ahead; exact Finset.sum_congr rfl fun j _ => congrArg (ext fun r => dsum w s z g r q) (Nat.add_assoc _ _ _).symm
  rw [← e2, ← e1]

/-- The second result's part: the block's rows. -/
theorem Blk.mat (H : Blk x w s z g i hi c d EX X W Z EZ S) (D : FVec Ideal S512x256 .bf16) (hD : ∀ r q, D (ix2 r q) = Cert.ReferenceIdeal.Own.diff x g (row i hi r) q)
    (P : FVec Ideal S528x256 .bf16) (hP : ∀ n q, P (ix2 n q) = ext (fun r => Cert.ReferenceIdeal.Own.dpre s z g r q) (512 * i + n.val)) (h) (p q : Fin 256) :
    (matmul dot_S512x256_S512x256_S256x256_0_0_1_1_n_n none D (extractStridedSlice S512x256 ![0, 0] P h) (constant S256x256 .f32 0x00000000#32) : FVec Ideal S256x256 .f32) (ix2 p q)
      = ∑ r : Fin 512, Cert.ReferenceIdeal.Own.diff x g (row i hi r) p * Cert.ReferenceIdeal.Own.dpre s z g (row i hi r) q := by
  have e : (matmul dot_S512x256_S512x256_S256x256_0_0_1_1_n_n none D (extractStridedSlice S512x256 ![0, 0] P h) (constant S256x256 .f32 0x00000000#32) : FVec Ideal S256x256 .f32) (ix2 p q)
      = ∑ r : Fin 512, D (ix2 r p) * P (ix2 ⟨r.val, by omega⟩ q) := by pointwise
  rw [e]
  refine Finset.sum_congr rfl fun r _ => ?_
  rw [hD, hP]; exact congrArg _ (dif_pos (row i hi r).isLt)

/-- The third result's part: the block's rows. -/
theorem Blk.gain (H : Blk x w s z g i hi c d EX X W Z EZ S) (D : FVec Ideal S512x256 .bf16) (hD : ∀ r q, D (ix2 r q) = Cert.ReferenceIdeal.Own.diff x g (row i hi r) q)
    (hc hr h1 h2 hs) (q : Fin 256) :
    (shapeCast S1x256 (multiReduction .add [0] S256 (mulf Z (matmul dot_S512x256_S256x256_S512x256_1_0_0_1_n_n none D (shapeCast S256x256 W hc)
      (constant S512x256 .f32 0x00000000#32))) 0x00000000#32 hr h1 h2) hs : FVec Ideal S1x256 .f32) (ix2 0 q)
      = ∑ r : Fin 512, z (ix2 (row i hi r) (col g q)) * mixed x w g (row i hi r) q := by
  have e : (shapeCast S1x256 (multiReduction .add [0] S256 (mulf Z (matmul dot_S512x256_S256x256_S512x256_1_0_0_1_n_n none D (shapeCast S256x256 W hc)
      (constant S512x256 .f32 0x00000000#32))) 0x00000000#32 hr h1 h2) hs : FVec Ideal S1x256 .f32) (ix2 0 q)
      = ∑ r : Fin 512, Z (ix2 r q) * ∑ k : Fin 256, D (ix2 r k) * W (ix3 0 k q) := by pointwise
  rw [e]; simp only [hD, H.W, H.Z]; rfl

/-! The four groups: the kernel's own payloads. -/

section
variable {b : BitVec 32} (H : Blk x w s z 0 i hi c (k0_pay17 (F := Ideal) b) EX X W Z EZ S)
include H

/-- The difference of group 0. -/
theorem diff0 (r : Fin 512) (q : Fin 256) : k0_pay18 (F := Ideal) c EX X (ix2 r q) = diff x 0 (row i hi r) q :=
  H.diff 0x40000000#32 rfl _ q ((H.back1 q).step 2 rfl 1#32 rfl (by decide) rotates_S528x256_d0) (by decide) _ _ _ r

/-- The gradient before the gain of group 0. -/
theorem dpre0 (n : Fin 528) (q : Fin 256) : k0_pay21 (F := Ideal) EZ S (ix2 n q) = ext (fun r => dpre s z 0 r q) (512 * i + n.val) :=
  H.dpre _ _ n q

/-- Group 0's part of the second result. -/
theorem mat0 (p q : Fin 256) : k0_pay22 (F := Ideal) c EX X EZ S (ix2 p q)
    = ∑ r : Fin 512, diff x 0 (row i hi r) p * dpre s z 0 (row i hi r) q :=
  H.mat _ (diff0 H) _ (dpre0 H) _ p q

/-- Group 0's part of the third result. -/
theorem gain0 (q : Fin 256) : k0_pay20 (F := Ideal) c EX X W Z (ix2 0 q)
    = ∑ r : Fin 512, z (ix2 (row i hi r) (col 0 q)) * mixed x w 0 (row i hi r) q :=
  H.gain _ (diff0 H) _ _ _ _ _ q

/-- Group 0's columns of the first result. -/
theorem out0 (r : Fin 512) (q : Fin 256) : k0_pay26 (F := Ideal) Z (k0_pay23 (F := Ideal) W EZ S) (k0_pay24 (F := Ideal) b) (k0_pay25 (F := Ideal)) (ix2 r q)
    = -ddiff w s z 0 (row i hi r) q + ahead (win 0) (ext fun r : Fin 8192 => dsum w s z 0 r q) (row i hi r)
      + Ideal.ofBits .f32 0x3FB504F3#32 * z (ix2 (row i hi r) (col 0 q)) :=
  H.out _ _ (fun n q => H.ddiff _ (dpre0 H) _ n q) q
    ((H.ahead1 0x40000000#32 rfl _ (fun n q => H.ddiff _ (dpre0 H) _ n q) _ q).step 2 rfl 527#32 rfl (by decide) rotates_S528x256_d0) (by decide) _ r

end

section
variable {b : BitVec 32} (H : Blk x w s z 1 i hi c (k0_pay17 (F := Ideal) b) EX X W Z EZ S)
include H

/-- The difference of group 1. -/
theorem diff1 (r : Fin 512) (q : Fin 256) : k0_pay27 (F := Ideal) c EX X (ix2 r q) = diff x 1 (row i hi r) q :=
  H.diff 0x40800000#32 rfl _ q (((H.back1 q).step 2 rfl 1#32 rfl (by decide) rotates_S528x256_d0).step 4 rfl 2#32 rfl (by decide) rotates_S528x256_d0) (by decide) _ _ _ r

/-- The gradient before the gain of group 1. -/
theorem dpre1 (n : Fin 528) (q : Fin 256) : k0_pay30 (F := Ideal) EZ S (ix2 n q) = ext (fun r => dpre s z 1 r q) (512 * i + n.val) :=
  H.dpre _ _ n q

/-- Group 1's part of the second result. -/
theorem mat1 (p q : Fin 256) : k0_pay31 (F := Ideal) (k0_pay27 (F := Ideal) c EX X) EZ S (ix2 p q)
    = ∑ r : Fin 512, diff x 1 (row i hi r) p * dpre s z 1 (row i hi r) q :=
  H.mat _ (diff1 H) _ (dpre1 H) _ p q

/-- Group 1's part of the third result. -/
theorem gain1 (q : Fin 256) : k0_pay29 (F := Ideal) c EX X W Z (ix2 0 q)
    = ∑ r : Fin 512, z (ix2 (row i hi r) (col 1 q)) * mixed x w 1 (row i hi r) q :=
  H.gain _ (diff1 H) _ _ _ _ _ q

/-- Group 1's columns of the first result. -/
theorem out1 (r : Fin 512) (q : Fin 256) : k0_pay32 (F := Ideal) (k0_pay17 (F := Ideal) b) (k0_pay28 (F := Ideal) W) Z EZ S (ix2 r q)
    = -ddiff w s z 1 (row i hi r) q + ahead (win 1) (ext fun r : Fin 8192 => dsum w s z 1 r q) (row i hi r)
      + Ideal.ofBits .f32 0x3FB504F3#32 * z (ix2 (row i hi r) (col 1 q)) :=
  H.out _ _ (fun n q => H.ddiff _ (dpre1 H) _ n q) q
    (((H.ahead1 0x40800000#32 rfl _ (fun n q => H.ddiff _ (dpre1 H) _ n q) _ q).step 2 rfl 527#32 rfl (by decide) rotates_S528x256_d0).step 4 rfl 526#32 rfl (by decide) rotates_S528x256_d0) (by decide) _ r

end

section
variable {b : BitVec 32} (H : Blk x w s z 2 i hi c (k0_pay17 (F := Ideal) b) EX X W Z EZ S)
include H

/-- The difference of group 2. -/
theorem diff2 (r : Fin 512) (q : Fin 256) : k0_pay33 (F := Ideal) c EX X (ix2 r q) = diff x 2 (row i hi r) q :=
  H.diff 0x41000000#32 rfl _ q ((((H.back1 q).step 2 rfl 1#32 rfl (by decide) rotates_S528x256_d0).step 4 rfl 2#32 rfl (by decide) rotates_S528x256_d0).step 8 rfl 4#32 rfl (by decide) rotates_S528x256_d0) (by decide) _ _ _ r

/-- The gradient before the gain of group 2. -/
theorem dpre2 (n : Fin 528) (q : Fin 256) : k0_pay36 (F := Ideal) EZ S (ix2 n q) = ext (fun r => dpre s z 2 r q) (512 * i + n.val) :=
  H.dpre _ _ n q

/-- Group 2's part of the second result. -/
theorem mat2 (p q : Fin 256) : k0_pay37 (F := Ideal) (k0_pay33 (F := Ideal) c EX X) EZ S (ix2 p q)
    = ∑ r : Fin 512, diff x 2 (row i hi r) p * dpre s z 2 (row i hi r) q :=
  H.mat _ (diff2 H) _ (dpre2 H) _ p q

/-- Group 2's part of the third result. -/
theorem gain2 (q : Fin 256) : k0_pay35 (F := Ideal) (k0_pay33 (F := Ideal) c EX X) W Z (ix2 0 q)
    = ∑ r : Fin 512, z (ix2 (row i hi r) (col 2 q)) * mixed x w 2 (row i hi r) q :=
  H.gain _ (diff2 H) _ _ _ _ _ q

/-- Group 2's columns of the first result. -/
theorem out2 (r : Fin 512) (q : Fin 256) : k0_pay38 (F := Ideal) (k0_pay17 (F := Ideal) b) W Z EZ S (ix2 r q)
    = -ddiff w s z 2 (row i hi r) q + ahead (win 2) (ext fun r : Fin 8192 => dsum w s z 2 r q) (row i hi r)
      + Ideal.ofBits .f32 0x3FB504F3#32 * z (ix2 (row i hi r) (col 2 q)) :=
  H.out _ _ (fun n q => H.ddiff _ (dpre2 H) _ n q) q
    ((((H.ahead1 0x41000000#32 rfl _ (fun n q => H.ddiff _ (dpre2 H) _ n q) _ q).step 2 rfl 527#32 rfl (by decide) rotates_S528x256_d0).step 4 rfl 526#32 rfl (by decide) rotates_S528x256_d0).step 8 rfl 524#32 rfl (by decide) rotates_S528x256_d0) (by decide) _ r

end

section
variable {b : BitVec 32} (H : Blk x w s z 3 i hi c (k0_pay17 (F := Ideal) b) EX X W Z EZ S)
include H

/-- The difference of group 3. -/
theorem diff3 (r : Fin 512) (q : Fin 256) : k0_pay40 (F := Ideal) c EX (k0_pay39 (F := Ideal) EX) X (ix2 r q) = diff x 3 (row i hi r) q :=
  H.diff 0x41800000#32 rfl _ q (((((H.back1 q).step 2 rfl 1#32 rfl (by decide) rotates_S528x256_d0).step 4 rfl 2#32 rfl (by decide) rotates_S528x256_d0).step 8 rfl 4#32 rfl (by decide) rotates_S528x256_d0).step 16 rfl 8#32 rfl (by decide) rotates_S528x256_d0) (by decide) _ _ _ r

/-- The gradient before the gain of group 3. -/
theorem dpre3 (n : Fin 528) (q : Fin 256) : k0_pay43 (F := Ideal) EZ S (ix2 n q) = ext (fun r => dpre s z 3 r q) (512 * i + n.val) :=
  H.dpre _ _ n q

/-- Group 3's part of the second result. -/
theorem mat3 (p q : Fin 256) : k0_pay44 (F := Ideal) c EX (k0_pay39 (F := Ideal) EX) X EZ S (ix2 p q)
    = ∑ r : Fin 512, diff x 3 (row i hi r) p * dpre s z 3 (row i hi r) q :=
  H.mat _ (diff3 H) _ (dpre3 H) _ p q

/-- Group 3's part of the third result. -/
theorem gain3 (q : Fin 256) : k0_pay42 (F := Ideal) c EX (k0_pay39 (F := Ideal) EX) X W Z (ix2 0 q)
    = ∑ r : Fin 512, z (ix2 (row i hi r) (col 3 q)) * mixed x w 3 (row i hi r) q :=
  H.gain _ (diff3 H) _ _ _ _ _ q

/-- Group 3's columns of the first result. -/
theorem out3 (r : Fin 512) (q : Fin 256) : k0_pay1 (F := Ideal) Z (k0_pay45 (F := Ideal) W EZ S) (k0_pay46 (F := Ideal) (k0_pay17 (F := Ideal) b) W EZ S) (ix2 r q)
    = -ddiff w s z 3 (row i hi r) q + ahead (win 3) (ext fun r : Fin 8192 => dsum w s z 3 r q) (row i hi r)
      + Ideal.ofBits .f32 0x3FB504F3#32 * z (ix2 (row i hi r) (col 3 q)) :=
  H.out _ _ (fun n q => H.ddiff _ (dpre3 H) _ n q) q
    (((((H.ahead1 0x41800000#32 rfl _ (fun n q => H.ddiff _ (dpre3 H) _ n q) _ q).step 2 rfl 527#32 rfl (by decide) rotates_S528x256_d0).step 4 rfl 526#32 rfl (by decide) rotates_S528x256_d0).step 8 rfl 524#32 rfl (by decide) rotates_S528x256_d0).step 16 rfl 520#32 rfl (by decide) rotates_S528x256_d0) (by decide) _ r

end

end Cert.KernelIdeal.Own
-- ==== Proof.PoolBlk.lean ====
/- What the blocks of the pooling gradient hold at each point, the two halos joined on. -/
module

public import proofs.«01_k».proof.Proof.Gen.KernelIdeal.Value
public import proofs.«01_k».proof.Proof.PoolKer

@[expose] public section

set_option maxRecDepth 16384

noncomputable section

open Idealize.ShloMosaic Idealize.ShloMosaic.TcCoe Idealize.SL.Sem
open Idealize.ShloMosaic.Pipeline (Dat)
open scoped BigOperators

namespace Cert.KernelIdeal.Own

open Cert.KernelIdeal Cert.KernelIdeal.Gen Cert.Own
open Cert.ReferenceIdeal.Own (col win lit cnt diff dpre ddiff dsum dmat mixed cnt_num row_num)

variable (m : (ℓ : Loc nD τ sig) → Buf (Elt Ideal) ℓ)

/-- The blocks the windows take at each point, decided for all 16 points at once. -/
theorem places : ∀ t : Fin cfg0.N, win0_0.index t = ![t.val, 0] ∧ win0_1.index t = ![min ((t.val + 1) * 32) 511, 0]
    ∧ win0_2.index t = ![t.val, 0] ∧ win0_3.index t = ![t.val * 32 - 1, 0] ∧ win0_4.index t = ![0, 0, 0] ∧ win0_5.index t = ![0, 0]
    ∧ win0_6.index t = ![t.val, 0] ∧ win0_7.index t = ![0, 0, 0] ∧ win0_8.index t = ![0, 0] :=
  (by decide +kernel : ∀ t : Fin grid0.N, _)

/-- A point's coordinate is its number. -/
theorem coord : ∀ t : Fin cfg0.N, (grid0.coords t 0).val = t.val := (by decide +kernel : ∀ t : Fin grid0.N, _)

/-- The weights as the kernel takes them: rounded. -/
theorem weight_read (c : Dev nD) : V m c main_v0 = truncf (F := Ideal) .bf16 (m ((c : Thread nD τ).loc main_arg1)) bitsLt_bf16_f32 := by
  unfold V; after_results; try rfl

/-- The upstream gradient's rows in a block. -/
theorem z_blk (c : Dev nD) (t : Fin cfg0.N) (ht : t.val < 16) (r : Fin 512) (q : Fin 1024) :
    iblk m c 0 t (ix2 r q) = m ((c : Thread nD τ).loc main_arg3) (ix2 (row t.val ht r) q) := by
  blk_simp [iblk]; unfold V; pointwise; blk_point [places t, row]

/-- The input's rows in a block. -/
theorem x_blk (c : Dev nD) (t : Fin cfg0.N) (ht : t.val < 16) (r : Fin 512) (q : Fin 1024) :
    iblk m c 2 t (ix2 r q) = m ((c : Thread nD τ).loc main_arg0) (ix2 (row t.val ht r) q) := by
  blk_simp [iblk]; unfold V; pointwise; blk_point [places t, row]

/-- The sixteen rows of the upstream gradient after a block. -/
theorem z_after (c : Dev nD) (t : Fin cfg0.N) (ht : t.val < 15) (n : Fin 16) (q : Fin 1024) :
    iblk m c 1 t (ix2 n q) = m ((c : Thread nD τ).loc main_arg3) (ix2 ⟨512 * t.val + (512 + n.val), by omega⟩ q) := by
  have e : min ((t.val + 1) * 32) 511 = (t.val + 1) * 32 := by omega
  blk_simp [iblk]; unfold V; pointwise; blk_point [places t, e]

/-- The sixteen rows of the input before a block. -/
theorem x_before (c : Dev nD) (t : Fin cfg0.N) (h0 : 0 < t.val) (ht : t.val < 16) (n : Fin 16) (q : Fin 1024) :
    iblk m c 3 t (ix2 n q) = m ((c : Thread nD τ).loc main_arg0) (ix2 ⟨512 * t.val + n.val - 16, by omega⟩ q) := by
  blk_simp [iblk]; unfold V; pointwise; blk_point [places t]

/-- The weights. -/
theorem w_blk (c : Dev nD) (t : Fin cfg0.N) (g : Fin 4) (p q : Fin 256) :
    iblk m c 4 t (ix3 g p q) = m ((c : Thread nD τ).loc main_arg1) (ix3 g p q) := by
  blk_simp [iblk]; rw [weight_read]; pointwise; blk_point [places t]

/-- The scales. -/
theorem s_blk (c : Dev nD) (t : Fin cfg0.N) (q : Fin 1024) :
    iblk m c 5 t (ix2 0 q) = m ((c : Thread nD τ).loc main_arg2) (ix2 0 q) := by
  blk_simp [iblk]; unfold V; pointwise; blk_point [places t]

/-- The number of a row as the kernel counts it, from one. -/
theorem count_num (t n : ℕ) (ht : t < 16) (hn : n < 528) :
    (FloatOps.sitofp FTy.f32 (BitVec.ofNat 32 t * 512#32 + BitVec.ofNat 32 n + 1#32) : Ideal .f32) = (((512 * t + n + 1 : ℕ) : ℝ) : EReal) := by
  rw [show BitVec.ofNat 32 t * 512#32 + BitVec.ofNat 32 n + 1#32 = BitVec.ofNat 32 (512 * t + n + 1) by
    rw [BitVec.ofNat_add, BitVec.ofNat_add, BitVec.ofNat_mul, BitVec.mul_comm (BitVec.ofNat 32 512)], row_num _ (by omega)]

/-- The counts of a block's rows. -/
theorem count_rows (t : Fin cfg0.N) (ht : t.val < 16) (r : Fin 512) :
    k0_pay16 (F := Ideal) (grid0.coords t) (ix2 r 0) = (((512 * t.val + r.val + 1 : ℕ) : ℝ) : EReal) := by
  refine Eq.trans ?_ (count_num t.val r.val ht (by omega))
  rw [← coord t]; pointwise [k0_pay16]; rfl

/-- The counts of a block's rows and the sixteen after. -/
theorem count_more (t : Fin cfg0.N) (ht : t.val < 16) (n : Fin 528) :
    k0_pay17 (F := Ideal) (Scalar.muli (BitVec.ofNat 32 (grid0.coords t 0).val) 512#32) (ix2 n 0) = (((512 * t.val + n.val + 1 : ℕ) : ℝ) : EReal) := by
  refine Eq.trans ?_ (count_num t.val n.val ht n.isLt)
  rw [coord t]; pointwise [k0_pay17]; rfl

/-- Two stores of whole rows, the later one `k` rows down: below `k` the earlier one is read, -/
theorem canon_above {k b : ℕ} (hk : k ≤ 528) (h h') (u : Vec Ideal ⟨2, ![b, 1024]⟩ .f32) (v : Vec Ideal ⟨2, ![k, 1024]⟩ .f32) (n : Fin k) (q : Fin 1024) :
    View.canon (Val := Elt Ideal) (e := .f32) (s := S528x1024) [⟨Rect.unit ![k, 0] ![b, 1024] h, u⟩, ⟨Rect.unit ![0, 0] ![k, 1024] h', v⟩]
      (ix2 ⟨n.val, by omega⟩ q) = v (ix2 n q) := by
  rw [View.canon_cons_of_not_mem]
  · have e : (ix2 ⟨n.val, by omega⟩ q : S528x1024.Idx) = (Rect.unit ![0, 0] ![k, 1024] h').emb (ix2 n q) := by blk_ext
    rw [e, View.canon_cons_emb]
  · intro hm
    obtain ⟨x, hx⟩ := (Rect.unit (s := S528x1024) ![k, 0] ![b, 1024] h).toLoadRect.exists_idx_of_mem hm
    have e : k + 1 * (x 0).val = n.val := congrArg (fun y : S528x1024.Idx => (y 0).val) hx
    have := n.isLt
    omega

/-- from `k` on the later one. -/
theorem canon_below {k b : ℕ} (L) (h) (u : Vec Ideal ⟨2, ![b, 1024]⟩ .f32) (n : Fin b) (hn : k + n.val < 528) (q : Fin 1024) :
    View.canon (Val := Elt Ideal) (e := .f32) (s := S528x1024) (⟨Rect.unit ![k, 0] ![b, 1024] h, u⟩ :: L) (ix2 ⟨k + n.val, hn⟩ q) = u (ix2 n q) := by
  have e : (ix2 ⟨k + n.val, hn⟩ q : S528x1024.Idx) = (Rect.unit ![k, 0] ![b, 1024] h).emb (ix2 n q) := by blk_ext
  rw [e, View.canon_cons_emb]

/-- A group's columns of what the stores left. -/
theorem read_cols {sig' : RefSig} {κ} {sp} (v : View sig' κ sp S528x1024 .f32) (L) (g : Fin 4) (lo : ℕ) (hlo : lo = 256 * g.val) (h) (n : Fin 528) (q : Fin 256) :
    v.readCov (Val := Elt Ideal) L (Rect.unit (s := S528x1024) ![0, lo] ![528, 256] h).toLoadRect (ix2 n q) = View.canon L (ix2 n (col g q)) := by
  rw [View.readCov_eq_canon']
  refine congrArg (View.canon L) (funext fun a => Fin.ext ?_)
  subst hlo
  fin_cases a
  · show 0 + 1 * n.val = n.val; omega
  · show 256 * g.val + 1 * q.val = 256 * g.val + q.val; omega

/-- Before the last block there is one after. -/
theorem is_before : ∀ t : Fin cfg0.N, Scalar.cmpi .slt (BitVec.ofNat 32 (grid0.coords t 0).val) 15#32 = if t.val < 15 then 1#1 else 0#1 :=
  (by decide +kernel : ∀ t : Fin grid0.N, _)

/-- After the first block there is one before. -/
theorem is_after : ∀ t : Fin cfg0.N, Scalar.cmpi .sgt (BitVec.ofNat 32 (grid0.coords t 0).val) 0#32 = if 0 < t.val then 1#1 else 0#1 :=
  (by decide +kernel : ∀ t : Fin grid0.N, _)

/-- The rows stored after a block. -/
theorem store_after (t : Fin cfg0.N) (v : Vec Ideal S16x1024 .f32) (j : S16x1024.Idx) :
    k0_pay13 (F := Ideal) (grid0.coords t) v j = if t.val < 15 then v j else 0 := by
  have e : k0_pay13 (F := Ideal) (grid0.coords t) v j
      = Scalar.select (Scalar.cmpi .slt (BitVec.ofNat 32 (grid0.coords t 0).val) 15#32) v (broadcast S16x1024 (Scalar.ofBits (F := Ideal) .f32 0x00000000#32)) j := by
    unfold k0_pay13; rw [shapeCast_self]
  rw [e, is_before t]; split
  · rfl
  · exact Ideal.ofBits_zero_f32

/-- The rows stored before a block. -/
theorem store_before (t : Fin cfg0.N) (v : Vec Ideal S16x1024 .f32) (j : S16x1024.Idx) :
    k0_pay14 (F := Ideal) (grid0.coords t) v j = if 0 < t.val then v j else 0 := by
  have e : k0_pay14 (F := Ideal) (grid0.coords t) v j
      = Scalar.select (Scalar.cmpi .sgt (BitVec.ofNat 32 (grid0.coords t 0).val) 0#32) v (broadcast S16x1024 (Scalar.ofBits (F := Ideal) .f32 0x00000000#32)) j := by
    unfold k0_pay14; rw [shapeCast_self]
  rw [e, is_after t]; split
  · rfl
  · exact Ideal.ofBits_zero_f32

/-- The upstream gradient's columns of a group, with the sixteen rows after the block, zero past the last row. -/
theorem z_long (c : Dev nD) (t : Fin cfg0.N) (ht : t.val < 16) (g : Fin 4) (lo : ℕ) (hlo : lo = 256 * g.val) (h) (n : Fin 528) (q : Fin 256) :
    (View.whole cc0_scratch0).readCov (Val := Elt Ideal) [⟨Rect.unit ![512, 0] ![16, 1024] inb_S528x1024_S16x1024_512_0, k0_pay13 (F := Ideal) (grid0.coords t) (iblk m c 1 t)⟩,
      ⟨Rect.unit ![0, 0] ![512, 1024] inb_S528x1024_S512x1024_0_0, k0_pay12 (F := Ideal) (iblk m c 0 t)⟩] (Rect.unit (s := S528x1024) ![0, lo] ![528, 256] h).toLoadRect (ix2 n q)
      = ext (fun r : Fin 8192 => (m ((c : Thread nD τ).loc main_arg3) : FVec Ideal S8192x1024 .f32) (ix2 r (col g q))) (512 * t.val + n.val) := by
  rw [read_cols _ _ g lo hlo h n q]
  by_cases hn : n.val < 512
  · refine (canon_above (k := 512) (b := 16) (by decide) _ _ _ _ ⟨n.val, hn⟩ (col g q)).trans ?_
    unfold k0_pay12
    rw [shapeCast_self, z_blk m c t ht]
    unfold ext
    rw [dif_pos (by omega : 512 * t.val + n.val < 8192)]; rfl
  · obtain ⟨k, hk, rfl⟩ : ∃ (k : Fin 16) (hk : 512 + k.val < 528), n = ⟨512 + k.val, hk⟩ := ⟨⟨n.val - 512, by omega⟩, by show 512 + (n.val - 512) < 528; omega, Fin.ext (by show n.val = 512 + (n.val - 512); omega)⟩
    refine (canon_below (k := 512) (b := 16) _ _ _ k _ (col g q)).trans ?_
    rw [store_after]; unfold ext
    by_cases h15 : t.val < 15
    · rw [if_pos h15, z_after m c t h15, dif_pos (by show 512 * t.val + (512 + k.val) < 8192; omega)]
    · rw [if_neg h15, dif_neg (by show ¬ 512 * t.val + (512 + k.val) < 8192; omega)]

/-- The input's columns of a group, with the sixteen rows before the block, zero before the first row. -/
theorem x_long (c : Dev nD) (t : Fin cfg0.N) (ht : t.val < 16) (g : Fin 4) (lo : ℕ) (hlo : lo = 256 * g.val) (h) (n : Fin 528) (q : Fin 256) :
    (View.whole cc0_scratch1).readCov (Val := Elt Ideal) [⟨Rect.unit ![16, 0] ![512, 1024] inb_S528x1024_S512x1024_16_0, k0_pay15 (F := Ideal) (iblk m c 2 t)⟩,
      ⟨Rect.unit ![0, 0] ![16, 1024] inb_S528x1024_S16x1024_0_0, k0_pay14 (F := Ideal) (grid0.coords t) (iblk m c 3 t)⟩] (Rect.unit (s := S528x1024) ![0, lo] ![528, 256] h).toLoadRect (ix2 n q)
      = halo (m ((c : Thread nD τ).loc main_arg0)) g q t.val n.val := by
  rw [read_cols _ _ g lo hlo h n q]; unfold halo ext
  by_cases hn : n.val < 16
  · refine (canon_above (k := 16) (b := 512) (by decide) _ _ _ _ ⟨n.val, hn⟩ (col g q)).trans ?_
    rw [store_before]
    by_cases h0 : 0 < t.val
    · rw [if_pos h0, x_before m c t h0 ht, if_pos (by omega), dif_pos (by omega)]
    · rw [if_neg h0, if_neg (by omega)]
  · obtain ⟨k, hk, rfl⟩ : ∃ (k : Fin 512) (hk : 16 + k.val < 528), n = ⟨16 + k.val, hk⟩ := ⟨⟨n.val - 16, by omega⟩, by show 16 + (n.val - 16) < 528; omega, Fin.ext (by show n.val = 16 + (n.val - 16); omega)⟩
    refine (canon_below (k := 16) (b := 512) _ _ _ k _ (col g q)).trans ?_
    unfold k0_pay15
    rw [shapeCast_self, x_blk m c t ht, if_pos (by show 16 ≤ 512 * t.val + (16 + k.val); omega), dif_pos (by show 512 * t.val + (16 + k.val) - 16 < 8192; omega)]
    refine congrArg (fun r : Fin 8192 => (m ((c : Thread nD τ).loc main_arg0) : FVec Ideal S8192x1024 .f32) (ix2 r (col g q))) (Fin.ext ?_)
    show 512 * t.val + k.val = 512 * t.val + (16 + k.val) - 16; omega

/-- A group's columns of a block, at an index, -/
theorem ld_cols {R : ℕ} (f : Vec Ideal ⟨2, ![R, 1024]⟩ .f32) (g : Fin 4) (lo : ℕ) (hlo : lo = 256 * g.val) (h) (r : Fin R) (q : Fin 256) :
    (View.ld f (Rect.unit (s := ⟨2, ![R, 1024]⟩) ![0, lo] ![R, 256] h) : (⟨2, ![R, 256]⟩ : Shape).Idx → EReal) (ix2 r q) = f (ix2 r (col g q)) := by
  refine congrArg f (funext fun a => Fin.ext ?_)
  subst hlo
  fin_cases a
  · show 0 + 1 * r.val = r.val; omega
  · show 256 * g.val + 1 * q.val = 256 * g.val + q.val; omega

/-- and a group's matrix. -/
theorem ld_mat (f : Vec Ideal S4x256x256 .bf16) (g : Fin 4) (lo : ℕ) (hlo : lo = g.val) (h) (p q : Fin 256) :
    (View.ld f (Rect.unit (s := S4x256x256) ![lo, 0, 0] ![1, 256, 256] h) : S1x256x256.Idx → EReal) (ix3 0 p q) = f (ix3 g p q) := by
  refine congrArg f (funext fun a => Fin.ext ?_)
  subst hlo
  fin_cases a
  · show g.val + 1 * 0 = g.val; omega
  · show 0 + 1 * p.val = p.val; omega
  · show 0 + 1 * q.val = q.val; omega

/-- Likewise where the numbers aren't rounded. -/
theorem ld_sum (f : Vec Ideal S4x256x256 .f32) (g : Fin 4) (lo : ℕ) (hlo : lo = g.val) (h) (p q : Fin 256) :
    (View.ld f (Rect.unit (s := S4x256x256) ![lo, 0, 0] ![1, 256, 256] h) : S1x256x256.Idx → EReal) (ix3 0 p q) = f (ix3 g p q) := by
  refine congrArg f (funext fun a => Fin.ext ?_)
  subst hlo
  fin_cases a
  · show g.val + 1 * 0 = g.val; omega
  · show 0 + 1 * p.val = p.val; omega
  · show 0 + 1 * q.val = q.val; omega

/-- What a point's loads hold, for a group of columns from `lo` on and matrix `l`. -/
abbrev Holds (c : Dev nD) (t : Fin cfg0.N) (ht : t.val < 16) (g : Fin 4) (lo l : ℕ)
    (h1 : ∀ a, ![0, lo] a + ![528, 256] a ≤ S528x1024.size a) (h2 : ∀ a, ![0, lo] a + ![512, 256] a ≤ S512x1024.size a)
    (h3 : ∀ a, ![l, 0, 0] a + ![1, 256, 256] a ≤ S4x256x256.size a) (h6 : ∀ a, ![0, lo] a + ![1, 256] a ≤ S1x1024.size a) : Prop :=
    Blk (m ((c : Thread nD τ).loc main_arg0)) (m ((c : Thread nD τ).loc main_arg1)) (m ((c : Thread nD τ).loc main_arg2)) (m ((c : Thread nD τ).loc main_arg3))
      g t.val ht (k0_pay16 (F := Ideal) (grid0.coords t)) (k0_pay17 (F := Ideal) (Scalar.muli (BitVec.ofNat 32 (grid0.coords t 0).val) 512#32))
      ((View.whole cc0_scratch1).readCov (Val := Elt Ideal) [⟨Rect.unit ![16, 0] ![512, 1024] inb_S528x1024_S512x1024_16_0, k0_pay15 (F := Ideal) (iblk m c 2 t)⟩,
        ⟨Rect.unit ![0, 0] ![16, 1024] inb_S528x1024_S16x1024_0_0, k0_pay14 (F := Ideal) (grid0.coords t) (iblk m c 3 t)⟩] (Rect.unit (s := S528x1024) ![0, lo] ![528, 256] h1).toLoadRect)
      (View.ld (iblk m c 2 t) (Rect.unit (s := S512x1024) ![0, lo] ![512, 256] h2))
      (View.ld (iblk m c 4 t) (Rect.unit (s := S4x256x256) ![l, 0, 0] ![1, 256, 256] h3))
      (View.ld (iblk m c 0 t) (Rect.unit (s := S512x1024) ![0, lo] ![512, 256] h2))
      ((View.whole cc0_scratch0).readCov (Val := Elt Ideal) [⟨Rect.unit ![512, 0] ![16, 1024] inb_S528x1024_S16x1024_512_0, k0_pay13 (F := Ideal) (grid0.coords t) (iblk m c 1 t)⟩,
        ⟨Rect.unit ![0, 0] ![512, 1024] inb_S528x1024_S512x1024_0_0, k0_pay12 (F := Ideal) (iblk m c 0 t)⟩] (Rect.unit (s := S528x1024) ![0, lo] ![528, 256] h1).toLoadRect)
      (View.ld (iblk m c 5 t) (Rect.unit (s := S1x1024) ![0, lo] ![1, 256] h6))

/-- They hold the arrays' entries. -/
theorem blk (c : Dev nD) (t : Fin cfg0.N) (ht : t.val < 16) (g : Fin 4) (lo : ℕ) (hlo : lo = 256 * g.val) (l : ℕ) (hl : l = g.val) (h1 h2 h3 h6) :
    Holds m c t ht g lo l h1 h2 h3 h6 where
  c := count_rows t ht
  d := count_more t ht
  EX := x_long m c t ht g lo hlo h1
  X := fun r q => (ld_cols (R := 512) _ g lo hlo h2 r q).trans (x_blk m c t ht r (col g q))
  W := fun p q => (ld_mat _ g l hl h3 p q).trans (w_blk m c t g p q)
  Z := fun r q => (ld_cols (R := 512) _ g lo hlo h2 r q).trans (z_blk m c t ht r (col g q))
  EZ := z_long m c t ht g lo hlo h1
  S := fun q => (ld_cols (R := 1) _ g lo hlo h6 0 q).trans (s_blk m c t (col g q))

/-- Group 0. -/
theorem blk0 (c : Dev nD) (t : Fin cfg0.N) (ht : t.val < 16) : Holds m c t ht 0 0 0
    inb_S528x1024_S528x256_0_0 inb_S512x1024_S512x256_0_0 inb_S4x256x256_S1x256x256_0_0_0 inb_S1x1024_S1x256_0_0 :=
  blk m c t ht 0 0 rfl 0 rfl _ _ _ _

/-- Group 1. -/
theorem blk1 (c : Dev nD) (t : Fin cfg0.N) (ht : t.val < 16) : Holds m c t ht 1 256 1
    inb_S528x1024_S528x256_0_256 inb_S512x1024_S512x256_0_256 inb_S4x256x256_S1x256x256_1_0_0 inb_S1x1024_S1x256_0_256 :=
  blk m c t ht 1 256 rfl 1 rfl _ _ _ _

/-- Group 2. -/
theorem blk2 (c : Dev nD) (t : Fin cfg0.N) (ht : t.val < 16) : Holds m c t ht 2 512 2
    inb_S528x1024_S528x256_0_512 inb_S512x1024_S512x256_0_512 inb_S4x256x256_S1x256x256_2_0_0 inb_S1x1024_S1x256_0_512 :=
  blk m c t ht 2 512 rfl 2 rfl _ _ _ _

/-- Group 3. -/
theorem blk3 (c : Dev nD) (t : Fin cfg0.N) (ht : t.val < 16) : Holds m c t ht 3 768 3
    inb_S528x1024_S528x256_0_768 inb_S512x1024_S512x256_0_768 inb_S4x256x256_S1x256x256_3_0_0 inb_S1x1024_S1x256_0_768 :=
  blk m c t ht 3 768 rfl 3 rfl _ _ _ _

end Cert.KernelIdeal.Own
-- ==== Proof.Pool.lean ====
/- The gradient of the pooling of the rows before: what the kernel's three result arrays hold after the run. -/
module

public import proofs.«01_k».proof.Proof.PoolBlk

@[expose] public section

set_option maxRecDepth 16384

noncomputable section

open Idealize.ShloMosaic Idealize.ShloMosaic.TcCoe Idealize.SL.Sem
open Idealize.ShloMosaic.Pipeline (Dat)
open scoped BigOperators

namespace Cert.KernelIdeal.Own

open Cert.KernelIdeal Cert.KernelIdeal.Gen Cert.Own
open Cert.ReferenceIdeal.Own (col win lit cnt diff dpre ddiff dsum dmat mixed cnt_num)

variable (m : (ℓ : Loc nD τ sig) → Buf (Elt Ideal) ℓ)

/-- All the arguments are numbers. -/
structure Nums (c : Dev nD) : Prop where
  x : ∀ i, IsNum ((m ((c : Thread nD τ).loc main_arg0) : FVec Ideal S8192x1024 .f32) i)
  w : ∀ i, IsNum ((m ((c : Thread nD τ).loc main_arg1) : FVec Ideal S4x256x256 .f32) i)
  s : ∀ i, IsNum ((m ((c : Thread nD τ).loc main_arg2) : FVec Ideal S1x1024 .f32) i)
  z : ∀ i, IsNum ((m ((c : Thread nD τ).loc main_arg3) : FVec Ideal S8192x1024 .f32) i)

/-- The first result at a group's column, as the reference has it. -/
theorem x_at (c : Dev nD) (h : Nums m c) (t : Fin cfg0.N) (ht : t.val < 16) (g : Fin 4) (r : Fin 512) (q : Fin 256) (v : EReal) (i : S8192x1024.Idx)
    (h0 : (i 0).val = 512 * t.val + r.val) (h1 : (i 1).val = 256 * g.val + q.val)
    (hv : v = -ddiff (m ((c : Thread nD τ).loc main_arg1)) (m ((c : Thread nD τ).loc main_arg2)) (m ((c : Thread nD τ).loc main_arg3)) g (row t.val ht r) q
      + ahead (win g) (ext fun r : Fin 8192 => dsum (m ((c : Thread nD τ).loc main_arg1)) (m ((c : Thread nD τ).loc main_arg2)) (m ((c : Thread nD τ).loc main_arg3)) g r q) (row t.val ht r)
      + Ideal.ofBits .f32 0x3FB504F3#32 * (m ((c : Thread nD τ).loc main_arg3) : FVec Ideal S8192x1024 .f32) (ix2 (row t.val ht r) (col g q))) :
    v = Cert.ReferenceIdeal.Read.val_main_v195 (F := Ideal) (m ((c : Thread nD τ).loc main_arg1)) (m ((c : Thread nD τ).loc main_arg2)) (m ((c : Thread nD τ).loc main_arg3)) i := by
  have e : i = ix2 (row t.val ht r) (col g q) := funext fun a => Fin.ext (by fin_cases a; exacts [h0, h1])
  rw [hv, e]
  exact (Cert.ReferenceIdeal.Own.out_x _ _ _ h.w h.s h.z g (row t.val ht r) q).symm

/-- The first result after the run is the reference's. -/
theorem final_6 (c : Dev nD) (hn : Nums m c) : (dats m 0 c).arrAt 6 (cfgs 0).N
    = Cert.ReferenceIdeal.Read.val_main_v195 (F := Ideal) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht : t.val < 16 := lt_of_lt_of_eq t.isLt N_0
  blk_simp; rw [after0_6]
  by_cases hs : t.val % 16 = 0
  · rw [outsAt0_A m c t hs (by omega) hs (by omega)]; frame_out
    canon_tiles u h
    · obtain ⟨r, q, rfl⟩ : ∃ (r : Fin 512) (q : Fin 256), u = ix2 r q := ⟨u 0, u 1, by blk_ext⟩
      have e0 : (y 0).val = r.val := h0
      have e1 : (y 1).val = 768 + q.val := h1
      exact x_at m c hn t ht 3 r q _ _ (by blk_simp [places t]; omega) (by blk_simp [places t]; omega) (out3 (blk3 m c t ht) r q)
    · obtain ⟨r, q, rfl⟩ : ∃ (r : Fin 512) (q : Fin 256), u = ix2 r q := ⟨u 0, u 1, by blk_ext⟩
      have e0 : (y 0).val = r.val := h0
      have e1 : (y 1).val = 512 + q.val := h1
      exact x_at m c hn t ht 2 r q _ _ (by blk_simp [places t]; omega) (by blk_simp [places t]; omega) (out2 (blk2 m c t ht) r q)
    · obtain ⟨r, q, rfl⟩ : ∃ (r : Fin 512) (q : Fin 256), u = ix2 r q := ⟨u 0, u 1, by blk_ext⟩
      have e0 : (y 0).val = r.val := h0
      have e1 : (y 1).val = 256 + q.val := h1
      exact x_at m c hn t ht 1 r q _ _ (by blk_simp [places t]; omega) (by blk_simp [places t]; omega) (out1 (blk1 m c t ht) r q)
    · obtain ⟨r, q, rfl⟩ : ∃ (r : Fin 512) (q : Fin 256), u = ix2 r q := ⟨u 0, u 1, by blk_ext⟩
      have e0 : (y 0).val = r.val := h0
      have e1 : (y 1).val = q.val := h1
      exact x_at m c hn t ht 0 r q _ _ (by blk_simp [places t]; omega) (by blk_simp [places t]; omega) (out0 (blk0 m c t ht) r q)
  · rw [outsAt0_B m c t hs (by omega) hs (by omega)]; frame_out
    canon_tiles u h
    · obtain ⟨r, q, rfl⟩ : ∃ (r : Fin 512) (q : Fin 256), u = ix2 r q := ⟨u 0, u 1, by blk_ext⟩
      have e0 : (y 0).val = r.val := h0
      have e1 : (y 1).val = 768 + q.val := h1
      exact x_at m c hn t ht 3 r q _ _ (by blk_simp [places t]; omega) (by blk_simp [places t]; omega) (out3 (blk3 m c t ht) r q)
    · obtain ⟨r, q, rfl⟩ : ∃ (r : Fin 512) (q : Fin 256), u = ix2 r q := ⟨u 0, u 1, by blk_ext⟩
      have e0 : (y 0).val = r.val := h0
      have e1 : (y 1).val = 512 + q.val := h1
      exact x_at m c hn t ht 2 r q _ _ (by blk_simp [places t]; omega) (by blk_simp [places t]; omega) (out2 (blk2 m c t ht) r q)
    · obtain ⟨r, q, rfl⟩ : ∃ (r : Fin 512) (q : Fin 256), u = ix2 r q := ⟨u 0, u 1, by blk_ext⟩
      have e0 : (y 0).val = r.val := h0
      have e1 : (y 1).val = 256 + q.val := h1
      exact x_at m c hn t ht 1 r q _ _ (by blk_simp [places t]; omega) (by blk_simp [places t]; omega) (out1 (blk1 m c t ht) r q)
    · obtain ⟨r, q, rfl⟩ : ∃ (r : Fin 512) (q : Fin 256), u = ix2 r q := ⟨u 0, u 1, by blk_ext⟩
      have e0 : (y 0).val = r.val := h0
      have e1 : (y 1).val = q.val := h1
      exact x_at m c hn t ht 0 r q _ _ (by blk_simp [places t]; omega) (by blk_simp [places t]; omega) (out0 (blk0 m c t ht) r q)

/-- An index by its coordinates. -/
theorem idx3 {j : S4x256x256.Idx} {g : Fin 4} {p q : Fin 256} (h0 : (j 0).val = g.val) (h1 : (j 1).val = p.val) (h2 : (j 2).val = q.val) :
    j = ix3 g p q :=
  funext fun a => Fin.ext (by fin_cases a; exacts [h0, h1, h2])

/-- A sum stored as a group's matrix, at an index, -/
theorem store_mat (v : FVec Ideal S256x256 .f32) (p q : Fin 256) : k0_pay4 (F := Ideal) v (ix3 0 p q) = v (ix2 p q) := by pointwise [k0_pay4]

/-- and added to what the matrix held. -/
theorem add_mat (v : FVec Ideal S256x256 .f32) (o : FVec Ideal S1x256x256 .f32) (p q : Fin 256) :
    k0_pay8 (F := Ideal) v o (ix3 0 p q) = o (ix3 0 p q) + v (ix2 p q) := by pointwise [k0_pay8]

/-- A point's part of the second result. -/
def part7 (c : Dev nD) (t : Fin cfg0.N) (j : S4x256x256.Idx) : EReal :=
  ∑ r : Fin 512, diff (m ((c : Thread nD τ).loc main_arg0)) (j 0) (row t.val (lt_of_lt_of_eq t.isLt N_0) r) (j 1)
    * dpre (m ((c : Thread nD τ).loc main_arg2)) (m ((c : Thread nD τ).loc main_arg3)) (j 0) (row t.val (lt_of_lt_of_eq t.isLt N_0) r) (j 2)

/-- The first point stores its part, -/
theorem first7 (c : Dev nD) (t : Fin cfg0.N) (hs : t.val % 16 = 0) (j : S4x256x256.Idx) : (outsAt0 m c t.val t.isLt).2.1 j = part7 m c t j := by
  have ht : t.val < 16 := lt_of_lt_of_eq t.isLt N_0
  rw [outsAt0_A m c t hs (by omega) hs (by omega)]; frame_out
  canon_tiles u h
  · obtain ⟨p, q, rfl⟩ : ∃ p q : Fin 256, u = ix3 0 p q := ⟨u 1, u 2, by blk_ext⟩
    obtain rfl : j = ix3 3 p q := idx3 h0 h1 h2
    exact (store_mat _ p q).trans (mat3 (blk3 m c t ht) p q)
  · obtain ⟨p, q, rfl⟩ : ∃ p q : Fin 256, u = ix3 0 p q := ⟨u 1, u 2, by blk_ext⟩
    obtain rfl : j = ix3 2 p q := idx3 h0 h1 h2
    exact (store_mat _ p q).trans (mat2 (blk2 m c t ht) p q)
  · obtain ⟨p, q, rfl⟩ : ∃ p q : Fin 256, u = ix3 0 p q := ⟨u 1, u 2, by blk_ext⟩
    obtain rfl : j = ix3 1 p q := idx3 h0 h1 h2
    exact (store_mat _ p q).trans (mat1 (blk1 m c t ht) p q)
  · obtain ⟨p, q, rfl⟩ : ∃ p q : Fin 256, u = ix3 0 p q := ⟨u 1, u 2, by blk_ext⟩
    obtain rfl : j = ix3 0 p q := idx3 h0 h1 h2
    exact (store_mat _ p q).trans (mat0 (blk0 m c t ht) p q)

/-- the others add theirs to what the point before left. -/
theorem next7 (c : Dev nD) (t : Fin cfg0.N) (hs : ¬t.val % 16 = 0) (j : S4x256x256.Idx) :
    (outsAt0 m c t.val t.isLt).2.1 j = (outsAt0 m c (t.val - 1) (Nat.lt_of_le_of_lt (Nat.sub_le _ _) t.isLt)).2.1 j + part7 m c t j := by
  have ht : t.val < 16 := lt_of_lt_of_eq t.isLt N_0
  rw [outsAt0_B m c t hs (by omega) hs (by omega)]; frame_out
  canon_tiles u h
  · obtain ⟨p, q, rfl⟩ : ∃ p q : Fin 256, u = ix3 0 p q := ⟨u 1, u 2, by blk_ext⟩
    obtain rfl : j = ix3 3 p q := idx3 h0 h1 h2
    exact (add_mat _ _ p q).trans (congrArg₂ (· + ·) (ld_sum _ 3 3 rfl _ p q) (mat3 (blk3 m c t ht) p q))
  · obtain ⟨p, q, rfl⟩ : ∃ p q : Fin 256, u = ix3 0 p q := ⟨u 1, u 2, by blk_ext⟩
    obtain rfl : j = ix3 2 p q := idx3 h0 h1 h2
    exact (add_mat _ _ p q).trans (congrArg₂ (· + ·) (ld_sum _ 2 2 rfl _ p q) (mat2 (blk2 m c t ht) p q))
  · obtain ⟨p, q, rfl⟩ : ∃ p q : Fin 256, u = ix3 0 p q := ⟨u 1, u 2, by blk_ext⟩
    obtain rfl : j = ix3 1 p q := idx3 h0 h1 h2
    exact (add_mat _ _ p q).trans (congrArg₂ (· + ·) (ld_sum _ 1 1 rfl _ p q) (mat1 (blk1 m c t ht) p q))
  · obtain ⟨p, q, rfl⟩ : ∃ p q : Fin 256, u = ix3 0 p q := ⟨u 1, u 2, by blk_ext⟩
    obtain rfl : j = ix3 0 p q := idx3 h0 h1 h2
    exact (add_mat _ _ p q).trans (congrArg₂ (· + ·) (ld_sum _ 0 0 rfl _ p q) (mat0 (blk0 m c t ht) p q))

/-- A point's row among all of them. -/
theorem row_of (s : Fin 16) (k : Fin 512) (hl : s.val * 512 + k.val < 8192) (h : 16 * (t0_15.val / 16) + s.val < 16) :
    row (16 * (t0_15.val / 16) + s.val) h k = ⟨s.val * 512 + k.val, hl⟩ :=
  Fin.ext (by show 512 * (16 * (15 / 16) + s.val) + k.val = s.val * 512 + k.val; omega)

/-- The second result after the run is the reference's. -/
theorem final_7 (c : Dev nD) (hn : Nums m c) : (dats m 0 c).arrAt 7 (cfgs 0).N
    = Cert.ReferenceIdeal.Read.val_main_v174 (F := Ideal) (m ((c : Thread nD τ).loc main_arg0)) (m ((c : Thread nD τ).loc main_arg2)) (m ((c : Thread nD τ).loc main_arg3)) := by
  refine (dats m 0 c).arrAt_eq_of_after_last 7 t0_15 (by decide +kernel) _ fun y => ?_
  obtain ⟨g, p, q, rfl⟩ : ∃ (g : Fin 4) (p q : Fin 256), y = ix3 g p q := ⟨y 0, y 1, y 2, by blk_ext⟩
  blk_simp
  rw [after0_7, Pipeline.eq_sum_fin_of_reset_step_apply_of_flush (fun n h => ((outsAt0 m c n h).2.1 : S4x256x256.Idx → EReal)) 16 (fun _ => 0)
    (part7 m c) (fun t h j => (first7 m c t h j).trans (zero_add _).symm) (fun t h j => next7 m c t h j) t0_15 rfl, zero_add]
  refine Eq.trans ?_ (Cert.ReferenceIdeal.Own.out_w _ _ _ hn.x g p q).symm
  refine Fin.sum_mul_add_congr fun s k hl => ?_
  exact congrArg (fun r : Fin 8192 => diff (m ((c : Thread nD τ).loc main_arg0)) g r p
    * dpre (m ((c : Thread nD τ).loc main_arg2)) (m ((c : Thread nD τ).loc main_arg3)) g r q) (row_of s k hl _)

/-- The group of a column, -/
def grp (j : S1x1024.Idx) : Fin 4 := ⟨(j 1).val / 256, by have : (j 1).val < 1024 := (j 1).isLt; omega⟩

/-- and its place in the group. -/
def plc (j : S1x1024.Idx) : Fin 256 := ⟨(j 1).val % 256, by omega⟩

/-- A column is at its place in its group. -/
theorem col_split (j : S1x1024.Idx) : j = ix2 0 (col (grp j) (plc j)) := by
  have h0 : (j 0).val < 1 := (j 0).isLt
  refine funext fun a => Fin.ext ?_
  fin_cases a
  · show (j 0).val = 0; omega
  · show (j 1).val = 256 * ((j 1).val / 256) + (j 1).val % 256; omega

/-- One row's term of the gain's gradient. -/
def gainAt (x : FVec Ideal S8192x1024 .f32) (w : FVec Ideal S4x256x256 .f32) (z : FVec Ideal S8192x1024 .f32) (g : Fin 4) (t : Fin 8192) (q : Fin 256) : EReal :=
  z (ix2 t (col g q)) * mixed x w g t q

/-- A point's part of the third result. -/
def part8 (c : Dev nD) (t : Fin cfg0.N) (j : S1x1024.Idx) : EReal :=
  ∑ r : Fin 512, gainAt (m ((c : Thread nD τ).loc main_arg0)) (m ((c : Thread nD τ).loc main_arg1)) (m ((c : Thread nD τ).loc main_arg3)) (grp j) (row t.val (lt_of_lt_of_eq t.isLt N_0) r) (plc j)

/-- The four groups' rows of sums side by side. -/
theorem cat_rows (a : Fin 4 → FVec Ideal S1x256 .f32) (g : Fin 4) (q : Fin 256) :
    k0_pay2 (F := Ideal) (a 0) (a 1) (a 2) (a 3) (ix2 0 (col g q)) = a g (ix2 0 q) := by
  have hq := q.isLt
  fin_cases g <;> pointwise [k0_pay2]
  · have e : (col 0 q).val = q.val := by show 256 * 0 + q.val = _; omega
    rw [dif_pos (by omega)]; exact congrArg (fun k => a 0 (ix2 0 k)) (Fin.ext (by show (col 0 q).val = _; omega))
  · have e : (col 1 q).val = 256 + q.val := rfl
    rw [dif_neg (by omega), dif_pos (by omega)]; exact congrArg (fun k => a 1 (ix2 0 k)) (Fin.ext (by show (col 1 q).val - 256 = _; omega))
  · have e : (col 2 q).val = 512 + q.val := rfl
    rw [dif_neg (by omega), dif_neg (by omega), dif_pos (by omega)]
    exact congrArg (fun k => a 2 (ix2 0 k)) (Fin.ext (by show (col 2 q).val - 256 - 256 = _; omega))
  · have e : (col 3 q).val = 768 + q.val := rfl
    rw [dif_neg (by omega), dif_neg (by omega), dif_neg (by omega)]
    exact congrArg (fun k => a 3 (ix2 0 k)) (Fin.ext (by show (col 3 q).val - 256 - 256 - 256 = _; omega))

/-- What a point adds to the third result. -/
theorem gains (c : Dev nD) (t : Fin cfg0.N) (ht : t.val < 16) (j : S1x1024.Idx) (A : Fin 4 → FVec Ideal S1x256 .f32)
    (hA : ∀ g q, A g (ix2 0 q) = ∑ r : Fin 512, gainAt (m ((c : Thread nD τ).loc main_arg0)) (m ((c : Thread nD τ).loc main_arg1)) (m ((c : Thread nD τ).loc main_arg3)) g (row t.val ht r) q) :
    k0_pay2 (F := Ideal) (A 0) (A 1) (A 2) (A 3) j = part8 m c t j := by
  conv_lhs => rw [col_split j]
  rw [cat_rows, hA]; rfl

/-- The four groups' parts at a point. -/
theorem gain_all (c : Dev nD) (t : Fin cfg0.N) (ht : t.val < 16) (a b d e : FVec Ideal S1x256 .f32)
    (ha : ∀ q, a (ix2 0 q) = ∑ r : Fin 512, gainAt (m ((c : Thread nD τ).loc main_arg0)) (m ((c : Thread nD τ).loc main_arg1)) (m ((c : Thread nD τ).loc main_arg3)) 0 (row t.val ht r) q)
    (hb : ∀ q, b (ix2 0 q) = ∑ r : Fin 512, gainAt (m ((c : Thread nD τ).loc main_arg0)) (m ((c : Thread nD τ).loc main_arg1)) (m ((c : Thread nD τ).loc main_arg3)) 1 (row t.val ht r) q)
    (hd : ∀ q, d (ix2 0 q) = ∑ r : Fin 512, gainAt (m ((c : Thread nD τ).loc main_arg0)) (m ((c : Thread nD τ).loc main_arg1)) (m ((c : Thread nD τ).loc main_arg3)) 2 (row t.val ht r) q)
    (he : ∀ q, e (ix2 0 q) = ∑ r : Fin 512, gainAt (m ((c : Thread nD τ).loc main_arg0)) (m ((c : Thread nD τ).loc main_arg1)) (m ((c : Thread nD τ).loc main_arg3)) 3 (row t.val ht r) q) (j : S1x1024.Idx) :
    k0_pay2 (F := Ideal) a b d e j = part8 m c t j :=
  gains m c t ht j ![a, b, d, e] fun g => by fin_cases g; exacts [ha, hb, hd, he]

/-- The first point stores its part, -/
theorem first8 (c : Dev nD) (t : Fin cfg0.N) (hs : t.val % 16 = 0) (j : S1x1024.Idx) : (outsAt0 m c t.val t.isLt).2.2 j = part8 m c t j := by
  have ht : t.val < 16 := lt_of_lt_of_eq t.isLt N_0
  rw [outsAt0_A m c t hs (by omega) hs (by omega)]; frame_out
  exact gain_all m c t ht _ _ _ _ (gain0 (blk0 m c t ht)) (gain1 (blk1 m c t ht)) (gain2 (blk2 m c t ht)) (gain3 (blk3 m c t ht)) j

/-- the others add theirs to what the point before left. -/
theorem next8 (c : Dev nD) (t : Fin cfg0.N) (hs : ¬t.val % 16 = 0) (j : S1x1024.Idx) :
    (outsAt0 m c t.val t.isLt).2.2 j = (outsAt0 m c (t.val - 1) (Nat.lt_of_le_of_lt (Nat.sub_le _ _) t.isLt)).2.2 j + part8 m c t j := by
  have ht : t.val < 16 := lt_of_lt_of_eq t.isLt N_0
  rw [outsAt0_B m c t hs (by omega) hs (by omega)]; frame_out
  unfold k0_pay3
  rw [shapeCast_self]
  exact congrArg (_ + ·) (gain_all m c t ht _ _ _ _ (gain0 (blk0 m c t ht)) (gain1 (blk1 m c t ht)) (gain2 (blk2 m c t ht)) (gain3 (blk3 m c t ht)) j)

/-- The third result after the run is the reference's. -/
theorem final_8 (c : Dev nD) (hn : Nums m c) : (dats m 0 c).arrAt 8 (cfgs 0).N
    = Cert.ReferenceIdeal.Read.val_main_v190 (F := Ideal) (m ((c : Thread nD τ).loc main_arg0)) (m ((c : Thread nD τ).loc main_arg1)) (m ((c : Thread nD τ).loc main_arg3)) := by
  refine (dats m 0 c).arrAt_eq_of_after_last 8 t0_15 (by decide +kernel) _ fun y => ?_
  blk_simp
  rw [after0_8, Pipeline.eq_sum_fin_of_reset_step_apply_of_flush (fun n h => ((outsAt0 m c n h).2.2 : S1x1024.Idx → EReal)) 16 (fun _ => 0)
    (part8 m c) (fun t h j => (first8 m c t h j).trans (zero_add _).symm) (fun t h j => next8 m c t h j) t0_15 rfl, zero_add]
  conv_rhs => rw [col_split y]
  refine Eq.trans ?_ (Cert.ReferenceIdeal.Own.out_s _ _ _ hn.x (grp y) (plc y)).symm
  refine Fin.sum_mul_add_congr fun s k hl => ?_
  exact congrArg (fun r : Fin 8192 => gainAt (m ((c : Thread nD τ).loc main_arg0)) (m ((c : Thread nD τ).loc main_arg1)) (m ((c : Thread nD τ).loc main_arg3)) (grp y) r (plc y)) (row_of s k hl _)

end Cert.KernelIdeal.Own
-- ==== Proof.Act.lean ====
/- The backward pass through the MLP's squared ReLU: what the kernel's two result arrays hold after the run. -/
module

public import proofs.«01_k».proof.Proof.Gen.KernelActIdeal.Value
public import proofs.«01_k».proof.Proof.Gen.ReferenceActIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelActIdeal.Own

open Cert.KernelActIdeal Cert.KernelActIdeal.Gen

variable (m : (ℓ : Loc nD τ sig) → Buf (Elt Ideal) ℓ)

/-- The blocks the windows take at each point, decided for all 16 points at once. -/
theorem places : ∀ t : Fin cfg0.N, win0_0.index t = ![t.val, 0]
    ∧ win0_1.index t = ![t.val, 0]
    ∧ win0_2.index t = ![0, 0, 0]
    ∧ win0_3.index t = ![t.val, 0]
    ∧ win0_4.index t = ![0, 0] :=
  (by decide +kernel : ∀ t : Fin grid0.N, _)

/-- What one point computes at row `r` of its block and column `q = 512 a + l`: the upstream gradient's row times the
    weight's row, times the derivative of the squared ReLU (the word is the constant 2). -/
def cell (z : Vec Ideal S512x1024 .bf16) (u : Vec Ideal S512x4096 .bf16) (w : Vec Ideal S8x512x1024 .bf16)
    (r : Fin 512) (a : Fin 8) (l : Fin 512) (q : Fin 4096) : EReal :=
  (∑ k : Fin 1024, z (ix2 r k) * w (ix3 a l k)) * (Ideal.ofBits .f32 0x40000000#32 * max (u (ix2 r q)) 0)

/-- The block of the gradient that a point writes. -/
theorem out_eq (c : Dev nD) (t : Fin cfg0.N) (y : S512x4096.Idx) (a : Fin 8) (l : Fin 512)
    (ha : (a : ℕ) = (y 1 : ℕ) / 512) (hl : (l : ℕ) = (y 1 : ℕ) % 512) :
    (outsAt0 m c t.val t.isLt).1 y = cell (iblk m c 0 t) (iblk m c 1 t) (iblk m c 2 t) (y 0) a l (y 1) := by
  have ht : t.val < 16 := lt_of_lt_of_eq t.isLt N_0
  by_cases hs : t.val % 16 = 0
  · rw [outsAt0_A m c t hs (by omega)]; frame_out
    canon_tiles x h
    all_goals (open_payloads; pointwise [cell]; blk_point)
  · rw [outsAt0_B m c t hs (by omega)]; frame_out
    canon_tiles x h
    all_goals (open_payloads; pointwise [cell]; blk_point)

/-- Block `a` of the column sums of what one point computes. -/
def sums (z : Vec Ideal S512x1024 .bf16) (u : Vec Ideal S512x4096 .bf16) (w : Vec Ideal S8x512x1024 .bf16)
    (a : Fin 8) : FVec Ideal S1x512 .f32 :=
  fun i => ∑ r : Fin 512, cell z u w r a (i 1) ⟨512 * a.val + (i 1 : ℕ), by have : (i 1 : ℕ) < 512 := (i 1).isLt; omega⟩

/-- Eight rows of 512 laid end to end, read at a column. -/
theorem concat_eq (f : Fin 8 → FVec Ideal S1x512 .f32) (h) (y : S1x4096.Idx) (a : Fin 8) (l : Fin 512)
    (ha : (a : ℕ) = (y 1 : ℕ) / 512) (hl : (l : ℕ) = (y 1 : ℕ) % 512) :
    concatenate S1x4096 1 [⟨S1x512, f 0⟩, ⟨S1x512, f 1⟩, ⟨S1x512, f 2⟩, ⟨S1x512, f 3⟩, ⟨S1x512, f 4⟩, ⟨S1x512, f 5⟩, ⟨S1x512, f 6⟩, ⟨S1x512, f 7⟩] h y
      = f a (ix2 0 l) := by
  have hy : (y 1 : ℕ) < 4096 := (y 1).isLt
  pointwise
  split_ifs
  all_goals
    first
      | omega
      | (refine congr (congrArg f (Fin.ext ?_)) ?_
         · rw [ha]; simp; omega
         · blk_ext)

section Parts

variable (z : Vec Ideal S512x1024 .bf16) (u : Vec Ideal S512x4096 .bf16) (w : Vec Ideal S8x512x1024 .bf16)

/-- Column sums of block 0. -/
theorem part0 : k0_pay9 (F := Ideal) z (View.ld w (Rect.unit ![0, 0, 0] ![1, 512, 1024] inb_S8x512x1024_S1x512x1024_0_0_0)) (View.ld u (Rect.unit ![0, 0] ![512, 512] inb_S512x4096_S512x512_0_0)) = sums z u w 0 := by
  funext i; pointwise [k0_pay9, k0_pay7, sums, cell]

/-- Column sums of block 1. -/
theorem part1 : k0_pay12 (F := Ideal) z (View.ld w (Rect.unit ![1, 0, 0] ![1, 512, 1024] inb_S8x512x1024_S1x512x1024_1_0_0)) (View.ld u (Rect.unit ![0, 512] ![512, 512] inb_S512x4096_S512x512_0_512)) = sums z u w 1 := by
  funext i; pointwise [k0_pay12, k0_pay10, sums, cell]

/-- Column sums of block 2. -/
theorem part2 : k0_pay15 (F := Ideal) z (View.ld w (Rect.unit ![2, 0, 0] ![1, 512, 1024] inb_S8x512x1024_S1x512x1024_2_0_0)) (View.ld u (Rect.unit ![0, 1024] ![512, 512] inb_S512x4096_S512x512_0_1024)) = sums z u w 2 := by
  funext i; pointwise [k0_pay15, k0_pay13, sums, cell]

/-- Column sums of block 3. -/
theorem part3 : k0_pay18 (F := Ideal) z (View.ld w (Rect.unit ![3, 0, 0] ![1, 512, 1024] inb_S8x512x1024_S1x512x1024_3_0_0)) (View.ld u (Rect.unit ![0, 1536] ![512, 512] inb_S512x4096_S512x512_0_1536)) = sums z u w 3 := by
  funext i; pointwise [k0_pay18, k0_pay16, sums, cell]

/-- Column sums of block 4. -/
theorem part4 : k0_pay22 (F := Ideal) (k0_pay19 z (View.ld w (Rect.unit ![4, 0, 0] ![1, 512, 1024] inb_S8x512x1024_S1x512x1024_4_0_0))) (View.ld u (Rect.unit ![0, 2048] ![512, 512] inb_S512x4096_S512x512_0_2048)) = sums z u w 4 := by
  funext i; pointwise [k0_pay22, k0_pay20, k0_pay19, sums, cell]

/-- Column sums of block 5. -/
theorem part5 : k0_pay25 (F := Ideal) z (View.ld w (Rect.unit ![5, 0, 0] ![1, 512, 1024] inb_S8x512x1024_S1x512x1024_5_0_0)) (View.ld u (Rect.unit ![0, 2560] ![512, 512] inb_S512x4096_S512x512_0_2560)) = sums z u w 5 := by
  funext i; pointwise [k0_pay25, k0_pay23, sums, cell]

/-- Column sums of block 6. -/
theorem part6 : shapeCast S1x512 (multiReduction .add [0] S512 (k0_pay1 (F := Ideal) (k0_pay26 z (View.ld w (Rect.unit ![6, 0, 0] ![1, 512, 1024] inb_S8x512x1024_S1x512x1024_6_0_0))) (k0_pay27 (View.ld u (Rect.unit ![0, 3072] ![512, 512] inb_S512x4096_S512x512_0_3072))) k0_pay28) 0x00000000#32 reduces_S512x512_S512 (.inl rfl) rfl) shapeCasts_S512_S1x512 = sums z u w 6 := by
  funext i; pointwise [k0_pay1, k0_pay26, k0_pay27, k0_pay28, sums, cell]

/-- Column sums of block 7. -/
theorem part7 : shapeCast S1x512 (multiReduction .add [0] S512 (k0_pay3 (F := Ideal) z (View.ld w (Rect.unit ![7, 0, 0] ![1, 512, 1024] inb_S8x512x1024_S1x512x1024_7_0_0)) (View.ld u (Rect.unit ![0, 3584] ![512, 512] inb_S512x4096_S512x512_0_3584))) 0x00000000#32 reduces_S512x512_S512 (.inl rfl) rfl) shapeCasts_S512_S1x512 = sums z u w 7 := by
  funext i; pointwise [k0_pay3, sums, cell]

end Parts

/-- The row that a point adds to the column sums. -/
theorem row_eq (z : Vec Ideal S512x1024 .bf16) (u : Vec Ideal S512x4096 .bf16) (w : Vec Ideal S8x512x1024 .bf16)
    (y : S1x4096.Idx) (a : Fin 8) (l : Fin 512) (ha : (a : ℕ) = (y 1 : ℕ) / 512) (hl : (l : ℕ) = (y 1 : ℕ) % 512) :
    k0_pay5 (F := Ideal) z
      (k0_pay9 z (View.ld w (Rect.unit ![0, 0, 0] ![1, 512, 1024] inb_S8x512x1024_S1x512x1024_0_0_0))
        (View.ld u (Rect.unit ![0, 0] ![512, 512] inb_S512x4096_S512x512_0_0)))
      (k0_pay12 z (View.ld w (Rect.unit ![1, 0, 0] ![1, 512, 1024] inb_S8x512x1024_S1x512x1024_1_0_0))
        (View.ld u (Rect.unit ![0, 512] ![512, 512] inb_S512x4096_S512x512_0_512)))
      (k0_pay15 z (View.ld w (Rect.unit ![2, 0, 0] ![1, 512, 1024] inb_S8x512x1024_S1x512x1024_2_0_0))
        (View.ld u (Rect.unit ![0, 1024] ![512, 512] inb_S512x4096_S512x512_0_1024)))
      (k0_pay18 z (View.ld w (Rect.unit ![3, 0, 0] ![1, 512, 1024] inb_S8x512x1024_S1x512x1024_3_0_0))
        (View.ld u (Rect.unit ![0, 1536] ![512, 512] inb_S512x4096_S512x512_0_1536)))
      (k0_pay22
        (k0_pay19 z (View.ld w (Rect.unit ![4, 0, 0] ![1, 512, 1024] inb_S8x512x1024_S1x512x1024_4_0_0)))
        (View.ld u (Rect.unit ![0, 2048] ![512, 512] inb_S512x4096_S512x512_0_2048)))
      (k0_pay25 z (View.ld w (Rect.unit ![5, 0, 0] ![1, 512, 1024] inb_S8x512x1024_S1x512x1024_5_0_0))
        (View.ld u (Rect.unit ![0, 2560] ![512, 512] inb_S512x4096_S512x512_0_2560)))
      (k0_pay26 z (View.ld w (Rect.unit ![6, 0, 0] ![1, 512, 1024] inb_S8x512x1024_S1x512x1024_6_0_0)))
      (k0_pay27 (View.ld u (Rect.unit ![0, 3072] ![512, 512] inb_S512x4096_S512x512_0_3072))) k0_pay28
      (View.ld w (Rect.unit ![7, 0, 0] ![1, 512, 1024] inb_S8x512x1024_S1x512x1024_7_0_0))
      (View.ld u (Rect.unit ![0, 3584] ![512, 512] inb_S512x4096_S512x512_0_3584)) y
      = ∑ r : Fin 512, cell z u w r a l (y 1) := by
  unfold k0_pay5
  dsimp only
  rw [part0, part1, part2, part3, part4, part5, part6, part7]
  refine (concat_eq (sums z u w) _ y a l ha hl).trans ?_
  refine Finset.sum_congr rfl fun r _ => ?_
  refine congrArg (cell z u w r a l) (Fin.ext ?_)
  show 512 * (a : ℕ) + (l : ℕ) = (y 1 : ℕ)
  omega

/-- The row of column sums after the last point: every row of every block, added up. -/
theorem sum_eq (c : Dev nD) (t : Fin cfg0.N) (hf : t.val % 16 = 15) (y : S1x4096.Idx) (a : Fin 8) (l : Fin 512)
    (ha : (a : ℕ) = (y 1 : ℕ) / 512) (hl : (l : ℕ) = (y 1 : ℕ) % 512) :
    (outsAt0 m c t.val t.isLt).2 y = ∑ s : Fin 16, ∑ r : Fin 512, cell
      (iblk m c 0 ⟨16 * (t.val / 16) + s.val, Pipeline.run_point_lt_of_flush t hf s⟩)
      (iblk m c 1 ⟨16 * (t.val / 16) + s.val, Pipeline.run_point_lt_of_flush t hf s⟩)
      (iblk m c 2 ⟨16 * (t.val / 16) + s.val, Pipeline.run_point_lt_of_flush t hf s⟩) r a l (y 1) := by
  have hq : ∀ j : S1x4096.Idx, (j 1 : ℕ) < 4096 := fun j => (j 1).isLt
  rw [Pipeline.eq_sum_fin_of_reset_step_apply_of_flush (fun n h => ((outsAt0 m c n h).2 : S1x4096.Idx → EReal)) 16 (fun _ => 0)
    (fun t j => ∑ r : Fin 512, cell (iblk m c 0 t) (iblk m c 1 t) (iblk m c 2 t) r
      ⟨(j 1 : ℕ) / 512, by have := hq j; omega⟩ ⟨(j 1 : ℕ) % 512, by omega⟩ (j 1))
    (fun t h j => by
      have ht : t.val < 16 := lt_of_lt_of_eq t.isLt N_0
      rw [outsAt0_A m c t h (by omega)]; frame_out
      rw [zero_add, row_eq] <;> rfl)
    (fun t h j => by
      rw [outsAt0_B m c t h (by omega)]; frame_out
      unfold k0_pay6; rw [shapeCast_self, ValueIdx.addf_apply, row_eq] <;> rfl)
    t hf y, zero_add]
  rw [show a = ⟨(y 1 : ℕ) / 512, by have := hq y; omega⟩ from Fin.ext ha, show l = ⟨(y 1 : ℕ) % 512, by omega⟩ from Fin.ext hl]

open Cert.ReferenceActIdeal.Read in
/-- The reference's gradient before the last change of format, at an index. Where the argument of the squared ReLU isn't
    positive the reference selects zero, and the factor `max _ 0` is zero. -/
theorem ref_apply (X : Vec Ideal S8192x4096 .f32) (B : Vec Ideal S1x4096 .f32) (W : Vec Ideal S4096x1024 .f32)
    (Z : Vec Ideal S8192x1024 .bf16) (i : S8192x4096.Idx) :
    val_main_v14 (F := Ideal) X B W Z i = (∑ k : Fin 1024, Z (ix2 (i 0) k) * W (ix2 (i 1) k))
      * (Ideal.ofBits .f32 0x40000000#32 * max (X i + B (ix2 0 (i 1))) 0) := by
  pointwise [val_main_v14, val_main_v13, val_main_v12, val_main_v11, val_main_v10, val_main_v8, val_main_v7, val_main_v4, val_main_v3,
    val_main_v2, val_main_v1, val_main_v0, val_main_call0_v0, val_main_call0_cst, val_main_cst_0, val_main_cst, val_main_cst_1, val_main_cst_2]
  split_ifs with h
  · rfl
  · rw [max_eq_right (not_lt.mp h), mul_zero, mul_zero]

/-- The second weight as the kernel takes it: rounded and cut into eight blocks of rows. -/
theorem weight_read (c : Dev nD) : V m c main_v4
    = shapeCast S8x512x1024 (truncf (F := Ideal) .bf16 (m ((c : Thread nD τ).loc main_arg2)) bitsLt_bf16_f32) shapeCasts_S4096x1024_S8x512x1024 := by
  unfold V; after_results; try rfl

/-- The argument of the squared ReLU as the kernel takes it: the product plus its bias. -/
theorem input_read (c : Dev nD) : V m c main_v2
    = truncf (F := Ideal) .bf16 (addf (m ((c : Thread nD τ).loc main_arg0)) (broadcastInDim S8192x4096 ![0, 1] bcast_S1x4096_S8192x4096_0_1 (m ((c : Thread nD τ).loc main_arg1)))) bitsLt_bf16_f32 := by
  unfold V; after_results; try rfl

/-- The upstream gradient's array is left alone before the call. -/
theorem up_read (c : Dev nD) : V m c main_arg3 = m ((c : Thread nD τ).loc main_arg3) := by
  unfold V; after_results; try rfl

/-- What a point computes at an index is the reference's gradient there. -/
theorem cell_eq (c : Dev nD) (t : Fin cfg0.N) (r : Fin 512) (a : Fin 8) (l : Fin 512) (q : Fin 4096) (p : Fin 8192)
    (ha : (a : ℕ) = (q : ℕ) / 512) (hl : (l : ℕ) = (q : ℕ) % 512) (hp : (p : ℕ) = t.val * 512 + r.val) :
    cell (iblk m c 0 t) (iblk m c 1 t) (iblk m c 2 t) r a l q = Cert.ReferenceActIdeal.Read.val_main_v14 (F := Ideal)
      (m ((c : Thread nD τ).loc main_arg0)) (m ((c : Thread nD τ).loc main_arg1)) (m ((c : Thread nD τ).loc main_arg2)) (m ((c : Thread nD τ).loc main_arg3)) (ix2 p q) := by
  rw [ref_apply]
  unfold cell
  blk_simp [iblk]
  rw [input_read]
  simp only [weight_read, up_read]
  pointwise
  blk_point [places t]

/-- The gradient's array after the run is the reference's. -/
theorem final_3 (c : Dev nD) : (dats m 0 c).arrAt 3 (cfgs 0).N = Cert.ReferenceActIdeal.Read.val_main_v17 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  have ht : t.val < 16 := lt_of_lt_of_eq t.isLt N_0
  have y0 : (y 0 : ℕ) < 512 := (y 0).isLt
  have y1 : (y 1 : ℕ) < 4096 := (y 1).isLt
  blk_simp
  rw [after0_3, out_eq m c t y ⟨(y 1 : ℕ) / 512, by omega⟩ ⟨(y 1 : ℕ) % 512, by omega⟩ rfl rfl,
    cell_eq m c t (y 0) _ _ (y 1) ⟨t.val * 512 + (y 0 : ℕ), by omega⟩ rfl rfl rfl]
  pointwise [Cert.ReferenceActIdeal.Read.val_main_v17]
  blk_ext [places t]

/-- The array of column sums after the run is the reference's. -/
theorem final_4 (c : Dev nD) : (dats m 0 c).arrAt 4 (cfgs 0).N = Cert.ReferenceActIdeal.Read.val_main_v16 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_15 (by decide +kernel) _ fun y => ?_
  have y1 : (y 1 : ℕ) < 4096 := (y 1).isLt
  blk_simp
  rw [after0_4, sum_eq m c t0_15 rfl y ⟨(y 1 : ℕ) / 512, by omega⟩ ⟨(y 1 : ℕ) % 512, by omega⟩ rfl rfl]
  pointwise [Cert.ReferenceActIdeal.Read.val_main_v16, Cert.ReferenceActIdeal.Read.val_main_v15, Cert.ReferenceActIdeal.Read.val_main_cst_3]
  refine Fin.sum_mul_add_congr fun s k hl => ?_
  exact cell_eq m c ⟨16 * (t0_15.val / 16) + s.val, Pipeline.run_point_lt_of_flush t0_15 rfl s⟩ k _ _ (y 1) ⟨s.val * 512 + k.val, hl⟩ rfl rfl
    (by show s.val * 512 + k.val = (16 * (15 / 16) + s.val) * 512 + k.val; omega)

end Cert.KernelActIdeal.Own

end
-- ==== Proof.Gw2.lean ====
/- The weight gradient of the second MLP product, `gw2`: what the kernel's result array holds after the run. -/
module

public import proofs.«01_k».proof.Proof.Gen.KernelGw2Ideal.Value
public import proofs.«01_k».proof.Proof.Gen.ReferenceGw2Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelGw2Ideal.Own

open Cert.KernelGw2Ideal Cert.KernelGw2Ideal.Gen

variable (m : (ℓ : Loc nD τ sig) → Buf (Elt Ideal) ℓ)

/-- The blocks the windows take at each point, decided for all 16 points at once. -/
theorem places : ∀ t : Fin cfg0.N, win0_0.index t = ![t.val % 4, t.val / 4]
    ∧ win0_1.index t = ![t.val % 4, 0]
    ∧ win0_2.index t = ![t.val / 4, 0, 0] :=
  (by decide +kernel : ∀ t : Fin grid0.N, _)

/-- One block's product, at an index: the sum over the block's 2048 rows. -/
theorem part_apply (x : Vec Ideal S2048x1024 .bf16) (y : Vec Ideal S2048x1024 .bf16) (j : S1024x1024.Idx) :
    k0_pay1 (F := Ideal) x y j = ∑ k : Fin 2048, (max (x (ix2 k (j 0))) 0 * max (x (ix2 k (j 0))) 0) * y (ix2 k (j 1)) := by
  pointwise [k0_pay1]

/-- The scratch after the last point of a run: the sum of the products of the run's four points. -/
theorem scratch_eq (c : Dev nD) (t : Fin cfg0.N) (hf : t.val % 4 = 3) (j : S1024x1024.Idx) :
    (outsAt0 m c t.val t.isLt).2 j = ∑ s : Fin 4, k0_pay1 (F := Ideal) (iblk m c 0 ⟨4 * (t.val / 4) + s.val, Pipeline.run_point_lt_of_flush t hf s⟩)
      (iblk m c 1 ⟨4 * (t.val / 4) + s.val, Pipeline.run_point_lt_of_flush t hf s⟩) j := by
  rw [Pipeline.eq_sum_fin_of_reset_step_apply_of_flush (fun n h => (outsAt0 m c n h).2) 4 (fun _ => 0)
    (fun t j => k0_pay1 (F := Ideal) (iblk m c 0 t) (iblk m c 1 t) j)
    (fun t h j => by
      rw [outsAt0_A m c t h (by omega) (by omega)]; frame_out
      rw [zero_add]; unfold k0_pay2; rw [shapeCast_self])
    (fun t h j => by
      by_cases h3 : t.val % 4 = 3
      · rw [outsAt0_C m c t h (by omega) h3]; frame_out
        rw [read_unread_whole]; unfold k0_pay3; rw [shapeCast_self]; rfl
      · rw [outsAt0_B m c t h (by omega) h3]; frame_out
        rw [read_unread_whole]; unfold k0_pay3; rw [shapeCast_self]; rfl)
    t hf j, zero_add]

/-- What the last point of a run writes back: the scratch, its 1024 rows as two blocks of 512. -/
theorem out_eq (c : Dev nD) (t : Fin cfg0.N) (hf : t.val % 4 = 3) (y : S2x512x1024.Idx) (j : S1024x1024.Idx)
    (h0 : (j 0 : ℕ) = 512 * (y 0 : ℕ) + (y 1 : ℕ)) (h1 : (j 1 : ℕ) = (y 2 : ℕ)) :
    (outsAt0 m c t.val t.isLt).1 y = (outsAt0 m c t.val t.isLt).2 j := by
  rw [outsAt0_C m c t (by omega) (by omega) hf]; frame_out
  simp (disch := decide) only [↓ View.readCov_skip, ↓ View.readCov_cons_toLoadRect, ↓ View.readCov_fill]
  generalize k0_pay3 (iblk m c 0 t) (iblk m c 1 t) _ = q
  canon_tiles x h
  all_goals (open_payloads; pointwise; blk_ext)

open Cert.ReferenceGw2Ideal.Read in
/-- The reference's result at an index: row `512 a + b` of the product's transpose. -/
theorem ref_apply (X : Vec Ideal S8192x4096 .bf16) (Y : Vec Ideal S8192x1024 .bf16) (i : S8x512x1024.Idx) (a : Fin 4096)
    (ha : a.val = 512 * (i 0 : ℕ) + (i 1 : ℕ)) :
    val_main_v9 (F := Ideal) X Y i = ∑ k : Fin 8192, (max (X (ix2 k a)) 0 * max (X (ix2 k a)) 0) * Y (ix2 k (i 2)) := by
  have h1 : (i 1 : ℕ) < 512 := (i 1).isLt
  have h2 : (i 2 : ℕ) < 1024 := (i 2).isLt
  rw [val_main_v9_apply, val_main_v8_apply, val_main_v7_apply]
  show val_main_v6 X Y _ = _
  rw [val_main_v6_apply]
  refine Finset.sum_congr rfl fun k _ => ?_
  have e1 : lidx_main_v6 (idx_main_v7 (idx_main_v8 i)) k = ix2 k (i 2) := by
    blk_ext
  have e2 : ridx_main_v6 (idx_main_v7 (idx_main_v8 i)) k = ix2 k a := by
    blk_ext
  rw [e1, e2, mul_comm]
  pointwise [val_main_v5, val_main_v3, val_main_v2, val_main_v1, val_main_v0, val_main_call0_v0, val_main_call0_cst]

/-- The array after the run is the reference's result. -/
theorem final (c : Dev nD) : (dats m 0 c).arrAt 2 (cfgs 0).N
    = Cert.ReferenceGw2Ideal.Read.val_main_v9 (F := Ideal) (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  have y0 : (y 0 : ℕ) < 2 := (y 0).isLt
  have y1 : (y 1 : ℕ) < 512 := (y 1).isLt
  have ht : t.val < 16 := lt_of_lt_of_eq t.isLt N_0
  blk_simp
  rw [after0_2]
  obtain_idx j : S1024x1024 := [512 * (y 0 : ℕ) + (y 1 : ℕ), (y 2 : ℕ)] with hj
  rw [out_eq m c t hr y j hj0 hj1, scratch_eq m c t hr]
  simp only [part_apply]
  rw [ref_apply _ _ _ ⟨1024 * (t.val / 4) + (j 0 : ℕ), by omega⟩ (by blk_simp [places t]; simp only [hj0]; omega)]
  refine Fin.sum_mul_add_congr fun s k hl => ?_
  blk_point [iblk, V, places t, places ⟨_, Pipeline.run_point_lt_of_flush t hr s⟩]

end Cert.KernelGw2Ideal.Own

end
-- ==== Proof.Gw1.lean ====
/- The weight gradient of the first MLP product, `gw1`: what the kernel's result array holds after the run. -/
module

public import proofs.«01_k».proof.Proof.Gen.KernelGw1Ideal.Value
public import proofs.«01_k».proof.Proof.Gen.ReferenceGw1Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelGw1Ideal.Own

open Cert.KernelGw1Ideal Cert.KernelGw1Ideal.Gen

variable (m : (ℓ : Loc nD τ sig) → Buf (Elt Ideal) ℓ)

/-- The blocks the windows take at each point, decided for all 16 points at once. -/
theorem places : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- One block's product, at an index: the sum over the block's 2048 rows. -/
theorem part_apply (x : Vec Ideal S2048x1024 .bf16) (y : Vec Ideal S2048x2048 .bf16) (j : S1024x2048.Idx) :
    k0_pay1 (F := Ideal) x y j = ∑ k : Fin 2048, x (ix2 k (j 0)) * y (ix2 k (j 1)) := by
  pointwise [k0_pay1]

/-- The scratch after the last point of a run: the sum of the products of the run's four points. -/
theorem scratch_eq (c : Dev nD) (t : Fin cfg0.N) (hf : t.val % 4 = 3) (j : S1024x2048.Idx) :
    (outsAt0 m c t.val t.isLt).2 j = ∑ s : Fin 4, k0_pay1 (F := Ideal) (iblk m c 0 ⟨4 * (t.val / 4) + s.val, Pipeline.run_point_lt_of_flush t hf s⟩)
      (iblk m c 1 ⟨4 * (t.val / 4) + s.val, Pipeline.run_point_lt_of_flush t hf s⟩) j := by
  rw [Pipeline.eq_sum_fin_of_reset_step_apply_of_flush (fun n h => (outsAt0 m c n h).2) 4 (fun _ => 0)
    (fun t j => k0_pay1 (F := Ideal) (iblk m c 0 t) (iblk m c 1 t) j)
    (fun t h j => by
      rw [outsAt0_A m c t h (by omega) (by omega)]; frame_out
      rw [zero_add]; unfold k0_pay2; rw [shapeCast_self])
    (fun t h j => by
      by_cases h3 : t.val % 4 = 3
      · rw [outsAt0_C m c t h (by omega) h3]; frame_out
        rw [read_unread_whole]; unfold k0_pay3; rw [shapeCast_self]; rfl
      · rw [outsAt0_B m c t h (by omega) h3]; frame_out
        rw [read_unread_whole]; unfold k0_pay3; rw [shapeCast_self]; rfl)
    t hf j, zero_add]

/-- What the last point of a run writes back: the scratch, its 2048 columns as four blocks of 512. -/
theorem out_eq (c : Dev nD) (t : Fin cfg0.N) (hf : t.val % 4 = 3) (y : S4x1024x512.Idx) (j : S1024x2048.Idx)
    (h0 : (j 0 : ℕ) = (y 1 : ℕ)) (h1 : (j 1 : ℕ) = 512 * (y 0 : ℕ) + (y 2 : ℕ)) :
    (outsAt0 m c t.val t.isLt).1 y = (outsAt0 m c t.val t.isLt).2 j := by
  rw [outsAt0_C m c t (by omega) (by omega) hf]; frame_out
  simp (disch := decide) only [↓ View.readCov_skip, ↓ View.readCov_cons_toLoadRect, ↓ View.readCov_fill]
  generalize k0_pay3 (iblk m c 0 t) (iblk m c 1 t) _ = q
  canon_tiles x h
  all_goals (open_payloads; pointwise; blk_ext)

open Cert.ReferenceGw1Ideal.Read in
/-- The reference's result at an index: column `512 a + b` of the product. -/
theorem ref_apply (X : Vec Ideal S8192x1024 .bf16) (Y : Vec Ideal S8192x4096 .bf16) (i : S8x1024x512.Idx) (a : Fin 4096)
    (ha : a.val = 512 * (i 0 : ℕ) + (i 2 : ℕ)) :
    val_main_v8 (F := Ideal) X Y i = ∑ k : Fin 8192, X (ix2 k (i 1)) * Y (ix2 k a) := by
  have h0 : (i 0 : ℕ) < 8 := (i 0).isLt
  have h1 : (i 1 : ℕ) < 1024 := (i 1).isLt
  have h2 : (i 2 : ℕ) < 512 := (i 2).isLt
  rw [val_main_v8_apply, val_main_v7_apply, val_main_v6_apply, val_main_v5_apply]
  show val_main_v4 X Y _ = _
  rw [val_main_v4_apply]
  refine Finset.sum_congr rfl fun k _ => ?_
  have e1 : lidx_main_v4 (idx_main_v5 (idx_main_v6 (idx_main_v7 i))) k = ix2 k a := by
    blk_ext
  have e2 : ridx_main_v4 (idx_main_v5 (idx_main_v6 (idx_main_v7 i))) k = ix2 k (i 1) := by
    blk_ext
  rw [e1, e2, mul_comm]
  pointwise [val_main_v1, val_main_v3]

/-- The array after the run is the reference's result. -/
theorem final (c : Dev nD) : (dats m 0 c).arrAt 2 (cfgs 0).N
    = Cert.ReferenceGw1Ideal.Read.val_main_v8 (F := Ideal) (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  have y0 : (y 0 : ℕ) < 4 := (y 0).isLt
  have y2 : (y 2 : ℕ) < 512 := (y 2).isLt
  have ht : t.val < 8 := lt_of_lt_of_eq t.isLt N_0
  blk_simp
  rw [after0_2]
  obtain_idx j : S1024x2048 := [(y 1 : ℕ), 512 * (y 0 : ℕ) + (y 2 : ℕ)] with hj
  rw [out_eq m c t hr y j hj0 hj1, scratch_eq m c t hr]
  simp only [part_apply]
  rw [ref_apply _ _ _ ⟨2048 * (t.val / 4) + (j 1 : ℕ), by omega⟩ (by blk_simp [places t]; simp only [hj1]; omega)]
  refine Fin.sum_mul_add_congr fun s k hl => ?_
  blk_point [iblk, V, places t, places ⟨_, Pipeline.run_point_lt_of_flush t hr s⟩]

end Cert.KernelGw1Ideal.Own

end
-- ==== Proof.GwIn.lean ====
/- The weight gradient of the convolution's input product, `gw_in`: what the kernel's result array holds after the run. -/
module

public import proofs.«01_k».proof.Proof.Gen.KernelGwInIdeal.Value
public import proofs.«01_k».proof.Proof.Gen.ReferenceGwInIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelGwInIdeal.Own

open Cert.KernelGwInIdeal Cert.KernelGwInIdeal.Gen

variable (m : (ℓ : Loc nD τ sig) → Buf (Elt Ideal) ℓ)

/-- The blocks the windows take at each point, decided for all 8 points at once. -/
theorem places : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- One block's product, at an index: the sum over the block's 2048 rows. -/
theorem part_apply (x : Vec Ideal S2048x1024 .bf16) (y : Vec Ideal S2048x1024 .bf16) (j : S1024x1024.Idx) :
    k0_pay1 (F := Ideal) x y j = ∑ k : Fin 2048, x (ix2 k (j 0)) * y (ix2 k (j 1)) := by
  pointwise [k0_pay1]

/-- The scratch after the last point of a run: the sum of the products of the run's four points. -/
theorem scratch_eq (c : Dev nD) (t : Fin cfg0.N) (hf : t.val % 4 = 3) (j : S1024x1024.Idx) :
    (outsAt0 m c t.val t.isLt).2 j = ∑ s : Fin 4, k0_pay1 (F := Ideal) (iblk m c 0 ⟨4 * (t.val / 4) + s.val, Pipeline.run_point_lt_of_flush t hf s⟩)
      (iblk m c 1 ⟨4 * (t.val / 4) + s.val, Pipeline.run_point_lt_of_flush t hf s⟩) j := by
  rw [Pipeline.eq_sum_fin_of_reset_step_apply_of_flush (fun n h => (outsAt0 m c n h).2) 4 (fun _ => 0)
    (fun t j => k0_pay1 (F := Ideal) (iblk m c 0 t) (iblk m c 1 t) j)
    (fun t h j => by
      rw [outsAt0_A m c t h (by omega) (by omega)]; frame_out
      rw [zero_add]; unfold k0_pay2; rw [shapeCast_self])
    (fun t h j => by
      by_cases h3 : t.val % 4 = 3
      · rw [outsAt0_C m c t h (by omega) h3]; frame_out
        rw [read_unread_whole]; unfold k0_pay3; rw [shapeCast_self]; rfl
      · rw [outsAt0_B m c t h (by omega) h3]; frame_out
        rw [read_unread_whole]; unfold k0_pay3; rw [shapeCast_self]; rfl)
    t hf j, zero_add]

/-- What the last point of a run writes back: the scratch, its 1024 columns as four blocks of 256. -/
theorem out_eq (c : Dev nD) (t : Fin cfg0.N) (hf : t.val % 4 = 3) (y : S4x1024x256.Idx) (j : S1024x1024.Idx)
    (h0 : (j 0 : ℕ) = (y 1 : ℕ)) (h1 : (j 1 : ℕ) = 256 * (y 0 : ℕ) + (y 2 : ℕ)) :
    (outsAt0 m c t.val t.isLt).1 y = (outsAt0 m c t.val t.isLt).2 j := by
  rw [outsAt0_C m c t (by omega) (by omega) hf]; frame_out
  simp (disch := decide) only [↓ View.readCov_skip, ↓ View.readCov_cons_toLoadRect, ↓ View.readCov_fill]
  generalize k0_pay3 (iblk m c 0 t) (iblk m c 1 t) _ = q
  canon_tiles x h
  all_goals (open_payloads; pointwise; blk_ext)

open Cert.ReferenceGwInIdeal.Read in
/-- The reference's result at an index: column `256 a + b` of the product. -/
theorem ref_apply (X : Vec Ideal S8192x1024 .bf16) (Y : Vec Ideal S8192x2048 .bf16) (i : S8x1024x256.Idx) (a : Fin 2048)
    (ha : a.val = 256 * (i 0 : ℕ) + (i 2 : ℕ)) :
    val_main_v8 (F := Ideal) X Y i = ∑ k : Fin 8192, X (ix2 k (i 1)) * Y (ix2 k a) := by
  have h0 : (i 0 : ℕ) < 8 := (i 0).isLt
  have h1 : (i 1 : ℕ) < 1024 := (i 1).isLt
  have h2 : (i 2 : ℕ) < 256 := (i 2).isLt
  rw [val_main_v8_apply, val_main_v7_apply, val_main_v6_apply, val_main_v5_apply]
  show val_main_v4 X Y _ = _
  rw [val_main_v4_apply]
  refine Finset.sum_congr rfl fun k _ => ?_
  have e1 : lidx_main_v4 (idx_main_v5 (idx_main_v6 (idx_main_v7 i))) k = ix2 k a := by
    blk_ext
  have e2 : ridx_main_v4 (idx_main_v5 (idx_main_v6 (idx_main_v7 i))) k = ix2 k (i 1) := by
    blk_ext
  rw [e1, e2, mul_comm]
  pointwise [val_main_v1, val_main_v3]

/-- The array after the run is the reference's result. -/
theorem final (c : Dev nD) : (dats m 0 c).arrAt 2 (cfgs 0).N
    = Cert.ReferenceGwInIdeal.Read.val_main_v8 (F := Ideal) (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  have y0 : (y 0 : ℕ) < 4 := (y 0).isLt
  have y2 : (y 2 : ℕ) < 256 := (y 2).isLt
  have ht : t.val < 8 := lt_of_lt_of_eq t.isLt N_0
  blk_simp
  rw [after0_2]
  obtain_idx j : S1024x1024 := [(y 1 : ℕ), 256 * (y 0 : ℕ) + (y 2 : ℕ)] with hj
  rw [out_eq m c t hr y j hj0 hj1, scratch_eq m c t hr]
  simp only [part_apply]
  rw [ref_apply _ _ _ ⟨1024 * (t.val / 4) + (j 1 : ℕ), by omega⟩ (by blk_simp [places t]; simp only [hj1]; omega)]
  refine Fin.sum_mul_add_congr fun s k hl => ?_
  blk_point [iblk, V, places t, places ⟨_, Pipeline.run_point_lt_of_flush t hr s⟩]

end Cert.KernelGwInIdeal.Own

end
-- ==== Proof.GwOut.lean ====
/- The weight gradient of the convolution's output product, `gw_out`: what the kernel's result array holds after the run. -/
module

public import proofs.«01_k».proof.Proof.Gen.KernelGwOutIdeal.Value
public import proofs.«01_k».proof.Proof.Gen.ReferenceGwOutIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelGwOutIdeal.Own

open Cert.KernelGwOutIdeal Cert.KernelGwOutIdeal.Gen

variable (m : (ℓ : Loc nD τ sig) → Buf (Elt Ideal) ℓ)

/-- The blocks the windows take at each point, decided for all four points at once. -/
theorem places : ∀ t : Fin cfg0.N, win0_0.index t = ![t.val, 0]
    ∧ win0_1.index t = ![t.val, 0]
    ∧ win0_2.index t = ![0, 0, 0] :=
  (by decide +kernel : ∀ t : Fin grid0.N, _)

/-- One block's product, at an index: the sum over the block's 2048 rows. -/
theorem part_apply (x : Vec Ideal S2048x1024 .bf16) (y : Vec Ideal S2048x1024 .bf16) (j : S1024x1024.Idx) :
    k0_pay1 (F := Ideal) x y j = ∑ k : Fin 2048, x (ix2 k (j 0)) * y (ix2 k (j 1)) := by
  pointwise [k0_pay1]

/-- The scratch after the last point of a run: the sum of the products of the run's four points. -/
theorem scratch_eq (c : Dev nD) (t : Fin cfg0.N) (hf : t.val % 4 = 3) (j : S1024x1024.Idx) :
    (outsAt0 m c t.val t.isLt).2 j = ∑ s : Fin 4, k0_pay1 (F := Ideal) (iblk m c 0 ⟨4 * (t.val / 4) + s.val, Pipeline.run_point_lt_of_flush t hf s⟩)
      (iblk m c 1 ⟨4 * (t.val / 4) + s.val, Pipeline.run_point_lt_of_flush t hf s⟩) j := by
  rw [Pipeline.eq_sum_fin_of_reset_step_apply_of_flush (fun n h => (outsAt0 m c n h).2) 4 (fun _ => 0)
    (fun t j => k0_pay1 (F := Ideal) (iblk m c 0 t) (iblk m c 1 t) j)
    (fun t h j => by
      have ht : t.val < 4 := lt_of_lt_of_eq t.isLt N_0
      rw [outsAt0_A m c t h (by omega) (by omega)]; frame_out
      rw [zero_add]; unfold k0_pay2; rw [shapeCast_self])
    (fun t h j => by
      by_cases h3 : t.val % 4 = 3
      · rw [outsAt0_C m c t h (by omega) h3]; frame_out
        rw [read_unread_whole]; unfold k0_pay3; rw [shapeCast_self]; rfl
      · rw [outsAt0_B m c t h (by omega) h3]; frame_out
        rw [read_unread_whole]; unfold k0_pay3; rw [shapeCast_self]; rfl)
    t hf j, zero_add]

/-- What the last point of a run writes back: the scratch, its 1024 rows as eight blocks of 128. -/
theorem out_eq (c : Dev nD) (t : Fin cfg0.N) (hf : t.val % 4 = 3) (y : S8x128x1024.Idx) (j : S1024x1024.Idx)
    (h0 : (j 0 : ℕ) = 128 * (y 0 : ℕ) + (y 1 : ℕ)) (h1 : (j 1 : ℕ) = (y 2 : ℕ)) :
    (outsAt0 m c t.val t.isLt).1 y = (outsAt0 m c t.val t.isLt).2 j := by
  rw [outsAt0_C m c t (by omega) (by omega) hf]; frame_out
  simp (disch := decide) only [↓ View.readCov_skip, ↓ View.readCov_cons_toLoadRect, ↓ View.readCov_fill]
  generalize k0_pay3 (iblk m c 0 t) (iblk m c 1 t) _ = q
  canon_tiles x h
  all_goals (open_payloads; pointwise; blk_ext)

open Cert.ReferenceGwOutIdeal.Read in
/-- The reference's result at an index: row `128 a + b` of the product. -/
theorem ref_apply (X : Vec Ideal S8192x1024 .bf16) (Y : Vec Ideal S8192x1024 .bf16) (i : S8x128x1024.Idx) (a : Fin 1024)
    (ha : a.val = 128 * (i 0 : ℕ) + (i 1 : ℕ)) :
    val_main_v7 (F := Ideal) X Y i = ∑ k : Fin 8192, X (ix2 k a) * Y (ix2 k (i 2)) := by
  have h0 : (i 0 : ℕ) < 8 := (i 0).isLt
  have h1 : (i 1 : ℕ) < 128 := (i 1).isLt
  have h2 : (i 2 : ℕ) < 1024 := (i 2).isLt
  rw [val_main_v7_apply, val_main_v6_apply, val_main_v5_apply]
  show val_main_v4 X Y _ = _
  rw [val_main_v4_apply]
  refine Finset.sum_congr rfl fun k _ => ?_
  have e1 : lidx_main_v4 (idx_main_v5 (idx_main_v6 i)) k = ix2 k (i 2) := by
    blk_ext
  have e2 : ridx_main_v4 (idx_main_v5 (idx_main_v6 i)) k = ix2 k a := by
    blk_ext
  rw [e1, e2, mul_comm]
  pointwise [val_main_v1, val_main_v3]

/-- The array after the run is the reference's result. -/
theorem final (c : Dev nD) : (dats m 0 c).arrAt 2 (cfgs 0).N
    = Cert.ReferenceGwOutIdeal.Read.val_main_v7 (F := Ideal) (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt N_0
  have hr : t.val % 4 = 3 := by have := (flush0_2 t).mp hf; omega
  have y0 : (y 0 : ℕ) < 8 := (y 0).isLt
  have y1 : (y 1 : ℕ) < 128 := (y 1).isLt
  blk_simp
  rw [after0_2]
  obtain_idx j : S1024x1024 := [128 * (y 0 : ℕ) + (y 1 : ℕ), (y 2 : ℕ)] with hj
  rw [out_eq m c t hr y j hj0 hj1, scratch_eq m c t hr]
  simp only [part_apply]
  rw [ref_apply _ _ _ ⟨(j 0 : ℕ), by omega⟩ (by blk_simp [places t]; simp only [hj0])]
  refine Fin.sum_mul_add_congr fun s k hl => ?_
  blk_point [iblk, V, places t, places ⟨_, Pipeline.run_point_lt_of_flush t hr s⟩]

end Cert.KernelGwOutIdeal.Own

end
-- ==== Proof.MlpIn.lean ====
/- The gradient through the MLP's input product, the residual and the layer norm before it: what the kernel's result
   arrays hold after the run. -/
module

public import proofs.«01_k».proof.Proof.Gen.KernelMlpInIdeal.Value
public import proofs.«01_k».proof.Proof.Gen.ReferenceMlpInIdeal.Read
public import Idealize.ShloMosaic.Lib.Pipeline.ValueKit
public import Idealize.ShloMosaic.Lib.Pipeline.ReadBack
public import proofs.«01_k».proof.Proof.LnBwd

@[expose] public section

set_option maxRecDepth 16384

noncomputable section

open Idealize.ShloMosaic Idealize.ShloMosaic.TcCoe Idealize.SL.Sem
open Idealize.ShloMosaic.Pipeline (Dat)
open scoped BigOperators

namespace Cert.KernelMlpInIdeal.Own

open Cert.KernelMlpInIdeal Cert.KernelMlpInIdeal.Gen

variable (m : (ℓ : Loc nD τ sig) → Buf (Elt Ideal) ℓ)

/-- The blocks the windows take at each point, decided for all 16 points at once. -/
theorem places : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- The gradient that reaches one entry of the normalised row: the residual's share plus the product's, the latter cut
    into eight parts. -/
def grad (z : Vec Ideal S512x1024 .f32) (u : Vec Ideal S512x4096 .bf16) (w : Vec Ideal S8x1024x512 .bf16)
    (r : Fin 512) (q : Fin 1024) : EReal :=
  Ideal.ofBits .f32 0x3FB504F3#32 * z (ix2 r q)
    + ∑ j : Fin 8, ∑ l : Fin 512, u (ix2 r ⟨j.val * 512 + l.val, by omega⟩) * w (ix3 j q l)

/-- The block of those gradients as a point computes it. -/
abbrev gradPay (z : Vec Ideal S512x1024 .f32) (u : Vec Ideal S512x4096 .bf16) (w : Vec Ideal S8x1024x512 .bf16) : FVec Ideal S512x1024 .f32 :=
  k0_pay6 (k0_pay4 z
      (View.ld u (Rect.unit ![0, 0] ![512, 512] inb_S512x4096_S512x512_0_0)) (View.ld w (Rect.unit ![0, 0, 0] ![1, 1024, 512] inb_S8x1024x512_S1x1024x512_0_0_0))
      (View.ld u (Rect.unit ![0, 512] ![512, 512] inb_S512x4096_S512x512_0_512)) (View.ld w (Rect.unit ![1, 0, 0] ![1, 1024, 512] inb_S8x1024x512_S1x1024x512_1_0_0))
      (View.ld u (Rect.unit ![0, 1024] ![512, 512] inb_S512x4096_S512x512_0_1024)) (View.ld w (Rect.unit ![2, 0, 0] ![1, 1024, 512] inb_S8x1024x512_S1x1024x512_2_0_0))
      (View.ld u (Rect.unit ![0, 1536] ![512, 512] inb_S512x4096_S512x512_0_1536)) (View.ld w (Rect.unit ![3, 0, 0] ![1, 1024, 512] inb_S8x1024x512_S1x1024x512_3_0_0)))
    (View.ld u (Rect.unit ![0, 2048] ![512, 512] inb_S512x4096_S512x512_0_2048)) (k0_pay5 (View.ld w (Rect.unit ![4, 0, 0] ![1, 1024, 512] inb_S8x1024x512_S1x1024x512_4_0_0)))
    (constant S512x1024 FTy.f32 0#32)
    (View.ld u (Rect.unit ![0, 2560] ![512, 512] inb_S512x4096_S512x512_0_2560)) (View.ld w (Rect.unit ![5, 0, 0] ![1, 1024, 512] inb_S8x1024x512_S1x1024x512_5_0_0))
    (View.ld u (Rect.unit ![0, 3072] ![512, 512] inb_S512x4096_S512x512_0_3072)) (View.ld w (Rect.unit ![6, 0, 0] ![1, 1024, 512] inb_S8x1024x512_S1x1024x512_6_0_0))
    (View.ld u (Rect.unit ![0, 3584] ![512, 512] inb_S512x4096_S512x512_0_3584)) (View.ld w (Rect.unit ![7, 0, 0] ![1, 1024, 512] inb_S8x1024x512_S1x1024x512_7_0_0))

/-- Its entries are the gradients. -/
theorem grad_pay (z : Vec Ideal S512x1024 .f32) (u : Vec Ideal S512x4096 .bf16) (w : Vec Ideal S8x1024x512 .bf16) (r : Fin 512) (q : Fin 1024) :
    gradPay z u w (ix2 r q) = grad z u w r q := by
  rw [grad, Fin.sum_univ_eight]
  simp only [← add_assoc]
  pointwise [k0_pay4, k0_pay5, k0_pay6]
  blk_ext

/-- The block of the layer norm's gradients, entry by entry. -/
theorem ln_pay (d zin : Vec Ideal S512x1024 .f32) (g : Vec Ideal S1x1024 .f32) (r : Fin 512) (q : Fin 1024) :
    k0_pay11 d g (k0_pay7 zin) (k0_pay8 zin) (FloatOps.ofBits FTy.f32 925353388#32) (ix2 r q)
      = Cert.Own.lnKer (fun k => zin (ix2 r k)) (fun k => d (ix2 r k)) (fun k => g (ix2 0 k)) q := by
  pointwise [k0_pay11, k0_pay10, k0_pay9, k0_pay8, k0_pay7, Cert.Own.lnKer, Cert.Own.spread, Cert.Own.normed, Cert.Own.mean]

/-- The normalised block, entry by entry. -/
theorem norm_pay (zin : Vec Ideal S512x1024 .f32) (r : Fin 512) (q : Fin 1024) :
    k0_pay10 (k0_pay7 zin) (k0_pay8 zin) (FloatOps.ofBits FTy.f32 925353388#32) (ix2 r q)
      = Cert.Own.normed (fun k => zin (ix2 r k)) q := by
  pointwise [k0_pay10, k0_pay9, k0_pay8, k0_pay7, Cert.Own.normed, Cert.Own.mean]

/-- The weight as the kernel takes it: rounded, cut into eight blocks of columns. -/
theorem weight_read (c : Dev nD) : V m c main_v4 = transpose S8x1024x512 [1, 0, 2] (shapeCast S1024x8x512
    (truncf (F := Ideal) .bf16 (m ((c : Thread nD τ).loc main_arg4)) bitsLt_bf16_f32) shapeCasts_S1024x4096_S1024x8x512) transposes_S1024x8x512_S8x1024x512_1_0_2 := by
  unfold V; after_results; try rfl

/-- The rows before the layer norm as the kernel takes them. -/
theorem input_read (c : Dev nD) : V m c main_v1 = (addf (m ((c : Thread nD τ).loc main_arg0) : FVec Ideal S8192x1024 .f32)
    (broadcastInDim S8192x1024 ![0, 1] bcast_S1x1024_S8192x1024_0_1 (m ((c : Thread nD τ).loc main_arg1) : FVec Ideal S1x1024 .f32)) : FVec Ideal S8192x1024 .f32) := by
  unfold V; after_results; try rfl

open Cert.ReferenceMlpInIdeal.Read in
/-- The reference's rows before the layer norm. -/
abbrev rows (c : Dev nD) : FVec Ideal S8192x1024 .f32 :=
  val_main_v1 (F := Ideal) (m ((c : Thread nD τ).loc main_arg0)) (m ((c : Thread nD τ).loc main_arg1))

open Cert.ReferenceMlpInIdeal.Read in
/-- The reference's gradient at the normalised rows. -/
abbrev grads (c : Dev nD) : FVec Ideal S8192x1024 .f32 := val_main_v36 (F := Ideal)
  (m ((c : Thread nD τ).loc main_arg4)) (m ((c : Thread nD τ).loc main_arg5)) (m ((c : Thread nD τ).loc main_arg6))

open Cert.ReferenceMlpInIdeal.Read in
/-- The reference's gradient before the layer norm. -/
abbrev outs (c : Dev nD) : FVec Ideal S8192x1024 .f32 := val_main_v67 (F := Ideal) (m ((c : Thread nD τ).loc main_arg0))
  (m ((c : Thread nD τ).loc main_arg1)) (m ((c : Thread nD τ).loc main_arg2)) (m ((c : Thread nD τ).loc main_arg4))
  (m ((c : Thread nD τ).loc main_arg5)) (m ((c : Thread nD τ).loc main_arg6))

open Cert.ReferenceMlpInIdeal.Read in
/-- What a point computes at an entry is the reference's gradient there: one sum of 4096 products cut into eight. -/
theorem grad_eq (c : Dev nD) (t : Fin cfg0.N) (r : Fin 512) (q : Fin 1024) (p : Fin 8192) (hp : (p : ℕ) = t.val * 512 + r.val) :
    grad (iblk m c 0 t) (iblk m c 1 t) (iblk m c 2 t) r q = grads m c (ix2 p q) := by
  have h : ∀ (f : Fin 4096 → EReal), ∑ j : Fin 8, ∑ l : Fin 512, f ⟨j.val * 512 + l.val, by omega⟩ = ∑ k, f k := fun f =>
    Fin.sum_mul_add_congr fun s k hl => rfl
  unfold grad
  rw [add_comm]
  pointwise [val_main_v36, val_main_v35, val_main_v34, val_main_cst_7, val_main_v33, val_main_v32]
  rw [← h]
  blk_simp [iblk]
  simp only [weight_read]
  unfold V
  pointwise
  blk_point [places t]

open Cert.ReferenceMlpInIdeal.Read in
/-- The rows a point reads before the layer norm. -/
theorem row_eq (c : Dev nD) (t : Fin cfg0.N) (r : Fin 512) (q : Fin 1024) (p : Fin 8192) (hp : (p : ℕ) = t.val * 512 + r.val) :
    iblk m c 3 t (ix2 r q) = rows m c (ix2 p q) := by
  pointwise [val_main_v1, val_main_v0]
  blk_simp [iblk]
  rw [input_read]
  pointwise
  blk_point [places t]

/-- The gain a point reads. -/
theorem gain_eq (c : Dev nD) (t : Fin cfg0.N) (q : Fin 1024) :
    iblk m c 4 t (ix2 0 q) = m ((c : Thread nD τ).loc main_arg2) (ix2 0 q) := by
  blk_simp [iblk]
  unfold V
  blk_point [places t]

open Cert.ReferenceMlpInIdeal.Read in
/-- The reference's distance from the mean, in terms of its row. -/
theorem dist_ref (c : Dev nD) (p : Fin 8192) (q : Fin 1024) :
    val_main_v16 (F := Ideal) (m ((c : Thread nD τ).loc main_arg0)) (m ((c : Thread nD τ).loc main_arg1)) (ix2 p q)
      = rows m c (ix2 p q) - Cert.Own.mean (fun k => rows m c (ix2 p k)) := by
  pointwise [val_main_v16, val_main_v15, val_main_v5, val_main_v4, val_main_v3, val_main_v2, val_main_cst, val_main_cst_0, Cert.Own.mean]

open Cert.ReferenceMlpInIdeal.Read in
/-- The reference's variance plus the small constant, in terms of its row. -/
theorem spread_ref (c : Dev nD) (p : Fin 8192) :
    val_main_v18 (F := Ideal) (m ((c : Thread nD τ).loc main_arg0)) (m ((c : Thread nD τ).loc main_arg1)) (ix2 p 0)
      = Cert.Own.spread (fun k => rows m c (ix2 p k)) := by
  pointwise [val_main_v18, val_main_v17, val_main_v14, val_main_v13, val_main_v12, val_main_v11, val_main_v8, val_main_v7, val_main_v6, val_main_v5, val_main_v4, val_main_v3, val_main_v2, val_main_cst, val_main_cst_0, val_main_cst_1, val_main_cst_2, val_main_cst_3, val_main_cst_4, Cert.Own.spread, Cert.Own.mean]

open Cert.ReferenceMlpInIdeal.Read in
/-- The reference's normalised entry in terms of its row. -/
theorem norm_ref (c : Dev nD) (p : Fin 8192) (q : Fin 1024) :
    val_main_v24 (F := Ideal) (m ((c : Thread nD τ).loc main_arg0)) (m ((c : Thread nD τ).loc main_arg1)) (ix2 p q)
      = Cert.Own.normed (fun k => rows m c (ix2 p k)) q := by
  pointwise [val_main_v24, val_main_v23, val_main_v19]
  rw [dist_ref, spread_ref]
  rfl

open Cert.ReferenceMlpInIdeal.Read in
/-- What reaches the reference's squared distances, in terms of its rows. -/
theorem var_ref (c : Dev nD) (p : Fin 8192) :
    val_main_v54 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) (ix2 p 0)
      = Cert.Own.lnVar (fun k => rows m c (ix2 p k)) (fun k => grads m c (ix2 p k))
      (fun k => m ((c : Thread nD τ).loc main_arg2) (ix2 0 k)) := by
  pointwise [val_main_v54, val_main_v53, val_main_v49, val_main_v46, val_main_v45, val_main_v44, val_main_v43, val_main_v42, val_main_v22, val_main_v21, val_main_v20, val_main_v19, val_main_cst_5, val_main_cst_10, val_main_cst_12]
  simp only [dist_ref, spread_ref]
  rfl

open Cert.ReferenceMlpInIdeal.Read in
/-- What reaches one entry through the squared distances. -/
theorem sq_ref (c : Dev nD) (p : Fin 8192) (q : Fin 1024) :
    val_main_v57 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) (ix2 p q)
      = Cert.Own.lnVar (fun k => rows m c (ix2 p k)) (fun k => grads m c (ix2 p k))
      (fun k => m ((c : Thread nD τ).loc main_arg2) (ix2 0 k))
        * (Ideal.ofBits .f32 0x40000000#32 * (rows m c (ix2 p q) - Cert.Own.mean (fun k => rows m c (ix2 p k)))) := by
  rw [← var_ref, ← dist_ref]
  pointwise [val_main_v57, val_main_v56, val_main_v55, val_main_cst_13, val_main_v10, val_main_v9, val_main_v7, val_main_v6, val_main_v16, val_main_v15, val_main_cst_1]
  rw [Fin.sum_univ_one]

open Cert.ReferenceMlpInIdeal.Read in
/-- What reaches one entry directly. -/
theorem direct_ref (c : Dev nD) (p : Fin 8192) (q : Fin 1024) :
    val_main_v48 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) (ix2 p q)
      = grads m c (ix2 p q) * m ((c : Thread nD τ).loc main_arg2) (ix2 0 q) * Ideal.rsqrt (Cert.Own.spread (fun k => rows m c (ix2 p k))) := by
  rw [← spread_ref]
  pointwise [val_main_v48, val_main_v47, val_main_v43, val_main_v42, val_main_v19]

open Cert.ReferenceMlpInIdeal.Read in
/-- The reference's gradient before the layer norm in terms of its rows. -/
theorem ln_ref (c : Dev nD) (p : Fin 8192) (q : Fin 1024) :
    outs m c (ix2 p q) = Cert.Own.lnRef (fun k => rows m c (ix2 p k)) (fun k => grads m c (ix2 p k))
      (fun k => m ((c : Thread nD τ).loc main_arg2) (ix2 0 k)) q := by
  pointwise [val_main_v67, val_main_v66, val_main_v65, val_main_v64, val_main_v63, val_main_v62, val_main_v61, val_main_v60, val_main_v59, val_main_v58, val_main_v52, val_main_v51, val_main_v50, val_main_cst_11, val_main_cst_14, val_main_cst_15, val_main_cst_16]
  simp only [direct_ref, sq_ref, Fin.sum_univ_one]
  rfl

/-- Every entry of the arguments the layer norm's gradient needs is a number. -/
structure Nums (c : Dev nD) : Prop where
  s : ∀ i, Cert.Own.IsNum (m ((c : Thread nD τ).loc main_arg0) i)
  b : ∀ i, Cert.Own.IsNum (m ((c : Thread nD τ).loc main_arg1) i)
  g : ∀ i, Cert.Own.IsNum (m ((c : Thread nD τ).loc main_arg2) i)
  w : ∀ i, Cert.Own.IsNum (m ((c : Thread nD τ).loc main_arg4) i)
  z : ∀ i, Cert.Own.IsNum (m ((c : Thread nD τ).loc main_arg5) i)
  u : ∀ i, Cert.Own.IsNum (m ((c : Thread nD τ).loc main_arg6) i)

open Cert.ReferenceMlpInIdeal.Read in
/-- Then so are the rows before the layer norm. -/
theorem rows_num (c : Dev nD) (h : Nums m c) (p : Fin 8192) (q : Fin 1024) : Cert.Own.IsNum (rows m c (ix2 p q)) := by
  pointwise [val_main_v1, val_main_v0]
  exact (h.s _).add (h.b _)

open Cert.ReferenceMlpInIdeal.Read in
/-- And the gradients at the normalised rows. -/
theorem grads_num (c : Dev nD) (h : Nums m c) (p : Fin 8192) (q : Fin 1024) : Cert.Own.IsNum (grads m c (ix2 p q)) := by
  pointwise [val_main_v36, val_main_v35, val_main_v34, val_main_cst_7, val_main_v33, val_main_v32]
  exact (Cert.Own.IsNum.sum _ _ fun k => (h.u _).mul (h.w _)).add (Cert.Own.word_alpha.mul (h.z _))

/-- The gradient before the layer norm that a point computes is the reference's. -/
theorem ln_eq (c : Dev nD) (h : Nums m c) (t : Fin cfg0.N) (r : Fin 512) (q : Fin 1024) (p : Fin 8192) (hp : (p : ℕ) = t.val * 512 + r.val) :
    k0_pay11 (gradPay (iblk m c 0 t) (iblk m c 1 t) (iblk m c 2 t)) (iblk m c 4 t) (k0_pay7 (iblk m c 3 t)) (k0_pay8 (iblk m c 3 t))
      (FloatOps.ofBits FTy.f32 925353388#32) (ix2 r q) = outs m c (ix2 p q) := by
  rw [ln_pay, ln_ref, ← Cert.Own.ln_eq _ _ _ (fun k => rows_num m c h p k) (fun k => grads_num m c h p k) (fun k => h.g _)]
  simp only [grad_pay, grad_eq m c t r _ p hp, row_eq m c t r _ p hp, gain_eq]

/-- The block of gradients before the layer norm that point `t` computes. -/
abbrev blockPay (c : Dev nD) (t : Fin cfg0.N) : FVec Ideal S512x1024 .f32 :=
  k0_pay11 (gradPay (iblk m c 0 t) (iblk m c 1 t) (iblk m c 2 t)) (iblk m c 4 t) (k0_pay7 (iblk m c 3 t)) (k0_pay8 (iblk m c 3 t))
      (FloatOps.ofBits FTy.f32 925353388#32)

/-- The same at whole indices. -/
theorem ln_at (c : Dev nD) (h : Nums m c) (t : Fin cfg0.N) (y : S512x1024.Idx) (i : S8192x1024.Idx)
    (h0 : (i 0 : ℕ) = t.val * 512 + (y 0 : ℕ)) (h1 : (i 1 : ℕ) = (y 1 : ℕ)) : blockPay m c t y = outs m c i := by
  have hy : y = ix2 (y 0) (y 1) := by blk_ext
  have hi : i = ix2 (i 0) (y 1) := by blk_ext
  rw [hy, hi]
  exact ln_eq m c h t (y 0) (y 1) (i 0) h0

/-- What a point leaves in the block of gradients, in the rounded block, and in the three rows of sums: at the first point
    its own column sums, afterwards those added to what the point before left. -/
theorem point_eq (c : Dev nD) (t : Fin cfg0.N) :
    (outsAt0 m c t.val t.isLt).1 = blockPay m c t ∧ (outsAt0 m c t.val t.isLt).2.1 = blockPay m c t := by
  have ht : t.val < 16 := lt_of_lt_of_eq t.isLt N_0
  by_cases hs : t.val % 16 = 0
  · rw [outsAt0_A m c t hs (by omega) hs (by omega) hs (by omega)]
    exact ⟨by frame_out, by frame_out; rfl⟩
  · rw [outsAt0_B m c t hs (by omega) hs (by omega) hs (by omega)]
    exact ⟨by frame_out, by frame_out; rfl⟩

/-- The gradients after the run are the reference's. -/
theorem final_5 (c : Dev nD) (h : Nums m c) : (dats m 0 c).arrAt 5 (cfgs 0).N = Cert.ReferenceMlpInIdeal.Read.val_main_v67 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) := by
  refine (dats m 0 c).arrAt_eq_of_covers 5 _ (by decide +kernel) fun t hf y => ?_
  blk_simp
  rw [after0_5, (point_eq m c t).1]
  exact ln_at m c h t y _ (by blk_simp [places t]) (by blk_simp [places t])

/-- The rounded gradients after the run are the reference's. -/
theorem final_6 (c : Dev nD) (h : Nums m c) : (dats m 0 c).arrAt 6 (cfgs 0).N = Cert.ReferenceMlpInIdeal.Read.val_main_v70 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) := by
  refine (dats m 0 c).arrAt_eq_of_covers 6 _ (by decide +kernel) fun t hf y => ?_
  blk_simp
  rw [after0_6, (point_eq m c t).2]
  exact ln_at m c h t y _ (by blk_simp [places t]) (by blk_simp [places t])

/-- The gradient of the gain after the run is the reference's. -/
theorem final_7 (c : Dev nD) : (dats m 0 c).arrAt 7 (cfgs 0).N = Cert.ReferenceMlpInIdeal.Read.val_main_v41 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (dats m 0 c).arrAt_eq_of_after_last 7 t0_15 (by decide +kernel) _ fun y => ?_
  obtain ⟨q, rfl⟩ : ∃ q : Fin 1024, y = ix2 0 q := ⟨y 1, by blk_ext⟩
  blk_simp
  rw [after0_7, Pipeline.eq_sum_fin_of_reset_step_apply_of_flush (fun n h => ((outsAt0 m c n h).2.2.1 : S1x1024.Idx → EReal)) 16 (fun _ => 0)
    (fun t j => ∑ r : Fin 512, gradPay (iblk m c 0 t) (iblk m c 1 t) (iblk m c 2 t) (ix2 r (j 1))
      * k0_pay10 (k0_pay7 (iblk m c 3 t)) (k0_pay8 (iblk m c 3 t)) (FloatOps.ofBits FTy.f32 925353388#32) (ix2 r (j 1)))
    (fun t h j => by
      have ht : t.val < 16 := lt_of_lt_of_eq t.isLt N_0
      rw [outsAt0_A m c t h (by omega) h (by omega) h (by omega)]; frame_out
      pointwise [k0_pay13])
    (fun t h j => by
      have ht : t.val < 16 := lt_of_lt_of_eq t.isLt N_0
      rw [outsAt0_B m c t h (by omega) h (by omega) h (by omega)]; frame_out
      pointwise [k0_pay14, k0_pay13])
    t0_15 rfl, zero_add]
  pointwise [Cert.ReferenceMlpInIdeal.Read.val_main_v41, Cert.ReferenceMlpInIdeal.Read.val_main_v40, Cert.ReferenceMlpInIdeal.Read.val_main_v39, Cert.ReferenceMlpInIdeal.Read.val_main_cst_9]
  refine Fin.sum_mul_add_congr fun s k hl => ?_
  have e := fun q => grad_eq m c ⟨16 * (t0_15.val / 16) + s.val, Pipeline.run_point_lt_of_flush t0_15 rfl s⟩ k q ⟨s.val * 512 + k.val, hl⟩
    (by show s.val * 512 + k.val = (16 * (15 / 16) + s.val) * 512 + k.val; omega)
  have e' := fun q => row_eq m c ⟨16 * (t0_15.val / 16) + s.val, Pipeline.run_point_lt_of_flush t0_15 rfl s⟩ k q ⟨s.val * 512 + k.val, hl⟩
    (by show s.val * 512 + k.val = (16 * (15 / 16) + s.val) * 512 + k.val; omega)
  refine (congrArg₂ (· * ·) (grad_pay _ _ _ k q) (norm_pay _ k q)).trans ?_
  simp only [e, e']
  rw [norm_ref, mul_comm]

/-- The gradient of the offset after the run is the reference's. -/
theorem final_8 (c : Dev nD) : (dats m 0 c).arrAt 8 (cfgs 0).N = Cert.ReferenceMlpInIdeal.Read.val_main_v38 (F := Ideal) (m ((c : Thread nD τ).loc main_arg4)) (m ((c : Thread nD τ).loc main_arg5)) (m ((c : Thread nD τ).loc main_arg6)) := by
  refine (dats m 0 c).arrAt_eq_of_after_last 8 t0_15 (by decide +kernel) _ fun y => ?_
  obtain ⟨q, rfl⟩ : ∃ q : Fin 1024, y = ix2 0 q := ⟨y 1, by blk_ext⟩
  blk_simp
  rw [after0_8, Pipeline.eq_sum_fin_of_reset_step_apply_of_flush (fun n h => ((outsAt0 m c n h).2.2.2.1 : S1x1024.Idx → EReal)) 16 (fun _ => 0)
    (fun t j => ∑ r : Fin 512, gradPay (iblk m c 0 t) (iblk m c 1 t) (iblk m c 2 t) (ix2 r (j 1)))
    (fun t h j => by
      have ht : t.val < 16 := lt_of_lt_of_eq t.isLt N_0
      rw [outsAt0_A m c t h (by omega) h (by omega) h (by omega)]; frame_out
      pointwise [k0_pay15])
    (fun t h j => by
      have ht : t.val < 16 := lt_of_lt_of_eq t.isLt N_0
      rw [outsAt0_B m c t h (by omega) h (by omega) h (by omega)]; frame_out
      pointwise [k0_pay1, k0_pay15])
    t0_15 rfl, zero_add]
  pointwise [Cert.ReferenceMlpInIdeal.Read.val_main_v38, Cert.ReferenceMlpInIdeal.Read.val_main_v37, Cert.ReferenceMlpInIdeal.Read.val_main_cst_8]
  refine Fin.sum_mul_add_congr fun s k hl => ?_
  refine (grad_pay _ _ _ k q).trans ?_
  exact grad_eq m c ⟨16 * (t0_15.val / 16) + s.val, Pipeline.run_point_lt_of_flush t0_15 rfl s⟩ k q ⟨s.val * 512 + k.val, hl⟩
    (by show s.val * 512 + k.val = (16 * (15 / 16) + s.val) * 512 + k.val; omega)

/-- The gradient of the bias after the run is the reference's. -/
theorem final_9 (c : Dev nD) (h : Nums m c) : (dats m 0 c).arrAt 9 (cfgs 0).N = Cert.ReferenceMlpInIdeal.Read.val_main_v69 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) := by
  refine (dats m 0 c).arrAt_eq_of_after_last 9 t0_15 (by decide +kernel) _ fun y => ?_
  obtain ⟨q, rfl⟩ : ∃ q : Fin 1024, y = ix2 0 q := ⟨y 1, by blk_ext⟩
  blk_simp
  rw [after0_9, Pipeline.eq_sum_fin_of_reset_step_apply_of_flush (fun n h => ((outsAt0 m c n h).2.2.2.2 : S1x1024.Idx → EReal)) 16 (fun _ => 0)
    (fun t j => ∑ r : Fin 512, blockPay m c t (ix2 r (j 1)))
    (fun t h j => by
      have ht : t.val < 16 := lt_of_lt_of_eq t.isLt N_0
      rw [outsAt0_A m c t h (by omega) h (by omega) h (by omega)]; frame_out
      pointwise [k0_pay2]
      rfl)
    (fun t h j => by
      have ht : t.val < 16 := lt_of_lt_of_eq t.isLt N_0
      rw [outsAt0_B m c t h (by omega) h (by omega) h (by omega)]; frame_out
      pointwise [k0_pay3, k0_pay2]
      rfl)
    t0_15 rfl, zero_add]
  pointwise [Cert.ReferenceMlpInIdeal.Read.val_main_v69, Cert.ReferenceMlpInIdeal.Read.val_main_v68, Cert.ReferenceMlpInIdeal.Read.val_main_cst_17]
  refine Fin.sum_mul_add_congr fun s k hl => ?_
  exact ln_eq m c h ⟨16 * (t0_15.val / 16) + s.val, Pipeline.run_point_lt_of_flush t0_15 rfl s⟩ k q ⟨s.val * 512 + k.val, hl⟩
    (by show s.val * 512 + k.val = (16 * (15 / 16) + s.val) * 512 + k.val; omega)

end Cert.KernelMlpInIdeal.Own

end
-- ==== Proof.Up.lean ====
/- The first product of the MLP: what the kernel's result array holds after the run. -/
module

public import proofs.«01_k».proof.Proof.Gen.KernelUpIdeal.Value
public import proofs.«01_k».proof.Proof.Gen.ReferenceUpIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelUpIdeal.Own

open Cert.KernelUpIdeal Cert.KernelUpIdeal.Gen

variable (m : (ℓ : Loc nD τ sig) → Buf (Elt Ideal) ℓ)

/-- The blocks the windows take at each point, decided for all 16 points at once. -/
theorem places : ∀ t : Fin cfg0.N, win0_0.index t = ![t.val, 0]
    ∧ win0_1.index t = ![0, 0, 0]
    ∧ win0_2.index t = ![0, 0]
    ∧ win0_3.index t = ![t.val, 0] :=
  (by decide +kernel : ∀ t : Fin grid0.N, _)

/-- One entry of the product plus its bias, from one point's blocks: row `r`, column `q = 512 a + l`. -/
def cell (z : Vec Ideal S512x1024 .bf16) (w : Vec Ideal S8x1024x512 .bf16) (b : Vec Ideal S1x4096 .f32)
    (r : Fin 512) (a : Fin 8) (l : Fin 512) (q : Fin 4096) : EReal :=
  (∑ k : Fin 1024, z (ix2 r k) * w (ix3 a k l)) + b (ix2 0 q)

/-- The block of the product that a point writes. -/
theorem out_eq (z : Vec Ideal S512x1024 .bf16) (w : Vec Ideal S8x1024x512 .bf16) (b : Vec Ideal S1x4096 .f32) (y : S512x4096.Idx)
    (a : Fin 8) (l : Fin 512) (ha : (a : ℕ) = (y 1 : ℕ) / 512) (hl : (l : ℕ) = (y 1 : ℕ) % 512) :
    out0_3 z w b y = cell z w b (y 0) a l (y 1) := by
  canon_tiles x h
  all_goals (open_payloads; pointwise [cell]; blk_point)

/-- The weight as the kernel takes it: rounded, its columns cut into eight blocks. -/
theorem weight_read (c : Dev nD) : V m c main_v2
    = transpose S8x1024x512 [1, 0, 2] (shapeCast S1024x8x512 (truncf (F := Ideal) .bf16 (m ((c : Thread nD τ).loc main_arg1)) bitsLt_bf16_f32) shapeCasts_S1024x4096_S1024x8x512) transposes_S1024x8x512_S8x1024x512_1_0_2 := by
  unfold V; after_results; try rfl

/-- The rows' array is left alone before the call. -/
theorem rows_read (c : Dev nD) : V m c main_arg0 = m ((c : Thread nD τ).loc main_arg0) := by
  unfold V; after_results; try rfl

/-- The bias is left alone before the call. -/
theorem bias_read (c : Dev nD) : V m c main_arg2 = m ((c : Thread nD τ).loc main_arg2) := by
  unfold V; after_results; try rfl

/-- The reference's product plus bias, on this program's arguments. -/
abbrev ref (c : Dev nD) : FVec Ideal S8192x4096 .f32 := Cert.ReferenceUpIdeal.Read.val_main_v3 (F := Ideal)
  (m ((c : Thread nD τ).loc main_arg0)) (m ((c : Thread nD τ).loc main_arg1)) (m ((c : Thread nD τ).loc main_arg2))

open Cert.ReferenceUpIdeal.Read in
/-- What a point computes at an index is the reference's product there. -/
theorem cell_eq (c : Dev nD) (t : Fin cfg0.N) (r : Fin 512) (a : Fin 8) (l : Fin 512) (q : Fin 4096) (p : Fin 8192)
    (ha : (a : ℕ) = (q : ℕ) / 512) (hl : (l : ℕ) = (q : ℕ) % 512) (hp : (p : ℕ) = t.val * 512 + r.val) :
    cell (iblk m c 0 t) (iblk m c 1 t) (iblk m c 2 t) r a l q = ref m c (ix2 p q) := by
  unfold cell
  blk_simp [iblk]
  simp only [weight_read, rows_read, bias_read]
  pointwise [val_main_v3, val_main_v2, val_main_v1, val_main_v0]
  blk_point [places t]

/-- The array after the run is the reference's result. -/
theorem final_3 (c : Dev nD) : (dats m 0 c).arrAt 3 (cfgs 0).N = Cert.ReferenceUpIdeal.Read.val_main_v4 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := lt_of_lt_of_eq t.isLt N_0
  have y0 : (y 0 : ℕ) < 512 := (y 0).isLt
  have y1 : (y 1 : ℕ) < 4096 := (y 1).isLt
  blk_simp
  rw [after0_3, out_eq _ _ _ y ⟨(y 1 : ℕ) / 512, by omega⟩ ⟨(y 1 : ℕ) % 512, by omega⟩ rfl rfl,
    cell_eq m c t (y 0) _ _ (y 1) ⟨t.val * 512 + (y 0 : ℕ), by omega⟩ rfl rfl rfl]
  pointwise [Cert.ReferenceUpIdeal.Read.val_main_v4]
  blk_ext [places t]

end Cert.KernelUpIdeal.Own

end
-- ==== Proof.Down.lean ====
/- The MLP's second product, its residual and layer normalisation: what the kernel's result arrays hold after the run. -/
module

public import proofs.«01_k».proof.Proof.Gen.KernelDownIdeal.Value
public import proofs.«01_k».proof.Proof.Gen.ReferenceDownIdeal.Read
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.KernelDownIdeal.Own

open Cert.KernelDownIdeal Cert.KernelDownIdeal.Gen

variable (m : (ℓ : Loc nD τ sig) → Buf (Elt Ideal) ℓ)

/-- The blocks the windows take at each point, decided for all 16 points at once. -/
theorem places : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The weight as the kernel takes it: rounded. -/
theorem weight_read (c : Dev nD) : V m c main_v0 = truncf (F := Ideal) .bf16 (m ((c : Thread nD τ).loc main_arg1)) bitsLt_bf16_f32 := by
  unfold V; after_results; try rfl

open Cert.ReferenceDownIdeal.Read in
/-- The residual plus the product plus its bias, over the program's arguments. -/
abbrev ref (c : Dev nD) : FVec Ideal S8192x1024 .f32 := val_main_v8 (F := Ideal) (m ((c : Thread nD τ).loc main_arg0))
  (m ((c : Thread nD τ).loc main_arg1)) (m ((c : Thread nD τ).loc main_arg2)) (m ((c : Thread nD τ).loc main_arg3))

open Cert.ReferenceDownIdeal.Read in
/-- The normalised rows of that sum, with their gain and offset. -/
abbrev refn (c : Dev nD) : FVec Ideal S8192x1024 .f32 := val_main_v30 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5))

open Cert.ReferenceDownIdeal.Read in
/-- One entry of the sum a point computes is the reference's entry of its row. -/
theorem sum_eq (c : Dev nD) (t : Fin cfg0.N) (r : Fin 512) (q : Fin 1024) (p : Fin 8192) (hp : (p : ℕ) = t.val * 512 + r.val) :
    k0_pay3 (iblk m c 0 t) (iblk m c 3 t) (iblk m c 1 t) (iblk m c 2 t) (ix2 r q) = ref m c (ix2 p q) := by
  pointwise [k0_pay3, val_main_v8, val_main_v7, val_main_v6, val_main_v5, val_main_v4, val_main_v3, val_main_v2, val_main_v1, val_main_v0, val_main_cst, val_main_call0_v0, val_main_call0_cst]
  blk_simp [iblk]
  rw [weight_read]
  unfold V
  pointwise
  rw [add_assoc]
  blk_point [places t]

/-- The normalised entry in terms of the sums of its row. -/
theorem norm_block (z : Vec Ideal S512x4096 .bf16) (w : Vec Ideal S4096x1024 .bf16) (b : Vec Ideal S1x1024 .f32)
    (x : Vec Ideal S512x1024 .f32) (g o : Vec Ideal S1x1024 .f32) (r : Fin 512) (q : Fin 1024) :
    k0_pay1 (k0_pay6 z w b x g o) (k0_pay7 z w b x g o) (ix2 r q)
      = Cert.Own.normed (fun k => k0_pay3 z x w b (ix2 r k)) q * g (ix2 0 q) + o (ix2 0 q) := by
  unfold k0_pay1 k0_pay6 k0_pay7 k0_pay4 k0_pay5
  simp (disch := decide) only [r0_0, r0_1, r0_2, r0_3, View.ld_unit_lit']
  pointwise [Cert.Own.normed, Cert.Own.mean]

open Cert.ReferenceDownIdeal.Read in
/-- The reference's normalised entry in terms of the sums of its row. -/
theorem norm_ref (c : Dev nD) (p : Fin 8192) (q : Fin 1024) :
    refn m c (ix2 p q) = Cert.Own.normed (fun k => ref m c (ix2 p k)) q * m ((c : Thread nD τ).loc main_arg4) (ix2 0 q)
      + m ((c : Thread nD τ).loc main_arg5) (ix2 0 q) := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_0, val_main_cst_1, val_main_cst_2, val_main_cst_3, val_main_cst_4, Cert.Own.normed, Cert.Own.mean]

/-- The normalised block a point computes is the reference's, entry by entry. -/
theorem norm_eq (c : Dev nD) (t : Fin cfg0.N) (r : Fin 512) (q : Fin 1024) (p : Fin 8192) (hp : (p : ℕ) = t.val * 512 + r.val) :
    k0_pay1 (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 4 t) (iblk m c 5 t)) (ix2 r q) = refn m c (ix2 p q) := by
  rw [norm_block, norm_ref]
  simp only [sum_eq m c t r _ p hp]
  blk_simp [iblk]
  unfold V
  pointwise
  blk_point [places t]

/-- The same of the sum, at whole indices. -/
theorem sum_at (c : Dev nD) (t : Fin cfg0.N) (y : S512x1024.Idx) (i : S8192x1024.Idx)
    (h0 : (i 0 : ℕ) = t.val * 512 + (y 0 : ℕ)) (h1 : (i 1 : ℕ) = (y 1 : ℕ)) : k0_pay3 (iblk m c 0 t) (iblk m c 3 t) (iblk m c 1 t) (iblk m c 2 t) y = ref m c i := by
  have hy : y = ix2 (y 0) (y 1) := by blk_ext
  have hi : i = ix2 (i 0) (y 1) := by blk_ext
  rw [hy, hi]
  exact sum_eq m c t (y 0) (y 1) (i 0) h0

/-- The same of the normalised entry, at whole indices. -/
theorem norm_at (c : Dev nD) (t : Fin cfg0.N) (y : S512x1024.Idx) (i : S8192x1024.Idx)
    (h0 : (i 0 : ℕ) = t.val * 512 + (y 0 : ℕ)) (h1 : (i 1 : ℕ) = (y 1 : ℕ)) : k0_pay1 (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 4 t) (iblk m c 5 t)) y = refn m c i := by
  have hy : y = ix2 (y 0) (y 1) := by blk_ext
  have hi : i = ix2 (i 0) (y 1) := by blk_ext
  rw [hy, hi]
  exact norm_eq m c t (y 0) (y 1) (i 0) h0

/-- The normalised rows after the run are the reference's. -/
theorem final_6 (c : Dev nD) : (dats m 0 c).arrAt 6 (cfgs 0).N = Cert.ReferenceDownIdeal.Read.val_main_v30 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  exact norm_at m c t y _ (by blk_simp [places t]) (by blk_simp [places t])

/-- The sums after the run are the reference's. -/
theorem final_7 (c : Dev nD) : (dats m 0 c).arrAt 7 (cfgs 0).N = Cert.ReferenceDownIdeal.Read.val_main_v8 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  exact sum_at m c t y _ (by blk_simp [places t]) (by blk_simp [places t])

/-- The rounded normalised rows after the run are the reference's. -/
theorem final_8 (c : Dev nD) : (dats m 0 c).arrAt 8 (cfgs 0).N = Cert.ReferenceDownIdeal.Read.val_main_v31 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  exact norm_at m c t y _ (by blk_simp [places t]) (by blk_simp [places t])

end Cert.KernelDownIdeal.Own

end
-- ==== Proof.ConvOut.lean ====
/- The convolution's output product, its residual and layer normalisation: what the kernel's result arrays hold after the run. -/
module

public import proofs.«01_k».proof.Proof.Gen.KernelConvOutIdeal.Value
public import proofs.«01_k».proof.Proof.Gen.ReferenceConvOutIdeal.Read
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.KernelConvOutIdeal.Own

open Cert.KernelConvOutIdeal Cert.KernelConvOutIdeal.Gen

variable (m : (ℓ : Loc nD τ sig) → Buf (Elt Ideal) ℓ)

/-- The blocks the windows take at each point, decided for all 16 points at once. -/
theorem places : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The weight as the kernel takes it: rounded. -/
theorem weight_read (c : Dev nD) : V m c main_v0 = truncf (F := Ideal) .bf16 (m ((c : Thread nD τ).loc main_arg1)) bitsLt_bf16_f32 := by
  unfold V; after_results; try rfl

open Cert.ReferenceConvOutIdeal.Read in
/-- The residual plus the product plus its bias, over the program's arguments. -/
abbrev ref (c : Dev nD) : FVec Ideal S8192x1024 .f32 := val_main_v6 (F := Ideal) (m ((c : Thread nD τ).loc main_arg0))
  (m ((c : Thread nD τ).loc main_arg1)) (m ((c : Thread nD τ).loc main_arg2)) (m ((c : Thread nD τ).loc main_arg3))

open Cert.ReferenceConvOutIdeal.Read in
/-- The normalised rows of that sum, with their gain and offset. -/
abbrev refn (c : Dev nD) : FVec Ideal S8192x1024 .f32 := val_main_v28 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5))

open Cert.ReferenceConvOutIdeal.Read in
/-- One entry of the sum a point computes is the reference's entry of its row. -/
theorem sum_eq (c : Dev nD) (t : Fin cfg0.N) (r : Fin 512) (q : Fin 1024) (p : Fin 8192) (hp : (p : ℕ) = t.val * 512 + r.val) :
    k0_pay2 (iblk m c 0 t) (iblk m c 3 t) (iblk m c 1 t) (iblk m c 2 t) (ix2 r q) = ref m c (ix2 p q) := by
  pointwise [k0_pay2, val_main_v6, val_main_v5, val_main_v4, val_main_v3, val_main_v2, val_main_v1, val_main_v0, val_main_cst]
  blk_simp [iblk]
  rw [weight_read]
  unfold V
  pointwise
  rw [add_assoc]
  blk_point [places t]

/-- The normalised entry in terms of the sums of its row. -/
theorem norm_block (z : Vec Ideal S512x1024 .bf16) (w : Vec Ideal S1024x1024 .bf16) (b : Vec Ideal S1x1024 .f32)
    (x : Vec Ideal S512x1024 .f32) (g o : Vec Ideal S1x1024 .f32) (r : Fin 512) (q : Fin 1024) :
    k0_pay4 z w b x g o (ix2 r q)
      = Cert.Own.normed (fun k => k0_pay2 z x w b (ix2 r k)) q * g (ix2 0 q) + o (ix2 0 q) := by
  unfold k0_pay4 k0_pay3
  simp (disch := decide) only [r0_0, r0_1, r0_2, View.ld_unit_lit']
  pointwise [Cert.Own.normed, Cert.Own.mean]

open Cert.ReferenceConvOutIdeal.Read in
/-- The reference's normalised entry in terms of the sums of its row. -/
theorem norm_ref (c : Dev nD) (p : Fin 8192) (q : Fin 1024) :
    refn m c (ix2 p q) = Cert.Own.normed (fun k => ref m c (ix2 p k)) q * m ((c : Thread nD τ).loc main_arg4) (ix2 0 q)
      + m ((c : Thread nD τ).loc main_arg5) (ix2 0 q) := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst_0, val_main_cst_1, val_main_cst_2, val_main_cst_3, val_main_cst_4, Cert.Own.normed, Cert.Own.mean]

/-- The normalised block a point computes is the reference's, entry by entry. -/
theorem norm_eq (c : Dev nD) (t : Fin cfg0.N) (r : Fin 512) (q : Fin 1024) (p : Fin 8192) (hp : (p : ℕ) = t.val * 512 + r.val) :
    k0_pay4 (iblk m c 0 t) (iblk m c 1 t) (iblk m c 2 t) (iblk m c 3 t) (iblk m c 4 t) (iblk m c 5 t) (ix2 r q) = refn m c (ix2 p q) := by
  rw [norm_block, norm_ref]
  simp only [sum_eq m c t r _ p hp]
  blk_simp [iblk]
  unfold V
  pointwise
  blk_point [places t]

/-- The same of the sum, at whole indices. -/
theorem sum_at (c : Dev nD) (t : Fin cfg0.N) (y : S512x1024.Idx) (i : S8192x1024.Idx)
    (h0 : (i 0 : ℕ) = t.val * 512 + (y 0 : ℕ)) (h1 : (i 1 : ℕ) = (y 1 : ℕ)) : k0_pay2 (iblk m c 0 t) (iblk m c 3 t) (iblk m c 1 t) (iblk m c 2 t) y = ref m c i := by
  have hy : y = ix2 (y 0) (y 1) := by blk_ext
  have hi : i = ix2 (i 0) (y 1) := by blk_ext
  rw [hy, hi]
  exact sum_eq m c t (y 0) (y 1) (i 0) h0

/-- The same of the normalised entry, at whole indices. -/
theorem norm_at (c : Dev nD) (t : Fin cfg0.N) (y : S512x1024.Idx) (i : S8192x1024.Idx)
    (h0 : (i 0 : ℕ) = t.val * 512 + (y 0 : ℕ)) (h1 : (i 1 : ℕ) = (y 1 : ℕ)) : k0_pay4 (iblk m c 0 t) (iblk m c 1 t) (iblk m c 2 t) (iblk m c 3 t) (iblk m c 4 t) (iblk m c 5 t) y = refn m c i := by
  have hy : y = ix2 (y 0) (y 1) := by blk_ext
  have hi : i = ix2 (i 0) (y 1) := by blk_ext
  rw [hy, hi]
  exact norm_eq m c t (y 0) (y 1) (i 0) h0

/-- The normalised rows after the run are the reference's. -/
theorem final_6 (c : Dev nD) : (dats m 0 c).arrAt 6 (cfgs 0).N = Cert.ReferenceConvOutIdeal.Read.val_main_v28 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  exact norm_at m c t y _ (by blk_simp [places t]) (by blk_simp [places t])

/-- The sums after the run are the reference's. -/
theorem final_7 (c : Dev nD) : (dats m 0 c).arrAt 7 (cfgs 0).N = Cert.ReferenceConvOutIdeal.Read.val_main_v6 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  exact sum_at m c t y _ (by blk_simp [places t]) (by blk_simp [places t])

/-- The rounded normalised rows after the run are the reference's. -/
theorem final_8 (c : Dev nD) : (dats m 0 c).arrAt 8 (cfgs 0).N = Cert.ReferenceConvOutIdeal.Read.val_main_v29 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  exact norm_at m c t y _ (by blk_simp [places t]) (by blk_simp [places t])

end Cert.KernelConvOutIdeal.Own

end
-- ==== Proof.ConvIn.lean ====
/- The convolution's input product and its gate: what the kernel's two result arrays hold after the run. -/
module

public import proofs.«01_k».proof.Proof.Gen.KernelConvInIdeal.Value
public import proofs.«01_k».proof.Proof.Gen.ReferenceConvInIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelConvInIdeal.Own

open Cert.KernelConvInIdeal Cert.KernelConvInIdeal.Gen

variable (m : (ℓ : Loc nD τ sig) → Buf (Elt Ideal) ℓ)

/-- The blocks the windows take at each point, decided for all 16 points at once. -/
theorem places : ∀ t : Fin cfg0.N, win0_0.index t = ![t.val, 0]
    ∧ win0_1.index t = ![0, 0, 0]
    ∧ win0_2.index t = ![0, 0]
    ∧ win0_3.index t = ![t.val, 0]
    ∧ win0_4.index t = ![t.val, 0] :=
  (by decide +kernel : ∀ t : Fin grid0.N, _)

/-- One entry of the product plus its bias, from one point's blocks: row `r`, column `q = 256 a + l`. -/
def cell (z : Vec Ideal S512x1024 .bf16) (w : Vec Ideal S8x1024x256 .bf16) (b : Vec Ideal S1x2048 .f32)
    (r : Fin 512) (a : Fin 8) (l : Fin 256) (q : Fin 2048) : EReal :=
  (∑ k : Fin 1024, z (ix2 r k) * w (ix3 a k l)) + b (ix2 0 q)

/-- The block of the product that a point writes. -/
theorem out_eq (z : Vec Ideal S512x1024 .bf16) (w : Vec Ideal S8x1024x256 .bf16) (b : Vec Ideal S1x2048 .f32) (y : S512x2048.Idx)
    (a : Fin 8) (l : Fin 256) (ha : (a : ℕ) = (y 1 : ℕ) / 256) (hl : (l : ℕ) = (y 1 : ℕ) % 256) :
    out0_3 z w b y = cell z w b (y 0) a l (y 1) := by
  canon_tiles x h
  all_goals (open_payloads; pointwise [cell, k0_pay24]; blk_point)

/-- The weight as the kernel takes it: rounded, its columns cut into eight blocks. -/
theorem weight_read (c : Dev nD) : V m c main_v2
    = transpose S8x1024x256 [1, 0, 2] (shapeCast S1024x8x256 (truncf (F := Ideal) .bf16 (m ((c : Thread nD τ).loc main_arg1)) bitsLt_bf16_f32) shapeCasts_S1024x2048_S1024x8x256) transposes_S1024x8x256_S8x1024x256_1_0_2 := by
  unfold V; after_results; try rfl

/-- The rows' array is left alone before the call. -/
theorem rows_read (c : Dev nD) : V m c main_arg0 = m ((c : Thread nD τ).loc main_arg0) := by
  unfold V; after_results; try rfl

/-- The bias is left alone before the call. -/
theorem bias_read (c : Dev nD) : V m c main_arg2 = m ((c : Thread nD τ).loc main_arg2) := by
  unfold V; after_results; try rfl

/-- The reference's product plus bias, on this program's arguments. -/
abbrev ref (c : Dev nD) : FVec Ideal S8192x2048 .f32 := Cert.ReferenceConvInIdeal.Read.val_main_v3 (F := Ideal)
  (m ((c : Thread nD τ).loc main_arg0)) (m ((c : Thread nD τ).loc main_arg1)) (m ((c : Thread nD τ).loc main_arg2))

open Cert.ReferenceConvInIdeal.Read in
/-- What a point computes at an index is the reference's product there. -/
theorem cell_eq (c : Dev nD) (t : Fin cfg0.N) (r : Fin 512) (a : Fin 8) (l : Fin 256) (q : Fin 2048) (p : Fin 8192)
    (ha : (a : ℕ) = (q : ℕ) / 256) (hl : (l : ℕ) = (q : ℕ) % 256) (hp : (p : ℕ) = t.val * 512 + r.val) :
    cell (iblk m c 0 t) (iblk m c 1 t) (iblk m c 2 t) r a l q = ref m c (ix2 p q) := by
  unfold cell
  blk_simp [iblk]
  simp only [weight_read, rows_read, bias_read]
  pointwise [val_main_v3, val_main_v2, val_main_v1, val_main_v0]
  blk_point [places t]

/-- The array after the run is the reference's result. -/
theorem final_3 (c : Dev nD) : (dats m 0 c).arrAt 3 (cfgs 0).N = Cert.ReferenceConvInIdeal.Read.val_main_v6 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := lt_of_lt_of_eq t.isLt N_0
  have y0 : (y 0 : ℕ) < 512 := (y 0).isLt
  have y1 : (y 1 : ℕ) < 2048 := (y 1).isLt
  blk_simp
  rw [after0_3, out_eq _ _ _ y ⟨(y 1 : ℕ) / 256, by omega⟩ ⟨(y 1 : ℕ) % 256, by omega⟩ rfl rfl,
    cell_eq m c t (y 0) _ _ (y 1) ⟨t.val * 512 + (y 0 : ℕ), by omega⟩ rfl rfl rfl]
  pointwise [Cert.ReferenceConvInIdeal.Read.val_main_v6]
  blk_ext [places t]

/-- The block of the gated product that a point writes: the first half times the logistic function of the second. -/
theorem gate_eq (z : Vec Ideal S512x1024 .bf16) (w : Vec Ideal S8x1024x256 .bf16) (b : Vec Ideal S1x2048 .f32) (y : S512x1024.Idx)
    (a a' : Fin 8) (l : Fin 256) (q q' : Fin 2048) (ha : (a : ℕ) = (y 1 : ℕ) / 256) (ha' : (a' : ℕ) = 4 + (y 1 : ℕ) / 256)
    (hl : (l : ℕ) = (y 1 : ℕ) % 256) (hq : (q : ℕ) = (y 1 : ℕ)) (hq' : (q' : ℕ) = 1024 + (y 1 : ℕ)) :
    out0_4 z w b y = cell z w b (y 0) a l q * Ideal.div 1 (1 + Ideal.exp (0 - cell z w b (y 0) a' l q')) := by
  canon_tiles x h
  all_goals (open_payloads; pointwise [cell, k0_pay24]; blk_point)

open Cert.ReferenceConvInIdeal.Read in
/-- The gated array after the run is the reference's result. -/
theorem final_4 (c : Dev nD) : (dats m 0 c).arrAt 4 (cfgs 0).N = Cert.ReferenceConvInIdeal.Read.val_main_v13 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 16 := lt_of_lt_of_eq t.isLt N_0
  have y0 : (y 0 : ℕ) < 512 := (y 0).isLt
  have y1 : (y 1 : ℕ) < 1024 := (y 1).isLt
  blk_simp
  rw [after0_4, gate_eq _ _ _ y ⟨(y 1 : ℕ) / 256, by omega⟩ ⟨4 + (y 1 : ℕ) / 256, by omega⟩ ⟨(y 1 : ℕ) % 256, by omega⟩ ⟨(y 1 : ℕ), by omega⟩
      ⟨1024 + (y 1 : ℕ), by omega⟩ rfl rfl rfl rfl rfl,
    cell_eq m c t (y 0) _ _ _ ⟨t.val * 512 + (y 0 : ℕ), by omega⟩ rfl rfl rfl,
    cell_eq m c t (y 0) _ _ _ ⟨t.val * 512 + (y 0 : ℕ), by omega⟩ (by show 4 + (y 1 : ℕ) / 256 = (1024 + (y 1 : ℕ)) / 256; omega)
      (by show (y 1 : ℕ) % 256 = (1024 + (y 1 : ℕ)) % 256; omega) rfl]
  pointwise [val_main_v13, val_main_v12, val_main_v11, val_main_v10, val_main_v9, val_main_v8, val_main_v7, val_main_v5, val_main_v4, val_main_cst, val_main_cst_0]
  simp only [zero_sub]
  blk_point [places t]

end Cert.KernelConvInIdeal.Own

end
-- ==== Proof.ConvInBwd.lean ====
/- The gradient through the convolution's input product, the residual and the layer norm before it: what the kernel's result
   arrays hold after the run. -/
module

public import proofs.«01_k».proof.Proof.Gen.KernelConvInBwdIdeal.Value
public import proofs.«01_k».proof.Proof.Gen.ReferenceConvInBwdIdeal.Read
public import Idealize.ShloMosaic.Lib.Pipeline.ValueKit
public import Idealize.ShloMosaic.Lib.Pipeline.ReadBack
public import proofs.«01_k».proof.Proof.MlpIn

@[expose] public section

set_option maxRecDepth 16384

noncomputable section

open Idealize.ShloMosaic Idealize.ShloMosaic.TcCoe Idealize.SL.Sem
open Idealize.ShloMosaic.Pipeline (Dat)
open scoped BigOperators

namespace Cert.KernelConvInBwdIdeal.Own

open Cert.KernelConvInBwdIdeal Cert.KernelConvInBwdIdeal.Gen

variable (m : (ℓ : Loc nD τ sig) → Buf (Elt Ideal) ℓ)

/-- The blocks the windows take at each point, decided for all 16 points at once. -/
theorem places : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- The gradient that reaches one entry of the normalised row: the residual's share plus the product's, the latter cut
    into eight parts. -/
def grad (z : Vec Ideal S512x1024 .f32) (u : Vec Ideal S512x2048 .bf16) (w : Vec Ideal S8x1024x256 .bf16)
    (r : Fin 512) (q : Fin 1024) : EReal :=
  Ideal.ofBits .f32 0x3FB504F3#32 * z (ix2 r q)
    + ∑ j : Fin 8, ∑ l : Fin 256, u (ix2 r ⟨j.val * 256 + l.val, by omega⟩) * w (ix3 j q l)

/-- The block of those gradients as a point computes it. -/
abbrev gradPay (z : Vec Ideal S512x1024 .f32) (u : Vec Ideal S512x2048 .bf16) (w : Vec Ideal S8x1024x256 .bf16) : FVec Ideal S512x1024 .f32 :=
  k0_pay6 (k0_pay4 z
      (View.ld u (Rect.unit ![0, 0] ![512, 256] inb_S512x2048_S512x256_0_0)) (View.ld w (Rect.unit ![0, 0, 0] ![1, 1024, 256] inb_S8x1024x256_S1x1024x256_0_0_0))
      (View.ld u (Rect.unit ![0, 256] ![512, 256] inb_S512x2048_S512x256_0_256)) (View.ld w (Rect.unit ![1, 0, 0] ![1, 1024, 256] inb_S8x1024x256_S1x1024x256_1_0_0))
      (View.ld u (Rect.unit ![0, 512] ![512, 256] inb_S512x2048_S512x256_0_512)) (View.ld w (Rect.unit ![2, 0, 0] ![1, 1024, 256] inb_S8x1024x256_S1x1024x256_2_0_0))
      (View.ld u (Rect.unit ![0, 768] ![512, 256] inb_S512x2048_S512x256_0_768)) (View.ld w (Rect.unit ![3, 0, 0] ![1, 1024, 256] inb_S8x1024x256_S1x1024x256_3_0_0)))
    (View.ld u (Rect.unit ![0, 1024] ![512, 256] inb_S512x2048_S512x256_0_1024)) (k0_pay5 (View.ld w (Rect.unit ![4, 0, 0] ![1, 1024, 256] inb_S8x1024x256_S1x1024x256_4_0_0)))
    (constant S512x1024 FTy.f32 0#32)
    (View.ld u (Rect.unit ![0, 1280] ![512, 256] inb_S512x2048_S512x256_0_1280)) (View.ld w (Rect.unit ![5, 0, 0] ![1, 1024, 256] inb_S8x1024x256_S1x1024x256_5_0_0))
    (View.ld u (Rect.unit ![0, 1536] ![512, 256] inb_S512x2048_S512x256_0_1536)) (View.ld w (Rect.unit ![6, 0, 0] ![1, 1024, 256] inb_S8x1024x256_S1x1024x256_6_0_0))
    (View.ld u (Rect.unit ![0, 1792] ![512, 256] inb_S512x2048_S512x256_0_1792)) (View.ld w (Rect.unit ![7, 0, 0] ![1, 1024, 256] inb_S8x1024x256_S1x1024x256_7_0_0))

/-- Its entries are the gradients. -/
theorem grad_pay (z : Vec Ideal S512x1024 .f32) (u : Vec Ideal S512x2048 .bf16) (w : Vec Ideal S8x1024x256 .bf16) (r : Fin 512) (q : Fin 1024) :
    gradPay z u w (ix2 r q) = grad z u w r q := by
  rw [grad, Fin.sum_univ_eight]
  simp only [← add_assoc]
  pointwise [k0_pay4, k0_pay5, k0_pay6]
  blk_ext

/-- The block of the layer norm's gradients, entry by entry. -/
theorem ln_pay (d zin : Vec Ideal S512x1024 .f32) (g : Vec Ideal S1x1024 .f32) (r : Fin 512) (q : Fin 1024) :
    k0_pay11 d g (k0_pay7 zin) (k0_pay8 zin) (FloatOps.ofBits FTy.f32 925353388#32) (ix2 r q)
      = Cert.Own.lnKer (fun k => zin (ix2 r k)) (fun k => d (ix2 r k)) (fun k => g (ix2 0 k)) q :=
  Cert.KernelMlpInIdeal.Own.ln_pay d zin g r q

/-- The normalised block, entry by entry. -/
theorem norm_pay (zin : Vec Ideal S512x1024 .f32) (r : Fin 512) (q : Fin 1024) :
    k0_pay10 (k0_pay7 zin) (k0_pay8 zin) (FloatOps.ofBits FTy.f32 925353388#32) (ix2 r q)
      = Cert.Own.normed (fun k => zin (ix2 r k)) q :=
  Cert.KernelMlpInIdeal.Own.norm_pay zin r q

/-- The weight as the kernel takes it: rounded, cut into eight blocks of columns. -/
theorem weight_read (c : Dev nD) : V m c main_v4 = transpose S8x1024x256 [1, 0, 2] (shapeCast S1024x8x256
    (truncf (F := Ideal) .bf16 (m ((c : Thread nD τ).loc main_arg4)) bitsLt_bf16_f32) shapeCasts_S1024x2048_S1024x8x256) transposes_S1024x8x256_S8x1024x256_1_0_2 := by
  unfold V; after_results; try rfl

/-- The rows before the layer norm as the kernel takes them. -/
theorem input_read (c : Dev nD) : V m c main_v1 = (addf (m ((c : Thread nD τ).loc main_arg0) : FVec Ideal S8192x1024 .f32)
    (broadcastInDim S8192x1024 ![0, 1] bcast_S1x1024_S8192x1024_0_1 (m ((c : Thread nD τ).loc main_arg1) : FVec Ideal S1x1024 .f32)) : FVec Ideal S8192x1024 .f32) := by
  unfold V; after_results; try rfl

open Cert.ReferenceConvInBwdIdeal.Read in
/-- The reference's rows before the layer norm. -/
abbrev rows (c : Dev nD) : FVec Ideal S8192x1024 .f32 :=
  val_main_v1 (F := Ideal) (m ((c : Thread nD τ).loc main_arg0)) (m ((c : Thread nD τ).loc main_arg1))

open Cert.ReferenceConvInBwdIdeal.Read in
/-- The reference's gradient at the normalised rows. -/
abbrev grads (c : Dev nD) : FVec Ideal S8192x1024 .f32 := val_main_v36 (F := Ideal)
  (m ((c : Thread nD τ).loc main_arg4)) (m ((c : Thread nD τ).loc main_arg5)) (m ((c : Thread nD τ).loc main_arg6))

open Cert.ReferenceConvInBwdIdeal.Read in
/-- The reference's gradient before the layer norm. -/
abbrev outs (c : Dev nD) : FVec Ideal S8192x1024 .f32 := val_main_v67 (F := Ideal) (m ((c : Thread nD τ).loc main_arg0))
  (m ((c : Thread nD τ).loc main_arg1)) (m ((c : Thread nD τ).loc main_arg2)) (m ((c : Thread nD τ).loc main_arg4))
  (m ((c : Thread nD τ).loc main_arg5)) (m ((c : Thread nD τ).loc main_arg6))

open Cert.ReferenceConvInBwdIdeal.Read in
/-- What a point computes at an entry is the reference's gradient there: one sum of 2048 products cut into eight. -/
theorem grad_eq (c : Dev nD) (t : Fin cfg0.N) (r : Fin 512) (q : Fin 1024) (p : Fin 8192) (hp : (p : ℕ) = t.val * 512 + r.val) :
    grad (iblk m c 0 t) (iblk m c 1 t) (iblk m c 2 t) r q = grads m c (ix2 p q) := by
  have h : ∀ (f : Fin 2048 → EReal), ∑ j : Fin 8, ∑ l : Fin 256, f ⟨j.val * 256 + l.val, by omega⟩ = ∑ k, f k := fun f =>
    Fin.sum_mul_add_congr fun s k hl => rfl
  unfold grad
  rw [add_comm]
  pointwise [val_main_v36, val_main_v35, val_main_v34, val_main_cst_7, val_main_v33, val_main_v32]
  rw [← h]
  blk_simp [iblk]
  simp only [weight_read]
  unfold V
  pointwise
  blk_point [places t]

open Cert.ReferenceConvInBwdIdeal.Read in
/-- The rows a point reads before the layer norm. -/
theorem row_eq (c : Dev nD) (t : Fin cfg0.N) (r : Fin 512) (q : Fin 1024) (p : Fin 8192) (hp : (p : ℕ) = t.val * 512 + r.val) :
    iblk m c 3 t (ix2 r q) = rows m c (ix2 p q) := by
  pointwise [val_main_v1, val_main_v0]
  blk_simp [iblk]
  rw [input_read]
  pointwise
  blk_point [places t]

/-- The gain a point reads. -/
theorem gain_eq (c : Dev nD) (t : Fin cfg0.N) (q : Fin 1024) :
    iblk m c 4 t (ix2 0 q) = m ((c : Thread nD τ).loc main_arg2) (ix2 0 q) := by
  blk_simp [iblk]
  unfold V
  blk_point [places t]

open Cert.ReferenceConvInBwdIdeal.Read in
/-- The reference's distance from the mean, in terms of its row. -/
theorem dist_ref (c : Dev nD) (p : Fin 8192) (q : Fin 1024) :
    val_main_v16 (F := Ideal) (m ((c : Thread nD τ).loc main_arg0)) (m ((c : Thread nD τ).loc main_arg1)) (ix2 p q)
      = rows m c (ix2 p q) - Cert.Own.mean (fun k => rows m c (ix2 p k)) := by
  pointwise [val_main_v16, val_main_v15, val_main_v5, val_main_v4, val_main_v3, val_main_v2, val_main_cst, val_main_cst_0, Cert.Own.mean]

open Cert.ReferenceConvInBwdIdeal.Read in
/-- The reference's variance plus the small constant, in terms of its row. -/
theorem spread_ref (c : Dev nD) (p : Fin 8192) :
    val_main_v18 (F := Ideal) (m ((c : Thread nD τ).loc main_arg0)) (m ((c : Thread nD τ).loc main_arg1)) (ix2 p 0)
      = Cert.Own.spread (fun k => rows m c (ix2 p k)) := by
  pointwise [val_main_v18, val_main_v17, val_main_v14, val_main_v13, val_main_v12, val_main_v11, val_main_v8, val_main_v7, val_main_v6, val_main_v5, val_main_v4, val_main_v3, val_main_v2, val_main_cst, val_main_cst_0, val_main_cst_1, val_main_cst_2, val_main_cst_3, val_main_cst_4, Cert.Own.spread, Cert.Own.mean]

open Cert.ReferenceConvInBwdIdeal.Read in
/-- The reference's normalised entry in terms of its row. -/
theorem norm_ref (c : Dev nD) (p : Fin 8192) (q : Fin 1024) :
    val_main_v24 (F := Ideal) (m ((c : Thread nD τ).loc main_arg0)) (m ((c : Thread nD τ).loc main_arg1)) (ix2 p q)
      = Cert.Own.normed (fun k => rows m c (ix2 p k)) q := by
  pointwise [val_main_v24, val_main_v23, val_main_v19]
  rw [dist_ref, spread_ref]
  rfl

open Cert.ReferenceConvInBwdIdeal.Read in
/-- What reaches the reference's squared distances, in terms of its rows. -/
theorem var_ref (c : Dev nD) (p : Fin 8192) :
    val_main_v54 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) (ix2 p 0)
      = Cert.Own.lnVar (fun k => rows m c (ix2 p k)) (fun k => grads m c (ix2 p k))
      (fun k => m ((c : Thread nD τ).loc main_arg2) (ix2 0 k)) := by
  pointwise [val_main_v54, val_main_v53, val_main_v49, val_main_v46, val_main_v45, val_main_v44, val_main_v43, val_main_v42, val_main_v22, val_main_v21, val_main_v20, val_main_v19, val_main_cst_5, val_main_cst_10, val_main_cst_12]
  simp only [dist_ref, spread_ref]
  rfl

open Cert.ReferenceConvInBwdIdeal.Read in
/-- What reaches one entry through the squared distances. -/
theorem sq_ref (c : Dev nD) (p : Fin 8192) (q : Fin 1024) :
    val_main_v57 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) (ix2 p q)
      = Cert.Own.lnVar (fun k => rows m c (ix2 p k)) (fun k => grads m c (ix2 p k))
      (fun k => m ((c : Thread nD τ).loc main_arg2) (ix2 0 k))
        * (Ideal.ofBits .f32 0x40000000#32 * (rows m c (ix2 p q) - Cert.Own.mean (fun k => rows m c (ix2 p k)))) := by
  rw [← var_ref, ← dist_ref]
  pointwise [val_main_v57, val_main_v56, val_main_v55, val_main_cst_13, val_main_v10, val_main_v9, val_main_v7, val_main_v6, val_main_v16, val_main_v15, val_main_cst_1]
  rw [Fin.sum_univ_one]

open Cert.ReferenceConvInBwdIdeal.Read in
/-- What reaches one entry directly. -/
theorem direct_ref (c : Dev nD) (p : Fin 8192) (q : Fin 1024) :
    val_main_v48 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) (ix2 p q)
      = grads m c (ix2 p q) * m ((c : Thread nD τ).loc main_arg2) (ix2 0 q) * Ideal.rsqrt (Cert.Own.spread (fun k => rows m c (ix2 p k))) := by
  rw [← spread_ref]
  pointwise [val_main_v48, val_main_v47, val_main_v43, val_main_v42, val_main_v19]

open Cert.ReferenceConvInBwdIdeal.Read in
/-- The reference's gradient before the layer norm in terms of its rows. -/
theorem ln_ref (c : Dev nD) (p : Fin 8192) (q : Fin 1024) :
    outs m c (ix2 p q) = Cert.Own.lnRef (fun k => rows m c (ix2 p k)) (fun k => grads m c (ix2 p k))
      (fun k => m ((c : Thread nD τ).loc main_arg2) (ix2 0 k)) q := by
  pointwise [val_main_v67, val_main_v66, val_main_v65, val_main_v64, val_main_v63, val_main_v62, val_main_v61, val_main_v60, val_main_v59, val_main_v58, val_main_v52, val_main_v51, val_main_v50, val_main_cst_11, val_main_cst_14, val_main_cst_15, val_main_cst_16]
  simp only [direct_ref, sq_ref, Fin.sum_univ_one]
  rfl

/-- Every entry of the arguments the layer norm's gradient needs is a number. -/
structure Nums (c : Dev nD) : Prop where
  s : ∀ i, Cert.Own.IsNum (m ((c : Thread nD τ).loc main_arg0) i)
  b : ∀ i, Cert.Own.IsNum (m ((c : Thread nD τ).loc main_arg1) i)
  g : ∀ i, Cert.Own.IsNum (m ((c : Thread nD τ).loc main_arg2) i)
  w : ∀ i, Cert.Own.IsNum (m ((c : Thread nD τ).loc main_arg4) i)
  z : ∀ i, Cert.Own.IsNum (m ((c : Thread nD τ).loc main_arg5) i)
  u : ∀ i, Cert.Own.IsNum (m ((c : Thread nD τ).loc main_arg6) i)

open Cert.ReferenceConvInBwdIdeal.Read in
/-- Then so are the rows before the layer norm. -/
theorem rows_num (c : Dev nD) (h : Nums m c) (p : Fin 8192) (q : Fin 1024) : Cert.Own.IsNum (rows m c (ix2 p q)) := by
  pointwise [val_main_v1, val_main_v0]
  exact (h.s _).add (h.b _)

open Cert.ReferenceConvInBwdIdeal.Read in
/-- And the gradients at the normalised rows. -/
theorem grads_num (c : Dev nD) (h : Nums m c) (p : Fin 8192) (q : Fin 1024) : Cert.Own.IsNum (grads m c (ix2 p q)) := by
  pointwise [val_main_v36, val_main_v35, val_main_v34, val_main_cst_7, val_main_v33, val_main_v32]
  exact (Cert.Own.IsNum.sum _ _ fun k => (h.u _).mul (h.w _)).add (Cert.Own.word_alpha.mul (h.z _))

/-- The gradient before the layer norm that a point computes is the reference's. -/
theorem ln_eq (c : Dev nD) (h : Nums m c) (t : Fin cfg0.N) (r : Fin 512) (q : Fin 1024) (p : Fin 8192) (hp : (p : ℕ) = t.val * 512 + r.val) :
    k0_pay11 (gradPay (iblk m c 0 t) (iblk m c 1 t) (iblk m c 2 t)) (iblk m c 4 t) (k0_pay7 (iblk m c 3 t)) (k0_pay8 (iblk m c 3 t))
      (FloatOps.ofBits FTy.f32 925353388#32) (ix2 r q) = outs m c (ix2 p q) := by
  rw [ln_pay, ln_ref, ← Cert.Own.ln_eq _ _ _ (fun k => rows_num m c h p k) (fun k => grads_num m c h p k) (fun k => h.g _)]
  simp only [grad_pay, grad_eq m c t r _ p hp, row_eq m c t r _ p hp, gain_eq]

/-- The block of gradients before the layer norm that point `t` computes. -/
abbrev blockPay (c : Dev nD) (t : Fin cfg0.N) : FVec Ideal S512x1024 .f32 :=
  k0_pay11 (gradPay (iblk m c 0 t) (iblk m c 1 t) (iblk m c 2 t)) (iblk m c 4 t) (k0_pay7 (iblk m c 3 t)) (k0_pay8 (iblk m c 3 t))
      (FloatOps.ofBits FTy.f32 925353388#32)

/-- The same at whole indices. -/
theorem ln_at (c : Dev nD) (h : Nums m c) (t : Fin cfg0.N) (y : S512x1024.Idx) (i : S8192x1024.Idx)
    (h0 : (i 0 : ℕ) = t.val * 512 + (y 0 : ℕ)) (h1 : (i 1 : ℕ) = (y 1 : ℕ)) : blockPay m c t y = outs m c i := by
  have hy : y = ix2 (y 0) (y 1) := by blk_ext
  have hi : i = ix2 (i 0) (y 1) := by blk_ext
  rw [hy, hi]
  exact ln_eq m c h t (y 0) (y 1) (i 0) h0

/-- What a point leaves in the block of gradients, in the rounded block, and in the three rows of sums: at the first point
    its own column sums, afterwards those added to what the point before left. -/
theorem point_eq (c : Dev nD) (t : Fin cfg0.N) :
    (outsAt0 m c t.val t.isLt).1 = blockPay m c t ∧ (outsAt0 m c t.val t.isLt).2.1 = blockPay m c t := by
  have ht : t.val < 16 := lt_of_lt_of_eq t.isLt N_0
  by_cases hs : t.val % 16 = 0
  · rw [outsAt0_A m c t hs (by omega) hs (by omega) hs (by omega)]
    exact ⟨by frame_out, by frame_out; rfl⟩
  · rw [outsAt0_B m c t hs (by omega) hs (by omega) hs (by omega)]
    exact ⟨by frame_out, by frame_out; rfl⟩

/-- The gradients after the run are the reference's. -/
theorem final_5 (c : Dev nD) (h : Nums m c) : (dats m 0 c).arrAt 5 (cfgs 0).N = Cert.ReferenceConvInBwdIdeal.Read.val_main_v67 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) := by
  refine (dats m 0 c).arrAt_eq_of_covers 5 _ (by decide +kernel) fun t hf y => ?_
  blk_simp
  rw [after0_5, (point_eq m c t).1]
  exact ln_at m c h t y _ (by blk_simp [places t]) (by blk_simp [places t])

/-- The rounded gradients after the run are the reference's. -/
theorem final_6 (c : Dev nD) (h : Nums m c) : (dats m 0 c).arrAt 6 (cfgs 0).N = Cert.ReferenceConvInBwdIdeal.Read.val_main_v70 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) := by
  refine (dats m 0 c).arrAt_eq_of_covers 6 _ (by decide +kernel) fun t hf y => ?_
  blk_simp
  rw [after0_6, (point_eq m c t).2]
  exact ln_at m c h t y _ (by blk_simp [places t]) (by blk_simp [places t])

/-- The gradient of the gain after the run is the reference's. -/
theorem final_7 (c : Dev nD) : (dats m 0 c).arrAt 7 (cfgs 0).N = Cert.ReferenceConvInBwdIdeal.Read.val_main_v41 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (dats m 0 c).arrAt_eq_of_after_last 7 t0_15 (by decide +kernel) _ fun y => ?_
  obtain ⟨q, rfl⟩ : ∃ q : Fin 1024, y = ix2 0 q := ⟨y 1, by blk_ext⟩
  blk_simp
  rw [after0_7, Pipeline.eq_sum_fin_of_reset_step_apply_of_flush (fun n h => ((outsAt0 m c n h).2.2.1 : S1x1024.Idx → EReal)) 16 (fun _ => 0)
    (fun t j => ∑ r : Fin 512, gradPay (iblk m c 0 t) (iblk m c 1 t) (iblk m c 2 t) (ix2 r (j 1))
      * k0_pay10 (k0_pay7 (iblk m c 3 t)) (k0_pay8 (iblk m c 3 t)) (FloatOps.ofBits FTy.f32 925353388#32) (ix2 r (j 1)))
    (fun t h j => by
      have ht : t.val < 16 := lt_of_lt_of_eq t.isLt N_0
      rw [outsAt0_A m c t h (by omega) h (by omega) h (by omega)]; frame_out
      pointwise [k0_pay13])
    (fun t h j => by
      have ht : t.val < 16 := lt_of_lt_of_eq t.isLt N_0
      rw [outsAt0_B m c t h (by omega) h (by omega) h (by omega)]; frame_out
      pointwise [k0_pay14, k0_pay13])
    t0_15 rfl, zero_add]
  pointwise [Cert.ReferenceConvInBwdIdeal.Read.val_main_v41, Cert.ReferenceConvInBwdIdeal.Read.val_main_v40, Cert.ReferenceConvInBwdIdeal.Read.val_main_v39, Cert.ReferenceConvInBwdIdeal.Read.val_main_cst_9]
  refine Fin.sum_mul_add_congr fun s k hl => ?_
  have e := fun q => grad_eq m c ⟨16 * (t0_15.val / 16) + s.val, Pipeline.run_point_lt_of_flush t0_15 rfl s⟩ k q ⟨s.val * 512 + k.val, hl⟩
    (by show s.val * 512 + k.val = (16 * (15 / 16) + s.val) * 512 + k.val; omega)
  have e' := fun q => row_eq m c ⟨16 * (t0_15.val / 16) + s.val, Pipeline.run_point_lt_of_flush t0_15 rfl s⟩ k q ⟨s.val * 512 + k.val, hl⟩
    (by show s.val * 512 + k.val = (16 * (15 / 16) + s.val) * 512 + k.val; omega)
  refine (congrArg₂ (· * ·) (grad_pay _ _ _ k q) (norm_pay _ k q)).trans ?_
  simp only [e, e']
  rw [norm_ref, mul_comm]

/-- The gradient of the offset after the run is the reference's. -/
theorem final_8 (c : Dev nD) : (dats m 0 c).arrAt 8 (cfgs 0).N = Cert.ReferenceConvInBwdIdeal.Read.val_main_v38 (F := Ideal) (m ((c : Thread nD τ).loc main_arg4)) (m ((c : Thread nD τ).loc main_arg5)) (m ((c : Thread nD τ).loc main_arg6)) := by
  refine (dats m 0 c).arrAt_eq_of_after_last 8 t0_15 (by decide +kernel) _ fun y => ?_
  obtain ⟨q, rfl⟩ : ∃ q : Fin 1024, y = ix2 0 q := ⟨y 1, by blk_ext⟩
  blk_simp
  rw [after0_8, Pipeline.eq_sum_fin_of_reset_step_apply_of_flush (fun n h => ((outsAt0 m c n h).2.2.2.1 : S1x1024.Idx → EReal)) 16 (fun _ => 0)
    (fun t j => ∑ r : Fin 512, gradPay (iblk m c 0 t) (iblk m c 1 t) (iblk m c 2 t) (ix2 r (j 1)))
    (fun t h j => by
      have ht : t.val < 16 := lt_of_lt_of_eq t.isLt N_0
      rw [outsAt0_A m c t h (by omega) h (by omega) h (by omega)]; frame_out
      pointwise [k0_pay15])
    (fun t h j => by
      have ht : t.val < 16 := lt_of_lt_of_eq t.isLt N_0
      rw [outsAt0_B m c t h (by omega) h (by omega) h (by omega)]; frame_out
      pointwise [k0_pay1, k0_pay15])
    t0_15 rfl, zero_add]
  pointwise [Cert.ReferenceConvInBwdIdeal.Read.val_main_v38, Cert.ReferenceConvInBwdIdeal.Read.val_main_v37, Cert.ReferenceConvInBwdIdeal.Read.val_main_cst_8]
  refine Fin.sum_mul_add_congr fun s k hl => ?_
  refine (grad_pay _ _ _ k q).trans ?_
  exact grad_eq m c ⟨16 * (t0_15.val / 16) + s.val, Pipeline.run_point_lt_of_flush t0_15 rfl s⟩ k q ⟨s.val * 512 + k.val, hl⟩
    (by show s.val * 512 + k.val = (16 * (15 / 16) + s.val) * 512 + k.val; omega)

/-- The gradient of the bias after the run is the reference's. -/
theorem final_9 (c : Dev nD) (h : Nums m c) : (dats m 0 c).arrAt 9 (cfgs 0).N = Cert.ReferenceConvInBwdIdeal.Read.val_main_v69 (F := Ideal) (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg6)) := by
  refine (dats m 0 c).arrAt_eq_of_after_last 9 t0_15 (by decide +kernel) _ fun y => ?_
  obtain ⟨q, rfl⟩ : ∃ q : Fin 1024, y = ix2 0 q := ⟨y 1, by blk_ext⟩
  blk_simp
  rw [after0_9, Pipeline.eq_sum_fin_of_reset_step_apply_of_flush (fun n h => ((outsAt0 m c n h).2.2.2.2 : S1x1024.Idx → EReal)) 16 (fun _ => 0)
    (fun t j => ∑ r : Fin 512, blockPay m c t (ix2 r (j 1)))
    (fun t h j => by
      have ht : t.val < 16 := lt_of_lt_of_eq t.isLt N_0
      rw [outsAt0_A m c t h (by omega) h (by omega) h (by omega)]; frame_out
      pointwise [k0_pay2]
      rfl)
    (fun t h j => by
      have ht : t.val < 16 := lt_of_lt_of_eq t.isLt N_0
      rw [outsAt0_B m c t h (by omega) h (by omega) h (by omega)]; frame_out
      pointwise [k0_pay3, k0_pay2]
      rfl)
    t0_15 rfl, zero_add]
  pointwise [Cert.ReferenceConvInBwdIdeal.Read.val_main_v69, Cert.ReferenceConvInBwdIdeal.Read.val_main_v68, Cert.ReferenceConvInBwdIdeal.Read.val_main_cst_17]
  refine Fin.sum_mul_add_congr fun s k hl => ?_
  exact ln_eq m c h ⟨16 * (t0_15.val / 16) + s.val, Pipeline.run_point_lt_of_flush t0_15 rfl s⟩ k q ⟨s.val * 512 + k.val, hl⟩
    (by show s.val * 512 + k.val = (16 * (15 / 16) + s.val) * 512 + k.val; omega)

end Cert.KernelConvInBwdIdeal.Own

end
-- ==== Proof.PoolFwd.lean ====
/- The pooling mixer, its residual and layer normalisation: what the kernel's three result arrays hold after the run. -/
module

public import proofs.«01_k».proof.Proof.Gen.KernelPoolFwdIdeal.Value
public import proofs.«01_k».proof.Proof.Gen.ReferencePoolFwdIdeal.Read
public import proofs.«01_k».proof.Proof.PoolBlk
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.KernelPoolFwdIdeal.Own

open Cert.KernelPoolFwdIdeal Cert.KernelPoolFwdIdeal.Gen Cert.Own
open Cert.ReferenceIdeal.Own (col win lit cnt diff mixed)
open Cert.KernelIdeal.Own (row halo Blk count_num canon_above canon_below read_cols ld_cols ld_mat)

variable (m : (ℓ : Loc nD τ sig) → Buf (Elt Ideal) ℓ)

/-- The blocks the windows take at each point, decided for all 16 points at once. -/
theorem places : ∀ t : Fin cfg0.N, win0_0.index t = ![t.val, 0] ∧ win0_1.index t = ![t.val * 32 - 1, 0]
    ∧ win0_2.index t = ![0, 0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- A point's coordinate is its number. -/
theorem coord : ∀ t : Fin cfg0.N, (grid0.coords t 0).val = t.val := (by decide +kernel : ∀ t : Fin grid0.N, _)

/-- The weights as the kernel takes them: rounded. -/
theorem weight_read (c : Dev nD) : V m c main_v0 = truncf (F := Ideal) .bf16 (m ((c : Thread nD τ).loc main_arg1)) bitsLt_bf16_f32 := by
  unfold V; after_results; try rfl

/-- The input's rows in a block. -/
theorem x_blk (c : Dev nD) (t : Fin cfg0.N) (ht : t.val < 16) (r : Fin 512) (q : Fin 1024) :
    iblk m c 0 t (ix2 r q) = m ((c : Thread nD τ).loc main_arg0) (ix2 (row t.val ht r) q) := by
  blk_simp [iblk]; unfold V; pointwise; blk_point [places t, row]

/-- The sixteen rows of the input before a block. -/
theorem x_before (c : Dev nD) (t : Fin cfg0.N) (h0 : 0 < t.val) (ht : t.val < 16) (n : Fin 16) (q : Fin 1024) :
    iblk m c 1 t (ix2 n q) = m ((c : Thread nD τ).loc main_arg0) (ix2 ⟨512 * t.val + n.val - 16, by omega⟩ q) := by
  blk_simp [iblk]; unfold V; pointwise; blk_point [places t]

/-- The weights. -/
theorem w_blk (c : Dev nD) (t : Fin cfg0.N) (g : Fin 4) (p q : Fin 256) :
    iblk m c 2 t (ix3 g p q) = m ((c : Thread nD τ).loc main_arg1) (ix3 g p q) := by
  blk_simp [iblk]; rw [weight_read]; pointwise; blk_point [places t]

/-- The scales. -/
theorem s_blk (c : Dev nD) (t : Fin cfg0.N) (q : Fin 1024) :
    iblk m c 3 t (ix2 0 q) = m ((c : Thread nD τ).loc main_arg2) (ix2 0 q) := by
  blk_simp [iblk]; unfold V; pointwise; blk_point [places t]

/-- The gains of the layer norm. -/
theorem g_blk (c : Dev nD) (t : Fin cfg0.N) (q : Fin 1024) :
    iblk m c 4 t (ix2 0 q) = m ((c : Thread nD τ).loc main_arg3) (ix2 0 q) := by
  blk_simp [iblk]; unfold V; pointwise; blk_point [places t]

/-- Its offsets. -/
theorem o_blk (c : Dev nD) (t : Fin cfg0.N) (q : Fin 1024) :
    iblk m c 5 t (ix2 0 q) = m ((c : Thread nD τ).loc main_arg4) (ix2 0 q) := by
  blk_simp [iblk]; unfold V; pointwise; blk_point [places t]

/-- The counts of a block's rows. -/
theorem count_rows (t : Fin cfg0.N) (ht : t.val < 16) (r : Fin 512) :
    k0_pay5 (F := Ideal) (grid0.coords t) (ix2 r 0) = (((512 * t.val + r.val + 1 : ℕ) : ℝ) : EReal) := by
  refine Eq.trans ?_ (count_num t.val r.val ht (by omega))
  rw [← coord t]; pointwise [k0_pay5]; rfl

/-- After the first block there is one before. -/
theorem is_after : ∀ t : Fin cfg0.N, Scalar.cmpi .sgt (BitVec.ofNat 32 (grid0.coords t 0).val) 0#32 = if 0 < t.val then 1#1 else 0#1 :=
  (by decide +kernel : ∀ t : Fin grid0.N, _)

/-- The rows stored before a block. -/
theorem store_before (t : Fin cfg0.N) (v : Vec Ideal S16x1024 .f32) (j : S16x1024.Idx) :
    k0_pay3 (F := Ideal) (grid0.coords t) v j = if 0 < t.val then v j else 0 := by
  have e : k0_pay3 (F := Ideal) (grid0.coords t) v j
      = Scalar.select (Scalar.cmpi .sgt (BitVec.ofNat 32 (grid0.coords t 0).val) 0#32) v (broadcast S16x1024 (Scalar.ofBits (F := Ideal) .f32 0x00000000#32)) j := by
    unfold k0_pay3; rw [shapeCast_self]
  rw [e, is_after t]; split
  · rfl
  · exact Ideal.ofBits_zero_f32

/-- The input's columns of a group, with the sixteen rows before the block, zero before the first row. -/
theorem x_long (c : Dev nD) (t : Fin cfg0.N) (ht : t.val < 16) (g : Fin 4) (lo : ℕ) (hlo : lo = 256 * g.val) (h) (n : Fin 528) (q : Fin 256) :
    (View.whole cc0_scratch0).readCov (Val := Elt Ideal) [⟨Rect.unit ![16, 0] ![512, 1024] inb_S528x1024_S512x1024_16_0, k0_pay4 (F := Ideal) (iblk m c 0 t)⟩,
      ⟨Rect.unit ![0, 0] ![16, 1024] inb_S528x1024_S16x1024_0_0, k0_pay3 (F := Ideal) (grid0.coords t) (iblk m c 1 t)⟩] (Rect.unit (s := S528x1024) ![0, lo] ![528, 256] h).toLoadRect (ix2 n q)
      = halo (m ((c : Thread nD τ).loc main_arg0)) g q t.val n.val := by
  rw [read_cols _ _ g lo hlo h n q]; unfold halo ext
  by_cases hn : n.val < 16
  · refine (canon_above (k := 16) (b := 512) (by decide) _ _ _ _ ⟨n.val, hn⟩ (col g q)).trans ?_
    rw [store_before]
    by_cases h0 : 0 < t.val
    · rw [if_pos h0, x_before m c t h0 ht, if_pos (by omega), dif_pos (by omega)]
    · rw [if_neg h0, if_neg (by omega)]
  · obtain ⟨k, hk, rfl⟩ : ∃ (k : Fin 512) (hk : 16 + k.val < 528), n = ⟨16 + k.val, hk⟩ := ⟨⟨n.val - 16, by omega⟩, by show 16 + (n.val - 16) < 528; omega, Fin.ext (by show n.val = 16 + (n.val - 16); omega)⟩
    refine (canon_below (k := 16) (b := 512) _ _ _ k _ (col g q)).trans ?_
    unfold k0_pay4
    rw [shapeCast_self, x_blk m c t ht, if_pos (by show 16 ≤ 512 * t.val + (16 + k.val); omega), dif_pos (by show 512 * t.val + (16 + k.val) - 16 < 8192; omega)]
    refine congrArg (fun r : Fin 8192 => (m ((c : Thread nD τ).loc main_arg0) : FVec Ideal S8192x1024 .f32) (ix2 r (col g q))) (Fin.ext ?_)
    show 512 * t.val + k.val = 512 * t.val + (16 + k.val) - 16; omega

/-- What a point's loads hold, for a group of columns from `lo` on and matrix `l`; the pooling has no upstream gradient. -/
theorem blk (c : Dev nD) (t : Fin cfg0.N) (ht : t.val < 16) (g : Fin 4) (lo : ℕ) (hlo : lo = 256 * g.val) (l : ℕ) (hl : l = g.val) (h1 h2 h3 h6) :
    Blk (m ((c : Thread nD τ).loc main_arg0)) (m ((c : Thread nD τ).loc main_arg1)) (m ((c : Thread nD τ).loc main_arg2)) (fun _ => 0)
      g t.val ht (k0_pay5 (F := Ideal) (grid0.coords t)) (fun j => (((512 * t.val + (j 0).val + 1 : ℕ) : ℝ) : EReal))
      ((View.whole cc0_scratch0).readCov (Val := Elt Ideal) [⟨Rect.unit ![16, 0] ![512, 1024] inb_S528x1024_S512x1024_16_0, k0_pay4 (F := Ideal) (iblk m c 0 t)⟩,
        ⟨Rect.unit ![0, 0] ![16, 1024] inb_S528x1024_S16x1024_0_0, k0_pay3 (F := Ideal) (grid0.coords t) (iblk m c 1 t)⟩] (Rect.unit (s := S528x1024) ![0, lo] ![528, 256] h1).toLoadRect)
      (View.ld (iblk m c 0 t) (Rect.unit (s := S512x1024) ![0, lo] ![512, 256] h2))
      (View.ld (iblk m c 2 t) (Rect.unit (s := S4x256x256) ![l, 0, 0] ![1, 256, 256] h3)) (fun _ => 0) (fun _ => 0)
      (View.ld (iblk m c 3 t) (Rect.unit (s := S1x1024) ![0, lo] ![1, 256] h6)) where
  c := count_rows t ht
  d := fun n => rfl
  EX := x_long m c t ht g lo hlo h1
  X := fun r q => (ld_cols (R := 512) _ g lo hlo h2 r q).trans (x_blk m c t ht r (col g q))
  W := fun p q => (ld_mat _ g l hl h3 p q).trans (w_blk m c t g p q)
  Z := fun r q => rfl
  EZ := fun n q => by unfold ext; split <;> rfl
  S := fun q => (ld_cols (R := 1) _ g lo hlo h6 0 q).trans (s_blk m c t (col g q))

/-- One entry of the residual plus the mixed difference with its scale. -/
def outAt (x : FVec Ideal S8192x1024 .f32) (w : FVec Ideal S4x256x256 .f32) (s : FVec Ideal S1x1024 .f32) (g : Fin 4) (t : Fin 8192) (q : Fin 256) : EReal :=
  Ideal.ofBits .f32 0x3FB504F3#32 * x (ix2 t (col g q)) + mixed x w g t q * s (ix2 0 (col g q))

section
variable {x : FVec Ideal S8192x1024 .f32} {w : FVec Ideal S4x256x256 .f32} {s : FVec Ideal S1x1024 .f32} {z : FVec Ideal S8192x1024 .f32}
  {g : Fin 4} {i : ℕ} {hi : i < 16} {c : FVec Ideal S512x1 .f32} {d : FVec Ideal Cert.KernelIdeal.S528x1 .f32} {EX : FVec Ideal S528x256 .f32}
  {X : FVec Ideal S512x256 .f32} {W : FVec Ideal S1x256x256 .bf16} {Z : FVec Ideal S512x256 .f32} {EZ : FVec Ideal S528x256 .f32}
  {S : FVec Ideal S1x256 .f32}

/-- The entry a point computes from the difference. -/
theorem out_form (H : Blk x w s z g i hi c d EX X W Z EZ S) (D : FVec Ideal S512x256 .bf16) (hD : ∀ r q, D (ix2 r q) = diff x g (row i hi r) q)
    (hc hb) (r : Fin 512) (q : Fin 256) :
    (addf (mulf (broadcast S512x256 (Scalar.ofBits (F := Ideal) .f32 0x3FB504F3#32)) X) (mulf (matmul dot_S512x256_S256x256_S512x256_1_0_0_1_n_n none D (shapeCast S256x256 W hc)
      (constant S512x256 .f32 0x00000000#32)) (broadcastTo S512x256 S hb)) : FVec Ideal S512x256 .f32) (ix2 r q) = outAt x w s g (row i hi r) q := by
  have e : (addf (mulf (broadcast S512x256 (Scalar.ofBits (F := Ideal) .f32 0x3FB504F3#32)) X) (mulf (matmul dot_S512x256_S256x256_S512x256_1_0_0_1_n_n none D (shapeCast S256x256 W hc)
      (constant S512x256 .f32 0x00000000#32)) (broadcastTo S512x256 S hb)) : FVec Ideal S512x256 .f32) (ix2 r q)
      = Ideal.ofBits .f32 0x3FB504F3#32 * X (ix2 r q) + (∑ k : Fin 256, D (ix2 r k) * W (ix3 0 k q)) * S (ix2 0 q) := by pointwise
  rw [e]; simp only [hD, H.W, H.X, H.S]; rfl
end

/-- Group 0's columns. -/
theorem out0 (c : Dev nD) (t : Fin cfg0.N) (ht : t.val < 16) {x : FVec Ideal S8192x1024 .f32} {w : FVec Ideal S4x256x256 .f32} {s : FVec Ideal S1x1024 .f32} {z d EX X W Z EZ S}
    (H : Blk x w s z 0 t.val ht (k0_pay5 (F := Ideal) (grid0.coords t)) d EX X W Z EZ S) (r : Fin 512) (q : Fin 256) :
    k0_pay7 (F := Ideal) X (k0_pay6 (F := Ideal) (grid0.coords t) EX X W) S (ix2 r q) = outAt x w s 0 (row t.val ht r) q :=
  out_form H _ (fun r q => H.diff 0x40000000#32 rfl _ q ((H.back1 q).step 2 rfl 1#32 rfl (by decide) rotates_S528x256_d0) (by decide) _ _ _ r) _ _ r q

/-- Group 1's columns. -/
theorem out1 (c : Dev nD) (t : Fin cfg0.N) (ht : t.val < 16) {x : FVec Ideal S8192x1024 .f32} {w : FVec Ideal S4x256x256 .f32} {s : FVec Ideal S1x1024 .f32} {z d EX X W Z EZ S}
    (H : Blk x w s z 1 t.val ht (k0_pay5 (F := Ideal) (grid0.coords t)) d EX X W Z EZ S) (r : Fin 512) (q : Fin 256) :
    k0_pay8 (F := Ideal) (k0_pay5 (F := Ideal) (grid0.coords t)) EX X W S (ix2 r q) = outAt x w s 1 (row t.val ht r) q :=
  out_form H _ (fun r q => H.diff 0x40800000#32 rfl _ q (((H.back1 q).step 2 rfl 1#32 rfl (by decide) rotates_S528x256_d0).step 4 rfl 2#32 rfl (by decide) rotates_S528x256_d0) (by decide) _ _ _ r) _ _ r q

/-- Group 2's columns. -/
theorem out2 (c : Dev nD) (t : Fin cfg0.N) (ht : t.val < 16) {x : FVec Ideal S8192x1024 .f32} {w : FVec Ideal S4x256x256 .f32} {s : FVec Ideal S1x1024 .f32} {z d EX X W Z EZ S}
    (H : Blk x w s z 2 t.val ht (k0_pay5 (F := Ideal) (grid0.coords t)) d EX X W Z EZ S) (r : Fin 512) (q : Fin 256) :
    k0_pay9 (F := Ideal) (k0_pay5 (F := Ideal) (grid0.coords t)) EX 1#32 X W S (ix2 r q) = outAt x w s 2 (row t.val ht r) q :=
  out_form H _ (fun r q => H.diff 0x41000000#32 rfl _ q ((((H.back1 q).step 2 rfl 1#32 rfl (by decide) rotates_S528x256_d0).step 4 rfl 2#32 rfl (by decide) rotates_S528x256_d0).step 8 rfl 4#32 rfl (by decide) rotates_S528x256_d0) (by decide) _ _ _ r) _ _ r q

/-- Group 3's columns. -/
theorem out3 (c : Dev nD) (t : Fin cfg0.N) (ht : t.val < 16) {x : FVec Ideal S8192x1024 .f32} {w : FVec Ideal S4x256x256 .f32} {s : FVec Ideal S1x1024 .f32} {z d EX X W Z EZ S}
    (H : Blk x w s z 3 t.val ht (k0_pay5 (F := Ideal) (grid0.coords t)) d EX X W Z EZ S) (r : Fin 512) (q : Fin 256) :
    k0_pay12 (F := Ideal) (k0_pay10 (F := Ideal) EX) (k0_pay11 (F := Ideal) (k0_pay5 (F := Ideal) (grid0.coords t))) X W S (ix2 r q) = outAt x w s 3 (row t.val ht r) q :=
  out_form H _ (fun r q => H.diff 0x41800000#32 rfl _ q (((((H.back1 q).step 2 rfl 1#32 rfl (by decide) rotates_S528x256_d0).step 4 rfl 2#32 rfl (by decide) rotates_S528x256_d0).step 8 rfl 4#32 rfl (by decide) rotates_S528x256_d0).step 16 rfl 8#32 rfl (by decide) rotates_S528x256_d0) (by decide) _ _ _ r) _ _ r q

open Cert.ReferencePoolFwdIdeal.Read in
/-- The reference's rows before the layer norm. -/
abbrev rows (c : Dev nD) : FVec Ideal S8192x1024 .f32 := val_main_v88 (F := Ideal) (m ((c : Thread nD τ).loc main_arg0))
  (m ((c : Thread nD τ).loc main_arg1)) (m ((c : Thread nD τ).loc main_arg2))

open Cert.ReferencePoolFwdIdeal.Read in
/-- The reference mixes the differences here as it does where it takes their gradient. -/
theorem mixed_ref (x : FVec Ideal S8192x1024 .f32) (w : FVec Ideal S4x256x256 .f32) (hx : ∀ i, IsNum (x i)) (g : Fin 4) (t : Fin 8192) (q : Fin 256) :
    val_main_v83 (F := Ideal) x w (ix3 0 t (col g q)) = mixed x w g t q := by
  have e : val_main_v83 (F := Ideal) x w = Cert.ReferenceIdeal.Read.val_main_v91 (F := Ideal) x w := rfl
  rw [e]
  exact Cert.ReferenceIdeal.Own.all_mixed x w hx g t q

open Cert.ReferencePoolFwdIdeal.Read in
/-- The reference's entry before the layer norm. -/
theorem out_ref (x : FVec Ideal S8192x1024 .f32) (w : FVec Ideal S4x256x256 .f32) (s : FVec Ideal S1x1024 .f32) (hx : ∀ i, IsNum (x i)) (g : Fin 4) (t : Fin 8192) (q : Fin 256) :
    val_main_v88 (F := Ideal) x w s (ix2 t (col g q)) = outAt x w s g t q := by
  unfold outAt
  rw [← mixed_ref x w hx]
  pointwise [val_main_v88, val_main_v87, val_main_v86, val_main_v85, val_main_v84, val_main_v4, val_main_v2, val_main_v1, val_main_v0, val_main_cst]

open Cert.ReferencePoolFwdIdeal.Read in
/-- The reference's normalised entry in terms of its row. -/
theorem norm_ref (c : Dev nD) (p : Fin 8192) (q : Fin 1024) :
    val_main_v110 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 p q)
      = normed (fun k => rows m c (ix2 p k)) q * m ((c : Thread nD τ).loc main_arg3) (ix2 0 q) + m ((c : Thread nD τ).loc main_arg4) (ix2 0 q) := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_cst_16, val_main_cst_17, val_main_cst_18, val_main_cst_19, val_main_cst_20, normed, mean]

/-- The normalised entry in terms of its row. -/
theorem norm_block (v : Vec Ideal S512x1024 .f32) (g o : Vec Ideal S1x1024 .f32) (r : Fin 512) (q : Fin 1024) :
    k0_pay1 (F := Ideal) g o (k0_pay13 v) (k0_pay14 v) (ix2 r q) = normed (fun k => v (ix2 r k)) q * g (ix2 0 q) + o (ix2 0 q) := by
  unfold k0_pay1 k0_pay14 k0_pay13
  simp only [shapeCast_self]
  pointwise [normed, mean]

/-- The input's entries are numbers. -/
def Nums (c : Dev nD) : Prop := ∀ i, IsNum ((m ((c : Thread nD τ).loc main_arg0) : FVec Ideal S8192x1024 .f32) i)

/-- An entry before the layer norm, as the reference has it. -/
theorem z_at (c : Dev nD) (h : Nums m c) (t : Fin cfg0.N) (ht : t.val < 16) (g : Fin 4) (r : Fin 512) (q : Fin 256) (v : EReal) (i : S8192x1024.Idx)
    (h0 : (i 0).val = 512 * t.val + r.val) (h1 : (i 1).val = 256 * g.val + q.val)
    (hv : v = outAt (m ((c : Thread nD τ).loc main_arg0)) (m ((c : Thread nD τ).loc main_arg1)) (m ((c : Thread nD τ).loc main_arg2)) g (row t.val ht r) q) :
    v = rows m c i := by
  have e : i = ix2 (row t.val ht r) (col g q) := funext fun a => Fin.ext (by fin_cases a; exacts [h0, h1])
  rw [hv, e]
  exact (out_ref _ _ _ h g (row t.val ht r) q).symm

/-- An entry of the block before the layer norm that a point leaves. -/
theorem z_row (c : Dev nD) (hn : Nums m c) (t : Fin cfg0.N) (ht : t.val < 16) (y : S512x1024.Idx) :
    (outsAt0 m c t).2.1 y = rows m c (ix2 (row t.val ht (y 0)) (y 1)) := by
  unfold outsAt0
  dsimp only
  frame_out
  canon_tiles u h
  · obtain ⟨r, q, rfl⟩ : ∃ (r : Fin 512) (q : Fin 256), u = ix2 r q := ⟨u 0, u 1, by blk_ext⟩
    have e0 : (y 0).val = r.val := h0
    have e1 : (y 1).val = 768 + q.val := h1
    exact z_at m c hn t ht 3 r q _ _ (congrArg (512 * t.val + ·) e0) e1 (out3 c t ht (blk m c t ht 3 768 rfl 3 rfl _ _ _ _) r q)
  · obtain ⟨r, q, rfl⟩ : ∃ (r : Fin 512) (q : Fin 256), u = ix2 r q := ⟨u 0, u 1, by blk_ext⟩
    have e0 : (y 0).val = r.val := h0
    have e1 : (y 1).val = 512 + q.val := h1
    exact z_at m c hn t ht 2 r q _ _ (congrArg (512 * t.val + ·) e0) e1 (out2 c t ht (blk m c t ht 2 512 rfl 2 rfl _ _ _ _) r q)
  · obtain ⟨r, q, rfl⟩ : ∃ (r : Fin 512) (q : Fin 256), u = ix2 r q := ⟨u 0, u 1, by blk_ext⟩
    have e0 : (y 0).val = r.val := h0
    have e1 : (y 1).val = 256 + q.val := h1
    exact z_at m c hn t ht 1 r q _ _ (congrArg (512 * t.val + ·) e0) e1 (out1 c t ht (blk m c t ht 1 256 rfl 1 rfl _ _ _ _) r q)
  · obtain ⟨r, q, rfl⟩ : ∃ (r : Fin 512) (q : Fin 256), u = ix2 r q := ⟨u 0, u 1, by blk_ext⟩
    have e0 : (y 0).val = r.val := h0
    have e1 : (y 1).val = 256 * 0 + q.val := by rw [Nat.mul_zero, Nat.zero_add]; exact h1
    exact z_at m c hn t ht 0 r q _ _ (congrArg (512 * t.val + ·) e0) e1 (out0 c t ht (blk m c t ht 0 0 rfl 0 rfl _ _ _ _) r q)

/-- A load of the whole block gives its contents. -/
theorem read_all {κ} {sp} (v : View sig κ sp S512x1024 .f32) (L) (h) (y : S512x1024.Idx) :
    v.readCov (Val := Elt Ideal) L (Rect.unit (s := S512x1024) ![0, 0] ![512, 1024] h).toLoadRect y = View.canon L y := by
  rw [View.readCov_eq_canon']
  refine congrArg (View.canon L) (funext fun a => Fin.ext ?_)
  fin_cases a
  · show 0 + 1 * (y 0).val = (y 0).val; omega
  · show 0 + 1 * (y 1).val = (y 1).val; omega

/-- An index by its row in a point's block. -/
theorem idx_row (t : Fin cfg0.N) (ht : t.val < 16) (y : S512x1024.Idx) (i : S8192x1024.Idx) (h0 : (i 0).val = 512 * t.val + (y 0).val) (h1 : (i 1).val = (y 1).val) :
    ix2 (row t.val ht (y 0)) (y 1) = i := funext fun a => Fin.ext (by fin_cases a; exacts [h0.symm, h1.symm])

open Cert.ReferencePoolFwdIdeal.Read in
/-- A normalised entry a point leaves. -/
theorem norm_row (c : Dev nD) (hn : Nums m c) (t : Fin cfg0.N) (ht : t.val < 16) (y : S512x1024.Idx) :
    (outsAt0 m c t).1 y = val_main_v110 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 (row t.val ht (y 0)) (y 1)) := by
  obtain ⟨r, q, rfl⟩ : ∃ (r : Fin 512) (q : Fin 1024), y = ix2 r q := ⟨y 0, y 1, by blk_ext⟩
  refine Eq.trans ?_ (norm_ref m c (row t.val ht r) q).symm
  have hz : ∀ k, (outsAt0 m c t).2.1 (ix2 r k) = rows m c (ix2 (row t.val ht r) k) := fun k => z_row m c hn t ht (ix2 r k)
  unfold outsAt0 at hz ⊢
  dsimp only at hz ⊢
  unfold out0_A_6
  frame_out
  frame_out at hz
  refine (norm_block _ _ _ r q).trans ?_
  simp only [read_all, hz, g_blk, o_blk]

/-- The rounded block a point leaves is the normalised one. -/
theorem round_row (c : Dev nD) (t : Fin cfg0.N) (y : S512x1024.Idx) : (outsAt0 m c t).2.2 y = (outsAt0 m c t).1 y := by
  unfold outsAt0
  dsimp only
  unfold out0_A_6 out0_A_8
  frame_out
  rfl

/-- The normalised rows after the run are the reference's. -/
theorem final_6 (c : Dev nD) (hn : Nums m c) : (dats m 0 c).arrAt 6 (cfgs 0).N = Cert.ReferencePoolFwdIdeal.Read.val_main_v110 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t hf y => ?_
  have ht : t.val < 16 := lt_of_lt_of_eq t.isLt N_0
  blk_simp
  rw [after0_6]
  exact (norm_row m c hn t ht y).trans (congrArg _ (idx_row t ht y _ (by blk_simp [places t]; omega) (by blk_simp [places t])))

/-- The rows before the layer norm after the run are the reference's. -/
theorem final_7 (c : Dev nD) (hn : Nums m c) : (dats m 0 c).arrAt 7 (cfgs 0).N = Cert.ReferencePoolFwdIdeal.Read.val_main_v88 (F := Ideal)
    (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht : t.val < 16 := lt_of_lt_of_eq t.isLt N_0
  blk_simp
  rw [after0_7]
  exact (z_row m c hn t ht y).trans (congrArg (rows m c) (idx_row t ht y _ (by blk_simp [places t]; omega) (by blk_simp [places t])))

/-- The rounded normalised rows after the run are the reference's. -/
theorem final_8 (c : Dev nD) (hn : Nums m c) : (dats m 0 c).arrAt 8 (cfgs 0).N = Cert.ReferencePoolFwdIdeal.Read.val_main_v111 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 8 _ (by decide +kernel) fun t hf y => ?_
  have ht : t.val < 16 := lt_of_lt_of_eq t.isLt N_0
  blk_simp
  rw [after0_8]
  exact ((round_row m c t y).trans (norm_row m c hn t ht y)).trans (congrArg _ (idx_row t ht y _ (by blk_simp [places t]; omega) (by blk_simp [places t])))

end Cert.KernelPoolFwdIdeal.Own

end
-- ==== Proof.Loss.lean ====
/- The last MLP product with its residual and layer norm, the loss, and the gradient back through that layer norm: what the
   kernel's result arrays hold after the run. -/
module

public import proofs.«01_k».proof.Proof.Gen.KernelLossIdeal.Value
public import proofs.«01_k».proof.Proof.Gen.ReferenceLossIdeal.Read
public import Idealize.ShloMosaic.Lib.Pipeline.ValueKit
public import Idealize.ShloMosaic.Lib.Pipeline.ReadBack
public import proofs.«01_k».proof.Proof.LnBwd

@[expose] public section

set_option maxRecDepth 16384

noncomputable section

open Idealize.ShloMosaic Idealize.ShloMosaic.TcCoe Idealize.SL.Sem
open Idealize.ShloMosaic.Pipeline (Dat)
open scoped BigOperators

namespace Cert.KernelLossIdeal.Own

open Cert.KernelLossIdeal Cert.KernelLossIdeal.Gen

variable (m : (ℓ : Loc nD τ sig) → Buf (Elt Ideal) ℓ)

/-- The blocks the windows take at each point, decided for all 16 points at once. -/
theorem places : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0]
    ∧ win0_9.index t = ![0, 0] ∧ win0_10.index t = ![0, 0] ∧ win0_11.index t = ![0, 0] ∧ win0_12.index t = ![0, 0] :=
  (by decide +kernel : ∀ t : Fin grid0.N, _)

/-- The weight as the kernel takes it: rounded. -/
theorem weight_read (c : Dev nD) : V m c main_v0 = truncf (F := Ideal) .bf16 (m ((c : Thread nD τ).loc main_arg1)) bitsLt_bf16_f32 := by
  unfold V; after_results; try rfl

open Cert.ReferenceLossIdeal.Read in
/-- The reference's rows before the layer norm. -/
abbrev rows (c : Dev nD) : FVec Ideal S8192x1024 .f32 := val_main_v8 (F := Ideal) (m ((c : Thread nD τ).loc main_arg0))
  (m ((c : Thread nD τ).loc main_arg1)) (m ((c : Thread nD τ).loc main_arg2)) (m ((c : Thread nD τ).loc main_arg3))

open Cert.ReferenceLossIdeal.Read in
/-- The reference's distance from the target. -/
abbrev errs (c : Dev nD) : FVec Ideal S8192x1024 .f32 := val_main_v36 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

open Cert.ReferenceLossIdeal.Read in
/-- The reference's gradient of the loss at the normalised rows. -/
abbrev grads (c : Dev nD) : FVec Ideal S8192x1024 .f32 := val_main_v50 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

open Cert.ReferenceLossIdeal.Read in
/-- The reference's gradient before the layer norm. -/
abbrev outs (c : Dev nD) : FVec Ideal S8192x1024 .f32 := val_main_v81 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

/-- The block of sums point `t` computes. -/
abbrev sumPay (c : Dev nD) (t : Fin cfg0.N) : FVec Ideal S512x1024 .f32 :=
  k0_pay9 (iblk m c 3 t) (iblk m c 0 t) (iblk m c 1 t) (iblk m c 2 t)

/-- The block of normalised rows point `t` computes. -/
abbrev normPay (c : Dev nD) (t : Fin cfg0.N) : FVec Ideal S512x1024 .f32 :=
  k0_pay10 (iblk m c 3 t) (iblk m c 0 t) (iblk m c 1 t) (iblk m c 2 t) (iblk m c 4 t) (iblk m c 5 t)

/-- The block of gradients before the layer norm point `t` computes. -/
abbrev outPay (c : Dev nD) (t : Fin cfg0.N) : FVec Ideal S512x1024 .f32 :=
  k0_pay16 (sumPay m c t) (iblk m c 4 t) (normPay m c t) (iblk m c 6 t)

open Cert.ReferenceLossIdeal.Read in
/-- One entry of the sum a point computes is the reference's entry of its row. -/
theorem sum_eq (c : Dev nD) (t : Fin cfg0.N) (r : Fin 512) (q : Fin 1024) (p : Fin 8192) (hp : (p : ℕ) = t.val * 512 + r.val) :
    sumPay m c t (ix2 r q) = rows m c (ix2 p q) := by
  pointwise [k0_pay9, val_main_v8, val_main_v7, val_main_v6, val_main_v5, val_main_v4, val_main_v3, val_main_v2, val_main_v1, val_main_v0, val_main_cst, val_main_call0_v0, val_main_call0_cst]
  blk_simp [iblk]
  rw [weight_read]
  unfold V
  pointwise
  blk_point [places t]

/-- The normalised entry in terms of the sums of its row. -/
theorem norm_block (x : Vec Ideal S512x1024 .f32) (z : Vec Ideal S512x4096 .bf16) (w : Vec Ideal S4096x1024 .bf16) (b : Vec Ideal S1x1024 .f32)
    (g o : Vec Ideal S1x1024 .f32) (r : Fin 512) (q : Fin 1024) :
    k0_pay10 x z w b g o (ix2 r q) = Cert.Own.normed (fun k => k0_pay9 x z w b (ix2 r k)) q * g (ix2 0 q) + o (ix2 0 q) := by
  pointwise [k0_pay10, Cert.Own.normed, Cert.Own.mean]

/-- The gain a point reads. -/
theorem gain_eq (c : Dev nD) (t : Fin cfg0.N) (q : Fin 1024) :
    iblk m c 4 t (ix2 0 q) = m ((c : Thread nD τ).loc main_arg4) (ix2 0 q) := by
  blk_simp [iblk]
  unfold V
  blk_point [places t]

open Cert.ReferenceLossIdeal.Read in
/-- The reference's distance from the mean, in terms of its row. -/
theorem dist_ref (c : Dev nD) (p : Fin 8192) (q : Fin 1024) :
    val_main_v23 (F := Ideal) (m ((c : Thread nD τ).loc main_arg0)) (m ((c : Thread nD τ).loc main_arg1)) (m ((c : Thread nD τ).loc main_arg2)) (m ((c : Thread nD τ).loc main_arg3)) (ix2 p q)
      = rows m c (ix2 p q) - Cert.Own.mean (fun k => rows m c (ix2 p k)) := by
  pointwise [val_main_v23, val_main_v22, val_main_v12, val_main_v11, val_main_v10, val_main_v9, val_main_cst_0, val_main_cst_1, Cert.Own.mean]

open Cert.ReferenceLossIdeal.Read in
/-- The reference's variance plus the small constant, in terms of its row. -/
theorem spread_ref (c : Dev nD) (p : Fin 8192) :
    val_main_v25 (F := Ideal) (m ((c : Thread nD τ).loc main_arg0)) (m ((c : Thread nD τ).loc main_arg1)) (m ((c : Thread nD τ).loc main_arg2)) (m ((c : Thread nD τ).loc main_arg3)) (ix2 p 0)
      = Cert.Own.spread (fun k => rows m c (ix2 p k)) := by
  pointwise [val_main_v25, val_main_v24, val_main_v21, val_main_v20, val_main_v19, val_main_v18, val_main_v15, val_main_v14, val_main_v13, val_main_v12, val_main_v11, val_main_v10, val_main_v9, val_main_cst_0, val_main_cst_1, val_main_cst_3, val_main_cst_4, val_main_cst_5, Cert.Own.spread, Cert.Own.mean]

open Cert.ReferenceLossIdeal.Read in
/-- The reference's normalised entry in terms of its row. -/
theorem norm_ref (c : Dev nD) (p : Fin 8192) (q : Fin 1024) :
    val_main_v31 (F := Ideal) (m ((c : Thread nD τ).loc main_arg0)) (m ((c : Thread nD τ).loc main_arg1)) (m ((c : Thread nD τ).loc main_arg2)) (m ((c : Thread nD τ).loc main_arg3)) (ix2 p q)
      = Cert.Own.normed (fun k => rows m c (ix2 p k)) q := by
  pointwise [val_main_v31, val_main_v30, val_main_v26]
  rw [dist_ref, spread_ref]
  rfl

open Cert.ReferenceLossIdeal.Read in
/-- The reference's distance from the target in terms of its row. -/
theorem err_ref (c : Dev nD) (p : Fin 8192) (q : Fin 1024) :
    errs m c (ix2 p q) = Cert.Own.normed (fun k => rows m c (ix2 p k)) q * m ((c : Thread nD τ).loc main_arg4) (ix2 0 q)
      + m ((c : Thread nD τ).loc main_arg5) (ix2 0 q) - m ((c : Thread nD τ).loc main_arg6) (ix2 p q) := by
  rw [← norm_ref]
  pointwise [val_main_v36, val_main_v35, val_main_v34, val_main_v33, val_main_v32]

/-- The distance from the target a point computes is the reference's, entry by entry. -/
theorem err_eq (c : Dev nD) (t : Fin cfg0.N) (r : Fin 512) (q : Fin 1024) (p : Fin 8192) (hp : (p : ℕ) = t.val * 512 + r.val) :
    k0_pay11 (normPay m c t) (iblk m c 6 t) (ix2 r q) = errs m c (ix2 p q) := by
  have e : k0_pay11 (normPay m c t) (iblk m c 6 t) (ix2 r q) = normPay m c t (ix2 r q) - iblk m c 6 t (ix2 r q) := rfl
  have n : normPay m c t (ix2 r q) = Cert.Own.normed (fun k => sumPay m c t (ix2 r k)) q * iblk m c 4 t (ix2 0 q) + iblk m c 5 t (ix2 0 q) :=
    norm_block ..
  rw [e, n, err_ref]
  simp only [sum_eq m c t r _ p hp]
  blk_simp [iblk]
  unfold V
  pointwise
  blk_point [places t]

/-- Half of one, spread over the 1024 columns and doubled for the square, is one part in 1024. -/
theorem share (x : EReal) : Ideal.div (Ideal.ofBits .f32 0x3F000000#32 * Ideal.ofBits .f32 0x3F800000#32) (Ideal.ofBits .f32 0x44800000#32)
    * (Ideal.ofBits .f32 0x40000000#32 * x) = x * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  rw [h1, h2, h3, Cert.Own.word_1024, Cert.Own.word_2, ← EReal.coe_mul, Cert.Own.div_coe _ _ (by norm_num), ← mul_assoc, ← EReal.coe_mul, mul_comm]
  norm_num

open Cert.ReferenceLossIdeal.Read in
/-- The reference's gradient of the loss in terms of the distance from the target. -/
theorem grad_ref (c : Dev nD) (p : Fin 8192) (q : Fin 1024) :
    grads m c (ix2 p q) = errs m c (ix2 p q) * Ideal.ofBits .f32 0x3A800000#32 := by
  rw [← share]
  pointwise [val_main_v50, val_main_v49, val_main_v48, val_main_v47, val_main_v46, val_main_v45, val_main_v39, val_main_v38, val_main_cst_7, val_main_cst_12, val_main_cst_13, val_main_cst_14]

/-- The gradient of the loss a point computes is the reference's. -/
theorem grad_eq (c : Dev nD) (t : Fin cfg0.N) (r : Fin 512) (q : Fin 1024) (p : Fin 8192) (hp : (p : ℕ) = t.val * 512 + r.val) :
    k0_pay12 (normPay m c t) (iblk m c 6 t) (ix2 r q) = grads m c (ix2 p q) := by
  have e : k0_pay12 (normPay m c t) (iblk m c 6 t) (ix2 r q)
      = k0_pay11 (normPay m c t) (iblk m c 6 t) (ix2 r q) * Ideal.ofBits .f32 0x3A800000#32 := rfl
  rw [e, grad_ref, err_eq m c t r q p hp]

/-- The block of the layer norm's gradients, entry by entry. -/
theorem ln_pay (z y d : Vec Ideal S512x1024 .f32) (g : Vec Ideal S1x1024 .f32) (r : Fin 512) (q : Fin 1024) :
    k0_pay16 z g y d (ix2 r q)
      = Cert.Own.lnKer (fun k => z (ix2 r k)) (fun k => k0_pay12 y d (ix2 r k)) (fun k => g (ix2 0 k)) q := by
  pointwise [k0_pay16, k0_pay15, k0_pay14, k0_pay13, Cert.Own.lnKer, Cert.Own.spread, Cert.Own.normed, Cert.Own.mean]

/-- The block of normalised entries before gain and offset. -/
theorem norm_pay (z : Vec Ideal S512x1024 .f32) (r : Fin 512) (q : Fin 1024) :
    k0_pay15 (F := Ideal) z (ix2 r q) = Cert.Own.normed (fun k => z (ix2 r k)) q := by
  pointwise [k0_pay15, k0_pay14, k0_pay13, Cert.Own.normed, Cert.Own.mean]

open Cert.ReferenceLossIdeal.Read in
/-- What reaches the reference's squared distances, in terms of its rows. -/
theorem var_ref (c : Dev nD) (p : Fin 8192) :
    val_main_v68 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix2 p 0)
      = Cert.Own.lnVar (fun k => rows m c (ix2 p k)) (fun k => grads m c (ix2 p k))
      (fun k => m ((c : Thread nD τ).loc main_arg4) (ix2 0 k)) := by
  pointwise [val_main_v68, val_main_v67, val_main_v63, val_main_v60, val_main_v59, val_main_v58, val_main_v57, val_main_v56, val_main_v29, val_main_v28, val_main_v27, val_main_v26, val_main_cst_6, val_main_cst_17, val_main_cst_19]
  simp only [dist_ref, spread_ref]
  rfl

open Cert.ReferenceLossIdeal.Read in
/-- What reaches one entry through the squared distances. -/
theorem sq_ref (c : Dev nD) (p : Fin 8192) (q : Fin 1024) :
    val_main_v71 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix2 p q)
      = Cert.Own.lnVar (fun k => rows m c (ix2 p k)) (fun k => grads m c (ix2 p k))
      (fun k => m ((c : Thread nD τ).loc main_arg4) (ix2 0 k))
        * (Ideal.ofBits .f32 0x40000000#32 * (rows m c (ix2 p q) - Cert.Own.mean (fun k => rows m c (ix2 p k)))) := by
  rw [← var_ref, ← dist_ref]
  pointwise [val_main_v71, val_main_v70, val_main_v69, val_main_cst_20, val_main_v17, val_main_v16, val_main_v14, val_main_v13, val_main_v23, val_main_v22, val_main_cst_2]
  rw [Fin.sum_univ_one]

open Cert.ReferenceLossIdeal.Read in
/-- What reaches one entry directly. -/
theorem direct_ref (c : Dev nD) (p : Fin 8192) (q : Fin 1024) :
    val_main_v62 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix2 p q)
      = grads m c (ix2 p q) * m ((c : Thread nD τ).loc main_arg4) (ix2 0 q) * Ideal.rsqrt (Cert.Own.spread (fun k => rows m c (ix2 p k))) := by
  rw [← spread_ref]
  pointwise [val_main_v62, val_main_v61, val_main_v57, val_main_v56, val_main_v26]

open Cert.ReferenceLossIdeal.Read in
/-- The reference's gradient before the layer norm in terms of its rows. -/
theorem ln_ref (c : Dev nD) (p : Fin 8192) (q : Fin 1024) :
    outs m c (ix2 p q) = Cert.Own.lnRef (fun k => rows m c (ix2 p k)) (fun k => grads m c (ix2 p k))
      (fun k => m ((c : Thread nD τ).loc main_arg4) (ix2 0 k)) q := by
  pointwise [val_main_v81, val_main_v80, val_main_v79, val_main_v78, val_main_v77, val_main_v76, val_main_v75, val_main_v74, val_main_v73, val_main_v72, val_main_v66, val_main_v65, val_main_v64, val_main_cst_18, val_main_cst_21, val_main_cst_22, val_main_cst_23]
  simp only [direct_ref, sq_ref, Fin.sum_univ_one]
  rfl

/-- Every entry of the arguments is a number. -/
structure Nums (c : Dev nD) : Prop where
  u : ∀ i, Cert.Own.IsNum (m ((c : Thread nD τ).loc main_arg0) i)
  w : ∀ i, Cert.Own.IsNum (m ((c : Thread nD τ).loc main_arg1) i)
  b : ∀ i, Cert.Own.IsNum (m ((c : Thread nD τ).loc main_arg2) i)
  h : ∀ i, Cert.Own.IsNum (m ((c : Thread nD τ).loc main_arg3) i)
  g : ∀ i, Cert.Own.IsNum (m ((c : Thread nD τ).loc main_arg4) i)
  o : ∀ i, Cert.Own.IsNum (m ((c : Thread nD τ).loc main_arg5) i)
  y : ∀ i, Cert.Own.IsNum (m ((c : Thread nD τ).loc main_arg6) i)

/-- Zero is a number. -/
theorem num_zero : Cert.Own.IsNum (0 : EReal) := ⟨0, rfl⟩

open Cert.ReferenceLossIdeal.Read in
/-- Then so are the rows before the layer norm. -/
theorem rows_num (c : Dev nD) (h : Nums m c) (p : Fin 8192) (q : Fin 1024) : Cert.Own.IsNum (rows m c (ix2 p q)) := by
  pointwise [val_main_v8, val_main_v7, val_main_v6, val_main_v5, val_main_v4, val_main_v3, val_main_v2, val_main_v1, val_main_v0, val_main_cst, val_main_call0_v0, val_main_call0_cst]
  exact ((Cert.Own.word_alpha.mul (h.h _)).add (Cert.Own.IsNum.sum _ _ fun k =>
    (((h.u _).larger num_zero).mul ((h.u _).larger num_zero)).mul (h.w _))).add (h.b _)

/-- And the gradient of the loss at the normalised rows. -/
theorem grads_num (c : Dev nD) (h : Nums m c) (p : Fin 8192) (q : Fin 1024) : Cert.Own.IsNum (grads m c (ix2 p q)) := by
  rw [grad_ref, err_ref]
  have hw : Cert.Own.IsNum (Ideal.ofBits .f32 0x3A800000#32) := by
    simp [Ideal.ofBits, Ideal.ieee, -EReal.coe_mul]; exact ⟨_, rfl⟩
  exact (((((Cert.Own.normed_num _ (rows_num m c h p) q).mul (h.g _)).add (h.o _)).sub (h.y _))).mul hw

/-- The gradient before the layer norm that a point computes is the reference's. -/
theorem ln_eq (c : Dev nD) (h : Nums m c) (t : Fin cfg0.N) (r : Fin 512) (q : Fin 1024) (p : Fin 8192) (hp : (p : ℕ) = t.val * 512 + r.val) :
    outPay m c t (ix2 r q) = outs m c (ix2 p q) := by
  have e : outPay m c t (ix2 r q) = Cert.Own.lnKer (fun k => sumPay m c t (ix2 r k))
      (fun k => k0_pay12 (normPay m c t) (iblk m c 6 t) (ix2 r k)) (fun k => iblk m c 4 t (ix2 0 k)) q := ln_pay ..
  rw [e, ln_ref, ← Cert.Own.ln_eq _ _ _ (fun k => rows_num m c h p k) (fun k => grads_num m c h p k) (fun k => h.g _)]
  simp only [grad_eq m c t r _ p hp, sum_eq m c t r _ p hp, gain_eq]

/-- The same at whole indices. -/
theorem ln_at (c : Dev nD) (h : Nums m c) (t : Fin cfg0.N) (y : S512x1024.Idx) (i : S8192x1024.Idx)
    (h0 : (i 0 : ℕ) = t.val * 512 + (y 0 : ℕ)) (h1 : (i 1 : ℕ) = (y 1 : ℕ)) : outPay m c t y = outs m c i := by
  have hy : y = ix2 (y 0) (y 1) := by blk_ext
  have hi : i = ix2 (i 0) (y 1) := by blk_ext
  rw [hy, hi]
  exact ln_eq m c h t (y 0) (y 1) (i 0) h0

/-- What a point leaves in the block of gradients and in the rounded block. -/
theorem point_eq (c : Dev nD) (t : Fin cfg0.N) :
    (outsAt0 m c t.val t.isLt).1 = outPay m c t ∧ (outsAt0 m c t.val t.isLt).2.1 = outPay m c t := by
  have ht : t.val < 16 := lt_of_lt_of_eq t.isLt N_0
  by_cases hs : t.val % 16 = 0
  · rw [outsAt0_A m c t hs (by omega) hs (by omega) hs (by omega) hs (by omega)]
    exact ⟨by frame_out, by frame_out; rfl⟩
  · rw [outsAt0_B m c t hs (by omega) hs (by omega) hs (by omega) hs (by omega)]
    exact ⟨by frame_out, by frame_out; rfl⟩

/-- The gradients after the run are the reference's. -/
theorem final_7 (c : Dev nD) (h : Nums m c) : (dats m 0 c).arrAt 7 (cfgs 0).N = outs m c := by
  refine (dats m 0 c).arrAt_eq_of_covers 7 _ (by decide +kernel) fun t hf y => ?_
  blk_simp
  rw [after0_7, (point_eq m c t).1]
  exact ln_at m c h t y _ (by blk_simp [places t]) (by blk_simp [places t])

/-- The rounded gradients after the run are the reference's. -/
theorem final_8 (c : Dev nD) (h : Nums m c) : (dats m 0 c).arrAt 8 (cfgs 0).N = Cert.ReferenceLossIdeal.Read.val_main_v84 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, (point_eq m c t).2]
  exact ln_at m c h t y _ (by blk_simp [places t]) (by blk_simp [places t])

/-- The row of the last run of points, as the sums over all rows count it. -/
theorem row_of (s : Fin 16) (k : Fin 512) (hl : s.val * 512 + k.val < 8192) (h : 16 * (t0_15.val / 16) + s.val < cfg0.N) :
    ((⟨s.val * 512 + k.val, hl⟩ : Fin 8192) : ℕ) = (⟨16 * (t0_15.val / 16) + s.val, h⟩ : Fin cfg0.N).val * 512 + k.val := by
  show s.val * 512 + k.val = (16 * (15 / 16) + s.val) * 512 + k.val; omega

/-- The gradient of the gain after the run is the reference's. -/
theorem final_9 (c : Dev nD) : (dats m 0 c).arrAt 9 (cfgs 0).N = Cert.ReferenceLossIdeal.Read.val_main_v55 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) := by
  refine (dats m 0 c).arrAt_eq_of_after_last 9 t0_15 (by decide +kernel) _ fun y => ?_
  obtain ⟨q, rfl⟩ : ∃ q : Fin 1024, y = ix2 0 q := ⟨y 1, by blk_ext⟩
  blk_simp
  rw [after0_9, Pipeline.eq_sum_fin_of_reset_step_apply_of_flush (fun n h => ((outsAt0 m c n h).2.2.1 : S1x1024.Idx → EReal)) 16 (fun _ => 0)
    (fun t j => ∑ r : Fin 512, k0_pay12 (normPay m c t) (iblk m c 6 t) (ix2 r (j 1)) * k0_pay15 (sumPay m c t) (ix2 r (j 1)))
    (fun t h j => by
      have ht : t.val < 16 := lt_of_lt_of_eq t.isLt N_0
      rw [outsAt0_A m c t h (by omega) h (by omega) h (by omega) h (by omega)]; frame_out
      pointwise [k0_pay1, k0_pay18])
    (fun t h j => by
      have ht : t.val < 16 := lt_of_lt_of_eq t.isLt N_0
      rw [outsAt0_B m c t h (by omega) h (by omega) h (by omega) h (by omega)]; frame_out
      pointwise [k0_pay2, k0_pay1, k0_pay18])
    t0_15 rfl, zero_add]
  pointwise [Cert.ReferenceLossIdeal.Read.val_main_v55, Cert.ReferenceLossIdeal.Read.val_main_v54, Cert.ReferenceLossIdeal.Read.val_main_v53, Cert.ReferenceLossIdeal.Read.val_main_cst_16]
  refine Fin.sum_mul_add_congr fun s k hl => ?_
  have hr := row_of s k hl (Pipeline.run_point_lt_of_flush t0_15 rfl s)
  refine (congrArg₂ (· * ·) (grad_eq m c _ k q _ hr) (norm_pay _ k q)).trans ?_
  simp only [sum_eq m c _ k _ _ hr]
  rw [norm_ref, mul_comm]

/-- The gradient of the offset after the run is the reference's. -/
theorem final_10 (c : Dev nD) : (dats m 0 c).arrAt 10 (cfgs 0).N = Cert.ReferenceLossIdeal.Read.val_main_v52 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) := by
  refine (dats m 0 c).arrAt_eq_of_after_last 10 t0_15 (by decide +kernel) _ fun y => ?_
  obtain ⟨q, rfl⟩ : ∃ q : Fin 1024, y = ix2 0 q := ⟨y 1, by blk_ext⟩
  blk_simp
  rw [after0_10, Pipeline.eq_sum_fin_of_reset_step_apply_of_flush (fun n h => ((outsAt0 m c n h).2.2.2.1 : S1x1024.Idx → EReal)) 16 (fun _ => 0)
    (fun t j => ∑ r : Fin 512, k0_pay12 (normPay m c t) (iblk m c 6 t) (ix2 r (j 1)))
    (fun t h j => by
      have ht : t.val < 16 := lt_of_lt_of_eq t.isLt N_0
      rw [outsAt0_A m c t h (by omega) h (by omega) h (by omega) h (by omega)]; frame_out
      pointwise [k0_pay3])
    (fun t h j => by
      have ht : t.val < 16 := lt_of_lt_of_eq t.isLt N_0
      rw [outsAt0_B m c t h (by omega) h (by omega) h (by omega) h (by omega)]; frame_out
      pointwise [k0_pay4, k0_pay3])
    t0_15 rfl, zero_add]
  pointwise [Cert.ReferenceLossIdeal.Read.val_main_v52, Cert.ReferenceLossIdeal.Read.val_main_v51, Cert.ReferenceLossIdeal.Read.val_main_cst_15]
  refine Fin.sum_mul_add_congr fun s k hl => ?_
  exact grad_eq m c _ k q _ (row_of s k hl (Pipeline.run_point_lt_of_flush t0_15 rfl s))

/-- The gradient of the bias after the run is the reference's. -/
theorem final_11 (c : Dev nD) (h : Nums m c) : (dats m 0 c).arrAt 11 (cfgs 0).N = Cert.ReferenceLossIdeal.Read.val_main_v83 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) := by
  refine (dats m 0 c).arrAt_eq_of_after_last 11 t0_15 (by decide +kernel) _ fun y => ?_
  obtain ⟨q, rfl⟩ : ∃ q : Fin 1024, y = ix2 0 q := ⟨y 1, by blk_ext⟩
  blk_simp
  rw [after0_11, Pipeline.eq_sum_fin_of_reset_step_apply_of_flush (fun n h => ((outsAt0 m c n h).2.2.2.2.1 : S1x1024.Idx → EReal)) 16 (fun _ => 0)
    (fun t j => ∑ r : Fin 512, outPay m c t (ix2 r (j 1)))
    (fun t h j => by
      have ht : t.val < 16 := lt_of_lt_of_eq t.isLt N_0
      rw [outsAt0_A m c t h (by omega) h (by omega) h (by omega) h (by omega)]; frame_out
      pointwise [k0_pay5])
    (fun t h j => by
      have ht : t.val < 16 := lt_of_lt_of_eq t.isLt N_0
      rw [outsAt0_B m c t h (by omega) h (by omega) h (by omega) h (by omega)]; frame_out
      pointwise [k0_pay6, k0_pay5])
    t0_15 rfl, zero_add]
  pointwise [Cert.ReferenceLossIdeal.Read.val_main_v83, Cert.ReferenceLossIdeal.Read.val_main_v82, Cert.ReferenceLossIdeal.Read.val_main_cst_24]
  refine Fin.sum_mul_add_congr fun s k hl => ?_
  exact ln_eq m c h _ k q _ (row_of s k hl (Pipeline.run_point_lt_of_flush t0_15 rfl s))

/-- The squared distances from the target, summed by columns, are the reference's. -/
theorem final_12 (c : Dev nD) : (dats m 0 c).arrAt 12 (cfgs 0).N = Cert.ReferenceLossIdeal.Read.val_main_v86 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) := by
  refine (dats m 0 c).arrAt_eq_of_after_last 12 t0_15 (by decide +kernel) _ fun y => ?_
  obtain ⟨q, rfl⟩ : ∃ q : Fin 1024, y = ix2 0 q := ⟨y 1, by blk_ext⟩
  blk_simp
  rw [after0_12, Pipeline.eq_sum_fin_of_reset_step_apply_of_flush (fun n h => ((outsAt0 m c n h).2.2.2.2.2 : S1x1024.Idx → EReal)) 16 (fun _ => 0)
    (fun t j => ∑ r : Fin 512, k0_pay11 (normPay m c t) (iblk m c 6 t) (ix2 r (j 1)) * k0_pay11 (normPay m c t) (iblk m c 6 t) (ix2 r (j 1)))
    (fun t h j => by
      have ht : t.val < 16 := lt_of_lt_of_eq t.isLt N_0
      rw [outsAt0_A m c t h (by omega) h (by omega) h (by omega) h (by omega)]; frame_out
      pointwise [k0_pay7])
    (fun t h j => by
      have ht : t.val < 16 := lt_of_lt_of_eq t.isLt N_0
      rw [outsAt0_B m c t h (by omega) h (by omega) h (by omega) h (by omega)]; frame_out
      pointwise [k0_pay8, k0_pay7])
    t0_15 rfl, zero_add]
  pointwise [Cert.ReferenceLossIdeal.Read.val_main_v86, Cert.ReferenceLossIdeal.Read.val_main_v85, Cert.ReferenceLossIdeal.Read.val_main_v37, Cert.ReferenceLossIdeal.Read.val_main_cst_25]
  refine Fin.sum_mul_add_congr fun s k hl => ?_
  have e := err_eq m c _ k q _ (row_of s k hl (Pipeline.run_point_lt_of_flush t0_15 rfl s))
  exact congrArg₂ (· * ·) e e

end Cert.KernelLossIdeal.Own

end
-- ==== Proof.Adam.lean ====
/- The optimiser's step of one entry, from its gradient, its weight and its two moments. -/
module

public import Idealize.ShloMosaic.Lib.Pipeline.ValueKit

@[expose] public section

noncomputable section

namespace Cert.Own

open Idealize.ShloMosaic

/-- The first moment's update. -/
def firstMoment (g a : EReal) : EReal := Ideal.ofBits .f32 0x3F666666#32 * a + Ideal.ofBits .f32 0x3DCCCCCD#32 * g

/-- The second moment's update. -/
def secondMoment (g v : EReal) : EReal := Ideal.ofBits .f32 0x3F7FBE77#32 * v + Ideal.ofBits .f32 0x3A83126F#32 * (g * g)

/-- The weight's change. -/
def weightStep (g w a v : EReal) : EReal := Ideal.ofBits .f32 0xBA83126F#32 *
  (Ideal.div (Ideal.div (firstMoment g a) (Ideal.ofBits .f32 0x3F26BD02#32))
    (Ideal.sqrt (Ideal.div (secondMoment g v) (Ideal.ofBits .f32 0x3C231ACC#32)) + Ideal.ofBits .f32 0x322BCC77#32)
    + Ideal.ofBits .f32 0x3C23D70A#32 * w)

end Cert.Own

end
-- ==== Proof.AdamIn.lean ====
/- The optimiser's step of the convolution's input weight: what the kernel's four result arrays hold after the run. -/
module

public import proofs.«01_k».proof.Proof.Gen.KernelAdamInIdeal.Value
public import proofs.«01_k».proof.Proof.Gen.ReferenceAdamInIdeal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelAdamInIdeal.Own

open Cert.KernelAdamInIdeal Cert.KernelAdamInIdeal.Gen Cert.Own
open Cert.ReferenceAdamInIdeal.Read

variable (m : (ℓ : Loc nD τ sig) → Buf (Elt Ideal) ℓ)

/-- The blocks the windows take at each point, decided for all points at once. -/
theorem places : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- A row of a point's block. -/
abbrev row (i : ℕ) (hi : i < 4) (r : Fin 256) : Fin 1024 := ⟨256 * i + r.val, by omega⟩

/-- An index by its row in a point's block. -/
theorem idx_row (i : ℕ) (hi : i < 4) (y : S256x256.Idx) (j : S1024x256.Idx) (h0 : (j 0).val = 256 * i + (y 0).val) (h1 : (j 1).val = (y 1).val) :
    j = ix2 (row i hi (y 0)) (y 1) := funext fun a => Fin.ext (by fin_cases a; exacts [h0, h1])

/-- The devices' pieces of the gradient in a block. -/
theorem g_blk (c : Dev nD) (t : Fin cfg0.N) (ht : t.val < 4) (s : Fin 8) (r : Fin 256) (q : Fin 256) :
    iblk m c 0 t (ix3 s r q) = (m ((c : Thread nD τ).loc main_arg0)) (ix3 s (row t.val ht r) q) := by
  blk_simp [iblk]; unfold V; blk_point [places t, row]

/-- The weight in a block. -/
theorem w_blk (c : Dev nD) (t : Fin cfg0.N) (ht : t.val < 4) (y : S256x256.Idx) :
    iblk m c 1 t y = val_main_v2 (F := Ideal) (m ((c : Thread nD τ).loc main_arg1)) (ix2 (row t.val ht (y 0)) (y 1)) := by
  have e : V m c main_v0 = val_main_v2 (F := Ideal) (m ((c : Thread nD τ).loc main_arg1)) := by unfold V; after_results; try rfl
  blk_simp [iblk]; rw [e]
  exact congrArg _ (idx_row _ ht y _ (by blk_simp [places t]; omega) (by blk_simp [places t]))

/-- The first moment in a block. -/
theorem a_blk (c : Dev nD) (t : Fin cfg0.N) (ht : t.val < 4) (y : S256x256.Idx) :
    iblk m c 2 t y = val_main_v3 (F := Ideal) (m ((c : Thread nD τ).loc main_arg2)) (ix2 (row t.val ht (y 0)) (y 1)) := by
  have e : V m c main_v1 = val_main_v3 (F := Ideal) (m ((c : Thread nD τ).loc main_arg2)) := by unfold V; after_results; try rfl
  blk_simp [iblk]; rw [e]
  exact congrArg _ (idx_row _ ht y _ (by blk_simp [places t]; omega) (by blk_simp [places t]))

/-- The second moment in a block. -/
theorem v_blk (c : Dev nD) (t : Fin cfg0.N) (ht : t.val < 4) (y : S256x256.Idx) :
    iblk m c 3 t y = val_main_v4 (F := Ideal) (m ((c : Thread nD τ).loc main_arg3)) (ix2 (row t.val ht (y 0)) (y 1)) := by
  have e : V m c main_v2 = val_main_v4 (F := Ideal) (m ((c : Thread nD τ).loc main_arg3)) := by unfold V; after_results; try rfl
  blk_simp [iblk]; rw [e]
  exact congrArg _ (idx_row _ ht y _ (by blk_simp [places t]; omega) (by blk_simp [places t]))

/-- A load of one device's piece. -/
theorem ld_piece (f : Vec Ideal S8x256x256 .bf16) (g : Fin 8) (lo : ℕ) (hlo : lo = g.val) (h) (p : Fin 256) (q : Fin 256) :
    (View.ld f (Rect.unit (s := S8x256x256) ![lo, 0, 0] ![1, 256, 256] h) : S1x256x256.Idx → EReal) (ix3 0 p q) = f (ix3 g p q) := by
  refine congrArg f (funext fun a => Fin.ext ?_)
  subst hlo
  fin_cases a
  · show g.val + 1 * 0 = g.val; omega
  · show 0 + 1 * p.val = p.val; omega
  · show 0 + 1 * q.val = q.val; omega

/-- A load of a whole block. -/
theorem ld_whole (f : Vec Ideal S256x256 .f32) (h) (y : S256x256.Idx) :
    (View.ld f (Rect.unit (s := S256x256) ![0, 0] ![256, 256] h) : S256x256.Idx → EReal) y = f y := by
  refine congrArg f (funext fun a => Fin.ext ?_)
  fin_cases a
  · show 0 + 1 * (y 0).val = (y 0).val; omega
  · show 0 + 1 * (y 1).val = (y 1).val; omega

/-- The sum of eight pieces, one after another. -/
theorem sum_pay (v0 v1 v2 v3 v4 v5 v6 v7 : Vec Ideal S1x256x256 .bf16) (r : Fin 256) (q : Fin 256) :
    k0_pay4 (F := Ideal) v0 v1 v2 v3 v4 v5 v6 v7 (ix2 r q) = v0 (ix3 0 r q) + v1 (ix3 0 r q) + v2 (ix3 0 r q) + v3 (ix3 0 r q)
      + v4 (ix3 0 r q) + v5 (ix3 0 r q) + v6 (ix3 0 r q) + v7 (ix3 0 r q) := by
  pointwise [k0_pay4]

/-- The gradient a point computes is the sum over the devices. -/
theorem grad_row (x0 : Vec Ideal S8x256x256 .bf16) (x1 x2 x3 : Vec Ideal S256x256 .f32) (r : Fin 256) (q : Fin 256) :
    k0_pay6 (F := Ideal) x0 x1 x2 x3 (ix2 r q) = ∑ s : Fin 8, x0 (ix3 s r q) := by
  refine (sum_pay _ _ _ _ _ _ _ _ r q).trans ?_
  rw [Fin.sum_univ_eight]
  exact congr (congrArg _ (congr (congrArg _ (congr (congrArg _ (congr (congrArg _ (congr (congrArg _ (congr (congrArg _ (congr (congrArg _
    (ld_piece x0 0 0 rfl _ r q)) (ld_piece x0 1 1 rfl _ r q))) (ld_piece x0 2 2 rfl _ r q))) (ld_piece x0 3 3 rfl _ r q)))
    (ld_piece x0 4 4 rfl _ r q))) (ld_piece x0 5 5 rfl _ r q))) (ld_piece x0 6 6 rfl _ r q))) (ld_piece x0 7 7 rfl _ r q)

/-- The reference's gradient. -/
theorem grad_ref (x0 : FVec Ideal S8x1024x256 .bf16) (p : Fin 1024) (q : Fin 256) :
    val_main_v1 (F := Ideal) x0 (ix2 p q) = ∑ s : Fin 8, x0 (ix3 s p q) := by
  pointwise [val_main_v1, val_main_v0, val_main_cst]

/-- A gradient entry a point computes. -/
theorem grad_at (c : Dev nD) (t : Fin cfg0.N) (ht : t.val < 4) (y : S256x256.Idx) :
    k0_pay6 (F := Ideal) (iblk m c 0 t) (iblk m c 1 t) (iblk m c 2 t) (iblk m c 3 t) y
      = val_main_v1 (F := Ideal) (m ((c : Thread nD τ).loc main_arg0)) (ix2 (row t.val ht (y 0)) (y 1)) := by
  obtain ⟨r, q, rfl⟩ : ∃ (r : Fin 256) (q : Fin 256), y = ix2 r q := ⟨y 0, y 1, by blk_ext⟩
  refine (grad_row _ _ _ _ r q).trans (Eq.trans ?_ (grad_ref _ (row t.val ht r) q).symm)
  exact congrArg (fun f : Fin 8 → EReal => ∑ s, f s) (funext fun s => g_blk m c t ht s r q)

/-- A first moment as a point loads it. -/
theorem a_at (c : Dev nD) (t : Fin cfg0.N) (ht : t.val < 4) (y : S256x256.Idx) :
    k0_pay7 (F := Ideal) (iblk m c 0 t) (iblk m c 1 t) (iblk m c 2 t) (iblk m c 3 t) y
      = val_main_v3 (F := Ideal) (m ((c : Thread nD τ).loc main_arg2)) (ix2 (row t.val ht (y 0)) (y 1)) := by
  unfold k0_pay7 k0_pay5
  rw [shapeCast_self]
  exact (ld_whole _ _ y).trans (a_blk m c t ht y)

/-- The first moment's update at an entry. -/
theorem first_pay (g a : Vec Ideal S256x256 .f32) (y : S256x256.Idx) : k0_pay1 (F := Ideal) g a y = firstMoment (g y) (a y) := by
  obtain ⟨r, q, rfl⟩ : ∃ (r : Fin 256) (q : Fin 256), y = ix2 r q := ⟨y 0, y 1, by blk_ext⟩
  pointwise [k0_pay1, firstMoment]

/-- The second moment's update at an entry. -/
theorem second_pay (g v : Vec Ideal S256x256 .f32) (y : S256x256.Idx) : k0_pay2 (F := Ideal) g v y = secondMoment (g y) (v y) := by
  obtain ⟨r, q, rfl⟩ : ∃ (r : Fin 256) (q : Fin 256), y = ix2 r q := ⟨y 0, y 1, by blk_ext⟩
  unfold k0_pay2
  rw [shapeCast_self]
  pointwise [secondMoment]

/-- The weight's change at an entry. -/
theorem step_pay (g a v w : Vec Ideal S256x256 .f32) (y : S256x256.Idx) : k0_pay3 (F := Ideal) g a v w y = weightStep (g y) (w y) (a y) (v y) := by
  obtain ⟨r, q, rfl⟩ : ∃ (r : Fin 256) (q : Fin 256), y = ix2 r q := ⟨y 0, y 1, by blk_ext⟩
  unfold k0_pay3 weightStep
  rw [← first_pay, ← second_pay, shapeCast_self]
  pointwise

/-- The reference's first moment. -/
theorem first_ref (x0 : FVec Ideal S8x1024x256 .bf16) (x2 : FVec Ideal S1x1024x256 .f32) (p : Fin 1024) (q : Fin 256) :
    val_main_v9 (F := Ideal) x0 x2 (ix2 p q) = firstMoment (val_main_v1 (F := Ideal) x0 (ix2 p q)) (val_main_v3 (F := Ideal) x2 (ix2 p q)) := by
  pointwise [val_main_v9, val_main_v8, val_main_v7, val_main_v6, val_main_v5, val_main_cst_0, val_main_cst_1, val_main_cst_2, val_main_cst_3, val_main_cst_4, val_main_cst_5, val_main_cst_6, val_main_cst_7, val_main_cst_8, firstMoment]

/-- The reference's second moment. -/
theorem second_ref (x0 : FVec Ideal S8x1024x256 .bf16) (x3 : FVec Ideal S1x1024x256 .f32) (p : Fin 1024) (q : Fin 256) :
    val_main_v15 (F := Ideal) x0 x3 (ix2 p q) = secondMoment (val_main_v1 (F := Ideal) x0 (ix2 p q)) (val_main_v4 (F := Ideal) x3 (ix2 p q)) := by
  pointwise [val_main_v15, val_main_v14, val_main_v13, val_main_v12, val_main_v11, val_main_v10, val_main_cst_0, val_main_cst_1, val_main_cst_2, val_main_cst_3, val_main_cst_4, val_main_cst_5, val_main_cst_6, val_main_cst_7, val_main_cst_8, secondMoment]

/-- The reference's change of the weight. -/
theorem step_ref (x0 : FVec Ideal S8x1024x256 .bf16) (x1 x2 x3 : FVec Ideal S1x1024x256 .f32) (p : Fin 1024) (q : Fin 256) :
    val_main_v28 (F := Ideal) x0 x1 x2 x3 (ix2 p q) = weightStep (val_main_v1 (F := Ideal) x0 (ix2 p q)) (val_main_v2 (F := Ideal) x1 (ix2 p q))
      (val_main_v3 (F := Ideal) x2 (ix2 p q)) (val_main_v4 (F := Ideal) x3 (ix2 p q)) := by
  unfold weightStep
  rw [← first_ref, ← second_ref]
  pointwise [val_main_v28, val_main_v27, val_main_v26, val_main_v25, val_main_v24, val_main_v23, val_main_v22, val_main_v21, val_main_v20, val_main_v19, val_main_v18, val_main_v17, val_main_v16, val_main_cst_0, val_main_cst_1, val_main_cst_2, val_main_cst_3, val_main_cst_4, val_main_cst_5, val_main_cst_6, val_main_cst_7, val_main_cst_8]

/-- The gradient after the run is the reference's. -/
theorem final_4 (c : Dev nD) : (dats m 0 c).arrAt 4 (cfgs 0).N = val_main_v1 (F := Ideal) (m ((c : Thread nD τ).loc main_arg0)) := by
  refine (dats m 0 c).arrAt_eq_of_covers 4 _ (by decide +kernel) fun t hf y => ?_
  have ht : t.val < 4 := lt_of_lt_of_eq t.isLt N_0
  blk_simp
  rw [after0_4]
  frame_out
  exact (grad_at m c t ht y).trans (congrArg _ (idx_row _ ht y _ (by blk_simp [places t]; omega) (by blk_simp [places t])).symm)

/-- The weight's change after the run is the reference's. -/
theorem final_5 (c : Dev nD) : (dats m 0 c).arrAt 5 (cfgs 0).N = val_main_v28 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have ht : t.val < 4 := lt_of_lt_of_eq t.isLt N_0
  blk_simp
  rw [after0_5]
  frame_out
  refine Eq.trans ?_ (congrArg _ (idx_row _ ht y _ (by blk_simp [places t]; omega) (by blk_simp [places t])).symm)
  refine (step_pay _ _ _ _ y).trans (Eq.trans ?_ (step_ref _ _ _ _ (row t.val ht (y 0)) (y 1)).symm)
  rw [grad_at m c t ht y, a_at m c t ht y, w_blk m c t ht y, v_blk m c t ht y]

/-- The first moment after the run is the reference's. -/
theorem final_6 (c : Dev nD) : (dats m 0 c).arrAt 6 (cfgs 0).N = val_main_v9 (F := Ideal) (m ((c : Thread nD τ).loc main_arg0)) (m ((c : Thread nD τ).loc main_arg2)) := by
  refine (dats m 0 c).arrAt_eq_of_covers 6 _ (by decide +kernel) fun t hf y => ?_
  have ht : t.val < 4 := lt_of_lt_of_eq t.isLt N_0
  blk_simp
  rw [after0_6]
  frame_out
  refine Eq.trans ?_ (congrArg _ (idx_row _ ht y _ (by blk_simp [places t]; omega) (by blk_simp [places t])).symm)
  refine (first_pay _ _ y).trans (Eq.trans ?_ (first_ref _ _ (row t.val ht (y 0)) (y 1)).symm)
  rw [grad_at m c t ht y, a_at m c t ht y]

/-- The second moment after the run is the reference's. -/
theorem final_7 (c : Dev nD) : (dats m 0 c).arrAt 7 (cfgs 0).N = val_main_v15 (F := Ideal) (m ((c : Thread nD τ).loc main_arg0)) (m ((c : Thread nD τ).loc main_arg3)) := by
  refine (dats m 0 c).arrAt_eq_of_covers 7 _ (by decide +kernel) fun t hf y => ?_
  have ht : t.val < 4 := lt_of_lt_of_eq t.isLt N_0
  blk_simp
  rw [after0_7]
  frame_out
  refine Eq.trans ?_ (congrArg _ (idx_row _ ht y _ (by blk_simp [places t]; omega) (by blk_simp [places t])).symm)
  refine (second_pay _ _ y).trans (Eq.trans ?_ (second_ref _ _ (row t.val ht (y 0)) (y 1)).symm)
  rw [grad_at m c t ht y, v_blk m c t ht y]

end Cert.KernelAdamInIdeal.Own

end
-- ==== Proof.AdamOut.lean ====
/- The optimiser's step of the convolution's output weight: what the kernel's four result arrays hold after the run. -/
module

public import proofs.«01_k».proof.Proof.Gen.KernelAdamOutIdeal.Value
public import proofs.«01_k».proof.Proof.Gen.ReferenceAdamOutIdeal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelAdamOutIdeal.Own

open Cert.KernelAdamOutIdeal Cert.KernelAdamOutIdeal.Gen Cert.Own
open Cert.ReferenceAdamOutIdeal.Read

variable (m : (ℓ : Loc nD τ sig) → Buf (Elt Ideal) ℓ)

/-- The blocks the windows take at each point, decided for all points at once. -/
theorem places : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- A row of a point's block. -/
abbrev row (i : ℕ) (hi : i < 1) (r : Fin 128) : Fin 128 := ⟨128 * i + r.val, by omega⟩

/-- An index by its row in a point's block. -/
theorem idx_row (i : ℕ) (hi : i < 1) (y : S128x1024.Idx) (j : S128x1024.Idx) (h0 : (j 0).val = 128 * i + (y 0).val) (h1 : (j 1).val = (y 1).val) :
    j = ix2 (row i hi (y 0)) (y 1) := funext fun a => Fin.ext (by fin_cases a; exacts [h0, h1])

/-- The devices' pieces of the gradient in a block. -/
theorem g_blk (c : Dev nD) (t : Fin cfg0.N) (ht : t.val < 1) (s : Fin 8) (r : Fin 128) (q : Fin 1024) :
    iblk m c 0 t (ix3 s r q) = (m ((c : Thread nD τ).loc main_arg0)) (ix3 s (row t.val ht r) q) := by
  blk_simp [iblk]; unfold V; blk_point [places t, row]

/-- The weight in a block. -/
theorem w_blk (c : Dev nD) (t : Fin cfg0.N) (ht : t.val < 1) (y : S128x1024.Idx) :
    iblk m c 1 t y = val_main_v2 (F := Ideal) (m ((c : Thread nD τ).loc main_arg1)) (ix2 (row t.val ht (y 0)) (y 1)) := by
  have e : V m c main_v0 = val_main_v2 (F := Ideal) (m ((c : Thread nD τ).loc main_arg1)) := by unfold V; after_results; try rfl
  generalize hz : (ix2 (row t.val ht (y 0)) (y 1) : S128x1024.Idx) = z
  blk_simp [iblk]; rw [e]
  refine congrArg (val_main_v2 (F := Ideal) (m ((c : Thread nD τ).loc main_arg1))) ((idx_row t.val ht y _ ?_ ?_).trans hz)
  · blk_simp [places t]; omega
  · blk_simp [places t]

/-- The first moment in a block. -/
theorem a_blk (c : Dev nD) (t : Fin cfg0.N) (ht : t.val < 1) (y : S128x1024.Idx) :
    iblk m c 2 t y = val_main_v3 (F := Ideal) (m ((c : Thread nD τ).loc main_arg2)) (ix2 (row t.val ht (y 0)) (y 1)) := by
  have e : V m c main_v1 = val_main_v3 (F := Ideal) (m ((c : Thread nD τ).loc main_arg2)) := by unfold V; after_results; try rfl
  generalize hz : (ix2 (row t.val ht (y 0)) (y 1) : S128x1024.Idx) = z
  blk_simp [iblk]; rw [e]
  refine congrArg (val_main_v3 (F := Ideal) (m ((c : Thread nD τ).loc main_arg2))) ((idx_row t.val ht y _ ?_ ?_).trans hz)
  · blk_simp [places t]; omega
  · blk_simp [places t]

/-- The second moment in a block. -/
theorem v_blk (c : Dev nD) (t : Fin cfg0.N) (ht : t.val < 1) (y : S128x1024.Idx) :
    iblk m c 3 t y = val_main_v4 (F := Ideal) (m ((c : Thread nD τ).loc main_arg3)) (ix2 (row t.val ht (y 0)) (y 1)) := by
  have e : V m c main_v2 = val_main_v4 (F := Ideal) (m ((c : Thread nD τ).loc main_arg3)) := by unfold V; after_results; try rfl
  generalize hz : (ix2 (row t.val ht (y 0)) (y 1) : S128x1024.Idx) = z
  blk_simp [iblk]; rw [e]
  refine congrArg (val_main_v4 (F := Ideal) (m ((c : Thread nD τ).loc main_arg3))) ((idx_row t.val ht y _ ?_ ?_).trans hz)
  · blk_simp [places t]; omega
  · blk_simp [places t]

/-- A load of one device's piece. -/
theorem ld_piece (f : Vec Ideal S8x128x1024 .bf16) (g : Fin 8) (lo : ℕ) (hlo : lo = g.val) (h) (p : Fin 128) (q : Fin 1024) :
    (View.ld f (Rect.unit (s := S8x128x1024) ![lo, 0, 0] ![1, 128, 1024] h) : S1x128x1024.Idx → EReal) (ix3 0 p q) = f (ix3 g p q) := by
  refine congrArg f (funext fun a => Fin.ext ?_)
  subst hlo
  fin_cases a
  · show g.val + 1 * 0 = g.val; omega
  · show 0 + 1 * p.val = p.val; omega
  · show 0 + 1 * q.val = q.val; omega

/-- A load of a whole block. -/
theorem ld_whole (f : Vec Ideal S128x1024 .f32) (h) (y : S128x1024.Idx) :
    (View.ld f (Rect.unit (s := S128x1024) ![0, 0] ![128, 1024] h) : S128x1024.Idx → EReal) y = f y := by
  refine congrArg f (funext fun a => Fin.ext ?_)
  fin_cases a
  · show 0 + 1 * (y 0).val = (y 0).val; omega
  · show 0 + 1 * (y 1).val = (y 1).val; omega

/-- The sum of eight pieces, one after another. -/
theorem sum_pay (v0 v1 v2 v3 v4 v5 v6 v7 : Vec Ideal S1x128x1024 .bf16) (r : Fin 128) (q : Fin 1024) :
    k0_pay4 (F := Ideal) v0 v1 v2 v3 v4 v5 v6 v7 (ix2 r q) = v0 (ix3 0 r q) + v1 (ix3 0 r q) + v2 (ix3 0 r q) + v3 (ix3 0 r q)
      + v4 (ix3 0 r q) + v5 (ix3 0 r q) + v6 (ix3 0 r q) + v7 (ix3 0 r q) := by
  pointwise [k0_pay4]

/-- The gradient a point computes is the sum over the devices. -/
theorem grad_row (x0 : Vec Ideal S8x128x1024 .bf16) (x1 x2 x3 : Vec Ideal S128x1024 .f32) (r : Fin 128) (q : Fin 1024) :
    k0_pay6 (F := Ideal) x0 x1 x2 x3 (ix2 r q) = ∑ s : Fin 8, x0 (ix3 s r q) := by
  refine (sum_pay _ _ _ _ _ _ _ _ r q).trans ?_
  rw [Fin.sum_univ_eight]
  exact congr (congrArg _ (congr (congrArg _ (congr (congrArg _ (congr (congrArg _ (congr (congrArg _ (congr (congrArg _ (congr (congrArg _
    (ld_piece x0 0 0 rfl _ r q)) (ld_piece x0 1 1 rfl _ r q))) (ld_piece x0 2 2 rfl _ r q))) (ld_piece x0 3 3 rfl _ r q)))
    (ld_piece x0 4 4 rfl _ r q))) (ld_piece x0 5 5 rfl _ r q))) (ld_piece x0 6 6 rfl _ r q))) (ld_piece x0 7 7 rfl _ r q)

/-- The reference's gradient. -/
theorem grad_ref (x0 : FVec Ideal S8x128x1024 .bf16) (p : Fin 128) (q : Fin 1024) :
    val_main_v1 (F := Ideal) x0 (ix2 p q) = ∑ s : Fin 8, x0 (ix3 s p q) := by
  pointwise [val_main_v1, val_main_v0, val_main_cst]

/-- A gradient entry a point computes. -/
theorem grad_at (c : Dev nD) (t : Fin cfg0.N) (ht : t.val < 1) (y : S128x1024.Idx) :
    k0_pay6 (F := Ideal) (iblk m c 0 t) (iblk m c 1 t) (iblk m c 2 t) (iblk m c 3 t) y
      = val_main_v1 (F := Ideal) (m ((c : Thread nD τ).loc main_arg0)) (ix2 (row t.val ht (y 0)) (y 1)) := by
  obtain ⟨r, q, rfl⟩ : ∃ (r : Fin 128) (q : Fin 1024), y = ix2 r q := ⟨y 0, y 1, by blk_ext⟩
  refine (grad_row _ _ _ _ r q).trans (Eq.trans ?_ (grad_ref _ (row t.val ht r) q).symm)
  exact congrArg (fun f : Fin 8 → EReal => ∑ s, f s) (funext fun s => g_blk m c t ht s r q)

/-- A first moment as a point loads it. -/
theorem a_at (c : Dev nD) (t : Fin cfg0.N) (ht : t.val < 1) (y : S128x1024.Idx) :
    k0_pay7 (F := Ideal) (iblk m c 0 t) (iblk m c 1 t) (iblk m c 2 t) (iblk m c 3 t) y
      = val_main_v3 (F := Ideal) (m ((c : Thread nD τ).loc main_arg2)) (ix2 (row t.val ht (y 0)) (y 1)) := by
  unfold k0_pay7 k0_pay5
  rw [shapeCast_self]
  exact (ld_whole _ _ y).trans (a_blk m c t ht y)

/-- The first moment's update at an entry. -/
theorem first_pay (g a : Vec Ideal S128x1024 .f32) (y : S128x1024.Idx) : k0_pay1 (F := Ideal) g a y = firstMoment (g y) (a y) := by
  obtain ⟨r, q, rfl⟩ : ∃ (r : Fin 128) (q : Fin 1024), y = ix2 r q := ⟨y 0, y 1, by blk_ext⟩
  pointwise [k0_pay1, firstMoment]

/-- The second moment's update at an entry. -/
theorem second_pay (g v : Vec Ideal S128x1024 .f32) (y : S128x1024.Idx) : k0_pay2 (F := Ideal) g v y = secondMoment (g y) (v y) := by
  obtain ⟨r, q, rfl⟩ : ∃ (r : Fin 128) (q : Fin 1024), y = ix2 r q := ⟨y 0, y 1, by blk_ext⟩
  unfold k0_pay2
  rw [shapeCast_self]
  pointwise [secondMoment]

/-- The weight's change at an entry. -/
theorem step_pay (g a v w : Vec Ideal S128x1024 .f32) (y : S128x1024.Idx) : k0_pay3 (F := Ideal) g a v w y = weightStep (g y) (w y) (a y) (v y) := by
  obtain ⟨r, q, rfl⟩ : ∃ (r : Fin 128) (q : Fin 1024), y = ix2 r q := ⟨y 0, y 1, by blk_ext⟩
  unfold k0_pay3 weightStep
  rw [← first_pay, ← second_pay, shapeCast_self]
  pointwise

/-- The reference's first moment. -/
theorem first_ref (x0 : FVec Ideal S8x128x1024 .bf16) (x2 : FVec Ideal S1x128x1024 .f32) (p : Fin 128) (q : Fin 1024) :
    val_main_v9 (F := Ideal) x0 x2 (ix2 p q) = firstMoment (val_main_v1 (F := Ideal) x0 (ix2 p q)) (val_main_v3 (F := Ideal) x2 (ix2 p q)) := by
  pointwise [val_main_v9, val_main_v8, val_main_v7, val_main_v6, val_main_v5, val_main_cst_0, val_main_cst_1, val_main_cst_2, val_main_cst_3, val_main_cst_4, val_main_cst_5, val_main_cst_6, val_main_cst_7, val_main_cst_8, firstMoment]

/-- The reference's second moment. -/
theorem second_ref (x0 : FVec Ideal S8x128x1024 .bf16) (x3 : FVec Ideal S1x128x1024 .f32) (p : Fin 128) (q : Fin 1024) :
    val_main_v15 (F := Ideal) x0 x3 (ix2 p q) = secondMoment (val_main_v1 (F := Ideal) x0 (ix2 p q)) (val_main_v4 (F := Ideal) x3 (ix2 p q)) := by
  pointwise [val_main_v15, val_main_v14, val_main_v13, val_main_v12, val_main_v11, val_main_v10, val_main_cst_0, val_main_cst_1, val_main_cst_2, val_main_cst_3, val_main_cst_4, val_main_cst_5, val_main_cst_6, val_main_cst_7, val_main_cst_8, secondMoment]

/-- The reference's change of the weight. -/
theorem step_ref (x0 : FVec Ideal S8x128x1024 .bf16) (x1 x2 x3 : FVec Ideal S1x128x1024 .f32) (p : Fin 128) (q : Fin 1024) :
    val_main_v28 (F := Ideal) x0 x1 x2 x3 (ix2 p q) = weightStep (val_main_v1 (F := Ideal) x0 (ix2 p q)) (val_main_v2 (F := Ideal) x1 (ix2 p q))
      (val_main_v3 (F := Ideal) x2 (ix2 p q)) (val_main_v4 (F := Ideal) x3 (ix2 p q)) := by
  unfold weightStep
  rw [← first_ref, ← second_ref]
  pointwise [val_main_v28, val_main_v27, val_main_v26, val_main_v25, val_main_v24, val_main_v23, val_main_v22, val_main_v21, val_main_v20, val_main_v19, val_main_v18, val_main_v17, val_main_v16, val_main_cst_0, val_main_cst_1, val_main_cst_2, val_main_cst_3, val_main_cst_4, val_main_cst_5, val_main_cst_6, val_main_cst_7, val_main_cst_8]

/-- The gradient after the run is the reference's. -/
theorem final_4 (c : Dev nD) : (dats m 0 c).arrAt 4 (cfgs 0).N = val_main_v1 (F := Ideal) (m ((c : Thread nD τ).loc main_arg0)) := by
  refine (dats m 0 c).arrAt_eq_of_covers 4 _ (by decide +kernel) fun t hf y => ?_
  have ht : t.val < 1 := lt_of_lt_of_eq t.isLt N_0
  blk_simp
  rw [after0_4]
  frame_out
  exact (grad_at m c t ht y).trans (congrArg _ (idx_row _ ht y _ (by blk_simp [places t]; omega) (by blk_simp [places t])).symm)

/-- The weight's change after the run is the reference's. -/
theorem final_5 (c : Dev nD) : (dats m 0 c).arrAt 5 (cfgs 0).N = val_main_v28 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have ht : t.val < 1 := lt_of_lt_of_eq t.isLt N_0
  blk_simp
  rw [after0_5]
  frame_out
  refine Eq.trans ?_ (congrArg _ (idx_row _ ht y _ (by blk_simp [places t]; omega) (by blk_simp [places t])).symm)
  refine (step_pay _ _ _ _ y).trans (Eq.trans ?_ (step_ref _ _ _ _ (row t.val ht (y 0)) (y 1)).symm)
  rw [grad_at m c t ht y, a_at m c t ht y, w_blk m c t ht y, v_blk m c t ht y]

/-- The first moment after the run is the reference's. -/
theorem final_6 (c : Dev nD) : (dats m 0 c).arrAt 6 (cfgs 0).N = val_main_v9 (F := Ideal) (m ((c : Thread nD τ).loc main_arg0)) (m ((c : Thread nD τ).loc main_arg2)) := by
  refine (dats m 0 c).arrAt_eq_of_covers 6 _ (by decide +kernel) fun t hf y => ?_
  have ht : t.val < 1 := lt_of_lt_of_eq t.isLt N_0
  blk_simp
  rw [after0_6]
  frame_out
  refine Eq.trans ?_ (congrArg _ (idx_row _ ht y _ (by blk_simp [places t]; omega) (by blk_simp [places t])).symm)
  refine (first_pay _ _ y).trans (Eq.trans ?_ (first_ref _ _ (row t.val ht (y 0)) (y 1)).symm)
  rw [grad_at m c t ht y, a_at m c t ht y]

/-- The second moment after the run is the reference's. -/
theorem final_7 (c : Dev nD) : (dats m 0 c).arrAt 7 (cfgs 0).N = val_main_v15 (F := Ideal) (m ((c : Thread nD τ).loc main_arg0)) (m ((c : Thread nD τ).loc main_arg3)) := by
  refine (dats m 0 c).arrAt_eq_of_covers 7 _ (by decide +kernel) fun t hf y => ?_
  have ht : t.val < 1 := lt_of_lt_of_eq t.isLt N_0
  blk_simp
  rw [after0_7]
  frame_out
  refine Eq.trans ?_ (congrArg _ (idx_row _ ht y _ (by blk_simp [places t]; omega) (by blk_simp [places t])).symm)
  refine (second_pay _ _ y).trans (Eq.trans ?_ (second_ref _ _ (row t.val ht (y 0)) (y 1)).symm)
  rw [grad_at m c t ht y, v_blk m c t ht y]

end Cert.KernelAdamOutIdeal.Own

end
-- ==== Proof.AdamPool.lean ====
/- The optimiser's step of the pooling mixer's weight: what the kernel's four result arrays hold after the run. -/
module

public import proofs.«01_k».proof.Proof.Gen.KernelAdamPoolIdeal.Value
public import proofs.«01_k».proof.Proof.Gen.ReferenceAdamPoolIdeal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelAdamPoolIdeal.Own

open Cert.KernelAdamPoolIdeal Cert.KernelAdamPoolIdeal.Gen Cert.Own
open Cert.ReferenceAdamPoolIdeal.Read

variable (m : (ℓ : Loc nD τ sig) → Buf (Elt Ideal) ℓ)

/-- The blocks the windows take at each point, decided for all points at once. -/
theorem places : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- A row of a point's block. -/
abbrev row (i : ℕ) (hi : i < 1) (r : Fin 128) : Fin 128 := ⟨128 * i + r.val, by omega⟩

/-- An index by its row in a point's block. -/
theorem idx_row (i : ℕ) (hi : i < 1) (y : S128x256.Idx) (j : S128x256.Idx) (h0 : (j 0).val = 128 * i + (y 0).val) (h1 : (j 1).val = (y 1).val) :
    j = ix2 (row i hi (y 0)) (y 1) := funext fun a => Fin.ext (by fin_cases a; exacts [h0, h1])

/-- The devices' pieces of the gradient in a block. -/
theorem g_blk (c : Dev nD) (t : Fin cfg0.N) (ht : t.val < 1) (s : Fin 8) (r : Fin 128) (q : Fin 256) :
    iblk m c 0 t (ix3 s r q) = (val_main_v0 (F := Ideal) (m ((c : Thread nD τ).loc main_arg0))) (ix3 s (row t.val ht r) q) := by
  have e : V m c main_v0 = val_main_v0 (F := Ideal) (m ((c : Thread nD τ).loc main_arg0)) := by unfold V; after_results; try rfl
  blk_simp [iblk]; rw [e]; blk_point [places t, row]

/-- The weight in a block. -/
theorem w_blk (c : Dev nD) (t : Fin cfg0.N) (ht : t.val < 1) (y : S128x256.Idx) :
    iblk m c 1 t y = val_main_v3 (F := Ideal) (m ((c : Thread nD τ).loc main_arg1)) (ix2 (row t.val ht (y 0)) (y 1)) := by
  have e : V m c main_v1 = val_main_v3 (F := Ideal) (m ((c : Thread nD τ).loc main_arg1)) := by unfold V; after_results; try rfl
  generalize hz : (ix2 (row t.val ht (y 0)) (y 1) : S128x256.Idx) = z
  blk_simp [iblk]; rw [e]
  refine congrArg (val_main_v3 (F := Ideal) (m ((c : Thread nD τ).loc main_arg1))) ((idx_row t.val ht y _ ?_ ?_).trans hz)
  · blk_simp [places t]; omega
  · blk_simp [places t]

/-- The first moment in a block. -/
theorem a_blk (c : Dev nD) (t : Fin cfg0.N) (ht : t.val < 1) (y : S128x256.Idx) :
    iblk m c 2 t y = val_main_v4 (F := Ideal) (m ((c : Thread nD τ).loc main_arg2)) (ix2 (row t.val ht (y 0)) (y 1)) := by
  have e : V m c main_v2 = val_main_v4 (F := Ideal) (m ((c : Thread nD τ).loc main_arg2)) := by unfold V; after_results; try rfl
  generalize hz : (ix2 (row t.val ht (y 0)) (y 1) : S128x256.Idx) = z
  blk_simp [iblk]; rw [e]
  refine congrArg (val_main_v4 (F := Ideal) (m ((c : Thread nD τ).loc main_arg2))) ((idx_row t.val ht y _ ?_ ?_).trans hz)
  · blk_simp [places t]; omega
  · blk_simp [places t]

/-- The second moment in a block. -/
theorem v_blk (c : Dev nD) (t : Fin cfg0.N) (ht : t.val < 1) (y : S128x256.Idx) :
    iblk m c 3 t y = val_main_v5 (F := Ideal) (m ((c : Thread nD τ).loc main_arg3)) (ix2 (row t.val ht (y 0)) (y 1)) := by
  have e : V m c main_v3 = val_main_v5 (F := Ideal) (m ((c : Thread nD τ).loc main_arg3)) := by unfold V; after_results; try rfl
  generalize hz : (ix2 (row t.val ht (y 0)) (y 1) : S128x256.Idx) = z
  blk_simp [iblk]; rw [e]
  refine congrArg (val_main_v5 (F := Ideal) (m ((c : Thread nD τ).loc main_arg3))) ((idx_row t.val ht y _ ?_ ?_).trans hz)
  · blk_simp [places t]; omega
  · blk_simp [places t]

/-- A load of one device's piece. -/
theorem ld_piece (f : Vec Ideal S8x128x256 .bf16) (g : Fin 8) (lo : ℕ) (hlo : lo = g.val) (h) (p : Fin 128) (q : Fin 256) :
    (View.ld f (Rect.unit (s := S8x128x256) ![lo, 0, 0] ![1, 128, 256] h) : S1x128x256.Idx → EReal) (ix3 0 p q) = f (ix3 g p q) := by
  refine congrArg f (funext fun a => Fin.ext ?_)
  subst hlo
  fin_cases a
  · show g.val + 1 * 0 = g.val; omega
  · show 0 + 1 * p.val = p.val; omega
  · show 0 + 1 * q.val = q.val; omega

/-- A load of a whole block. -/
theorem ld_whole (f : Vec Ideal S128x256 .f32) (h) (y : S128x256.Idx) :
    (View.ld f (Rect.unit (s := S128x256) ![0, 0] ![128, 256] h) : S128x256.Idx → EReal) y = f y := by
  refine congrArg f (funext fun a => Fin.ext ?_)
  fin_cases a
  · show 0 + 1 * (y 0).val = (y 0).val; omega
  · show 0 + 1 * (y 1).val = (y 1).val; omega

/-- The sum of eight pieces, one after another. -/
theorem sum_pay (v0 v1 v2 v3 v4 v5 v6 v7 : Vec Ideal S1x128x256 .bf16) (r : Fin 128) (q : Fin 256) :
    k0_pay4 (F := Ideal) v0 v1 v2 v3 v4 v5 v6 v7 (ix2 r q) = v0 (ix3 0 r q) + v1 (ix3 0 r q) + v2 (ix3 0 r q) + v3 (ix3 0 r q)
      + v4 (ix3 0 r q) + v5 (ix3 0 r q) + v6 (ix3 0 r q) + v7 (ix3 0 r q) := by
  pointwise [k0_pay4]

/-- The gradient a point computes is the sum over the devices. -/
theorem grad_row (x0 : Vec Ideal S8x128x256 .bf16) (x1 x2 x3 : Vec Ideal S128x256 .f32) (r : Fin 128) (q : Fin 256) :
    k0_pay6 (F := Ideal) x0 x1 x2 x3 (ix2 r q) = ∑ s : Fin 8, x0 (ix3 s r q) := by
  refine (sum_pay _ _ _ _ _ _ _ _ r q).trans ?_
  rw [Fin.sum_univ_eight]
  exact congr (congrArg _ (congr (congrArg _ (congr (congrArg _ (congr (congrArg _ (congr (congrArg _ (congr (congrArg _ (congr (congrArg _
    (ld_piece x0 0 0 rfl _ r q)) (ld_piece x0 1 1 rfl _ r q))) (ld_piece x0 2 2 rfl _ r q))) (ld_piece x0 3 3 rfl _ r q)))
    (ld_piece x0 4 4 rfl _ r q))) (ld_piece x0 5 5 rfl _ r q))) (ld_piece x0 6 6 rfl _ r q))) (ld_piece x0 7 7 rfl _ r q)

/-- The reference's gradient. -/
theorem grad_ref (x0 : FVec Ideal S8x4x32x256 .bf16) (p : Fin 128) (q : Fin 256) :
    val_main_v2 (F := Ideal) x0 (ix2 p q) = ∑ s : Fin 8, (val_main_v0 (F := Ideal) x0) (ix3 s p q) := by
  pointwise [val_main_v2, val_main_v1, val_main_cst]

/-- A gradient entry a point computes. -/
theorem grad_at (c : Dev nD) (t : Fin cfg0.N) (ht : t.val < 1) (y : S128x256.Idx) :
    k0_pay6 (F := Ideal) (iblk m c 0 t) (iblk m c 1 t) (iblk m c 2 t) (iblk m c 3 t) y
      = val_main_v2 (F := Ideal) (m ((c : Thread nD τ).loc main_arg0)) (ix2 (row t.val ht (y 0)) (y 1)) := by
  obtain ⟨r, q, rfl⟩ : ∃ (r : Fin 128) (q : Fin 256), y = ix2 r q := ⟨y 0, y 1, by blk_ext⟩
  refine (grad_row _ _ _ _ r q).trans (Eq.trans ?_ (grad_ref _ (row t.val ht r) q).symm)
  exact congrArg (fun f : Fin 8 → EReal => ∑ s, f s) (funext fun s => g_blk m c t ht s r q)

/-- A first moment as a point loads it. -/
theorem a_at (c : Dev nD) (t : Fin cfg0.N) (ht : t.val < 1) (y : S128x256.Idx) :
    k0_pay7 (F := Ideal) (iblk m c 0 t) (iblk m c 1 t) (iblk m c 2 t) (iblk m c 3 t) y
      = val_main_v4 (F := Ideal) (m ((c : Thread nD τ).loc main_arg2)) (ix2 (row t.val ht (y 0)) (y 1)) := by
  unfold k0_pay7 k0_pay5
  rw [shapeCast_self]
  exact (ld_whole _ _ y).trans (a_blk m c t ht y)

/-- The first moment's update at an entry. -/
theorem first_pay (g a : Vec Ideal S128x256 .f32) (y : S128x256.Idx) : k0_pay1 (F := Ideal) g a y = firstMoment (g y) (a y) := by
  obtain ⟨r, q, rfl⟩ : ∃ (r : Fin 128) (q : Fin 256), y = ix2 r q := ⟨y 0, y 1, by blk_ext⟩
  pointwise [k0_pay1, firstMoment]

/-- The second moment's update at an entry. -/
theorem second_pay (g v : Vec Ideal S128x256 .f32) (y : S128x256.Idx) : k0_pay2 (F := Ideal) g v y = secondMoment (g y) (v y) := by
  obtain ⟨r, q, rfl⟩ : ∃ (r : Fin 128) (q : Fin 256), y = ix2 r q := ⟨y 0, y 1, by blk_ext⟩
  unfold k0_pay2
  rw [shapeCast_self]
  pointwise [secondMoment]

/-- The weight's change at an entry. -/
theorem step_pay (g a v w : Vec Ideal S128x256 .f32) (y : S128x256.Idx) : k0_pay3 (F := Ideal) g a v w y = weightStep (g y) (w y) (a y) (v y) := by
  obtain ⟨r, q, rfl⟩ : ∃ (r : Fin 128) (q : Fin 256), y = ix2 r q := ⟨y 0, y 1, by blk_ext⟩
  unfold k0_pay3 weightStep
  rw [← first_pay, ← second_pay, shapeCast_self]
  pointwise

/-- The reference's first moment. -/
theorem first_ref (x0 : FVec Ideal S8x4x32x256 .bf16) (x2 : FVec Ideal S1x4x32x256 .f32) (p : Fin 128) (q : Fin 256) :
    val_main_v10 (F := Ideal) x0 x2 (ix2 p q) = firstMoment (val_main_v2 (F := Ideal) x0 (ix2 p q)) (val_main_v4 (F := Ideal) x2 (ix2 p q)) := by
  pointwise [val_main_v10, val_main_v9, val_main_v8, val_main_v7, val_main_v6, val_main_cst_0, val_main_cst_1, val_main_cst_2, val_main_cst_3, val_main_cst_4, val_main_cst_5, val_main_cst_6, val_main_cst_7, val_main_cst_8, firstMoment]

/-- The reference's second moment. -/
theorem second_ref (x0 : FVec Ideal S8x4x32x256 .bf16) (x3 : FVec Ideal S1x4x32x256 .f32) (p : Fin 128) (q : Fin 256) :
    val_main_v16 (F := Ideal) x0 x3 (ix2 p q) = secondMoment (val_main_v2 (F := Ideal) x0 (ix2 p q)) (val_main_v5 (F := Ideal) x3 (ix2 p q)) := by
  pointwise [val_main_v16, val_main_v15, val_main_v14, val_main_v13, val_main_v12, val_main_v11, val_main_cst_0, val_main_cst_1, val_main_cst_2, val_main_cst_3, val_main_cst_4, val_main_cst_5, val_main_cst_6, val_main_cst_7, val_main_cst_8, secondMoment]

/-- The reference's change of the weight. -/
theorem step_ref (x0 : FVec Ideal S8x4x32x256 .bf16) (x1 x2 x3 : FVec Ideal S1x4x32x256 .f32) (p : Fin 128) (q : Fin 256) :
    val_main_v29 (F := Ideal) x0 x1 x2 x3 (ix2 p q) = weightStep (val_main_v2 (F := Ideal) x0 (ix2 p q)) (val_main_v3 (F := Ideal) x1 (ix2 p q))
      (val_main_v4 (F := Ideal) x2 (ix2 p q)) (val_main_v5 (F := Ideal) x3 (ix2 p q)) := by
  unfold weightStep
  rw [← first_ref, ← second_ref]
  pointwise [val_main_v29, val_main_v28, val_main_v27, val_main_v26, val_main_v25, val_main_v24, val_main_v23, val_main_v22, val_main_v21, val_main_v20, val_main_v19, val_main_v18, val_main_v17, val_main_cst_0, val_main_cst_1, val_main_cst_2, val_main_cst_3, val_main_cst_4, val_main_cst_5, val_main_cst_6, val_main_cst_7, val_main_cst_8]

/-- The gradient after the run is the reference's. -/
theorem final_4 (c : Dev nD) : (dats m 0 c).arrAt 4 (cfgs 0).N = val_main_v2 (F := Ideal) (m ((c : Thread nD τ).loc main_arg0)) := by
  refine (dats m 0 c).arrAt_eq_of_covers 4 _ (by decide +kernel) fun t hf y => ?_
  have ht : t.val < 1 := lt_of_lt_of_eq t.isLt N_0
  blk_simp
  rw [after0_4]
  frame_out
  exact (grad_at m c t ht y).trans (congrArg _ (idx_row _ ht y _ (by blk_simp [places t]; omega) (by blk_simp [places t])).symm)

/-- The weight's change after the run is the reference's. -/
theorem final_5 (c : Dev nD) : (dats m 0 c).arrAt 5 (cfgs 0).N = val_main_v29 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have ht : t.val < 1 := lt_of_lt_of_eq t.isLt N_0
  blk_simp
  rw [after0_5]
  frame_out
  refine Eq.trans ?_ (congrArg _ (idx_row _ ht y _ (by blk_simp [places t]; omega) (by blk_simp [places t])).symm)
  refine (step_pay _ _ _ _ y).trans (Eq.trans ?_ (step_ref _ _ _ _ (row t.val ht (y 0)) (y 1)).symm)
  rw [grad_at m c t ht y, a_at m c t ht y, w_blk m c t ht y, v_blk m c t ht y]

/-- The first moment after the run is the reference's. -/
theorem final_6 (c : Dev nD) : (dats m 0 c).arrAt 6 (cfgs 0).N = val_main_v10 (F := Ideal) (m ((c : Thread nD τ).loc main_arg0)) (m ((c : Thread nD τ).loc main_arg2)) := by
  refine (dats m 0 c).arrAt_eq_of_covers 6 _ (by decide +kernel) fun t hf y => ?_
  have ht : t.val < 1 := lt_of_lt_of_eq t.isLt N_0
  blk_simp
  rw [after0_6]
  frame_out
  refine Eq.trans ?_ (congrArg _ (idx_row _ ht y _ (by blk_simp [places t]; omega) (by blk_simp [places t])).symm)
  refine (first_pay _ _ y).trans (Eq.trans ?_ (first_ref _ _ (row t.val ht (y 0)) (y 1)).symm)
  rw [grad_at m c t ht y, a_at m c t ht y]

/-- The second moment after the run is the reference's. -/
theorem final_7 (c : Dev nD) : (dats m 0 c).arrAt 7 (cfgs 0).N = val_main_v16 (F := Ideal) (m ((c : Thread nD τ).loc main_arg0)) (m ((c : Thread nD τ).loc main_arg3)) := by
  refine (dats m 0 c).arrAt_eq_of_covers 7 _ (by decide +kernel) fun t hf y => ?_
  have ht : t.val < 1 := lt_of_lt_of_eq t.isLt N_0
  blk_simp
  rw [after0_7]
  frame_out
  refine Eq.trans ?_ (congrArg _ (idx_row _ ht y _ (by blk_simp [places t]; omega) (by blk_simp [places t])).symm)
  refine (second_pay _ _ y).trans (Eq.trans ?_ (second_ref _ _ (row t.val ht (y 0)) (y 1)).symm)
  rw [grad_at m c t ht y, v_blk m c t ht y]

end Cert.KernelAdamPoolIdeal.Own

end
-- ==== Proof.Finite.lean ====
/- The preconditions of the gradients through a layer norm and of the pooling and its gradient, read back: where one holds, every entry of the arrays it names
   is a number. -/
module

public import proofs.«01_k».proof.Pre_finite_pool
public import proofs.«01_k».proof.Pre_finite_mlpin
public import proofs.«01_k».proof.Pre_finite_convinbwd
public import proofs.«01_k».proof.Pre_finite_loss
public import proofs.«01_k».proof.Pre_finite_poolfwd
public import proofs.«01_k».proof.Proof.Pool
public import proofs.«01_k».proof.Proof.MlpIn
public import proofs.«01_k».proof.Proof.ConvInBwd
public import proofs.«01_k».proof.Proof.Loss
public import proofs.«01_k».proof.Proof.PoolFwd
public import Idealize.ShloMosaic.Lib.ReduceAll

@[expose] public section

noncomputable section

namespace Cert.Own

open Idealize.ShloMosaic Idealize.SL.Sem

local notation "S0" => (⟨0, ![]⟩ : Shape)

/-- The word of infinity. -/
theorem word_inf : Ideal.ofBits .f32 0x7F800000#32 = ⊤ := by
  simp only [Ideal.ofBits, Ideal.ieee]
  rw [if_pos (by decide), if_pos (by decide), if_neg (by decide)]

/-- An entry whose absolute value compares below infinity is a number. -/
theorem num_of_lt {x : EReal} (h : FloatOps.cmpf (F := Ideal) (φ := .f32) .olt (max x (-x) : EReal) (Ideal.ofBits .f32 0x7F800000#32 : EReal) = 1#1) :
    IsNum x := by
  refine IsNum.of_abs_lt ?_
  rw [word_inf] at h
  by_contra hn
  have : FloatOps.cmpf (F := Ideal) (φ := .f32) .olt (max x (-x) : EReal) (⊤ : EReal) = BitVec.ofBool (decide (max x (-x) < ⊤)) := rfl
  rw [this, decide_eq_false hn] at h
  exact absurd h (by decide)

/-- Where "every absolute value is below infinity" is one, every entry is a number. -/
theorem num_of_all {s : Shape} {axes : List (Fin s.rank)} (x : FVec Ideal s .f32) (hr : s.ReducesTo axes S0)
    (hu : 0 < (S0).numel) (hb : (S0).BroadcastsInDim s (![] : Fin 0 → Fin s.rank)) (j : (S0).Idx)
    (e : Host.reduce IntOp.andi (cmpf .olt (Host.absf x) (broadcastInDim s ![] hb (constant S0 .f32 0x7F800000#32)))
      (constantI S0 1 1#1) hr hu j = 1#1) (i : s.Idx) : IsNum (x i) := by
  haveI : Subsingleton (S0).Idx := ⟨fun a b => funext fun k => k.elim0⟩
  exact num_of_lt (Host.reduce_andi_all _ _ hr hu j e i)

/-- The facts the precondition on the pooling's gradient takes. -/
instance facts_pool : Cert.Pre_finite_pool.Facts where
  bcast_S_S8192x1024 := by decide
  reducesTo_S8192x1024_S_d0_1 := by decide
  h_S_ := by decide
  bcast_S_S4x256x256 := by decide
  reducesTo_S4x256x256_S_d0_1_2 := by decide
  bcast_S_S1x1024 := by decide
  reducesTo_S1x1024_S_d0_1 := by decide

/-- The facts the precondition on the MLP's gradient takes. -/
instance facts_mlpin : Cert.Pre_finite_mlpin.Facts where
  bcast_S_S8192x1024 := by decide
  reducesTo_S8192x1024_S_d0_1 := by decide
  h_S_ := by decide
  bcast_S_S1x1024 := by decide
  reducesTo_S1x1024_S_d0_1 := by decide
  bcast_S_S1024x4096 := by decide
  reducesTo_S1024x4096_S_d0_1 := by decide
  bitsLt_bf16_f32 := by decide
  bcast_S_S8192x4096 := by decide
  reducesTo_S8192x4096_S_d0_1 := by decide

/-- The facts the precondition on the convolution's gradient takes. -/
instance facts_convinbwd : Cert.Pre_finite_convinbwd.Facts where
  bcast_S_S8192x1024 := by decide
  reducesTo_S8192x1024_S_d0_1 := by decide
  h_S_ := by decide
  bcast_S_S1x1024 := by decide
  reducesTo_S1x1024_S_d0_1 := by decide
  bcast_S_S1024x2048 := by decide
  reducesTo_S1024x2048_S_d0_1 := by decide
  bitsLt_bf16_f32 := by decide
  bcast_S_S8192x2048 := by decide
  reducesTo_S8192x2048_S_d0_1 := by decide

/-- The facts the precondition on the loss takes. -/
instance facts_loss : Cert.Pre_finite_loss.Facts where
  bitsLt_bf16_f32 := by decide
  bcast_S_S8192x4096 := by decide
  reducesTo_S8192x4096_S_d0_1 := by decide
  h_S_ := by decide
  bcast_S_S4096x1024 := by decide
  reducesTo_S4096x1024_S_d0_1 := by decide
  bcast_S_S1x1024 := by decide
  reducesTo_S1x1024_S_d0_1 := by decide
  bcast_S_S8192x1024 := by decide
  reducesTo_S8192x1024_S_d0_1 := by decide

/-- The facts the precondition on the pooling takes. -/
instance facts_poolfwd : Cert.Pre_finite_poolfwd.Facts where
  bcast_S_S8192x1024 := by decide
  reducesTo_S8192x1024_S_d0_1 := by decide
  h_S_ := by decide

end Cert.Own

namespace Cert.KernelIdeal.Own

open Idealize.ShloMosaic Idealize.SL.Sem Cert.Own

/-- The pooling's gradient: the precondition says the four arrays hold numbers. -/
theorem nums_of_pre (m : (ℓ : Loc nD τ sig) → Buf (Elt Ideal) ℓ) (c : Dev nD)
    (h : Cert.Pre_finite_pool.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) : Nums m c := by
  obtain ⟨h, h'⟩ := IntOp.andi_eq_one.1 (congrFun h fun k => k.elim0)
  obtain ⟨hx, hw⟩ := IntOp.andi_eq_one.1 h
  obtain ⟨hs, hz⟩ := IntOp.andi_eq_one.1 h'
  exact ⟨num_of_all _ _ _ _ _ hx, num_of_all _ _ _ _ _ hw, num_of_all _ _ _ _ _ hs, num_of_all _ _ _ _ _ hz⟩

end Cert.KernelIdeal.Own

namespace Cert.KernelMlpInIdeal.Own

open Idealize.ShloMosaic Idealize.SL.Sem Cert.Own

/-- The MLP's gradient: the precondition says every array it reads holds numbers. -/
theorem nums_of_pre (m : (ℓ : Loc nD τ sig) → Buf (Elt Ideal) ℓ) (c : Dev nD)
    (h : Cert.Pre_finite_mlpin.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Nums m c := by
  obtain ⟨h, hu⟩ := IntOp.andi_eq_one.1 (congrFun h fun k => k.elim0)
  obtain ⟨h, hz⟩ := IntOp.andi_eq_one.1 h
  obtain ⟨h, hw⟩ := IntOp.andi_eq_one.1 h
  obtain ⟨h, hg⟩ := IntOp.andi_eq_one.1 h
  obtain ⟨hs, hb⟩ := IntOp.andi_eq_one.1 h
  exact ⟨num_of_all _ _ _ _ _ hs, num_of_all _ _ _ _ _ hb, num_of_all _ _ _ _ _ hg, num_of_all _ _ _ _ _ hw,
    num_of_all _ _ _ _ _ hz, num_of_all _ _ _ _ _ hu⟩

end Cert.KernelMlpInIdeal.Own

namespace Cert.KernelConvInBwdIdeal.Own

open Idealize.ShloMosaic Idealize.SL.Sem Cert.Own

/-- The convolution's gradient: likewise. -/
theorem nums_of_pre (m : (ℓ : Loc nD τ sig) → Buf (Elt Ideal) ℓ) (c : Dev nD)
    (h : Cert.Pre_finite_convinbwd.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Nums m c := by
  obtain ⟨h, hu⟩ := IntOp.andi_eq_one.1 (congrFun h fun k => k.elim0)
  obtain ⟨h, hz⟩ := IntOp.andi_eq_one.1 h
  obtain ⟨h, hw⟩ := IntOp.andi_eq_one.1 h
  obtain ⟨h, hg⟩ := IntOp.andi_eq_one.1 h
  obtain ⟨hs, hb⟩ := IntOp.andi_eq_one.1 h
  exact ⟨num_of_all _ _ _ _ _ hs, num_of_all _ _ _ _ _ hb, num_of_all _ _ _ _ _ hg, num_of_all _ _ _ _ _ hw,
    num_of_all _ _ _ _ _ hz, num_of_all _ _ _ _ _ hu⟩

end Cert.KernelConvInBwdIdeal.Own

namespace Cert.KernelLossIdeal.Own

open Idealize.ShloMosaic Idealize.SL.Sem Cert.Own

/-- The loss: likewise. -/
theorem nums_of_pre (m : (ℓ : Loc nD τ sig) → Buf (Elt Ideal) ℓ) (c : Dev nD)
    (h : Cert.Pre_finite_loss.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Nums m c := by
  obtain ⟨h, hy⟩ := IntOp.andi_eq_one.1 (congrFun h fun k => k.elim0)
  obtain ⟨h, ho⟩ := IntOp.andi_eq_one.1 h
  obtain ⟨h, hg⟩ := IntOp.andi_eq_one.1 h
  obtain ⟨h, hh⟩ := IntOp.andi_eq_one.1 h
  obtain ⟨h, hb⟩ := IntOp.andi_eq_one.1 h
  obtain ⟨hu, hw⟩ := IntOp.andi_eq_one.1 h
  exact ⟨num_of_all _ _ _ _ _ hu, num_of_all _ _ _ _ _ hw, num_of_all _ _ _ _ _ hb, num_of_all _ _ _ _ _ hh,
    num_of_all _ _ _ _ _ hg, num_of_all _ _ _ _ _ ho, num_of_all _ _ _ _ _ hy⟩

end Cert.KernelLossIdeal.Own

namespace Cert.KernelPoolFwdIdeal.Own

open Idealize.ShloMosaic Idealize.SL.Sem Cert.Own

/-- The pooling: the precondition says its input holds numbers. -/
theorem nums_of_pre (m : (ℓ : Loc nD τ sig) → Buf (Elt Ideal) ℓ) (c : Dev nD)
    (h : Cert.Pre_finite_poolfwd.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) : Nums m c := by
  have e := congrFun h fun k => k.elim0
  unfold Cert.Pre_finite_poolfwd.fn at e
  dsimp only at e
  intro i
  exact num_of_all (m ((c.tc : Thread nD τ).loc main_arg0) : FVec Ideal S8192x1024 .f32) _ _ _ _ e i

end Cert.KernelPoolFwdIdeal.Own

end
-- ==== Proof.lean ====
/- The claim: every kernel's frame from its launch, every reference's frame from its run, and for each pair whose arrays
   are compared the kernel's arrays after the run set beside the reference's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Pool
public import proofs.«01_k».proof.Proof.Gen.KernelAct.Frame
public import proofs.«01_k».proof.Proof.Gen.KernelActIdeal.Value
public import proofs.«01_k».proof.Proof.Gen.ReferenceActIdeal.Run
public import proofs.«01_k».proof.Proof.Gen.ReferenceActIdeal.Read
public import proofs.«01_k».proof.Proof.Act
public import proofs.«01_k».proof.Proof.Gen.KernelGw2.Frame
public import proofs.«01_k».proof.Proof.Gen.KernelGw2Ideal.Value
public import proofs.«01_k».proof.Proof.Gen.ReferenceGw2Ideal.Run
public import proofs.«01_k».proof.Proof.Gen.ReferenceGw2Ideal.Read
public import proofs.«01_k».proof.Proof.Gw2
public import proofs.«01_k».proof.Proof.Gen.KernelGw1.Frame
public import proofs.«01_k».proof.Proof.Gen.KernelGw1Ideal.Value
public import proofs.«01_k».proof.Proof.Gen.ReferenceGw1Ideal.Run
public import proofs.«01_k».proof.Proof.Gen.ReferenceGw1Ideal.Read
public import proofs.«01_k».proof.Proof.Gw1
public import proofs.«01_k».proof.Proof.Gen.KernelGwIn.Frame
public import proofs.«01_k».proof.Proof.Gen.KernelGwInIdeal.Value
public import proofs.«01_k».proof.Proof.Gen.ReferenceGwInIdeal.Run
public import proofs.«01_k».proof.Proof.Gen.ReferenceGwInIdeal.Read
public import proofs.«01_k».proof.Proof.GwIn
public import proofs.«01_k».proof.Proof.Gen.KernelGwOut.Frame
public import proofs.«01_k».proof.Proof.Gen.KernelGwOutIdeal.Value
public import proofs.«01_k».proof.Proof.Gen.ReferenceGwOutIdeal.Run
public import proofs.«01_k».proof.Proof.Gen.ReferenceGwOutIdeal.Read
public import proofs.«01_k».proof.Proof.GwOut
public import proofs.«01_k».proof.Proof.Gen.KernelMlpIn.Frame
public import proofs.«01_k».proof.Proof.Gen.KernelMlpInIdeal.Value
public import proofs.«01_k».proof.Proof.Gen.ReferenceMlpInIdeal.Run
public import proofs.«01_k».proof.Proof.Gen.ReferenceMlpInIdeal.Read
public import proofs.«01_k».proof.Proof.MlpIn
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Up
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Down
public import proofs.«01_k».proof.Proof.Gen.KernelConvOut.Frame
public import proofs.«01_k».proof.Proof.Gen.KernelConvOutIdeal.Value
public import proofs.«01_k».proof.Proof.Gen.ReferenceConvOutIdeal.Run
public import proofs.«01_k».proof.Proof.Gen.ReferenceConvOutIdeal.Read
public import proofs.«01_k».proof.Proof.ConvOut
public import proofs.«01_k».proof.Proof.Gen.KernelConvIn.Frame
public import proofs.«01_k».proof.Proof.Gen.KernelConvInIdeal.Value
public import proofs.«01_k».proof.Proof.Gen.ReferenceConvInIdeal.Run
public import proofs.«01_k».proof.Proof.Gen.ReferenceConvInIdeal.Read
public import proofs.«01_k».proof.Proof.ConvIn
public import proofs.«01_k».proof.Proof.Gen.KernelConvInBwd.Frame
public import proofs.«01_k».proof.Proof.Gen.KernelConvInBwdIdeal.Value
public import proofs.«01_k».proof.Proof.Gen.ReferenceConvInBwdIdeal.Run
public import proofs.«01_k».proof.Proof.Gen.ReferenceConvInBwdIdeal.Read
public import proofs.«01_k».proof.Proof.ConvInBwd
public import proofs.«01_k».proof.Proof.Gen.KernelPoolFwd.Frame
public import proofs.«01_k».proof.Proof.Gen.KernelPoolFwdIdeal.Value
public import proofs.«01_k».proof.Proof.Gen.ReferencePoolFwdIdeal.Run
public import proofs.«01_k».proof.Proof.Gen.ReferencePoolFwdIdeal.Read
public import proofs.«01_k».proof.Proof.PoolFwd
public import proofs.«01_k».proof.Proof.Gen.KernelLoss.Frame
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Loss
public import proofs.«01_k».proof.Proof.Gen.KernelAdamIn.Frame
public import proofs.«01_k».proof.Proof.Gen.KernelAdamInIdeal.Value
public import proofs.«01_k».proof.Proof.Gen.ReferenceAdamInIdeal.Run
public import proofs.«01_k».proof.Proof.Gen.ReferenceAdamInIdeal.Read
public import proofs.«01_k».proof.Proof.AdamIn
public import proofs.«01_k».proof.Proof.Gen.KernelAdamOut.Frame
public import proofs.«01_k».proof.Proof.Gen.KernelAdamOutIdeal.Value
public import proofs.«01_k».proof.Proof.Gen.ReferenceAdamOutIdeal.Run
public import proofs.«01_k».proof.Proof.Gen.ReferenceAdamOutIdeal.Read
public import proofs.«01_k».proof.Proof.AdamOut
public import proofs.«01_k».proof.Proof.Gen.KernelAdamPool.Frame
public import proofs.«01_k».proof.Proof.Gen.KernelAdamPoolIdeal.Value
public import proofs.«01_k».proof.Proof.Gen.ReferenceAdamPoolIdeal.Run
public import proofs.«01_k».proof.Proof.Gen.ReferenceAdamPoolIdeal.Read
public import proofs.«01_k».proof.Proof.AdamPool
public import proofs.«01_k».proof.Proof.Finite
public import Idealize.ShloMosaic.Lib.Claim
public import Idealize.ShloMosaic.Lib.Quiescent

@[expose] public section

noncomputable section

namespace Cert.Proof

open Idealize.ShloMosaic Idealize.SL.Sem

/-- The kernel of the gradient through the multi-scale causal pooling ends with the reference's arrays. -/
theorem value_pool : Cert.algebraic_KernelIdeal_ReferenceIdeal_pre_finite_pool := by
  intro m g m' g' hp hagree
  refine ⟨fun c => _, fun c => _, fun c => _, (θ_run _ _ _).mono (fun r h c => ⟨(h c).1.trans (Cert.KernelIdeal.Own.final_6 m c (Cert.KernelIdeal.Own.nums_of_pre m c (hp c))), (h c).2.1.trans (Cert.KernelIdeal.Own.final_7 m c (Cert.KernelIdeal.Own.nums_of_pre m c (hp c))), (h c).2.2.1.trans (Cert.KernelIdeal.Own.final_8 m c (Cert.KernelIdeal.Own.nums_of_pre m c (hp c))), (h c).2.2.2⟩)
    (Cert.KernelIdeal.Value.run_blocks m g), (θ_run _ _ _).mono (fun r h c => ?_) (Cert.ReferenceIdeal.Value.run m' g')⟩
  obtain ⟨h0, h1, h2, h3⟩ := hagree c
  refine ⟨(h c).1.trans ?_, (h c).2.1.trans ?_, (h c).2.2.1.trans ?_, (h c).2.2.2⟩
  · exact (Cert.ReferenceIdeal.Read.val_main_v195_eq _).trans (congr (congr (congrArg (Cert.ReferenceIdeal.Read.val_main_v195 (F := Ideal)) h1) h2) h3)
  · exact (Cert.ReferenceIdeal.Read.val_main_v174_eq _).trans (congr (congr (congrArg (Cert.ReferenceIdeal.Read.val_main_v174 (F := Ideal)) h0) h2) h3)
  · exact (Cert.ReferenceIdeal.Read.val_main_v190_eq _).trans (congr (congr (congrArg (Cert.ReferenceIdeal.Read.val_main_v190 (F := Ideal)) h0) h1) h3)

/-- The kernel of the gradient through the squared rectifier ends with the reference's arrays. -/
theorem value_act : Cert.algebraic_KernelActIdeal_ReferenceActIdeal := by
  intro m g m' g' _ hagree
  refine ⟨fun c => _, fun c => _, (θ_run _ _ _).mono (fun r h c => ⟨(h c).1.trans (Cert.KernelActIdeal.Own.final_3 m c), (h c).2.1.trans (Cert.KernelActIdeal.Own.final_4 m c), (h c).2.2⟩)
    (Cert.KernelActIdeal.Value.run_blocks m g), (θ_run _ _ _).mono (fun r h c => ?_) (Cert.ReferenceActIdeal.Value.run m' g')⟩
  obtain ⟨h0, h1, h2, h3⟩ := hagree c
  refine ⟨(h c).1.trans ?_, (h c).2.1.trans ?_, (h c).2.2⟩
  · simp only [h0, h1, h2, h3]; rfl
  · simp only [h0, h1, h2, h3]; rfl

/-- The kernel of the gradient of the MLP's second weight ends with the reference's arrays. -/
theorem value_gw2 : Cert.algebraic_KernelGw2Ideal_ReferenceGw2Ideal := by
  intro m g m' g' _ hagree
  refine ⟨fun c => _, (θ_run _ _ _).mono (fun r h c => ⟨(h c).1.trans (Cert.KernelGw2Ideal.Own.final m c), (h c).2⟩)
    (Cert.KernelGw2Ideal.Value.run_blocks m g), (θ_run _ _ _).mono (fun r h c => ?_) (Cert.ReferenceGw2Ideal.Value.run m' g')⟩
  obtain ⟨h0, h1⟩ := hagree c
  refine ⟨(h c).1.trans ?_, (h c).2⟩
  · simp only [h0, h1]; rfl

/-- The kernel of the gradient of the MLP's first weight ends with the reference's arrays. -/
theorem value_gw1 : Cert.algebraic_KernelGw1Ideal_ReferenceGw1Ideal := by
  intro m g m' g' _ hagree
  refine ⟨fun c => _, (θ_run _ _ _).mono (fun r h c => ⟨(h c).1.trans (Cert.KernelGw1Ideal.Own.final m c), (h c).2⟩)
    (Cert.KernelGw1Ideal.Value.run_blocks m g), (θ_run _ _ _).mono (fun r h c => ?_) (Cert.ReferenceGw1Ideal.Value.run m' g')⟩
  obtain ⟨h0, h1⟩ := hagree c
  refine ⟨(h c).1.trans ?_, (h c).2⟩
  · simp only [h0, h1]; rfl

/-- The kernel of the gradient of the convolution's input weight ends with the reference's arrays. -/
theorem value_gwin : Cert.algebraic_KernelGwInIdeal_ReferenceGwInIdeal := by
  intro m g m' g' _ hagree
  refine ⟨fun c => _, (θ_run _ _ _).mono (fun r h c => ⟨(h c).1.trans (Cert.KernelGwInIdeal.Own.final m c), (h c).2⟩)
    (Cert.KernelGwInIdeal.Value.run_blocks m g), (θ_run _ _ _).mono (fun r h c => ?_) (Cert.ReferenceGwInIdeal.Value.run m' g')⟩
  obtain ⟨h0, h1⟩ := hagree c
  refine ⟨(h c).1.trans ?_, (h c).2⟩
  · simp only [h0, h1]; rfl

/-- The kernel of the gradient of the convolution's output weight ends with the reference's arrays. -/
theorem value_gwout : Cert.algebraic_KernelGwOutIdeal_ReferenceGwOutIdeal := by
  intro m g m' g' _ hagree
  refine ⟨fun c => _, (θ_run _ _ _).mono (fun r h c => ⟨(h c).1.trans (Cert.KernelGwOutIdeal.Own.final m c), (h c).2⟩)
    (Cert.KernelGwOutIdeal.Value.run_blocks m g), (θ_run _ _ _).mono (fun r h c => ?_) (Cert.ReferenceGwOutIdeal.Value.run m' g')⟩
  obtain ⟨h0, h1⟩ := hagree c
  refine ⟨(h c).1.trans ?_, (h c).2⟩
  · simp only [h0, h1]; rfl

/-- The kernel of the gradient through the MLP's input product, the residual and the layer norm before it ends with the reference's arrays. -/
theorem value_mlpin : Cert.algebraic_KernelMlpInIdeal_ReferenceMlpInIdeal_pre_finite_mlpin := by
  intro m g m' g' hp hagree
  refine ⟨fun c => _, fun c => _, fun c => _, fun c => _, fun c => _, (θ_run _ _ _).mono (fun r h c => ⟨(h c).1.trans (Cert.KernelMlpInIdeal.Own.final_5 m c (Cert.KernelMlpInIdeal.Own.nums_of_pre m c (hp c))), (h c).2.1.trans (Cert.KernelMlpInIdeal.Own.final_6 m c (Cert.KernelMlpInIdeal.Own.nums_of_pre m c (hp c))), (h c).2.2.1.trans (Cert.KernelMlpInIdeal.Own.final_7 m c), (h c).2.2.2.1.trans (Cert.KernelMlpInIdeal.Own.final_8 m c), (h c).2.2.2.2.1.trans (Cert.KernelMlpInIdeal.Own.final_9 m c (Cert.KernelMlpInIdeal.Own.nums_of_pre m c (hp c))), (h c).2.2.2.2.2⟩)
    (Cert.KernelMlpInIdeal.Value.run_blocks m g), (θ_run _ _ _).mono (fun r h c => ?_) (Cert.ReferenceMlpInIdeal.Value.run m' g')⟩
  obtain ⟨h0, h1, h2, h3, h4, h5, h6⟩ := hagree c
  refine ⟨(h c).1.trans ?_, (h c).2.1.trans ?_, (h c).2.2.1.trans ?_, (h c).2.2.2.1.trans ?_, (h c).2.2.2.2.1.trans ?_, (h c).2.2.2.2.2⟩
  · rw [Cert.ReferenceMlpInIdeal.Read.val_main_v67_eq]; simp only [h0, h1, h2, h3, h4, h5, h6]
  · rw [Cert.ReferenceMlpInIdeal.Read.val_main_v70_eq]; simp only [h0, h1, h2, h3, h4, h5, h6]
  · simp only [h0, h1, h2, h3, h4, h5, h6]; rfl
  · simp only [h0, h1, h2, h3, h4, h5, h6]; rfl
  · rw [Cert.ReferenceMlpInIdeal.Read.val_main_v69_eq]; simp only [h0, h1, h2, h3, h4, h5, h6]

/-- The kernel of the MLP's first product ends with the reference's arrays. -/
theorem value_up : Cert.algebraic_KernelUpIdeal_ReferenceUpIdeal := by
  intro m g m' g' _ hagree
  refine ⟨fun c => _, (θ_run _ _ _).mono (fun r h c => ⟨(h c).1.trans (Cert.KernelUpIdeal.Own.final_3 m c), (h c).2⟩)
    (Cert.KernelUpIdeal.Value.run_blocks m g), (θ_run _ _ _).mono (fun r h c => ?_) (Cert.ReferenceUpIdeal.Value.run m' g')⟩
  obtain ⟨h0, h1, h2⟩ := hagree c
  refine ⟨(h c).1.trans ?_, (h c).2⟩
  · simp only [h0, h1, h2]; rfl

/-- The kernel of the MLP's second product with its residual and layer norm ends with the reference's arrays. -/
theorem value_down : Cert.algebraic_KernelDownIdeal_ReferenceDownIdeal := by
  intro m g m' g' _ hagree
  refine ⟨fun c => _, fun c => _, fun c => _, (θ_run _ _ _).mono (fun r h c => ⟨(h c).1.trans (Cert.KernelDownIdeal.Own.final_6 m c), (h c).2.1.trans (Cert.KernelDownIdeal.Own.final_7 m c), (h c).2.2.1.trans (Cert.KernelDownIdeal.Own.final_8 m c), (h c).2.2.2⟩)
    (Cert.KernelDownIdeal.Value.run_blocks m g), (θ_run _ _ _).mono (fun r h c => ?_) (Cert.ReferenceDownIdeal.Value.run m' g')⟩
  obtain ⟨h0, h1, h2, h3, h4, h5⟩ := hagree c
  refine ⟨(h c).1.trans ?_, (h c).2.1.trans ?_, (h c).2.2.1.trans ?_, (h c).2.2.2⟩
  · rw [Cert.ReferenceDownIdeal.Read.val_main_v30_eq]; simp only [h0, h1, h2, h3, h4, h5]
  · simp only [h0, h1, h2, h3, h4, h5]; rfl
  · rw [Cert.ReferenceDownIdeal.Read.val_main_v31_eq]; simp only [h0, h1, h2, h3, h4, h5]

/-- The kernel of the convolution's output product with its residual and layer norm ends with the reference's arrays. -/
theorem value_convout : Cert.algebraic_KernelConvOutIdeal_ReferenceConvOutIdeal := by
  intro m g m' g' _ hagree
  refine ⟨fun c => _, fun c => _, fun c => _, (θ_run _ _ _).mono (fun r h c => ⟨(h c).1.trans (Cert.KernelConvOutIdeal.Own.final_6 m c), (h c).2.1.trans (Cert.KernelConvOutIdeal.Own.final_7 m c), (h c).2.2.1.trans (Cert.KernelConvOutIdeal.Own.final_8 m c), (h c).2.2.2⟩)
    (Cert.KernelConvOutIdeal.Value.run_blocks m g), (θ_run _ _ _).mono (fun r h c => ?_) (Cert.ReferenceConvOutIdeal.Value.run m' g')⟩
  obtain ⟨h0, h1, h2, h3, h4, h5⟩ := hagree c
  refine ⟨(h c).1.trans ?_, (h c).2.1.trans ?_, (h c).2.2.1.trans ?_, (h c).2.2.2⟩
  · rw [Cert.ReferenceConvOutIdeal.Read.val_main_v28_eq]; simp only [h0, h1, h2, h3, h4, h5]
  · simp only [h0, h1, h2, h3, h4, h5]; rfl
  · rw [Cert.ReferenceConvOutIdeal.Read.val_main_v29_eq]; simp only [h0, h1, h2, h3, h4, h5]

/-- The kernel of the convolution's input product and its gate ends with the reference's arrays. -/
theorem value_convin : Cert.algebraic_KernelConvInIdeal_ReferenceConvInIdeal := by
  intro m g m' g' _ hagree
  refine ⟨fun c => _, fun c => _, (θ_run _ _ _).mono (fun r h c => ⟨(h c).1.trans (Cert.KernelConvInIdeal.Own.final_3 m c), (h c).2.1.trans (Cert.KernelConvInIdeal.Own.final_4 m c), (h c).2.2⟩)
    (Cert.KernelConvInIdeal.Value.run_blocks m g), (θ_run _ _ _).mono (fun r h c => ?_) (Cert.ReferenceConvInIdeal.Value.run m' g')⟩
  obtain ⟨h0, h1, h2⟩ := hagree c
  refine ⟨(h c).1.trans ?_, (h c).2.1.trans ?_, (h c).2.2⟩
  · simp only [h0, h1, h2]; rfl
  · simp only [h0, h1, h2]; rfl

/-- The kernel of the gradient through the convolution's input product, the residual and the layer norm before it ends with the reference's arrays. -/
theorem value_convinbwd : Cert.algebraic_KernelConvInBwdIdeal_ReferenceConvInBwdIdeal_pre_finite_convinbwd := by
  intro m g m' g' hp hagree
  refine ⟨fun c => _, fun c => _, fun c => _, fun c => _, fun c => _, (θ_run _ _ _).mono (fun r h c => ⟨(h c).1.trans (Cert.KernelConvInBwdIdeal.Own.final_5 m c (Cert.KernelConvInBwdIdeal.Own.nums_of_pre m c (hp c))), (h c).2.1.trans (Cert.KernelConvInBwdIdeal.Own.final_6 m c (Cert.KernelConvInBwdIdeal.Own.nums_of_pre m c (hp c))), (h c).2.2.1.trans (Cert.KernelConvInBwdIdeal.Own.final_7 m c), (h c).2.2.2.1.trans (Cert.KernelConvInBwdIdeal.Own.final_8 m c), (h c).2.2.2.2.1.trans (Cert.KernelConvInBwdIdeal.Own.final_9 m c (Cert.KernelConvInBwdIdeal.Own.nums_of_pre m c (hp c))), (h c).2.2.2.2.2⟩)
    (Cert.KernelConvInBwdIdeal.Value.run_blocks m g), (θ_run _ _ _).mono (fun r h c => ?_) (Cert.ReferenceConvInBwdIdeal.Value.run m' g')⟩
  obtain ⟨h0, h1, h2, h3, h4, h5, h6⟩ := hagree c
  refine ⟨(h c).1.trans ?_, (h c).2.1.trans ?_, (h c).2.2.1.trans ?_, (h c).2.2.2.1.trans ?_, (h c).2.2.2.2.1.trans ?_, (h c).2.2.2.2.2⟩
  · rw [Cert.ReferenceConvInBwdIdeal.Read.val_main_v67_eq]; simp only [h0, h1, h2, h3, h4, h5, h6]
  · rw [Cert.ReferenceConvInBwdIdeal.Read.val_main_v70_eq]; simp only [h0, h1, h2, h3, h4, h5, h6]
  · simp only [h0, h1, h2, h3, h4, h5, h6]; rfl
  · simp only [h0, h1, h2, h3, h4, h5, h6]; rfl
  · rw [Cert.ReferenceConvInBwdIdeal.Read.val_main_v69_eq]; simp only [h0, h1, h2, h3, h4, h5, h6]

/-- The kernel of the pooling with its residual and layer norm ends with the reference's arrays. -/
theorem value_poolfwd : Cert.algebraic_KernelPoolFwdIdeal_ReferencePoolFwdIdeal_pre_finite_poolfwd := by
  intro m g m' g' hp hagree
  refine ⟨fun c => _, fun c => _, fun c => _, (θ_run _ _ _).mono (fun r h c => ⟨(h c).1.trans (Cert.KernelPoolFwdIdeal.Own.final_6 m c (Cert.KernelPoolFwdIdeal.Own.nums_of_pre m c (hp c))), (h c).2.1.trans (Cert.KernelPoolFwdIdeal.Own.final_7 m c (Cert.KernelPoolFwdIdeal.Own.nums_of_pre m c (hp c))), (h c).2.2.1.trans (Cert.KernelPoolFwdIdeal.Own.final_8 m c (Cert.KernelPoolFwdIdeal.Own.nums_of_pre m c (hp c))), (h c).2.2.2⟩)
    (Cert.KernelPoolFwdIdeal.Value.run_blocks m g), (θ_run _ _ _).mono (fun r h c => ?_) (Cert.ReferencePoolFwdIdeal.Value.run m' g')⟩
  obtain ⟨h0, h1, h2, h3, h4⟩ := hagree c
  refine ⟨(h c).1.trans ?_, (h c).2.1.trans ?_, (h c).2.2.1.trans ?_, (h c).2.2.2⟩
  · rw [Cert.ReferencePoolFwdIdeal.Read.val_main_v110_eq]; simp only [h0, h1, h2, h3, h4]
  · rw [Cert.ReferencePoolFwdIdeal.Read.val_main_v88_eq]; simp only [h0, h1, h2, h3, h4]
  · rw [Cert.ReferencePoolFwdIdeal.Read.val_main_v111_eq]; simp only [h0, h1, h2, h3, h4]

/-- The kernel of the last MLP product with the loss and its gradient ends with the reference's arrays. -/
theorem value_loss : Cert.algebraic_KernelLossIdeal_ReferenceLossIdeal_pre_finite_loss := by
  intro m g m' g' hp hagree
  refine ⟨fun c => _, fun c => _, fun c => _, fun c => _, fun c => _, fun c => _, (θ_run _ _ _).mono (fun r h c => ⟨(h c).1.trans (Cert.KernelLossIdeal.Own.final_7 m c (Cert.KernelLossIdeal.Own.nums_of_pre m c (hp c))), (h c).2.1.trans (Cert.KernelLossIdeal.Own.final_8 m c (Cert.KernelLossIdeal.Own.nums_of_pre m c (hp c))), (h c).2.2.1.trans (Cert.KernelLossIdeal.Own.final_9 m c), (h c).2.2.2.1.trans (Cert.KernelLossIdeal.Own.final_10 m c), (h c).2.2.2.2.1.trans (Cert.KernelLossIdeal.Own.final_11 m c (Cert.KernelLossIdeal.Own.nums_of_pre m c (hp c))), (h c).2.2.2.2.2.1.trans (Cert.KernelLossIdeal.Own.final_12 m c), (h c).2.2.2.2.2.2⟩)
    (Cert.KernelLossIdeal.Value.run_blocks m g), (θ_run _ _ _).mono (fun r h c => ?_) (Cert.ReferenceLossIdeal.Value.run m' g')⟩
  obtain ⟨h0, h1, h2, h3, h4, h5, h6⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.ReferenceLossIdeal.Read.val_main_v81_eq]; simp only [h0, h1, h2, h3, h4, h5, h6]
  · rw [Cert.ReferenceLossIdeal.Read.val_main_v84_eq]; simp only [h0, h1, h2, h3, h4, h5, h6]
  · rw [Cert.ReferenceLossIdeal.Read.val_main_v55_eq]; simp only [h0, h1, h2, h3, h4, h5, h6]
  · rw [Cert.ReferenceLossIdeal.Read.val_main_v52_eq]; simp only [h0, h1, h2, h3, h4, h5, h6]
  · rw [Cert.ReferenceLossIdeal.Read.val_main_v83_eq]; simp only [h0, h1, h2, h3, h4, h5, h6]
  · rw [Cert.ReferenceLossIdeal.Read.val_main_v86_eq]; simp only [h0, h1, h2, h3, h4, h5, h6]

/-- The kernel of the optimiser's step of the convolution's input weight ends with the reference's arrays. -/
theorem value_adamin : Cert.algebraic_KernelAdamInIdeal_ReferenceAdamInIdeal := by
  intro m g m' g' _ hagree
  refine ⟨fun c => _, fun c => _, fun c => _, fun c => _, (θ_run _ _ _).mono (fun r h c => ⟨(h c).1.trans (Cert.KernelAdamInIdeal.Own.final_4 m c), (h c).2.1.trans (Cert.KernelAdamInIdeal.Own.final_5 m c), (h c).2.2.1.trans (Cert.KernelAdamInIdeal.Own.final_6 m c), (h c).2.2.2.1.trans (Cert.KernelAdamInIdeal.Own.final_7 m c), (h c).2.2.2.2⟩)
    (Cert.KernelAdamInIdeal.Value.run_blocks m g), (θ_run _ _ _).mono (fun r h c => ?_) (Cert.ReferenceAdamInIdeal.Value.run m' g')⟩
  obtain ⟨h0, h1, h2, h3⟩ := hagree c
  refine ⟨(h c).1.trans ?_, (h c).2.1.trans ?_, (h c).2.2.1.trans ?_, (h c).2.2.2.1.trans ?_, (h c).2.2.2.2⟩
  · simp only [h0, h1, h2, h3]; rfl
  · simp only [h0, h1, h2, h3]; rfl
  · simp only [h0, h1, h2, h3]; rfl
  · simp only [h0, h1, h2, h3]; rfl

/-- The kernel of the optimiser's step of the convolution's output weight ends with the reference's arrays. -/
theorem value_adamout : Cert.algebraic_KernelAdamOutIdeal_ReferenceAdamOutIdeal := by
  intro m g m' g' _ hagree
  refine ⟨fun c => _, fun c => _, fun c => _, fun c => _, (θ_run _ _ _).mono (fun r h c => ⟨(h c).1.trans (Cert.KernelAdamOutIdeal.Own.final_4 m c), (h c).2.1.trans (Cert.KernelAdamOutIdeal.Own.final_5 m c), (h c).2.2.1.trans (Cert.KernelAdamOutIdeal.Own.final_6 m c), (h c).2.2.2.1.trans (Cert.KernelAdamOutIdeal.Own.final_7 m c), (h c).2.2.2.2⟩)
    (Cert.KernelAdamOutIdeal.Value.run_blocks m g), (θ_run _ _ _).mono (fun r h c => ?_) (Cert.ReferenceAdamOutIdeal.Value.run m' g')⟩
  obtain ⟨h0, h1, h2, h3⟩ := hagree c
  refine ⟨(h c).1.trans ?_, (h c).2.1.trans ?_, (h c).2.2.1.trans ?_, (h c).2.2.2.1.trans ?_, (h c).2.2.2.2⟩
  · simp only [h0, h1, h2, h3]; rfl
  · simp only [h0, h1, h2, h3]; rfl
  · simp only [h0, h1, h2, h3]; rfl
  · simp only [h0, h1, h2, h3]; rfl

/-- The kernel of the optimiser's step of the pooling mixer's weight ends with the reference's arrays. -/
theorem value_adampool : Cert.algebraic_KernelAdamPoolIdeal_ReferenceAdamPoolIdeal := by
  intro m g m' g' _ hagree
  refine ⟨fun c => _, fun c => _, fun c => _, fun c => _, (θ_run _ _ _).mono (fun r h c => ⟨(h c).1.trans (Cert.KernelAdamPoolIdeal.Own.final_4 m c), (h c).2.1.trans (Cert.KernelAdamPoolIdeal.Own.final_5 m c), (h c).2.2.1.trans (Cert.KernelAdamPoolIdeal.Own.final_6 m c), (h c).2.2.2.1.trans (Cert.KernelAdamPoolIdeal.Own.final_7 m c), (h c).2.2.2.2⟩)
    (Cert.KernelAdamPoolIdeal.Value.run_blocks m g), (θ_run _ _ _).mono (fun r h c => ?_) (Cert.ReferenceAdamPoolIdeal.Value.run m' g')⟩
  obtain ⟨h0, h1, h2, h3⟩ := hagree c
  refine ⟨(h c).1.trans ?_, (h c).2.1.trans ?_, (h c).2.2.1.trans ?_, (h c).2.2.2.1.trans ?_, (h c).2.2.2.2⟩
  · simp only [h0, h1, h2, h3]; rfl
  · simp only [h0, h1, h2, h3]; rfl
  · simp only [h0, h1, h2, h3]; rfl
  · simp only [h0, h1, h2, h3]; rfl

/-- All claims together, after the side conditions of every program. -/
theorem claim : Cert.Claim := ⟨Cert.Kernel.Gen.facts,
  Cert.KernelIdeal.Gen.facts,
  Cert.ReferenceIdeal.Gen.facts,
  Cert.KernelAct.Gen.facts,
  Cert.KernelActIdeal.Gen.facts,
  Cert.ReferenceActIdeal.Gen.facts,
  Cert.KernelGw2.Gen.facts,
  Cert.KernelGw2Ideal.Gen.facts,
  Cert.ReferenceGw2Ideal.Gen.facts,
  Cert.KernelGw1.Gen.facts,
  Cert.KernelGw1Ideal.Gen.facts,
  Cert.ReferenceGw1Ideal.Gen.facts,
  Cert.KernelGwIn.Gen.facts,
  Cert.KernelGwInIdeal.Gen.facts,
  Cert.ReferenceGwInIdeal.Gen.facts,
  Cert.KernelGwOut.Gen.facts,
  Cert.KernelGwOutIdeal.Gen.facts,
  Cert.ReferenceGwOutIdeal.Gen.facts,
  Cert.KernelMlpIn.Gen.facts,
  Cert.KernelMlpInIdeal.Gen.facts,
  Cert.ReferenceMlpInIdeal.Gen.facts,
  Cert.KernelUp.Gen.facts,
  Cert.KernelUpIdeal.Gen.facts,
  Cert.ReferenceUpIdeal.Gen.facts,
  Cert.KernelDown.Gen.facts,
  Cert.KernelDownIdeal.Gen.facts,
  Cert.ReferenceDownIdeal.Gen.facts,
  Cert.KernelConvOut.Gen.facts,
  Cert.KernelConvOutIdeal.Gen.facts,
  Cert.ReferenceConvOutIdeal.Gen.facts,
  Cert.KernelConvIn.Gen.facts,
  Cert.KernelConvInIdeal.Gen.facts,
  Cert.ReferenceConvInIdeal.Gen.facts,
  Cert.KernelConvInBwd.Gen.facts,
  Cert.KernelConvInBwdIdeal.Gen.facts,
  Cert.ReferenceConvInBwdIdeal.Gen.facts,
  Cert.KernelPoolFwd.Gen.facts,
  Cert.KernelPoolFwdIdeal.Gen.facts,
  Cert.ReferencePoolFwdIdeal.Gen.facts,
  Cert.KernelLoss.Gen.facts,
  Cert.KernelLossIdeal.Gen.facts,
  Cert.ReferenceLossIdeal.Gen.facts,
  Cert.KernelAdamIn.Gen.facts,
  Cert.KernelAdamInIdeal.Gen.facts,
  Cert.ReferenceAdamInIdeal.Gen.facts,
  Cert.KernelAdamOut.Gen.facts,
  Cert.KernelAdamOutIdeal.Gen.facts,
  Cert.ReferenceAdamOutIdeal.Gen.facts,
  Cert.KernelAdamPool.Gen.facts,
  Cert.KernelAdamPoolIdeal.Gen.facts,
  Cert.ReferenceAdamPoolIdeal.Gen.facts,
  Cert.Own.facts_pool,
  Cert.Own.facts_mlpin,
  Cert.Own.facts_convinbwd,
  Cert.Own.facts_poolfwd,
  Cert.Own.facts_loss,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2, sem_eq_zero_of_no_sems (by decide) r.2⟩) (Cert.ReferenceIdeal.Value.run m ρ),
  fun m ρ _ => (θ_run _ _ _).mono (fun r h => ⟨fun c => (h c).2.2.2, sem_eq_zero_of_no_sems (by decide) r.2⟩) (Cert.ReferenceIdeal.Value.run m ρ),
  fun m ρ _ => Cert.KernelAct.Gen.frame m ρ,
  fun m ρ _ => Cert.KernelActIdeal.Gen.frame m ρ,
  fun m ρ _ => (θ_run _ _ _).mono (fun r h => ⟨fun c => (h c).2.2, sem_eq_zero_of_no_sems (by decide) r.2⟩) (Cert.ReferenceActIdeal.Value.run m ρ),
  fun m ρ _ => Cert.KernelGw2.Gen.frame m ρ,
  fun m ρ _ => Cert.KernelGw2Ideal.Gen.frame m ρ,
  fun m ρ _ => (θ_run _ _ _).mono (fun r h => ⟨fun c => (h c).2, sem_eq_zero_of_no_sems (by decide) r.2⟩) (Cert.ReferenceGw2Ideal.Value.run m ρ),
  fun m ρ _ => Cert.KernelGw1.Gen.frame m ρ,
  fun m ρ _ => Cert.KernelGw1Ideal.Gen.frame m ρ,
  fun m ρ _ => (θ_run _ _ _).mono (fun r h => ⟨fun c => (h c).2, sem_eq_zero_of_no_sems (by decide) r.2⟩) (Cert.ReferenceGw1Ideal.Value.run m ρ),
  fun m ρ _ => Cert.KernelGwIn.Gen.frame m ρ,
  fun m ρ _ => Cert.KernelGwInIdeal.Gen.frame m ρ,
  fun m ρ _ => (θ_run _ _ _).mono (fun r h => ⟨fun c => (h c).2, sem_eq_zero_of_no_sems (by decide) r.2⟩) (Cert.ReferenceGwInIdeal.Value.run m ρ),
  fun m ρ _ => Cert.KernelGwOut.Gen.frame m ρ,
  fun m ρ _ => Cert.KernelGwOutIdeal.Gen.frame m ρ,
  fun m ρ _ => (θ_run _ _ _).mono (fun r h => ⟨fun c => (h c).2, sem_eq_zero_of_no_sems (by decide) r.2⟩) (Cert.ReferenceGwOutIdeal.Value.run m ρ),
  fun m ρ _ => Cert.KernelMlpIn.Gen.frame m ρ,
  fun m ρ _ => Cert.KernelMlpInIdeal.Gen.frame m ρ,
  fun m ρ _ => Cert.KernelMlpInIdeal.Gen.frame m ρ,
  fun m ρ _ => (θ_run _ _ _).mono (fun r h => ⟨fun c => (h c).2.2.2.2.2, sem_eq_zero_of_no_sems (by decide) r.2⟩) (Cert.ReferenceMlpInIdeal.Value.run m ρ),
  fun m ρ _ => (θ_run _ _ _).mono (fun r h => ⟨fun c => (h c).2.2.2.2.2, sem_eq_zero_of_no_sems (by decide) r.2⟩) (Cert.ReferenceMlpInIdeal.Value.run m ρ),
  fun m ρ _ => Cert.KernelUp.Gen.frame m ρ,
  fun m ρ _ => Cert.KernelUpIdeal.Gen.frame m ρ,
  fun m ρ _ => (θ_run _ _ _).mono (fun r h => ⟨fun c => (h c).2, sem_eq_zero_of_no_sems (by decide) r.2⟩) (Cert.ReferenceUpIdeal.Value.run m ρ),
  fun m ρ _ => Cert.KernelDown.Gen.frame m ρ,
  fun m ρ _ => Cert.KernelDownIdeal.Gen.frame m ρ,
  fun m ρ _ => (θ_run _ _ _).mono (fun r h => ⟨fun c => (h c).2.2.2, sem_eq_zero_of_no_sems (by decide) r.2⟩) (Cert.ReferenceDownIdeal.Value.run m ρ),
  fun m ρ _ => Cert.KernelConvOut.Gen.frame m ρ,
  fun m ρ _ => Cert.KernelConvOutIdeal.Gen.frame m ρ,
  fun m ρ _ => (θ_run _ _ _).mono (fun r h => ⟨fun c => (h c).2.2.2, sem_eq_zero_of_no_sems (by decide) r.2⟩) (Cert.ReferenceConvOutIdeal.Value.run m ρ),
  fun m ρ _ => Cert.KernelConvIn.Gen.frame m ρ,
  fun m ρ _ => Cert.KernelConvInIdeal.Gen.frame m ρ,
  fun m ρ _ => (θ_run _ _ _).mono (fun r h => ⟨fun c => (h c).2.2, sem_eq_zero_of_no_sems (by decide) r.2⟩) (Cert.ReferenceConvInIdeal.Value.run m ρ),
  fun m ρ _ => Cert.KernelConvInBwd.Gen.frame m ρ,
  fun m ρ _ => Cert.KernelConvInBwdIdeal.Gen.frame m ρ,
  fun m ρ _ => Cert.KernelConvInBwdIdeal.Gen.frame m ρ,
  fun m ρ _ => (θ_run _ _ _).mono (fun r h => ⟨fun c => (h c).2.2.2.2.2, sem_eq_zero_of_no_sems (by decide) r.2⟩) (Cert.ReferenceConvInBwdIdeal.Value.run m ρ),
  fun m ρ _ => (θ_run _ _ _).mono (fun r h => ⟨fun c => (h c).2.2.2.2.2, sem_eq_zero_of_no_sems (by decide) r.2⟩) (Cert.ReferenceConvInBwdIdeal.Value.run m ρ),
  fun m ρ _ => Cert.KernelPoolFwd.Gen.frame m ρ,
  fun m ρ _ => Cert.KernelPoolFwdIdeal.Gen.frame m ρ,
  fun m ρ _ => Cert.KernelPoolFwdIdeal.Gen.frame m ρ,
  fun m ρ _ => (θ_run _ _ _).mono (fun r h => ⟨fun c => (h c).2.2.2, sem_eq_zero_of_no_sems (by decide) r.2⟩) (Cert.ReferencePoolFwdIdeal.Value.run m ρ),
  fun m ρ _ => (θ_run _ _ _).mono (fun r h => ⟨fun c => (h c).2.2.2, sem_eq_zero_of_no_sems (by decide) r.2⟩) (Cert.ReferencePoolFwdIdeal.Value.run m ρ),
  fun m ρ _ => Cert.KernelLoss.Gen.frame m ρ,
  fun m ρ _ => Cert.KernelLossIdeal.Gen.frame m ρ,
  fun m ρ _ => Cert.KernelLossIdeal.Gen.frame m ρ,
  fun m ρ _ => (θ_run _ _ _).mono (fun r h => ⟨fun c => (h c).2.2.2.2.2.2, sem_eq_zero_of_no_sems (by decide) r.2⟩) (Cert.ReferenceLossIdeal.Value.run m ρ),
  fun m ρ _ => (θ_run _ _ _).mono (fun r h => ⟨fun c => (h c).2.2.2.2.2.2, sem_eq_zero_of_no_sems (by decide) r.2⟩) (Cert.ReferenceLossIdeal.Value.run m ρ),
  fun m ρ _ => Cert.KernelAdamIn.Gen.frame m ρ,
  fun m ρ _ => Cert.KernelAdamInIdeal.Gen.frame m ρ,
  fun m ρ _ => (θ_run _ _ _).mono (fun r h => ⟨fun c => (h c).2.2.2.2, sem_eq_zero_of_no_sems (by decide) r.2⟩) (Cert.ReferenceAdamInIdeal.Value.run m ρ),
  fun m ρ _ => Cert.KernelAdamOut.Gen.frame m ρ,
  fun m ρ _ => Cert.KernelAdamOutIdeal.Gen.frame m ρ,
  fun m ρ _ => (θ_run _ _ _).mono (fun r h => ⟨fun c => (h c).2.2.2.2, sem_eq_zero_of_no_sems (by decide) r.2⟩) (Cert.ReferenceAdamOutIdeal.Value.run m ρ),
  fun m ρ _ => Cert.KernelAdamPool.Gen.frame m ρ,
  fun m ρ _ => Cert.KernelAdamPoolIdeal.Gen.frame m ρ,
  fun m ρ _ => (θ_run _ _ _).mono (fun r h => ⟨fun c => (h c).2.2.2.2, sem_eq_zero_of_no_sems (by decide) r.2⟩) (Cert.ReferenceAdamPoolIdeal.Value.run m ρ),
  trivial,
  value_pool,
  trivial,
  value_act,
  trivial,
  value_gw2,
  trivial,
  value_gw1,
  trivial,
  value_gwin,
  trivial,
  value_gwout,
  trivial,
  value_mlpin,
  trivial,
  value_up,
  trivial,
  value_down,
  trivial,
  value_convout,
  trivial,
  value_convin,
  trivial,
  value_convinbwd,
  trivial,
  value_poolfwd,
  trivial,
  value_loss,
  trivial,
  value_adamin,
  trivial,
  value_adamout,
  trivial,
  value_adampool⟩

end Cert.Proof

end
